-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9)
      ∧ r.2.mem ((c.tc : Thread Cert.Kernel12.nD Cert.Kernel12.τ).loc Cert.Kernel12.main_arg10) = m ((c.tc : Thread Cert.Kernel12.nD Cert.Kernel12.τ).loc Cert.Kernel12.main_arg10))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
      ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9)
      ∧ r.2.mem ((c.tc : Thread Cert.Reference12Ideal.nD Cert.Reference12Ideal.τ).loc Cert.Reference12Ideal.main_arg10) = m ((c.tc : Thread Cert.Reference12Ideal.nD Cert.Reference12Ideal.τ).loc Cert.Reference12Ideal.main_arg10))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_v3) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v55) = v0 c
          ∧ r.2.mem ((c.tc : Thread Cert.Reference5Ideal.nD Cert.Reference5Ideal.τ).loc Cert.Reference5Ideal.main_v33) = v1 c
          ∧ r.2.mem ((c.tc : Thread Cert.Reference5Ideal.nD Cert.Reference5Ideal.τ).loc Cert.Reference5Ideal.main_v56) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)) (v3 : (c : Dev Cert.Kernel6Ideal.nD) → Buf (Elt Ideal) ((c.tc : Thread Cert.Kernel6Ideal.nD Cert.Kernel6Ideal.τ).loc Cert.Kernel6Ideal.main_v1_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_v1_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v68) = v0 c
          ∧ r.2.mem ((c.tc : Thread Cert.Reference6Ideal.nD Cert.Reference6Ideal.τ).loc Cert.Reference6Ideal.main_v69) = v1 c
          ∧ r.2.mem ((c.tc : Thread Cert.Reference6Ideal.nD Cert.Reference6Ideal.τ).loc Cert.Reference6Ideal.main_v70) = v2 c
          ∧ r.2.mem ((c.tc : Thread Cert.Reference6Ideal.nD Cert.Reference6Ideal.τ).loc Cert.Reference6Ideal.main_v71) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_v24) = v1 c
          ∧ r.2.mem ((c.tc : Thread Cert.Reference8Ideal.nD Cert.Reference8Ideal.τ).loc Cert.Reference8Ideal.main_v5) = v2 c
          ∧ r.2.mem ((c.tc : Thread Cert.Reference8Ideal.nD Cert.Reference8Ideal.τ).loc Cert.Reference8Ideal.main_v11) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_v37) = v1 c
          ∧ r.2.mem ((c.tc : Thread Cert.Reference9Ideal.nD Cert.Reference9Ideal.τ).loc Cert.Reference9Ideal.main_v18) = v2 c
          ∧ r.2.mem ((c.tc : Thread Cert.Reference9Ideal.nD Cert.Reference9Ideal.τ).loc Cert.Reference9Ideal.main_v24) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)
      ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
          ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v13) = v0 c
          ∧ r.2.mem ((c.tc : Thread Cert.Reference10Ideal.nD Cert.Reference10Ideal.τ).loc Cert.Reference10Ideal.main_v37) = v1 c
          ∧ r.2.mem ((c.tc : Thread Cert.Reference10Ideal.nD Cert.Reference10Ideal.τ).loc Cert.Reference10Ideal.main_v18) = v2 c
          ∧ r.2.mem ((c.tc : Thread Cert.Reference10Ideal.nD Cert.Reference10Ideal.τ).loc Cert.Reference10Ideal.main_v24) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v70) = v0 c
          ∧ r.2.mem ((c.tc : Thread Cert.Reference11Ideal.nD Cert.Reference11Ideal.τ).loc Cert.Reference11Ideal.main_v33) = v1 c
          ∧ r.2.mem ((c.tc : Thread Cert.Reference11Ideal.nD Cert.Reference11Ideal.τ).loc Cert.Reference11Ideal.main_v71) = v2 c
          ∧ r.2.mem ((c.tc : Thread Cert.Reference11Ideal.nD Cert.Reference11Ideal.τ).loc Cert.Reference11Ideal.main_v72) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)
      ∧ m' ((c.tc : Thread Cert.Reference12Ideal.nD Cert.Reference12Ideal.τ).loc Cert.Reference12Ideal.main_arg10) = m ((c.tc : Thread Cert.Kernel12Ideal.nD Cert.Kernel12Ideal.τ).loc Cert.Kernel12Ideal.main_arg10)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)) (v2 : (c : Dev Cert.Kernel12Ideal.nD) → Buf (Elt Ideal) ((c.tc : Thread Cert.Kernel12Ideal.nD Cert.Kernel12Ideal.τ).loc Cert.Kernel12Ideal.main_v1_2)) (v3 : (c : Dev Cert.Kernel12Ideal.nD) → Buf (Elt Ideal) ((c.tc : Thread Cert.Kernel12Ideal.nD Cert.Kernel12Ideal.τ).loc Cert.Kernel12Ideal.main_v1_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_v1_2) = v2 c
          ∧ r.2.mem ((c.tc : Thread Cert.Kernel12Ideal.nD Cert.Kernel12Ideal.τ).loc Cert.Kernel12Ideal.main_v1_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
          ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v13) = v0 c
          ∧ r.2.mem ((c.tc : Thread Cert.Reference12Ideal.nD Cert.Reference12Ideal.τ).loc Cert.Reference12Ideal.main_v37) = v1 c
          ∧ r.2.mem ((c.tc : Thread Cert.Reference12Ideal.nD Cert.Reference12Ideal.τ).loc Cert.Reference12Ideal.main_v18) = v2 c
          ∧ r.2.mem ((c.tc : Thread Cert.Reference12Ideal.nD Cert.Reference12Ideal.τ).loc Cert.Reference12Ideal.main_v24) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9)
          ∧ r.2.mem ((c.tc : Thread Cert.Reference12Ideal.nD Cert.Reference12Ideal.τ).loc Cert.Reference12Ideal.main_arg10) = m' ((c.tc : Thread Cert.Reference12Ideal.nD Cert.Reference12Ideal.τ).loc Cert.Reference12Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Kernel.lean ====
abbrev S8192x5120 : Shape := ⟨2, ![8192, 5120]⟩
abbrev S16x257 : Shape := ⟨2, ![16, 257]⟩
abbrev S8192x1024 : Shape := ⟨2, ![8192, 1024]⟩
abbrev S8192x16x64 : Shape := ⟨3, ![8192, 16, 64]⟩
abbrev S128x64x16x64 : Shape := ⟨4, ![128, 64, 16, 64]⟩
abbrev S_ : Shape := ⟨0, ![]⟩
abbrev S8x64x16x64 : Shape := ⟨4, ![8, 64, 16, 64]⟩
abbrev S136x64x16x64 : Shape := ⟨4, ![136, 64, 16, 64]⟩
abbrev S128x576x16x64 : Shape := ⟨4, ![128, 576, 16, 64]⟩
abbrev S128x16x64x576 : Shape := ⟨4, ![128, 16, 64, 576]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S1x16x64x576 : Shape := ⟨4, ![1, 16, 64, 576]⟩
abbrev S128 : Shape := ⟨1, ![128]⟩
abbrev S128x1 : Shape := ⟨2, ![128, 1]⟩
abbrev S128x576 : Shape := ⟨2, ![128, 576]⟩
abbrev S128x1x1x576 : Shape := ⟨4, ![128, 1, 1, 576]⟩
abbrev S128x16x64 : Shape := ⟨3, ![128, 16, 64]⟩
abbrev S128x16x64x1 : Shape := ⟨4, ![128, 16, 64, 1]⟩
abbrev S32x4x16x64x576 : Shape := ⟨5, ![32, 4, 16, 64, 576]⟩
abbrev S32x1x16x64x576 : Shape := ⟨5, ![32, 1, 16, 64, 576]⟩
abbrev S32x16x64x576 : Shape := ⟨4, ![32, 16, 64, 576]⟩
abbrev S32x16x64x768 : Shape := ⟨4, ![32, 16, 64, 768]⟩
abbrev S32x16x1x64x768 : Shape := ⟨5, ![32, 16, 1, 64, 768]⟩
abbrev S32x16x4x64x768 : Shape := ⟨5, ![32, 16, 4, 64, 768]⟩
abbrev S16x32x4x64x768 : Shape := ⟨5, ![16, 32, 4, 64, 768]⟩
abbrev S16x8192x768 : Shape := ⟨3, ![16, 8192, 768]⟩
abbrev S16x256x768 : Shape := ⟨3, ![16, 256, 768]⟩
abbrev S256x256 : Shape := ⟨2, ![256, 256]⟩
abbrev S4x256x768 : Shape := ⟨3, ![4, 256, 768]⟩
abbrev S3x256x256 : Shape := ⟨3, ![3, 256, 256]⟩
abbrev S1x256x256 : Shape := ⟨3, ![1, 256, 256]⟩
abbrev S1x256 : Shape := ⟨2, ![1, 256]⟩
abbrev S768x256 : Shape := ⟨2, ![768, 256]⟩
abbrev S1x256x768 : Shape := ⟨3, ![1, 256, 768]⟩
abbrev S256x768 : Shape := ⟨2, ![256, 768]⟩
abbrev S256 : Shape := ⟨1, ![256]⟩
abbrev S256x1 : Shape := ⟨2, ![256, 1]⟩

abbrev nBuf : Space → Nat
  | .hbm => 151
  | .vmem => 28
  | .smem => 0
  | _ => 0

abbrev hbmTy0_0 (i : Nat) : BufTy := match i % 128 with
  | 0 => ⟨S8192x5120, .bf16⟩
  | 1 => ⟨S16x257, .f32⟩
  | 2 => ⟨S8192x1024, .bf16⟩
  | 3 => ⟨S8192x1024, .bf16⟩
  | 4 => ⟨S8192x1024, .f32⟩
  | 5 => ⟨S8192x16x64, .f32⟩
  | 6 => ⟨S8192x1024, .bf16⟩
  | 7 => ⟨S8192x1024, .f32⟩
  | 8 => ⟨S8192x16x64, .f32⟩
  | 9 => ⟨S128x64x16x64, .f32⟩
  | 10 => ⟨S128x64x16x64, .f32⟩
  | 11 => ⟨S_, .f32⟩
  | 12 => ⟨S8x64x16x64, .f32⟩
  | 13 => ⟨S136x64x16x64, .f32⟩
  | 14 => ⟨S128x64x16x64, .f32⟩
  | 15 => ⟨S128x64x16x64, .f32⟩
  | 16 => ⟨S128x64x16x64, .f32⟩
  | 17 => ⟨S128x64x16x64, .f32⟩
  | 18 => ⟨S128x64x16x64, .f32⟩
  | 19 => ⟨S128x64x16x64, .f32⟩
  | 20 => ⟨S128x64x16x64, .f32⟩
  | 21 => ⟨S128x64x16x64, .f32⟩
  | 22 => ⟨S128x64x16x64, .f32⟩
  | 23 => ⟨S128x576x16x64, .f32⟩
  | 24 => ⟨S128x16x64x576, .f32⟩
  | 25 => ⟨S_, .f32⟩
  | 26 => ⟨S128x16x64x576, .f32⟩
  | 27 => ⟨S128x16x64x576, .f32⟩
  | 28 => ⟨S64, .i32⟩
  | 29 => ⟨S64x1, .i32⟩
  | 30 => ⟨S576, .i32⟩
  | 31 => ⟨S1x576, .i32⟩
  | 32 => ⟨S_, .i32⟩
  | 33 => ⟨S64x1, .i32⟩
  | 34 => ⟨S64x1, .i32⟩
  | 35 => ⟨S64x576, .i32⟩
  | 36 => ⟨S64x576, .i32⟩
  | 37 => ⟨S64x576, .i32⟩
  | 38 => ⟨S_, .i32⟩
  | 39 => ⟨S_, .i32⟩
  | 40 => ⟨S_, .i32⟩
  | 41 => ⟨S64x576, .i32⟩
  | 42 => ⟨S64x576, .i32⟩
  | 43 => ⟨S_, .i32⟩
  | 44 => ⟨S64x576, .i32⟩
  | 45 => ⟨S64x576, .i32⟩
  | 46 => ⟨S_, .i32⟩
  | 47 => ⟨S64x576, .i32⟩
  | 48 => ⟨S64x576, .i32⟩
  | 49 => ⟨S_, .i32⟩
  | 50 => ⟨S64x576, .i32⟩
  | 51 => ⟨S64x576, .i1⟩
  | 52 => ⟨S_, .i32⟩
  | 53 => ⟨S64x576, .i32⟩
  | 54 => ⟨S64x576, .i32⟩
  | 55 => ⟨S64x576, .i32⟩
  | 56 => ⟨S64x576x1, .i32⟩
  | 57 => ⟨S16x64x576, .f32⟩
  | 58 => ⟨S1x16x64x576, .f32⟩
  | 59 => ⟨S128x16x64x576, .f32⟩
  | 60 => ⟨S128x16x64x576, .f32⟩
  | 61 => ⟨S128, .i32⟩
  | 62 => ⟨S128x1, .i32⟩
  | 63 => ⟨S_, .i32⟩
  | 64 => ⟨S128x1, .i32⟩
  | 65 => ⟨S128x1, .i32⟩
  | 66 => ⟨S_, .i32⟩
  | 67 => ⟨S128x1, .i32⟩
  | 68 => ⟨S128x1, .i32⟩
  | 69 => ⟨S576, .i32⟩
  | 70 => ⟨S1x576, .i32⟩
  | 71 => ⟨S128x576, .i32⟩
  | 72 => ⟨S128x576, .i32⟩
  | 73 => ⟨S128x576, .i32⟩
  | 74 => ⟨S_, .i32⟩
  | 75 => ⟨S128x576, .i32⟩
  | 76 => ⟨S128x576, .i1⟩
  | 77 => ⟨S128x1x1x576, .i1⟩
  | 78 => ⟨S_, .f32⟩
  | 79 => ⟨S128x16x64x576, .i1⟩
  | 80 => ⟨S128x16x64x576, .f32⟩
  | 81 => ⟨S128x16x64x576, .f32⟩
  | 82 => ⟨S_, .f32⟩
  | 83 => ⟨S128x16x64, .f32⟩
  | 84 => ⟨S_, .f32⟩
  | 85 => ⟨S128x16x64, .f32⟩
  | 86 => ⟨S128x16x64, .f32⟩
  | 87 => ⟨S128x16x64x1, .f32⟩
  | 88 => ⟨S128x16x64x576, .f32⟩
  | 89 => ⟨S128x16x64x576, .f32⟩
  | 90 => ⟨S128x16x64x576, .f32⟩
  | 91 => ⟨S_, .f32⟩
  | 92 => ⟨S128x16x64, .f32⟩
  | 93 => ⟨S128x16x64x1, .f32⟩
  | 94 => ⟨S128x16x64x576, .f32⟩
  | 95 => ⟨S128x16x64x576, .f32⟩
  | 96 => ⟨S128, .i32⟩
  | 97 => ⟨S128x1, .i32⟩
  | 98 => ⟨S_, .i32⟩
  | 99 => ⟨S128x1, .i32⟩
  | 100 => ⟨S128x1, .i32⟩
  | 101 => ⟨S_, .i32⟩
  | 102 => ⟨S128x1, .i32⟩
  | 103 => ⟨S128x1, .i32⟩
  | 104 => ⟨S576, .i32⟩
  | 105 => ⟨S1x576, .i32⟩
  | 106 => ⟨S128x576, .i32⟩
  | 107 => ⟨S128x576, .i32⟩
  | 108 => ⟨S128x576, .i32⟩
  | 109 => ⟨S_, .i32⟩
  | 110 => ⟨S128x576, .i32⟩
  | 111 => ⟨S128x576, .i1⟩
  | 112 => ⟨S128x1x1x576, .i1⟩
  | 113 => ⟨S_, .f32⟩
  | 114 => ⟨S_, .f32⟩
  | 115 => ⟨S128x16x64x576, .i1⟩
  | 116 => ⟨S128x16x64x576, .f32⟩
  | 117 => ⟨S128x16x64x576, .f32⟩
  | 118 => ⟨S128x16x64x576, .bf16⟩
  | 119 => ⟨S32x4x16x64x576, .bf16⟩
  | 120 => ⟨S32x1x16x64x576, .bf16⟩
  | 121 => ⟨S32x16x64x576, .bf16⟩
  | 122 => ⟨S_, .i32⟩
  | 123 => ⟨S_, .bf16⟩
  | 124 => ⟨S32x16x64x768, .bf16⟩
  | 125 => ⟨S32x1x16x64x576, .bf16⟩
  | 126 => ⟨S32x16x64x576, .bf16⟩
  | 127 => ⟨S_, .i32⟩
  | _ => ⟨S8192x5120, .bf16⟩

abbrev hbmTy0_1 (i : Nat) : BufTy := match i % 128 with
  | 0 => ⟨S_, .bf16⟩
  | 1 => ⟨S32x16x64x768, .bf16⟩
  | 2 => ⟨S32x1x16x64x576, .bf16⟩
  | 3 => ⟨S32x16x64x576, .bf16⟩
  | 4 => ⟨S_, .i32⟩
  | 5 => ⟨S_, .bf16⟩
  | 6 => ⟨S32x16x64x768, .bf16⟩
  | 7 => ⟨S32x1x16x64x576, .bf16⟩
  | 8 => ⟨S32x16x64x576, .bf16⟩
  | 9 => ⟨S_, .i32⟩
  | 10 => ⟨S_, .bf16⟩
  | 11 => ⟨S32x16x64x768, .bf16⟩
  | 12 => ⟨S32x16x1x64x768, .bf16⟩
  | 13 => ⟨S32x16x1x64x768, .bf16⟩
  | 14 => ⟨S32x16x1x64x768, .bf16⟩
  | 15 => ⟨S32x16x1x64x768, .bf16⟩
  | 16 => ⟨S32x16x4x64x768, .bf16⟩
  | 17 => ⟨S16x32x4x64x768, .bf16⟩
  | 18 => ⟨S16x8192x768, .bf16⟩
  | 19 => ⟨S8192x1024, .bf16⟩
  | 20 => ⟨S8192x1024, .bf16⟩
  | 21 => ⟨S8192x1024, .bf16⟩
  | 22 => ⟨S16x256x768, .f32⟩
  | _ => ⟨S8192x5120, .bf16⟩

abbrev hbmTy (i : Nat) : BufTy := match i / 128 with
  | 0 => hbmTy0_0 i
  | 1 => hbmTy0_1 i
  | _ => ⟨S8192x5120, .bf16⟩

abbrev bufTy : (tb : Table) → Fin (tcTables nBuf tb) → BufTy
  | .hbm, ⟨i, _⟩ => hbmTy i
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .vmem, ⟨13, _⟩ => ⟨S256x256, .bf16⟩
  | .local _ .vmem, ⟨14, _⟩ => ⟨S4x256x768, .bf16⟩
  | .local _ .vmem, ⟨15, _⟩ => ⟨S4x256x768, .bf16⟩
  | .local _ .vmem, ⟨16, _⟩ => ⟨S256x256, .bf16⟩
  | .local _ .vmem, ⟨17, _⟩ => ⟨S256x256, .bf16⟩
  | .local _ .vmem, ⟨18, _⟩ => ⟨S256x256, .bf16⟩
  | .local _ .vmem, ⟨19, _⟩ => ⟨S256x256, .bf16⟩
  | .local _ .vmem, ⟨20, _⟩ => ⟨S256x256, .bf16⟩
  | .local _ .vmem, ⟨21, _⟩ => ⟨S256x256, .bf16⟩
  | .local _ .vmem, ⟨22, _⟩ => ⟨S256x256, .bf16⟩
  | .local _ .vmem, ⟨23, _⟩ => ⟨S256x256, .bf16⟩
  | .local _ .vmem, ⟨24, _⟩ => ⟨S4x256x768, .f32⟩
  | .local _ .vmem, ⟨25, _⟩ => ⟨S4x256x768, .f32⟩
  | .local _ .vmem, ⟨26, _⟩ => ⟨S3x256x256, .f32⟩
  | .local _ .vmem, ⟨27, _⟩ => ⟨S3x256x256, .f32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_c : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_c_1 : Ref sig .tc := ⟨.hbm, 38, rfl⟩
abbrev main_c_2 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v32 : Ref sig .tc := ⟨.hbm, 45, rfl⟩
abbrev main_c_3 : Ref sig .tc := ⟨.hbm, 46, rfl⟩
abbrev main_v33 : Ref sig .tc := ⟨.hbm, 47, rfl⟩
abbrev main_v34 : Ref sig .tc := ⟨.hbm, 48, rfl⟩
abbrev main_c_4 : Ref sig .tc := ⟨.hbm, 49, rfl⟩
abbrev main_v35 : Ref sig .tc := ⟨.hbm, 50, rfl⟩
abbrev main_v36 : Ref sig .tc := ⟨.hbm, 51, rfl⟩
abbrev main_c_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_6 : Ref sig .tc := ⟨.hbm, 63, rfl⟩
abbrev main_v47 : Ref sig .tc := ⟨.hbm, 64, rfl⟩
abbrev main_v48 : Ref sig .tc := ⟨.hbm, 65, rfl⟩
abbrev main_c_7 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c_8 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_9 : Ref sig .tc := ⟨.hbm, 78, rfl⟩
abbrev main_call1_v0 : Ref sig .tc := ⟨.hbm, 79, rfl⟩
abbrev main_call1_v1 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_12 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_13 : Ref sig .tc := ⟨.hbm, 98, rfl⟩
abbrev main_v73 : Ref sig .tc := ⟨.hbm, 99, rfl⟩
abbrev main_v74 : Ref sig .tc := ⟨.hbm, 100, rfl⟩
abbrev main_c_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_c_15 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_16 : Ref sig .tc := ⟨.hbm, 113, rfl⟩
abbrev main_call2_v0 : Ref sig .tc := ⟨.hbm, 114, rfl⟩
abbrev main_call2_v1 : Ref sig .tc := ⟨.hbm, 115, rfl⟩
abbrev main_call2_v2 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_c_17 : Ref sig .tc := ⟨.hbm, 122, rfl⟩
abbrev main_call3_v0 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_c_18 : Ref sig .tc := ⟨.hbm, 127, rfl⟩
abbrev main_call4_v0 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_c_19 : Ref sig .tc := ⟨.hbm, 132, rfl⟩
abbrev main_call5_v0 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_c_20 : Ref sig .tc := ⟨.hbm, 137, rfl⟩
abbrev main_call6_v0 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107_0 : Ref sig .tc := ⟨.hbm, 147, rfl⟩
abbrev main_v107_1 : Ref sig .tc := ⟨.hbm, 148, rfl⟩
abbrev main_v107_2 : Ref sig .tc := ⟨.hbm, 149, rfl⟩
abbrev main_v107_3 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 34], ![false, false]⟩

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c32_i32 : BitVec 32 := 32#32
  let v4 : BitVec 1 := Scalar.cmpi .slt arg1 c32_i32
  let v5 : BitVec 1 := Scalar.andi v3 v4
  let v6 : BitVec 32 := Scalar.extui v5
  let c0_i32_2 : BitVec 32 := 0#32
  let v7 : BitVec 1 := Scalar.cmpi .ne v6 c0_i32_2
  v7

def k0_off1 (i : grid0.Coords) : Fin 3 → Nat :=
  let arg1 : BitVec 32 := BitVec.ofNat 32 (i 1).val
  let c3_i32 : BitVec 32 := 3#32
  let c0_i32_6 : BitVec 32 := 0#32
  let v15 : BitVec 1 := Scalar.cmpi .eq c3_i32 c0_i32_6
  let c1_i32 : BitVec 32 := 1#32
  let v16 : BitVec 32 := Scalar.select v15 c1_i32 c3_i32
  let v17 : BitVec 32 := Scalar.remsi arg1 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let v25 : Index := Scalar.indexCast v24
  let c0 : Index := 0#32
  let c0_10 : Index := 0#32
  ![v25.toNat, 0, 0]
def k0_cond3 (i : grid0.Coords) : BitVec 1 :=
  let arg1 : BitVec 32 := BitVec.ofNat 32 (i 1).val
  let c32_i32_3 : BitVec 32 := 32#32
  let v8 : BitVec 1 := Scalar.cmpi .slt arg1 c32_i32_3
  let v9 : BitVec 32 := Scalar.extui v8
  let c0_i32_4 : BitVec 32 := 0#32
  let v10 : BitVec 1 := Scalar.cmpi .ne v9 c0_i32_4
  v10

def k0_off2 (i : grid0.Coords) (c0_i32_90 : BitVec 32) : Fin 3 → Nat :=
  let arg1 : BitVec 32 := BitVec.ofNat 32 (i 1).val
  let c1_i32_89 : BitVec 32 := 1#32
  let v186 : BitVec 32 := Scalar.addi arg1 c1_i32_89
  let v187 : BitVec 32 := Scalar.addi v186 c0_i32_90
  let c3_i32_91 : BitVec 32 := 3#32
  let c0_i32_92 : BitVec 32 := 0#32
  let v188 : BitVec 1 := Scalar.cmpi .eq c3_i32_91 c0_i32_92
  let c1_i32_93 : BitVec 32 := 1#32
  let v189 : BitVec 32 := Scalar.select v188 c1_i32_93 c3_i32_91
  let v190 : BitVec 32 := Scalar.remsi v187 v189
  let c0_i32_95 : BitVec 32 := 0#32
  let v192 : BitVec 1 := Scalar.cmpi .slt v190 c0_i32_95
  let c0_i32_96 : BitVec 32 := 0#32
  let v193 : BitVec 1 := Scalar.cmpi .slt v189 c0_i32_96
  let v194 : BitVec 1 := Scalar.xori v192 v193
  let c0_i32_94 : BitVec 32 := 0#32
  let v191 : BitVec 1 := Scalar.cmpi .ne v190 c0_i32_94
  let v195 : BitVec 1 := Scalar.andi v194 v191
  let v196 : BitVec 32 := Scalar.addi v190 v189
  let v197 : BitVec 32 := Scalar.select v195 v196 v190
  let v198 : Index := Scalar.indexCast v197
  let c0_97 : Index := 0#32
  let c0_98 : Index := 0#32
  ![v198.toNat, 0, 0]
def k0_cond4 (i : grid0.Coords) : BitVec 1 :=
  let arg1 : BitVec 32 := BitVec.ofNat 32 (i 1).val
  let c2_i32 : BitVec 32 := 2#32
  let v11 : BitVec 1 := Scalar.cmpi .sge arg1 c2_i32
  let v12 : BitVec 32 := Scalar.extui v11
  let c0_i32_5 : BitVec 32 := 0#32
  let v13 : BitVec 1 := Scalar.cmpi .ne v12 c0_i32_5
  v13

def k0_off3 (i : grid0.Coords) : Fin 3 → Nat :=
  let arg1 : BitVec 32 := BitVec.ofNat 32 (i 1).val
  let c2_i32_6 : BitVec 32 := 2#32
  let v14 : BitVec 32 := Scalar.subi arg1 c2_i32_6
  let c3_i32 : BitVec 32 := 3#32
  let c0_i32_7 : BitVec 32 := 0#32
  let v15 : BitVec 1 := Scalar.cmpi .eq c3_i32 c0_i32_7
  let c1_i32 : BitVec 32 := 1#32
  let v16 : BitVec 32 := Scalar.select v15 c1_i32 c3_i32
  let v17 : BitVec 32 := Scalar.remsi v14 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v25 : Index := Scalar.indexCast v24
  let c0 : Index := 0#32
  let c0_11 : Index := 0#32
  ![v25.toNat, 0, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c31_i32 : BitVec 32 := 31#32
  let v1 : BitVec 32 := Scalar.maxsi c0_i32 v0
  let v2 : BitVec 32 := Scalar.minsi c31_i32 v1
  let c4_i32 : BitVec 32 := 4#32
  let v3 : BitVec 32 := Scalar.addi c4_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c31_i32 : BitVec 32 := 31#32
  let v1 : BitVec 32 := Scalar.maxsi c0_i32 v0
  let v2 : BitVec 32 := Scalar.minsi c31_i32 v1
  let c4_i32 : BitVec 32 := 4#32
  let v3 : BitVec 32 := Scalar.addi c4_i32 arg0
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c31_i32 : BitVec 32 := 31#32
  let v1 : BitVec 32 := Scalar.maxsi c0_i32_0 v0
  let v2 : BitVec 32 := Scalar.minsi c31_i32 v1
  let c4_i32 : BitVec 32 := 4#32
  let v3 : BitVec 32 := Scalar.addi c4_i32 arg0
  let c0_i32_1 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c31_i32 : BitVec 32 := 31#32
  let v1 : BitVec 32 := Scalar.maxsi c0_i32 v0
  let v2 : BitVec 32 := Scalar.minsi c31_i32 v1
  let c8_i32 : BitVec 32 := 8#32
  let v3 : BitVec 32 := Scalar.addi c8_i32 arg0
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c31_i32 : BitVec 32 := 31#32
  let v1 : BitVec 32 := Scalar.maxsi c0_i32 v0
  let v2 : BitVec 32 := Scalar.minsi c31_i32 v1
  let c8_i32 : BitVec 32 := 8#32
  let v3 : BitVec 32 := Scalar.addi c8_i32 arg0
  let c0_i32_0 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c31_i32 : BitVec 32 := 31#32
  let v1 : BitVec 32 := Scalar.maxsi c0_i32_0 v0
  let v2 : BitVec 32 := Scalar.minsi c31_i32 v1
  let c8_i32 : BitVec 32 := 8#32
  let v3 : BitVec 32 := Scalar.addi c8_i32 arg0
  let c0_i32_1 : BitVec 32 := 0#32
  ![v2.toNat, v3.toNat]

def cc0_transform_7 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, v0.toNat, c0_i32.toNat]

def cc0_transform_8 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  ![v0.toNat, arg0.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  ![v1.toNat, arg0.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  ![v1.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x256x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S4x256x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S8192x5120 : Shape := ⟨2, ![8192, 5120]⟩
abbrev S16x257 : Shape := ⟨2, ![16, 257]⟩
abbrev S8192x1024 : Shape := ⟨2, ![8192, 1024]⟩
abbrev S8192x16x64 : Shape := ⟨3, ![8192, 16, 64]⟩
abbrev S128x64x16x64 : Shape := ⟨4, ![128, 64, 16, 64]⟩
abbrev S_ : Shape := ⟨0, ![]⟩
abbrev S8x64x16x64 : Shape := ⟨4, ![8, 64, 16, 64]⟩
abbrev S136x64x16x64 : Shape := ⟨4, ![136, 64, 16, 64]⟩
abbrev S128x576x16x64 : Shape := ⟨4, ![128, 576, 16, 64]⟩
abbrev S128x16x64x576 : Shape := ⟨4, ![128, 16, 64, 576]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S1x16x64x576 : Shape := ⟨4, ![1, 16, 64, 576]⟩
abbrev S128 : Shape := ⟨1, ![128]⟩
abbrev S128x1 : Shape := ⟨2, ![128, 1]⟩
abbrev S128x576 : Shape := ⟨2, ![128, 576]⟩
abbrev S128x1x1x576 : Shape := ⟨4, ![128, 1, 1, 576]⟩
abbrev S128x16x64 : Shape := ⟨3, ![128, 16, 64]⟩
abbrev S128x16x64x1 : Shape := ⟨4, ![128, 16, 64, 1]⟩
abbrev S128x16x64x64 : Shape := ⟨4, ![128, 16, 64, 64]⟩
abbrev S128x16x576x64 : Shape := ⟨4, ![128, 16, 576, 64]⟩

abbrev nBuf : Space → Nat
  | .hbm => 259
  | .vmem => 0
  | .smem => 0
  | _ => 0

abbrev hbmTy0_0 (i : Nat) : BufTy := match i % 128 with
  | 0 => ⟨S8192x5120, .bf16⟩
  | 1 => ⟨S16x257, .f32⟩
  | 2 => ⟨S8192x1024, .bf16⟩
  | 3 => ⟨S8192x1024, .bf16⟩
  | 4 => ⟨S8192x1024, .f32⟩
  | 5 => ⟨S8192x16x64, .f32⟩
  | 6 => ⟨S8192x1024, .bf16⟩
  | 7 => ⟨S8192x1024, .f32⟩
  | 8 => ⟨S8192x16x64, .f32⟩
  | 9 => ⟨S8192x1024, .bf16⟩
  | 10 => ⟨S8192x1024, .f32⟩
  | 11 => ⟨S8192x16x64, .f32⟩
  | 12 => ⟨S128x64x16x64, .f32⟩
  | 13 => ⟨S128x64x16x64, .f32⟩
  | 14 => ⟨S_, .f32⟩
  | 15 => ⟨S8x64x16x64, .f32⟩
  | 16 => ⟨S136x64x16x64, .f32⟩
  | 17 => ⟨S_, .f32⟩
  | 18 => ⟨S8x64x16x64, .f32⟩
  | 19 => ⟨S128x64x16x64, .f32⟩
  | 20 => ⟨S128x64x16x64, .f32⟩
  | 21 => ⟨S128x64x16x64, .f32⟩
  | 22 => ⟨S128x64x16x64, .f32⟩
  | 23 => ⟨S128x64x16x64, .f32⟩
  | 24 => ⟨S128x64x16x64, .f32⟩
  | 25 => ⟨S128x64x16x64, .f32⟩
  | 26 => ⟨S128x64x16x64, .f32⟩
  | 27 => ⟨S128x64x16x64, .f32⟩
  | 28 => ⟨S128x576x16x64, .f32⟩
  | 29 => ⟨S128x16x64x576, .f32⟩
  | 30 => ⟨S_, .f32⟩
  | 31 => ⟨S128x16x64x576, .f32⟩
  | 32 => ⟨S128x16x64x576, .f32⟩
  | 33 => ⟨S64, .i32⟩
  | 34 => ⟨S64x1, .i32⟩
  | 35 => ⟨S576, .i32⟩
  | 36 => ⟨S1x576, .i32⟩
  | 37 => ⟨S_, .i32⟩
  | 38 => ⟨S64x1, .i32⟩
  | 39 => ⟨S64x1, .i32⟩
  | 40 => ⟨S64x576, .i32⟩
  | 41 => ⟨S64x576, .i32⟩
  | 42 => ⟨S64x576, .i32⟩
  | 43 => ⟨S_, .i32⟩
  | 44 => ⟨S_, .i32⟩
  | 45 => ⟨S_, .i32⟩
  | 46 => ⟨S64x576, .i32⟩
  | 47 => ⟨S64x576, .i32⟩
  | 48 => ⟨S_, .i32⟩
  | 49 => ⟨S64x576, .i32⟩
  | 50 => ⟨S64x576, .i32⟩
  | 51 => ⟨S_, .i32⟩
  | 52 => ⟨S64x576, .i32⟩
  | 53 => ⟨S64x576, .i32⟩
  | 54 => ⟨S_, .i32⟩
  | 55 => ⟨S64x576, .i32⟩
  | 56 => ⟨S64x576, .i1⟩
  | 57 => ⟨S_, .i32⟩
  | 58 => ⟨S64x576, .i32⟩
  | 59 => ⟨S64x576, .i32⟩
  | 60 => ⟨S64x576, .i32⟩
  | 61 => ⟨S64x576x1, .i32⟩
  | 62 => ⟨S16x64x576, .f32⟩
  | 63 => ⟨S1x16x64x576, .f32⟩
  | 64 => ⟨S128x16x64x576, .f32⟩
  | 65 => ⟨S128x16x64x576, .f32⟩
  | 66 => ⟨S128, .i32⟩
  | 67 => ⟨S128x1, .i32⟩
  | 68 => ⟨S_, .i32⟩
  | 69 => ⟨S128x1, .i32⟩
  | 70 => ⟨S128x1, .i32⟩
  | 71 => ⟨S_, .i32⟩
  | 72 => ⟨S128x1, .i32⟩
  | 73 => ⟨S128x1, .i32⟩
  | 74 => ⟨S576, .i32⟩
  | 75 => ⟨S1x576, .i32⟩
  | 76 => ⟨S128x576, .i32⟩
  | 77 => ⟨S128x576, .i32⟩
  | 78 => ⟨S128x576, .i32⟩
  | 79 => ⟨S_, .i32⟩
  | 80 => ⟨S128x576, .i32⟩
  | 81 => ⟨S128x576, .i1⟩
  | 82 => ⟨S128x1x1x576, .i1⟩
  | 83 => ⟨S_, .f32⟩
  | 84 => ⟨S128x16x64x576, .i1⟩
  | 85 => ⟨S128x16x64x576, .f32⟩
  | 86 => ⟨S128x16x64x576, .f32⟩
  | 87 => ⟨S_, .f32⟩
  | 88 => ⟨S128x16x64x576, .f32⟩
  | 89 => ⟨S_, .f32⟩
  | 90 => ⟨S128x16x64, .f32⟩
  | 91 => ⟨S128x16x64x1, .f32⟩
  | 92 => ⟨S128x16x64x576, .f32⟩
  | 93 => ⟨S128x16x64x576, .i1⟩
  | 94 => ⟨S128x16x64x576, .f32⟩
  | 95 => ⟨S_, .f32⟩
  | 96 => ⟨S128x16x64, .f32⟩
  | 97 => ⟨S_, .f32⟩
  | 98 => ⟨S128x16x64, .f32⟩
  | 99 => ⟨S128x16x64, .f32⟩
  | 100 => ⟨S_, .f32⟩
  | 101 => ⟨S128x16x64, .f32⟩
  | 102 => ⟨S128x16x64, .i1⟩
  | 103 => ⟨S_, .f32⟩
  | 104 => ⟨S128x16x64, .f32⟩
  | 105 => ⟨S128x16x64, .i1⟩
  | 106 => ⟨S_, .f32⟩
  | 107 => ⟨S128x16x64, .f32⟩
  | 108 => ⟨S_, .f32⟩
  | 109 => ⟨S128x16x64, .f32⟩
  | 110 => ⟨S_, .f32⟩
  | 111 => ⟨S128x16x64, .f32⟩
  | 112 => ⟨S128x16x64, .f32⟩
  | 113 => ⟨S128x16x64, .f32⟩
  | 114 => ⟨S128x16x64x1, .f32⟩
  | 115 => ⟨S128x16x64x576, .f32⟩
  | 116 => ⟨S128x16x64x576, .f32⟩
  | 117 => ⟨S128x16x64x576, .f32⟩
  | 118 => ⟨S_, .f32⟩
  | 119 => ⟨S128x16x64, .f32⟩
  | 120 => ⟨S128x16x64x1, .f32⟩
  | 121 => ⟨S128x16x64x576, .f32⟩
  | 122 => ⟨S128x16x64x576, .f32⟩
  | 123 => ⟨S128x16x64x1, .f32⟩
  | 124 => ⟨S_, .f32⟩
  | 125 => ⟨S128x16x64x1, .f32⟩
  | 126 => ⟨S128x16x64x1, .f32⟩
  | 127 => ⟨S128x64x16x64, .f32⟩
  | _ => ⟨S8192x5120, .bf16⟩

abbrev hbmTy0_1 (i : Nat) : BufTy := match i % 128 with
  | 0 => ⟨S_, .f32⟩
  | 1 => ⟨S8x64x16x64, .f32⟩
  | 2 => ⟨S136x64x16x64, .f32⟩
  | 3 => ⟨S_, .f32⟩
  | 4 => ⟨S8x64x16x64, .f32⟩
  | 5 => ⟨S128x64x16x64, .f32⟩
  | 6 => ⟨S128x64x16x64, .f32⟩
  | 7 => ⟨S128x64x16x64, .f32⟩
  | 8 => ⟨S128x64x16x64, .f32⟩
  | 9 => ⟨S128x64x16x64, .f32⟩
  | 10 => ⟨S128x64x16x64, .f32⟩
  | 11 => ⟨S128x64x16x64, .f32⟩
  | 12 => ⟨S128x64x16x64, .f32⟩
  | 13 => ⟨S128x64x16x64, .f32⟩
  | 14 => ⟨S128x576x16x64, .f32⟩
  | 15 => ⟨S128x16x64x64, .f32⟩
  | 16 => ⟨S128x64x16x64, .f32⟩
  | 17 => ⟨S8192x1024, .f32⟩
  | 18 => ⟨S8192x1024, .f32⟩
  | 19 => ⟨S128x64x16x64, .f32⟩
  | 20 => ⟨S128x16x64x64, .f32⟩
  | 21 => ⟨S128x16x64x576, .f32⟩
  | 22 => ⟨S128x16x64x576, .f32⟩
  | 23 => ⟨S128x576x16x64, .f32⟩
  | 24 => ⟨S128x64x16x64, .f32⟩
  | 25 => ⟨S128x64x16x64, .f32⟩
  | 26 => ⟨S128x64x16x64, .f32⟩
  | 27 => ⟨S128x64x16x64, .f32⟩
  | 28 => ⟨S128x64x16x64, .f32⟩
  | 29 => ⟨S128x64x16x64, .f32⟩
  | 30 => ⟨S128x64x16x64, .f32⟩
  | 31 => ⟨S128x64x16x64, .f32⟩
  | 32 => ⟨S128x64x16x64, .f32⟩
  | 33 => ⟨S_, .f32⟩
  | 34 => ⟨S136x64x16x64, .f32⟩
  | 35 => ⟨S_, .f32⟩
  | 36 => ⟨S136x64x16x64, .f32⟩
  | 37 => ⟨S136x64x16x64, .f32⟩
  | 38 => ⟨S_, .f32⟩
  | 39 => ⟨S136x64x16x64, .f32⟩
  | 40 => ⟨S136x64x16x64, .f32⟩
  | 41 => ⟨S_, .f32⟩
  | 42 => ⟨S136x64x16x64, .f32⟩
  | 43 => ⟨S136x64x16x64, .f32⟩
  | 44 => ⟨S_, .f32⟩
  | 45 => ⟨S136x64x16x64, .f32⟩
  | 46 => ⟨S136x64x16x64, .f32⟩
  | 47 => ⟨S_, .f32⟩
  | 48 => ⟨S136x64x16x64, .f32⟩
  | 49 => ⟨S136x64x16x64, .f32⟩
  | 50 => ⟨S_, .f32⟩
  | 51 => ⟨S136x64x16x64, .f32⟩
  | 52 => ⟨S136x64x16x64, .f32⟩
  | 53 => ⟨S_, .f32⟩
  | 54 => ⟨S136x64x16x64, .f32⟩
  | 55 => ⟨S136x64x16x64, .f32⟩
  | 56 => ⟨S_, .f32⟩
  | 57 => ⟨S136x64x16x64, .f32⟩
  | 58 => ⟨S136x64x16x64, .f32⟩
  | 59 => ⟨S8x64x16x64, .f32⟩
  | 60 => ⟨S128x64x16x64, .f32⟩
  | 61 => ⟨S8192x16x64, .f32⟩
  | 62 => ⟨S128x16x64x576, .f32⟩
  | 63 => ⟨S128x16x64x576, .f32⟩
  | 64 => ⟨S128x16x64x576, .f32⟩
  | 65 => ⟨S_, .f32⟩
  | 66 => ⟨S128x16x64, .f32⟩
  | 67 => ⟨S128x16x64x1, .f32⟩
  | 68 => ⟨S128x16x64x1, .f32⟩
  | 69 => ⟨S128x16x64x576, .f32⟩
  | 70 => ⟨S128x16x64x576, .f32⟩
  | 71 => ⟨S_, .f32⟩
  | 72 => ⟨S128x16x64, .f32⟩
  | 73 => ⟨S128x16x64x576, .f32⟩
  | 74 => ⟨S128x16x64x576, .f32⟩
  | 75 => ⟨S128x16x64x576, .f32⟩
  | 76 => ⟨S_, .f32⟩
  | 77 => ⟨S128x16x64x576, .f32⟩
  | 78 => ⟨S128x16x64x576, .f32⟩
  | 79 => ⟨S_, .f32⟩
  | 80 => ⟨S128x16x64x576, .f32⟩
  | 81 => ⟨S128x16x64x576, .f32⟩
  | 82 => ⟨S128x16x576x64, .f32⟩
  | 83 => ⟨S128x576x16x64, .f32⟩
  | 84 => ⟨S128x16x64x64, .f32⟩
  | 85 => ⟨S128x64x16x64, .f32⟩
  | 86 => ⟨S128x64x16x64, .f32⟩
  | 87 => ⟨S128x64x16x64, .f32⟩
  | 88 => ⟨S128x64x16x64, .f32⟩
  | 89 => ⟨S128x64x16x64, .f32⟩
  | 90 => ⟨S128x64x16x64, .f32⟩
  | 91 => ⟨S128x64x16x64, .f32⟩
  | 92 => ⟨S128x64x16x64, .f32⟩
  | 93 => ⟨S128x64x16x64, .f32⟩
  | 94 => ⟨S128x64x16x64, .f32⟩
  | 95 => ⟨S_, .f32⟩
  | 96 => ⟨S136x64x16x64, .f32⟩
  | 97 => ⟨S_, .f32⟩
  | 98 => ⟨S136x64x16x64, .f32⟩
  | 99 => ⟨S136x64x16x64, .f32⟩
  | 100 => ⟨S_, .f32⟩
  | 101 => ⟨S136x64x16x64, .f32⟩
  | 102 => ⟨S136x64x16x64, .f32⟩
  | 103 => ⟨S_, .f32⟩
  | 104 => ⟨S136x64x16x64, .f32⟩
  | 105 => ⟨S136x64x16x64, .f32⟩
  | 106 => ⟨S_, .f32⟩
  | 107 => ⟨S136x64x16x64, .f32⟩
  | 108 => ⟨S136x64x16x64, .f32⟩
  | 109 => ⟨S_, .f32⟩
  | 110 => ⟨S136x64x16x64, .f32⟩
  | 111 => ⟨S136x64x16x64, .f32⟩
  | 112 => ⟨S_, .f32⟩
  | 113 => ⟨S136x64x16x64, .f32⟩
  | 114 => ⟨S136x64x16x64, .f32⟩
  | 115 => ⟨S_, .f32⟩
  | 116 => ⟨S136x64x16x64, .f32⟩
  | 117 => ⟨S136x64x16x64, .f32⟩
  | 118 => ⟨S_, .f32⟩
  | 119 => ⟨S136x64x16x64, .f32⟩
  | 120 => ⟨S136x64x16x64, .f32⟩
  | 121 => ⟨S8x64x16x64, .f32⟩
  | 122 => ⟨S128x64x16x64, .f32⟩
  | 123 => ⟨S8192x16x64, .f32⟩
  | 124 => ⟨S8192x16x64, .f32⟩
  | 125 => ⟨S8192x1024, .f32⟩
  | 126 => ⟨S8192x1024, .bf16⟩
  | 127 => ⟨S8192x1024, .f32⟩
  | _ => ⟨S8192x5120, .bf16⟩

abbrev hbmTy0_2 (i : Nat) : BufTy := match i % 128 with
  | 0 => ⟨S8192x1024, .bf16⟩
  | 1 => ⟨S8192x1024, .f32⟩
  | 2 => ⟨S8192x1024, .bf16⟩
  | _ => ⟨S8192x5120, .bf16⟩

abbrev hbmTy (i : Nat) : BufTy := match i / 128 with
  | 0 => hbmTy0_0 i
  | 1 => hbmTy0_1 i
  | 2 => hbmTy0_2 i
  | _ => ⟨S8192x5120, .bf16⟩

abbrev bufTy : (tb : Table) → Fin (tcTables nBuf tb) → BufTy
  | .hbm, ⟨i, _⟩ => hbmTy i
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_c : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_c_2 : Ref sig .tc := ⟨.hbm, 43, rfl⟩
abbrev main_c_3 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v36 : Ref sig .tc := ⟨.hbm, 50, rfl⟩
abbrev main_c_4 : Ref sig .tc := ⟨.hbm, 51, rfl⟩
abbrev main_v37 : Ref sig .tc := ⟨.hbm, 52, rfl⟩
abbrev main_v38 : Ref sig .tc := ⟨.hbm, 53, rfl⟩
abbrev main_c_5 : Ref sig .tc := ⟨.hbm, 54, rfl⟩
abbrev main_v39 : Ref sig .tc := ⟨.hbm, 55, rfl⟩
abbrev main_v40 : Ref sig .tc := ⟨.hbm, 56, rfl⟩
abbrev main_c_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c_7 : Ref sig .tc := ⟨.hbm, 68, rfl⟩
abbrev main_v51 : Ref sig .tc := ⟨.hbm, 69, rfl⟩
abbrev main_v52 : Ref sig .tc := ⟨.hbm, 70, rfl⟩
abbrev main_c_8 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_c_9 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_10 : Ref sig .tc := ⟨.hbm, 83, rfl⟩
abbrev main_v63_1 : Ref sig .tc := ⟨.hbm, 84, rfl⟩
abbrev main_call1_v1 : Ref sig .tc := ⟨.hbm, 85, rfl⟩
abbrev main_v63_0 : Ref sig .tc := ⟨.hbm, 86, rfl⟩
abbrev main_call1_cst : Ref sig .tc := ⟨.hbm, 87, rfl⟩
abbrev main_v63_2 : Ref sig .tc := ⟨.hbm, 88, rfl⟩
abbrev main_cst_11 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_12 : Ref sig .tc := ⟨.hbm, 95, rfl⟩
abbrev main_v69 : Ref sig .tc := ⟨.hbm, 96, rfl⟩
abbrev main_cst_13 : Ref sig .tc := ⟨.hbm, 97, rfl⟩
abbrev main_v70 : Ref sig .tc := ⟨.hbm, 98, rfl⟩
abbrev main_v71 : Ref sig .tc := ⟨.hbm, 99, rfl⟩
abbrev main_cst_14 : Ref sig .tc := ⟨.hbm, 100, rfl⟩
abbrev main_v72 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_v75 : Ref sig .tc := ⟨.hbm, 105, rfl⟩
abbrev main_cst_16 : Ref sig .tc := ⟨.hbm, 106, rfl⟩
abbrev main_v76 : Ref sig .tc := ⟨.hbm, 107, rfl⟩
abbrev main_cst_17 : Ref sig .tc := ⟨.hbm, 108, rfl⟩
abbrev main_v77 : Ref sig .tc := ⟨.hbm, 109, rfl⟩
abbrev main_cst_18 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_20 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_21 : Ref sig .tc := ⟨.hbm, 128, rfl⟩
abbrev main_v93 : Ref sig .tc := ⟨.hbm, 129, rfl⟩
abbrev main_v94 : Ref sig .tc := ⟨.hbm, 130, rfl⟩
abbrev main_cst_22 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_cst_23 : Ref sig .tc := ⟨.hbm, 161, rfl⟩
abbrev main_v124 : Ref sig .tc := ⟨.hbm, 162, rfl⟩
abbrev main_cst_24 : Ref sig .tc := ⟨.hbm, 163, rfl⟩
abbrev main_v125 : Ref sig .tc := ⟨.hbm, 164, rfl⟩
abbrev main_v126 : Ref sig .tc := ⟨.hbm, 165, rfl⟩
abbrev main_cst_25 : Ref sig .tc := ⟨.hbm, 166, rfl⟩
abbrev main_v127 : Ref sig .tc := ⟨.hbm, 167, rfl⟩
abbrev main_v128 : Ref sig .tc := ⟨.hbm, 168, rfl⟩
abbrev main_cst_26 : Ref sig .tc := ⟨.hbm, 169, rfl⟩
abbrev main_v129 : Ref sig .tc := ⟨.hbm, 170, rfl⟩
abbrev main_v130 : Ref sig .tc := ⟨.hbm, 171, rfl⟩
abbrev main_cst_27 : Ref sig .tc := ⟨.hbm, 172, rfl⟩
abbrev main_v131 : Ref sig .tc := ⟨.hbm, 173, rfl⟩
abbrev main_v132 : Ref sig .tc := ⟨.hbm, 174, rfl⟩
abbrev main_cst_28 : Ref sig .tc := ⟨.hbm, 175, rfl⟩
abbrev main_v133 : Ref sig .tc := ⟨.hbm, 176, rfl⟩
abbrev main_v134 : Ref sig .tc := ⟨.hbm, 177, rfl⟩
abbrev main_cst_29 : Ref sig .tc := ⟨.hbm, 178, rfl⟩
abbrev main_v135 : Ref sig .tc := ⟨.hbm, 179, rfl⟩
abbrev main_v136 : Ref sig .tc := ⟨.hbm, 180, rfl⟩
abbrev main_cst_30 : Ref sig .tc := ⟨.hbm, 181, rfl⟩
abbrev main_v137 : Ref sig .tc := ⟨.hbm, 182, rfl⟩
abbrev main_v138 : Ref sig .tc := ⟨.hbm, 183, rfl⟩
abbrev main_cst_31 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_cst_32 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_cst_33 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_call2_cst : Ref sig .tc := ⟨.hbm, 204, rfl⟩
abbrev main_call2_v0 : Ref sig .tc := ⟨.hbm, 205, rfl⟩
abbrev main_v156 : Ref sig .tc := ⟨.hbm, 206, rfl⟩
abbrev main_cst_34 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_cst_35 : Ref sig .tc := ⟨.hbm, 223, rfl⟩
abbrev main_v172 : Ref sig .tc := ⟨.hbm, 224, rfl⟩
abbrev main_cst_36 : Ref sig .tc := ⟨.hbm, 225, rfl⟩
abbrev main_v173 : Ref sig .tc := ⟨.hbm, 226, rfl⟩
abbrev main_v174 : Ref sig .tc := ⟨.hbm, 227, rfl⟩
abbrev main_cst_37 : Ref sig .tc := ⟨.hbm, 228, rfl⟩
abbrev main_v175 : Ref sig .tc := ⟨.hbm, 229, rfl⟩
abbrev main_v176 : Ref sig .tc := ⟨.hbm, 230, rfl⟩
abbrev main_cst_38 : Ref sig .tc := ⟨.hbm, 231, rfl⟩
abbrev main_v177 : Ref sig .tc := ⟨.hbm, 232, rfl⟩
abbrev main_v178 : Ref sig .tc := ⟨.hbm, 233, rfl⟩
abbrev main_cst_39 : Ref sig .tc := ⟨.hbm, 234, rfl⟩
abbrev main_v179 : Ref sig .tc := ⟨.hbm, 235, rfl⟩
abbrev main_v180 : Ref sig .tc := ⟨.hbm, 236, rfl⟩
abbrev main_cst_40 : Ref sig .tc := ⟨.hbm, 237, rfl⟩
abbrev main_v181 : Ref sig .tc := ⟨.hbm, 238, rfl⟩
abbrev main_v182 : Ref sig .tc := ⟨.hbm, 239, rfl⟩
abbrev main_cst_41 : Ref sig .tc := ⟨.hbm, 240, rfl⟩
abbrev main_v183 : Ref sig .tc := ⟨.hbm, 241, rfl⟩
abbrev main_v184 : Ref sig .tc := ⟨.hbm, 242, rfl⟩
abbrev main_cst_42 : Ref sig .tc := ⟨.hbm, 243, rfl⟩
abbrev main_v185 : Ref sig .tc := ⟨.hbm, 244, rfl⟩
abbrev main_v186 : Ref sig .tc := ⟨.hbm, 245, rfl⟩
abbrev main_cst_43 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩

abbrev nD : Nat := 1
abbrev τ : Topo := Topo.v7x

variable {F : FTy → Type} [FloatOps F]
-- ==== Kernel2.lean ====
abbrev S8192x1024 : Shape := ⟨2, ![8192, 1024]⟩
abbrev S8192x2048 : Shape := ⟨2, ![8192, 2048]⟩
abbrev S1024x5120 : Shape := ⟨2, ![1024, 5120]⟩
abbrev S512x1024 : Shape := ⟨2, ![512, 1024]⟩
abbrev S512x2048 : Shape := ⟨2, ![512, 2048]⟩
abbrev S5120x1024 : Shape := ⟨2, ![5120, 1024]⟩
abbrev S1024x1024 : Shape := ⟨2, ![1024, 1024]⟩
abbrev S512x5120 : Shape := ⟨2, ![512, 5120]⟩

abbrev nBuf : Space → Nat
  | .hbm => 7
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x2048, .bf16⟩
  | .hbm, ⟨4, _⟩ => ⟨S1024x5120, .bf16⟩
  | .hbm, ⟨5, _⟩ => ⟨S8192x1024, .f32⟩
  | .hbm, ⟨6, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S1024x5120, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S5120x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8192x1024 : Shape := ⟨2, ![8192, 1024]⟩
abbrev S8192x2048 : Shape := ⟨2, ![8192, 2048]⟩
abbrev S1024x5120 : Shape := ⟨2, ![1024, 5120]⟩
abbrev S8192x5120 : Shape := ⟨2, ![8192, 5120]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x2048, .bf16⟩
  | .hbm, ⟨4, _⟩ => ⟨S1024x5120, .bf16⟩
  | .hbm, ⟨5, _⟩ => ⟨S8192x1024, .f32⟩
  | .hbm, ⟨6, _⟩ => ⟨S1024x5120, .f32⟩
  | .hbm, ⟨7, _⟩ => ⟨S8192x5120, .bf16⟩
  | .hbm, ⟨8, _⟩ => ⟨S8192x5120, .f32⟩
  | .hbm, ⟨9, _⟩ => ⟨S_, .f32⟩
  | .hbm, ⟨10, _⟩ => ⟨S8192x1024, .f32⟩
  | .hbm, ⟨11, _⟩ => ⟨S8192x5120, .f32⟩
  | .hbm, ⟨12, _⟩ => ⟨S8192x1024, .f32⟩
  | .hbm, ⟨13, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩

abbrev nD : Nat := 1
abbrev τ : Topo := Topo.v7x

variable {F : FTy → Type} [FloatOps F]
-- ==== Kernel3.lean ====
abbrev S1024x8192 : Shape := ⟨2, ![1024, 8192]⟩
abbrev S8192x1024 : Shape := ⟨2, ![8192, 1024]⟩
abbrev S8192x2048 : Shape := ⟨2, ![8192, 2048]⟩
abbrev S1024x5120 : Shape := ⟨2, ![1024, 5120]⟩
abbrev S8192x256 : Shape := ⟨2, ![8192, 256]⟩
abbrev S1024x256 : Shape := ⟨2, ![1024, 256]⟩

abbrev nBuf : Space → Nat
  | .hbm => 6
  | .vmem => 11
  | .smem => 0
  | _ => 0

abbrev bufTy : (tb : Table) → Fin (tcTables nBuf tb) → BufTy
  | .hbm, ⟨0, _⟩ => ⟨S1024x8192, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x2048, .bf16⟩
  | .hbm, ⟨5, _⟩ => ⟨S1024x5120, .bf16⟩
  | .local _ .vmem, ⟨0, _⟩ => ⟨S1024x8192, .bf16⟩
  | .local _ .vmem, ⟨1, _⟩ => ⟨S8192x256, .bf16⟩
  | .local _ .vmem, ⟨2, _⟩ => ⟨S8192x256, .bf16⟩
  | .local _ .vmem, ⟨3, _⟩ => ⟨S8192x256, .bf16⟩
  | .local _ .vmem, ⟨4, _⟩ => ⟨S8192x256, .bf16⟩
  | .local _ .vmem, ⟨5, _⟩ => ⟨S8192x256, .bf16⟩
  | .local _ .vmem, ⟨6, _⟩ => ⟨S8192x256, .bf16⟩
  | .local _ .vmem, ⟨7, _⟩ => ⟨S8192x256, .bf16⟩
  | .local _ .vmem, ⟨8, _⟩ => ⟨S8192x256, .bf16⟩
  | .local _ .vmem, ⟨9, _⟩ => ⟨S1024x256, .bf16⟩
  | .local _ .vmem, ⟨10, _⟩ => ⟨S1024x256, .bf16⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![20], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c4_i32 : BitVec 32 := 4#32
  let v1 : BitVec 1 := Scalar.cmpi .slt arg0 c4_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c4_i32_1 : BitVec 32 := 4#32
  let v5 : BitVec 1 := Scalar.cmpi .sge arg0 c4_i32_1
  let c8_i32 : BitVec 32 := 8#32
  let v6 : BitVec 1 := Scalar.cmpi .slt arg0 c8_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c8_i32_3 : BitVec 32 := 8#32
  let v10 : BitVec 1 := Scalar.cmpi .sge arg0 c8_i32_3
  let c12_i32 : BitVec 32 := 12#32
  let v11 : BitVec 1 := Scalar.cmpi .slt arg0 c12_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg0 : BitVec 32 := BitVec.ofNat 32 (i 0).val
  let c12_i32_5 : BitVec 32 := 12#32
  let v15 : BitVec 1 := Scalar.cmpi .sge arg0 c12_i32_5
  let c20_i32 : BitVec 32 := 20#32
  let v16 : BitVec 1 := Scalar.cmpi .slt arg0 c20_i32
  let v17 : BitVec 1 := Scalar.andi v15 v16
  let v18 : BitVec 32 := Scalar.extui v17
  let c0_i32_6 : BitVec 32 := 0#32
  let v19 : BitVec 1 := Scalar.cmpi .ne v18 c0_i32_6
  v19

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c12_i32 : BitVec 32 := 12#32
  let v0 : BitVec 32 := Scalar.subi arg0 c12_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S1024x8192 : Shape := ⟨2, ![1024, 8192]⟩
abbrev S8192x1024 : Shape := ⟨2, ![8192, 1024]⟩
abbrev S8192x2048 : Shape := ⟨2, ![8192, 2048]⟩
abbrev S_ : Shape := ⟨0, ![]⟩
abbrev S1024x5120 : Shape := ⟨2, ![1024, 5120]⟩
abbrev S8192x5120 : Shape := ⟨2, ![8192, 5120]⟩
abbrev S5120x1024 : Shape := ⟨2, ![5120, 1024]⟩

abbrev nBuf : Space → Nat
  | .hbm => 15
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x2048, .bf16⟩
  | .hbm, ⟨5, _⟩ => ⟨S8192x1024, .bf16⟩
  | .hbm, ⟨6, _⟩ => ⟨S8192x1024, .f32⟩
  | .hbm, ⟨7, _⟩ => ⟨S_, .f32⟩
  | .hbm, ⟨8, _⟩ => ⟨S1024x5120, .f32⟩
  | .hbm, ⟨9, _⟩ => ⟨S8192x5120, .bf16⟩
  | .hbm, ⟨10, _⟩ => ⟨S8192x5120, .f32⟩
  | .hbm, ⟨11, _⟩ => ⟨S8192x5120, .f32⟩
  | .hbm, ⟨12, _⟩ => ⟨S5120x1024, .f32⟩
  | .hbm, ⟨13, _⟩ => ⟨S1024x5120, .f32⟩
  | .hbm, ⟨14, _⟩ => ⟨S1024x5120, .bf16⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel4.lean ====
abbrev S8192x1024 : Shape := ⟨2, ![8192, 1024]⟩
abbrev S1024x5120 : Shape := ⟨2, ![1024, 5120]⟩
abbrev S8192x5120 : Shape := ⟨2, ![8192, 5120]⟩
abbrev S1024x8192 : Shape := ⟨2, ![1024, 8192]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x5120, .f32⟩
  | .hbm, ⟨2, _⟩ => ⟨S1024x5120, .bf16⟩
  | .hbm, ⟨3, _⟩ => ⟨S8192x5120, .bf16⟩
  | .hbm, ⟨4, _⟩ => ⟨S1024x8192, .bf16⟩
  | .local _ .vmem, ⟨0, _⟩ => ⟨S1024x1024, .f32⟩
  | .local _ .vmem, ⟨1, _⟩ => ⟨S1024x1024, .f32⟩
  | .local _ .vmem, ⟨2, _⟩ => ⟨S1024x5120, .bf16⟩
  | .local _ .vmem, ⟨3, _⟩ => ⟨S1024x5120, .bf16⟩
  | .local _ .vmem, ⟨4, _⟩ => ⟨S1024x5120, .bf16⟩
  | .local _ .vmem, ⟨5, _⟩ => ⟨S1024x1024, .bf16⟩
  | .local _ .vmem, ⟨6, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x5120 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8192x1024 : Shape := ⟨2, ![8192, 1024]⟩
abbrev S1024x5120 : Shape := ⟨2, ![1024, 5120]⟩
abbrev S8192x5120 : Shape := ⟨2, ![8192, 5120]⟩
abbrev S1024x8192 : Shape := ⟨2, ![1024, 8192]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5120, .f32⟩
  | .hbm, ⟨2, _⟩ => ⟨S8192x5120, .f32⟩
  | .hbm, ⟨3, _⟩ => ⟨S8192x5120, .bf16⟩
  | .hbm, ⟨4, _⟩ => ⟨S1024x8192, .f32⟩
  | .hbm, ⟨5, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S8192x1024 : Shape := ⟨2, ![8192, 1024]⟩
abbrev S8192x5120 : Shape := ⟨2, ![8192, 5120]⟩
abbrev S256x1024 : Shape := ⟨2, ![256, 1024]⟩
abbrev S1536x1024 : Shape := ⟨2, ![1536, 1024]⟩
abbrev S1x1024 : Shape := ⟨2, ![1, 1024]⟩
abbrev S8192x512 : Shape := ⟨2, ![8192, 512]⟩
abbrev S512x1024 : Shape := ⟨2, ![512, 1024]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 10
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x5120, .bf16⟩
  | .hbm, ⟨2, _⟩ => ⟨S8192x1024, .bf16⟩
  | .hbm, ⟨3, _⟩ => ⟨S256x1024, .f32⟩
  | .hbm, ⟨4, _⟩ => ⟨S1536x1024, .bf16⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x512, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S256x1024, .f32⟩
  | .local _ .vmem, ⟨13, _⟩ => ⟨S1536x1024, .bf16⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x512, .bf16⟩
  | .local _ .vmem, ⟨21, _⟩ => ⟨S512x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1536x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference5Ideal.lean ====
abbrev S8192x1024 : Shape := ⟨2, ![8192, 1024]⟩
abbrev S8192x5120 : Shape := ⟨2, ![8192, 5120]⟩
abbrev S256x1024 : Shape := ⟨2, ![256, 1024]⟩
abbrev S1536x1024 : Shape := ⟨2, ![1536, 1024]⟩
abbrev S1x1024 : Shape := ⟨2, ![1, 1024]⟩
abbrev S8192x512 : Shape := ⟨2, ![8192, 512]⟩
abbrev S8192x1536 : Shape := ⟨2, ![8192, 1536]⟩
abbrev S8192x4x128 : Shape := ⟨3, ![8192, 4, 128]⟩
abbrev S256x512 : Shape := ⟨2, ![256, 512]⟩
abbrev S256x4x128 : Shape := ⟨3, ![256, 4, 128]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩
abbrev S8192 : Shape := ⟨1, ![8192]⟩
abbrev S8192x1 : Shape := ⟨2, ![8192, 1]⟩

abbrev nBuf : Space → Nat
  | .hbm => 82
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5120, .bf16⟩
  | .hbm, ⟨2, _⟩ => ⟨S8192x1024, .bf16⟩
  | .hbm, ⟨3, _⟩ => ⟨S256x1024, .f32⟩
  | .hbm, ⟨4, _⟩ => ⟨S1536x1024, .bf16⟩
  | .hbm, ⟨5, _⟩ => ⟨S1x1024, .f32⟩
  | .hbm, ⟨6, _⟩ => ⟨S1x1024, .f32⟩
  | .hbm, ⟨7, _⟩ => ⟨S8192x5120, .f32⟩
  | .hbm, ⟨8, _⟩ => ⟨S8192x1024, .f32⟩
  | .hbm, ⟨9, _⟩ => ⟨S1536x1024, .f32⟩
  | .hbm, ⟨10, _⟩ => ⟨S8192x512, .f32⟩
  | .hbm, ⟨11, _⟩ => ⟨S8192x1536, .f32⟩
  | .hbm, ⟨12, _⟩ => ⟨S8192x4x128, .f32⟩
  | .hbm, ⟨13, _⟩ => ⟨S256x512, .f32⟩
  | .hbm, ⟨14, _⟩ => ⟨S256x512, .f32⟩
  | .hbm, ⟨15, _⟩ => ⟨S256x4x128, .f32⟩
  | .hbm, ⟨16, _⟩ => ⟨S256x4x128, .f32⟩
  | .hbm, ⟨17, _⟩ => ⟨S4x8192x256, .f32⟩
  | .hbm, ⟨18, _⟩ => ⟨S_, .f32⟩
  | .hbm, ⟨19, _⟩ => ⟨S4x8192x256, .f32⟩
  | .hbm, ⟨20, _⟩ => ⟨S4x8192x256, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S4x8192, .f32⟩
  | .hbm, ⟨25, _⟩ => ⟨S4x8192, .f32⟩
  | .hbm, ⟨26, _⟩ => ⟨S4x8192x1, .f32⟩
  | .hbm, ⟨27, _⟩ => ⟨S4x8192x256, .f32⟩
  | .hbm, ⟨28, _⟩ => ⟨S4x8192x256, .f32⟩
  | .hbm, ⟨29, _⟩ => ⟨S4x8192x256, .f32⟩
  | .hbm, ⟨30, _⟩ => ⟨S_, .f32⟩
  | .hbm, ⟨31, _⟩ => ⟨S4x8192, .f32⟩
  | .hbm, ⟨32, _⟩ => ⟨S4x8192x1, .f32⟩
  | .hbm, ⟨33, _⟩ => ⟨S4x8192x256, .f32⟩
  | .hbm, ⟨34, _⟩ => ⟨S4x8192x256, .f32⟩
  | .hbm, ⟨35, _⟩ => ⟨S4x128x8192, .f32⟩
  | .hbm, ⟨36, _⟩ => ⟨S8192x4x128, .f32⟩
  | .hbm, ⟨37, _⟩ => ⟨S8192x512, .f32⟩
  | .hbm, ⟨38, _⟩ => ⟨S8192x1536, .f32⟩
  | .hbm, ⟨39, _⟩ => ⟨S8192x1536, .f32⟩
  | .hbm, ⟨40, _⟩ => ⟨S8192x1536, .f32⟩
  | .hbm, ⟨41, _⟩ => ⟨S_, .f32⟩
  | .hbm, ⟨42, _⟩ => ⟨S8192x1536, .f32⟩
  | .hbm, ⟨43, _⟩ => ⟨S8192x1536, .f32⟩
  | .hbm, ⟨44, _⟩ => ⟨S_, .f32⟩
  | .hbm, ⟨45, _⟩ => ⟨S8192x1536, .f32⟩
  | .hbm, ⟨46, _⟩ => ⟨S8192x1536, .f32⟩
  | .hbm, ⟨47, _⟩ => ⟨S8192x1536, .f32⟩
  | .hbm, ⟨48, _⟩ => ⟨S8192x1536, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S8192x1, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_4 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩

abbrev nD : Nat := 1
abbrev τ : Topo := Topo.v7x

variable {F : FTy → Type} [FloatOps F]
-- ==== Kernel6.lean ====
abbrev S8192x5120 : Shape := ⟨2, ![8192, 5120]⟩
abbrev S3x1024 : Shape := ⟨2, ![3, 1024]⟩
abbrev S8192x1024 : Shape := ⟨2, ![8192, 1024]⟩
abbrev S_ : Shape := ⟨0, ![]⟩
abbrev S8x1024 : Shape := ⟨2, ![8, 1024]⟩
abbrev S512x1024 : Shape := ⟨2, ![512, 1024]⟩
abbrev S16x1024 : Shape := ⟨2, ![16, 1024]⟩
abbrev S496x1024 : Shape := ⟨2, ![496, 1024]⟩
abbrev S1x1024 : Shape := ⟨2, ![1, 1024]⟩
abbrev S1024 : Shape := ⟨1, ![1024]⟩

abbrev nBuf : Space → Nat
  | .hbm => 10
  | .vmem => 24
  | .smem => 0
  | _ => 0

abbrev bufTy : (tb : Table) → Fin (tcTables nBuf tb) → BufTy
  | .hbm, ⟨0, _⟩ => ⟨S8192x5120, .bf16⟩
  | .hbm, ⟨1, _⟩ => ⟨S3x1024, .f32⟩
  | .hbm, ⟨2, _⟩ => ⟨S8192x1024, .bf16⟩
  | .hbm, ⟨3, _⟩ => ⟨S_, .i32⟩
  | .hbm, ⟨4, _⟩ => ⟨S_, .f32⟩
  | .hbm, ⟨5, _⟩ => ⟨S8x1024, .f32⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S16x1024, .bf16⟩
  | .local _ .vmem, ⟨7, _⟩ => ⟨S16x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S512x1024, .bf16⟩
  | .local _ .vmem, ⟨13, _⟩ => ⟨S512x1024, .bf16⟩
  | .local _ .vmem, ⟨14, _⟩ => ⟨S16x1024, .bf16⟩
  | .local _ .vmem, ⟨15, _⟩ => ⟨S16x1024, .bf16⟩
  | .local _ .vmem, ⟨16, _⟩ => ⟨S8x1024, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S8x1024, .f32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference6Ideal.lean ====
abbrev S8192x5120 : Shape := ⟨2, ![8192, 5120]⟩
abbrev S3x1024 : Shape := ⟨2, ![3, 1024]⟩
abbrev S8192x1024 : Shape := ⟨2, ![8192, 1024]⟩
abbrev S8192x3072 : Shape := ⟨2, ![8192, 3072]⟩
abbrev S_ : Shape := ⟨0, ![]⟩
abbrev S2x1024 : Shape := ⟨2, ![2, 1024]⟩
abbrev S8194x1024 : Shape := ⟨2, ![8194, 1024]⟩
abbrev S1x1024 : Shape := ⟨2, ![1, 1024]⟩
abbrev S1024 : Shape := ⟨1, ![1024]⟩
abbrev S8x1024 : Shape := ⟨2, ![8, 1024]⟩

abbrev nBuf : Space → Nat
  | .hbm => 91
  | .vmem => 0
  | .smem => 0
  | _ => 0

abbrev bufTy : (tb : Table) → Fin (tcTables nBuf tb) → BufTy
  | .hbm, ⟨0, _⟩ => ⟨S8192x5120, .bf16⟩
  | .hbm, ⟨1, _⟩ => ⟨S3x1024, .f32⟩
  | .hbm, ⟨2, _⟩ => ⟨S8192x1024, .bf16⟩
  | .hbm, ⟨3, _⟩ => ⟨S8192x3072, .bf16⟩
  | .hbm, ⟨4, _⟩ => ⟨S8192x3072, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S2x1024, .f32⟩
  | .hbm, ⟨11, _⟩ => ⟨S8194x1024, .f32⟩
  | .hbm, ⟨12, _⟩ => ⟨S_, .f32⟩
  | .hbm, ⟨13, _⟩ => ⟨S2x1024, .f32⟩
  | .hbm, ⟨14, _⟩ => ⟨S1x1024, .f32⟩
  | .hbm, ⟨15, _⟩ => ⟨S1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S_, .f32⟩
  | .hbm, ⟨45, _⟩ => ⟨S1024, .f32⟩
  | .hbm, ⟨46, _⟩ => ⟨S_, .f32⟩
  | .hbm, ⟨47, _⟩ => ⟨S8194x1024, .f32⟩
  | .hbm, ⟨48, _⟩ => ⟨S1x1024, .f32⟩
  | .hbm, ⟨49, _⟩ => ⟨S_, .f32⟩
  | .hbm, ⟨50, _⟩ => ⟨S3x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S1024, .f32⟩
  | .hbm, ⟨59, _⟩ => ⟨S_, .f32⟩
  | .hbm, ⟨60, _⟩ => ⟨S8194x1024, .f32⟩
  | .hbm, ⟨61, _⟩ => ⟨S8194x1024, .f32⟩
  | .hbm, ⟨62, _⟩ => ⟨S1x1024, .f32⟩
  | .hbm, ⟨63, _⟩ => ⟨S_, .f32⟩
  | .hbm, ⟨64, _⟩ => ⟨S3x1024, .f32⟩
  | .hbm, ⟨65, _⟩ => ⟨S3x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S_, .f32⟩
  | .hbm, ⟨73, _⟩ => ⟨S1024, .f32⟩
  | .hbm, ⟨74, _⟩ => ⟨S_, .f32⟩
  | .hbm, ⟨75, _⟩ => ⟨S8194x1024, .f32⟩
  | .hbm, ⟨76, _⟩ => ⟨S8194x1024, .f32⟩
  | .hbm, ⟨77, _⟩ => ⟨S1x1024, .f32⟩
  | .hbm, ⟨78, _⟩ => ⟨S_, .f32⟩
  | .hbm, ⟨79, _⟩ => ⟨S3x1024, .f32⟩
  | .hbm, ⟨80, _⟩ => ⟨S3x1024, .f32⟩
  | .hbm, ⟨81, _⟩ => ⟨S2x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .bf16⟩
  | .hbm, ⟨86, _⟩ => ⟨S8192x1024, .bf16⟩
  | .hbm, ⟨87, _⟩ => ⟨S8192x1024, .bf16⟩
  | .hbm, ⟨88, _⟩ => ⟨S_, .i32⟩
  | .hbm, ⟨89, _⟩ => ⟨S_, .f32⟩
  | .hbm, ⟨90, _⟩ => ⟨S8x1024, .f32⟩
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst_1 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_5 : Ref sig .tc := ⟨.hbm, 54, rfl⟩
abbrev main_v45 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_cst_7 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_8 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_9 : Ref sig .tc := ⟨.hbm, 69, rfl⟩
abbrev main_v56 : Ref sig .tc := ⟨.hbm, 70, rfl⟩
abbrev main_v57 : Ref sig .tc := ⟨.hbm, 71, rfl⟩
abbrev main_cst_10 : Ref sig .tc := ⟨.hbm, 72, rfl⟩
abbrev main_v58 : Ref sig .tc := ⟨.hbm, 73, rfl⟩
abbrev main_cst_11 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_c : Ref sig .tc := ⟨.hbm, 88, rfl⟩
abbrev main_call0_v0 : Ref sig .tc := ⟨.hbm, 89, rfl⟩
abbrev main_v71 : Ref sig .tc := ⟨.hbm, 90, rfl⟩

abbrev nD : Nat := 1
abbrev τ : Topo := Topo.v7x

variable {F : FTy → Type} [FloatOps F]
-- ==== Kernel7.lean ====
abbrev S256x1024 : Shape := ⟨2, ![256, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1024x1024, .bf16⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference7Ideal.lean ====
abbrev S256x1024 : Shape := ⟨2, ![256, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S_, .f32⟩
  | .hbm, ⟨3, _⟩ => ⟨S1024x1024, .f32⟩
  | .hbm, ⟨4, _⟩ => ⟨S256x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S8x48x1024 : Shape := ⟨3, ![8, 48, 1024]⟩
abbrev S48x1024 : Shape := ⟨2, ![48, 1024]⟩
abbrev S8x16x1024 : Shape := ⟨3, ![8, 16, 1024]⟩
abbrev S16x1024 : Shape := ⟨2, ![16, 1024]⟩
abbrev S1x16x1024 : Shape := ⟨3, ![1, 16, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x48x1024, .f32⟩
  | .hbm, ⟨1, _⟩ => ⟨S48x1024, .f32⟩
  | .hbm, ⟨2, _⟩ => ⟨S48x1024, .f32⟩
  | .hbm, ⟨3, _⟩ => ⟨S48x1024, .f32⟩
  | .hbm, ⟨4, _⟩ => ⟨S48x1024, .f32⟩
  | .hbm, ⟨5, _⟩ => ⟨S48x1024, .f32⟩
  | .hbm, ⟨6, _⟩ => ⟨S48x1024, .f32⟩
  | .hbm, ⟨7, _⟩ => ⟨S48x1024, .f32⟩
  | .local _ .vmem, ⟨0, _⟩ => ⟨S8x16x1024, .f32⟩
  | .local _ .vmem, ⟨1, _⟩ => ⟨S8x16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | .local _ .vmem, ⟨8, _⟩ => ⟨S16x1024, .f32⟩
  | .local _ .vmem, ⟨9, _⟩ => ⟨S16x1024, .f32⟩
  | .local _ .vmem, ⟨10, _⟩ => ⟨S16x1024, .f32⟩
  | .local _ .vmem, ⟨11, _⟩ => ⟨S16x1024, .f32⟩
  | .local _ .vmem, ⟨12, _⟩ => ⟨S16x1024, .f32⟩
  | .local _ .vmem, ⟨13, _⟩ => ⟨S16x1024, .f32⟩
  | .local _ .vmem, ⟨14, _⟩ => ⟨S16x1024, .f32⟩
  | .local _ .vmem, ⟨15, _⟩ => ⟨S16x1024, .f32⟩
  | _, _ => ⟨S8x48x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S8x48x1024 : Shape := ⟨3, ![8, 48, 1024]⟩
abbrev S48x1024 : Shape := ⟨2, ![48, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x48x1024, .f32⟩
  | .hbm, ⟨1, _⟩ => ⟨S48x1024, .f32⟩
  | .hbm, ⟨2, _⟩ => ⟨S48x1024, .f32⟩
  | .hbm, ⟨3, _⟩ => ⟨S48x1024, .f32⟩
  | .hbm, ⟨4, _⟩ => ⟨S_, .f32⟩
  | .hbm, ⟨5, _⟩ => ⟨S48x1024, .f32⟩
  | .hbm, ⟨6, _⟩ => ⟨S_, .f32⟩
  | .hbm, ⟨7, _⟩ => ⟨S48x1024, .f32⟩
  | .hbm, ⟨8, _⟩ => ⟨S48x1024, .f32⟩
  | .hbm, ⟨9, _⟩ => ⟨S_, .f32⟩
  | .hbm, ⟨10, _⟩ => ⟨S48x1024, .f32⟩
  | .hbm, ⟨11, _⟩ => ⟨S48x1024, .f32⟩
  | .hbm, ⟨12, _⟩ => ⟨S48x1024, .f32⟩
  | .hbm, ⟨13, _⟩ => ⟨S_, .f32⟩
  | .hbm, ⟨14, _⟩ => ⟨S48x1024, .f32⟩
  | .hbm, ⟨15, _⟩ => ⟨S48x1024, .f32⟩
  | .hbm, ⟨16, _⟩ => ⟨S48x1024, .f32⟩
  | .hbm, ⟨17, _⟩ => ⟨S_, .f32⟩
  | .hbm, ⟨18, _⟩ => ⟨S48x1024, .f32⟩
  | .hbm, ⟨19, _⟩ => ⟨S48x1024, .f32⟩
  | .hbm, ⟨20, _⟩ => ⟨S48x1024, .f32⟩
  | .hbm, ⟨21, _⟩ => ⟨S_, .f32⟩
  | .hbm, ⟨22, _⟩ => ⟨S48x1024, .f32⟩
  | .hbm, ⟨23, _⟩ => ⟨S48x1024, .f32⟩
  | .hbm, ⟨24, _⟩ => ⟨S_, .f32⟩
  | .hbm, ⟨25, _⟩ => ⟨S48x1024, .f32⟩
  | .hbm, ⟨26, _⟩ => ⟨S48x1024, .f32⟩
  | .hbm, ⟨27, _⟩ => ⟨S48x1024, .f32⟩
  | .hbm, ⟨28, _⟩ => ⟨S_, .f32⟩
  | .hbm, ⟨29, _⟩ => ⟨S48x1024, .f32⟩
  | .hbm, ⟨30, _⟩ => ⟨S48x1024, .f32⟩
  | .hbm, ⟨31, _⟩ => ⟨S48x1024, .f32⟩
  | .hbm, ⟨32, _⟩ => ⟨S_, .f32⟩
  | .hbm, ⟨33, _⟩ => ⟨S48x1024, .f32⟩
  | .hbm, ⟨34, _⟩ => ⟨S48x1024, .f32⟩
  | .hbm, ⟨35, _⟩ => ⟨S48x1024, .f32⟩
  | .hbm, ⟨36, _⟩ => ⟨S_, .f32⟩
  | .hbm, ⟨37, _⟩ => ⟨S48x1024, .f32⟩
  | .hbm, ⟨38, _⟩ => ⟨S48x1024, .f32⟩
  | _, _ => ⟨S8x48x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel9.lean ====
abbrev S7x128x1024 : Shape := ⟨3, ![7, 128, 1024]⟩
abbrev S128x1024 : Shape := ⟨2, ![128, 1024]⟩
abbrev S4x128x1024 : Shape := ⟨3, ![4, 128, 1024]⟩
abbrev S1x128x1024 : Shape := ⟨3, ![1, 128, 1024]⟩

abbrev nBuf : Space → Nat
  | .hbm => 15
  | .vmem => 30
  | .smem => 0
  | _ => 0

abbrev bufTy : (tb : Table) → Fin (tcTables nBuf tb) → BufTy
  | .hbm, ⟨0, _⟩ => ⟨S7x128x1024, .bf16⟩
  | .hbm, ⟨1, _⟩ => ⟨S7x128x1024, .bf16⟩
  | .hbm, ⟨2, _⟩ => ⟨S7x128x1024, .bf16⟩
  | .hbm, ⟨3, _⟩ => ⟨S7x128x1024, .bf16⟩
  | .hbm, ⟨4, _⟩ => ⟨S128x1024, .bf16⟩
  | .hbm, ⟨5, _⟩ => ⟨S128x1024, .bf16⟩
  | .hbm, ⟨6, _⟩ => ⟨S128x1024, .bf16⟩
  | .hbm, ⟨7, _⟩ => ⟨S128x1024, .bf16⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S4x128x1024, .f32⟩
  | .hbm, ⟨12, _⟩ => ⟨S4x128x1024, .f32⟩
  | .hbm, ⟨13, _⟩ => ⟨S4x128x1024, .f32⟩
  | .hbm, ⟨14, _⟩ => ⟨S4x128x1024, .f32⟩
  | .local _ .vmem, ⟨0, _⟩ => ⟨S7x128x1024, .bf16⟩
  | .local _ .vmem, ⟨1, _⟩ => ⟨S7x128x1024, .bf16⟩
  | .local _ .vmem, ⟨2, _⟩ => ⟨S7x128x1024, .bf16⟩
  | .local _ .vmem, ⟨3, _⟩ => ⟨S7x128x1024, .bf16⟩
  | .local _ .vmem, ⟨4, _⟩ => ⟨S7x128x1024, .bf16⟩
  | .local _ .vmem, ⟨5, _⟩ => ⟨S7x128x1024, .bf16⟩
  | .local _ .vmem, ⟨6, _⟩ => ⟨S7x128x1024, .bf16⟩
  | .local _ .vmem, ⟨7, _⟩ => ⟨S7x128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S128x1024, .bf16⟩
  | .local _ .vmem, ⟨15, _⟩ => ⟨S128x1024, .bf16⟩
  | .local _ .vmem, ⟨16, _⟩ => ⟨S1x128x1024, .f32⟩
  | .local _ .vmem, ⟨17, _⟩ => ⟨S1x128x1024, .f32⟩
  | .local _ .vmem, ⟨18, _⟩ => ⟨S1x128x1024, .f32⟩
  | .local _ .vmem, ⟨19, _⟩ => ⟨S1x128x1024, .f32⟩
  | .local _ .vmem, ⟨20, _⟩ => ⟨S1x128x1024, .f32⟩
  | .local _ .vmem, ⟨21, _⟩ => ⟨S1x128x1024, .f32⟩
  | .local _ .vmem, ⟨22, _⟩ => ⟨S1x128x1024, .f32⟩
  | .local _ .vmem, ⟨23, _⟩ => ⟨S1x128x1024, .f32⟩
  | .local _ .vmem, ⟨24, _⟩ => ⟨S1x128x1024, .f32⟩
  | .local _ .vmem, ⟨25, _⟩ => ⟨S1x128x1024, .f32⟩
  | .local _ .vmem, ⟨26, _⟩ => ⟨S1x128x1024, .f32⟩
  | .local _ .vmem, ⟨27, _⟩ => ⟨S1x128x1024, .f32⟩
  | .local _ .vmem, ⟨28, _⟩ => ⟨S1x128x1024, .f32⟩
  | .local _ .vmem, ⟨29, _⟩ => ⟨S1x128x1024, .f32⟩
  | _, _ => ⟨S7x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage0_0 : Fin 2 → Memref sig .tc .vmem S7x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S7x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S7x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S7x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x128x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference9Ideal.lean ====
abbrev S7x128x1024 : Shape := ⟨3, ![7, 128, 1024]⟩
abbrev S128x1024 : Shape := ⟨2, ![128, 1024]⟩
abbrev S4x128x1024 : Shape := ⟨3, ![4, 128, 1024]⟩
abbrev S1x128x1024 : Shape := ⟨3, ![1, 128, 1024]⟩
abbrev S1x7x128x1024 : Shape := ⟨4, ![1, 7, 128, 1024]⟩
abbrev S4x7x128x1024 : Shape := ⟨4, ![4, 7, 128, 1024]⟩
abbrev S_ : Shape := ⟨0, ![]⟩

abbrev nBuf : Space → Nat
  | .hbm => 59
  | .vmem => 0
  | .smem => 0
  | _ => 0

abbrev bufTy : (tb : Table) → Fin (tcTables nBuf tb) → BufTy
  | .hbm, ⟨0, _⟩ => ⟨S7x128x1024, .bf16⟩
  | .hbm, ⟨1, _⟩ => ⟨S7x128x1024, .bf16⟩
  | .hbm, ⟨2, _⟩ => ⟨S7x128x1024, .bf16⟩
  | .hbm, ⟨3, _⟩ => ⟨S7x128x1024, .bf16⟩
  | .hbm, ⟨4, _⟩ => ⟨S128x1024, .bf16⟩
  | .hbm, ⟨5, _⟩ => ⟨S128x1024, .bf16⟩
  | .hbm, ⟨6, _⟩ => ⟨S128x1024, .bf16⟩
  | .hbm, ⟨7, _⟩ => ⟨S128x1024, .bf16⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S1x128x1024, .bf16⟩
  | .hbm, ⟨12, _⟩ => ⟨S1x128x1024, .bf16⟩
  | .hbm, ⟨13, _⟩ => ⟨S1x128x1024, .bf16⟩
  | .hbm, ⟨14, _⟩ => ⟨S1x128x1024, .bf16⟩
  | .hbm, ⟨15, _⟩ => ⟨S4x128x1024, .bf16⟩
  | .hbm, ⟨16, _⟩ => ⟨S4x128x1024, .f32⟩
  | .hbm, ⟨17, _⟩ => ⟨S1x7x128x1024, .bf16⟩
  | .hbm, ⟨18, _⟩ => ⟨S1x7x128x1024, .bf16⟩
  | .hbm, ⟨19, _⟩ => ⟨S1x7x128x1024, .bf16⟩
  | .hbm, ⟨20, _⟩ => ⟨S1x7x128x1024, .bf16⟩
  | .hbm, ⟨21, _⟩ => ⟨S4x7x128x1024, .bf16⟩
  | .hbm, ⟨22, _⟩ => ⟨S4x7x128x1024, .f32⟩
  | .hbm, ⟨23, _⟩ => ⟨S_, .f32⟩
  | .hbm, ⟨24, _⟩ => ⟨S4x128x1024, .f32⟩
  | .hbm, ⟨25, _⟩ => ⟨S4x128x1024, .f32⟩
  | .hbm, ⟨26, _⟩ => ⟨S_, .f32⟩
  | .hbm, ⟨27, _⟩ => ⟨S4x128x1024, .f32⟩
  | .hbm, ⟨28, _⟩ => ⟨S4x128x1024, .f32⟩
  | .hbm, ⟨29, _⟩ => ⟨S_, .f32⟩
  | .hbm, ⟨30, _⟩ => ⟨S4x128x1024, .f32⟩
  | .hbm, ⟨31, _⟩ => ⟨S4x128x1024, .f32⟩
  | .hbm, ⟨32, _⟩ => ⟨S4x128x1024, .f32⟩
  | .hbm, ⟨33, _⟩ => ⟨S_, .f32⟩
  | .hbm, ⟨34, _⟩ => ⟨S4x128x1024, .f32⟩
  | .hbm, ⟨35, _⟩ => ⟨S4x128x1024, .f32⟩
  | .hbm, ⟨36, _⟩ => ⟨S4x128x1024, .f32⟩
  | .hbm, ⟨37, _⟩ => ⟨S_, .f32⟩
  | .hbm, ⟨38, _⟩ => ⟨S4x128x1024, .f32⟩
  | .hbm, ⟨39, _⟩ => ⟨S4x128x1024, .f32⟩
  | .hbm, ⟨40, _⟩ => ⟨S4x128x1024, .f32⟩
  | .hbm, ⟨41, _⟩ => ⟨S_, .f32⟩
  | .hbm, ⟨42, _⟩ => ⟨S4x128x1024, .f32⟩
  | .hbm, ⟨43, _⟩ => ⟨S4x128x1024, .f32⟩
  | .hbm, ⟨44, _⟩ => ⟨S_, .f32⟩
  | .hbm, ⟨45, _⟩ => ⟨S4x128x1024, .f32⟩
  | .hbm, ⟨46, _⟩ => ⟨S4x128x1024, .f32⟩
  | .hbm, ⟨47, _⟩ => ⟨S4x128x1024, .f32⟩
  | .hbm, ⟨48, _⟩ => ⟨S_, .f32⟩
  | .hbm, ⟨49, _⟩ => ⟨S4x128x1024, .f32⟩
  | .hbm, ⟨50, _⟩ => ⟨S4x128x1024, .f32⟩
  | .hbm, ⟨51, _⟩ => ⟨S4x128x1024, .f32⟩
  | .hbm, ⟨52, _⟩ => ⟨S_, .f32⟩
  | .hbm, ⟨53, _⟩ => ⟨S4x128x1024, .f32⟩
  | .hbm, ⟨54, _⟩ => ⟨S4x128x1024, .f32⟩
  | .hbm, ⟨55, _⟩ => ⟨S4x128x1024, .f32⟩
  | .hbm, ⟨56, _⟩ => ⟨S_, .f32⟩
  | .hbm, ⟨57, _⟩ => ⟨S4x128x1024, .f32⟩
  | .hbm, ⟨58, _⟩ => ⟨S4x128x1024, .f32⟩
  | _, _ => ⟨S7x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Kernel10.lean ====
abbrev S7x192x1024 : Shape := ⟨3, ![7, 192, 1024]⟩
abbrev S192x1024 : Shape := ⟨2, ![192, 1024]⟩
abbrev S4x192x1024 : Shape := ⟨3, ![4, 192, 1024]⟩
abbrev S1x192x1024 : Shape := ⟨3, ![1, 192, 1024]⟩

abbrev nBuf : Space → Nat
  | .hbm => 15
  | .vmem => 30
  | .smem => 0
  | _ => 0

abbrev bufTy : (tb : Table) → Fin (tcTables nBuf tb) → BufTy
  | .hbm, ⟨0, _⟩ => ⟨S7x192x1024, .bf16⟩
  | .hbm, ⟨1, _⟩ => ⟨S7x192x1024, .bf16⟩
  | .hbm, ⟨2, _⟩ => ⟨S7x192x1024, .bf16⟩
  | .hbm, ⟨3, _⟩ => ⟨S7x192x1024, .bf16⟩
  | .hbm, ⟨4, _⟩ => ⟨S192x1024, .bf16⟩
  | .hbm, ⟨5, _⟩ => ⟨S192x1024, .bf16⟩
  | .hbm, ⟨6, _⟩ => ⟨S192x1024, .bf16⟩
  | .hbm, ⟨7, _⟩ => ⟨S192x1024, .bf16⟩
  | .hbm, ⟨8, _⟩ => ⟨S4x192x1024, .f32⟩
  | .hbm, ⟨9, _⟩ => ⟨S4x192x1024, .f32⟩
  | .hbm, ⟨10, _⟩ => ⟨S4x192x1024, .f32⟩
  | .hbm, ⟨11, _⟩ => ⟨S4x192x1024, .f32⟩
  | .hbm, ⟨12, _⟩ => ⟨S4x192x1024, .f32⟩
  | .hbm, ⟨13, _⟩ => ⟨S4x192x1024, .f32⟩
  | .hbm, ⟨14, _⟩ => ⟨S4x192x1024, .f32⟩
  | .local _ .vmem, ⟨0, _⟩ => ⟨S7x192x1024, .bf16⟩
  | .local _ .vmem, ⟨1, _⟩ => ⟨S7x192x1024, .bf16⟩
  | .local _ .vmem, ⟨2, _⟩ => ⟨S7x192x1024, .bf16⟩
  | .local _ .vmem, ⟨3, _⟩ => ⟨S7x192x1024, .bf16⟩
  | .local _ .vmem, ⟨4, _⟩ => ⟨S7x192x1024, .bf16⟩
  | .local _ .vmem, ⟨5, _⟩ => ⟨S7x192x1024, .bf16⟩
  | .local _ .vmem, ⟨6, _⟩ => ⟨S7x192x1024, .bf16⟩
  | .local _ .vmem, ⟨7, _⟩ => ⟨S7x192x1024, .bf16⟩
  | .local _ .vmem, ⟨8, _⟩ => ⟨S192x1024, .bf16⟩
  | .local _ .vmem, ⟨9, _⟩ => ⟨S192x1024, .bf16⟩
  | .local _ .vmem, ⟨10, _⟩ => ⟨S192x1024, .bf16⟩
  | .local _ .vmem, ⟨11, _⟩ => ⟨S192x1024, .bf16⟩
  | .local _ .vmem, ⟨12, _⟩ => ⟨S192x1024, .bf16⟩
  | .local _ .vmem, ⟨13, _⟩ => ⟨S192x1024, .bf16⟩
  | .local _ .vmem, ⟨14, _⟩ => ⟨S192x1024, .bf16⟩
  | .local _ .vmem, ⟨15, _⟩ => ⟨S192x1024, .bf16⟩
  | .local _ .vmem, ⟨16, _⟩ => ⟨S1x192x1024, .f32⟩
  | .local _ .vmem, ⟨17, _⟩ => ⟨S1x192x1024, .f32⟩
  | .local _ .vmem, ⟨18, _⟩ => ⟨S1x192x1024, .f32⟩
  | .local _ .vmem, ⟨19, _⟩ => ⟨S1x192x1024, .f32⟩
  | .local _ .vmem, ⟨20, _⟩ => ⟨S1x192x1024, .f32⟩
  | .local _ .vmem, ⟨21, _⟩ => ⟨S1x192x1024, .f32⟩
  | .local _ .vmem, ⟨22, _⟩ => ⟨S1x192x1024, .f32⟩
  | .local _ .vmem, ⟨23, _⟩ => ⟨S1x192x1024, .f32⟩
  | .local _ .vmem, ⟨24, _⟩ => ⟨S1x192x1024, .f32⟩
  | .local _ .vmem, ⟨25, _⟩ => ⟨S1x192x1024, .f32⟩
  | .local _ .vmem, ⟨26, _⟩ => ⟨S1x192x1024, .f32⟩
  | .local _ .vmem, ⟨27, _⟩ => ⟨S1x192x1024, .f32⟩
  | .local _ .vmem, ⟨28, _⟩ => ⟨S1x192x1024, .f32⟩
  | .local _ .vmem, ⟨29, _⟩ => ⟨S1x192x1024, .f32⟩
  | _, _ => ⟨S7x192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage0_0 : Fin 2 → Memref sig .tc .vmem S7x192x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S7x192x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S7x192x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S7x192x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S192x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S192x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S192x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S192x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x192x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x192x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x192x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x192x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x192x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x192x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x192x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference10Ideal.lean ====
abbrev S7x192x1024 : Shape := ⟨3, ![7, 192, 1024]⟩
abbrev S192x1024 : Shape := ⟨2, ![192, 1024]⟩
abbrev S4x192x1024 : Shape := ⟨3, ![4, 192, 1024]⟩
abbrev S1x192x1024 : Shape := ⟨3, ![1, 192, 1024]⟩
abbrev S1x7x192x1024 : Shape := ⟨4, ![1, 7, 192, 1024]⟩
abbrev S4x7x192x1024 : Shape := ⟨4, ![4, 7, 192, 1024]⟩
abbrev S_ : Shape := ⟨0, ![]⟩

abbrev nBuf : Space → Nat
  | .hbm => 59
  | .vmem => 0
  | .smem => 0
  | _ => 0

abbrev bufTy : (tb : Table) → Fin (tcTables nBuf tb) → BufTy
  | .hbm, ⟨0, _⟩ => ⟨S7x192x1024, .bf16⟩
  | .hbm, ⟨1, _⟩ => ⟨S7x192x1024, .bf16⟩
  | .hbm, ⟨2, _⟩ => ⟨S7x192x1024, .bf16⟩
  | .hbm, ⟨3, _⟩ => ⟨S7x192x1024, .bf16⟩
  | .hbm, ⟨4, _⟩ => ⟨S192x1024, .bf16⟩
  | .hbm, ⟨5, _⟩ => ⟨S192x1024, .bf16⟩
  | .hbm, ⟨6, _⟩ => ⟨S192x1024, .bf16⟩
  | .hbm, ⟨7, _⟩ => ⟨S192x1024, .bf16⟩
  | .hbm, ⟨8, _⟩ => ⟨S4x192x1024, .f32⟩
  | .hbm, ⟨9, _⟩ => ⟨S4x192x1024, .f32⟩
  | .hbm, ⟨10, _⟩ => ⟨S4x192x1024, .f32⟩
  | .hbm, ⟨11, _⟩ => ⟨S1x192x1024, .bf16⟩
  | .hbm, ⟨12, _⟩ => ⟨S1x192x1024, .bf16⟩
  | .hbm, ⟨13, _⟩ => ⟨S1x192x1024, .bf16⟩
  | .hbm, ⟨14, _⟩ => ⟨S1x192x1024, .bf16⟩
  | .hbm, ⟨15, _⟩ => ⟨S4x192x1024, .bf16⟩
  | .hbm, ⟨16, _⟩ => ⟨S4x192x1024, .f32⟩
  | .hbm, ⟨17, _⟩ => ⟨S1x7x192x1024, .bf16⟩
  | .hbm, ⟨18, _⟩ => ⟨S1x7x192x1024, .bf16⟩
  | .hbm, ⟨19, _⟩ => ⟨S1x7x192x1024, .bf16⟩
  | .hbm, ⟨20, _⟩ => ⟨S1x7x192x1024, .bf16⟩
  | .hbm, ⟨21, _⟩ => ⟨S4x7x192x1024, .bf16⟩
  | .hbm, ⟨22, _⟩ => ⟨S4x7x192x1024, .f32⟩
  | .hbm, ⟨23, _⟩ => ⟨S_, .f32⟩
  | .hbm, ⟨24, _⟩ => ⟨S4x192x1024, .f32⟩
  | .hbm, ⟨25, _⟩ => ⟨S4x192x1024, .f32⟩
  | .hbm, ⟨26, _⟩ => ⟨S_, .f32⟩
  | .hbm, ⟨27, _⟩ => ⟨S4x192x1024, .f32⟩
  | .hbm, ⟨28, _⟩ => ⟨S4x192x1024, .f32⟩
  | .hbm, ⟨29, _⟩ => ⟨S_, .f32⟩
  | .hbm, ⟨30, _⟩ => ⟨S4x192x1024, .f32⟩
  | .hbm, ⟨31, _⟩ => ⟨S4x192x1024, .f32⟩
  | .hbm, ⟨32, _⟩ => ⟨S4x192x1024, .f32⟩
  | .hbm, ⟨33, _⟩ => ⟨S_, .f32⟩
  | .hbm, ⟨34, _⟩ => ⟨S4x192x1024, .f32⟩
  | .hbm, ⟨35, _⟩ => ⟨S4x192x1024, .f32⟩
  | .hbm, ⟨36, _⟩ => ⟨S4x192x1024, .f32⟩
  | .hbm, ⟨37, _⟩ => ⟨S_, .f32⟩
  | .hbm, ⟨38, _⟩ => ⟨S4x192x1024, .f32⟩
  | .hbm, ⟨39, _⟩ => ⟨S4x192x1024, .f32⟩
  | .hbm, ⟨40, _⟩ => ⟨S4x192x1024, .f32⟩
  | .hbm, ⟨41, _⟩ => ⟨S_, .f32⟩
  | .hbm, ⟨42, _⟩ => ⟨S4x192x1024, .f32⟩
  | .hbm, ⟨43, _⟩ => ⟨S4x192x1024, .f32⟩
  | .hbm, ⟨44, _⟩ => ⟨S_, .f32⟩
  | .hbm, ⟨45, _⟩ => ⟨S4x192x1024, .f32⟩
  | .hbm, ⟨46, _⟩ => ⟨S4x192x1024, .f32⟩
  | .hbm, ⟨47, _⟩ => ⟨S4x192x1024, .f32⟩
  | .hbm, ⟨48, _⟩ => ⟨S_, .f32⟩
  | .hbm, ⟨49, _⟩ => ⟨S4x192x1024, .f32⟩
  | .hbm, ⟨50, _⟩ => ⟨S4x192x1024, .f32⟩
  | .hbm, ⟨51, _⟩ => ⟨S4x192x1024, .f32⟩
  | .hbm, ⟨52, _⟩ => ⟨S_, .f32⟩
  | .hbm, ⟨53, _⟩ => ⟨S4x192x1024, .f32⟩
  | .hbm, ⟨54, _⟩ => ⟨S4x192x1024, .f32⟩
  | .hbm, ⟨55, _⟩ => ⟨S4x192x1024, .f32⟩
  | .hbm, ⟨56, _⟩ => ⟨S_, .f32⟩
  | .hbm, ⟨57, _⟩ => ⟨S4x192x1024, .f32⟩
  | .hbm, ⟨58, _⟩ => ⟨S4x192x1024, .f32⟩
  | _, _ => ⟨S7x192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Kernel11.lean ====
abbrev S8192x1024 : Shape := ⟨2, ![8192, 1024]⟩
abbrev S8192x5120 : Shape := ⟨2, ![8192, 5120]⟩
abbrev S256x1024 : Shape := ⟨2, ![256, 1024]⟩
abbrev S1536x1024 : Shape := ⟨2, ![1536, 1024]⟩
abbrev S1x1024 : Shape := ⟨2, ![1, 1024]⟩
abbrev S8192x512 : Shape := ⟨2, ![8192, 512]⟩
abbrev S1x1 : Shape := ⟨2, ![1, 1]⟩
abbrev S512x1024 : Shape := ⟨2, ![512, 1024]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩
abbrev S1 : Shape := ⟨1, ![1]⟩

abbrev nBuf : Space → Nat
  | .hbm => 12
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x5120, .bf16⟩
  | .hbm, ⟨2, _⟩ => ⟨S8192x1024, .bf16⟩
  | .hbm, ⟨3, _⟩ => ⟨S256x1024, .f32⟩
  | .hbm, ⟨4, _⟩ => ⟨S1536x1024, .bf16⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x512, .bf16⟩
  | .hbm, ⟨11, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S256x1024, .f32⟩
  | .local _ .vmem, ⟨13, _⟩ => ⟨S1536x1024, .bf16⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x512, .bf16⟩
  | .local _ .vmem, ⟨23, _⟩ => ⟨S512x512, .bf16⟩
  | .local _ .vmem, ⟨24, _⟩ => ⟨S1x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1536x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference11Ideal.lean ====
abbrev S8192x1024 : Shape := ⟨2, ![8192, 1024]⟩
abbrev S8192x5120 : Shape := ⟨2, ![8192, 5120]⟩
abbrev S256x1024 : Shape := ⟨2, ![256, 1024]⟩
abbrev S1536x1024 : Shape := ⟨2, ![1536, 1024]⟩
abbrev S1x1024 : Shape := ⟨2, ![1, 1024]⟩
abbrev S8192x512 : Shape := ⟨2, ![8192, 512]⟩
abbrev S8192x1536 : Shape := ⟨2, ![8192, 1536]⟩
abbrev S8192x4x128 : Shape := ⟨3, ![8192, 4, 128]⟩
abbrev S256x512 : Shape := ⟨2, ![256, 512]⟩
abbrev S256x4x128 : Shape := ⟨3, ![256, 4, 128]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩
abbrev S8192 : Shape := ⟨1, ![8192]⟩
abbrev S8192x1 : Shape := ⟨2, ![8192, 1]⟩
abbrev S1x1 : Shape := ⟨2, ![1, 1]⟩

abbrev nBuf : Space → Nat
  | .hbm => 107
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5120, .bf16⟩
  | .hbm, ⟨2, _⟩ => ⟨S8192x1024, .bf16⟩
  | .hbm, ⟨3, _⟩ => ⟨S256x1024, .f32⟩
  | .hbm, ⟨4, _⟩ => ⟨S1536x1024, .bf16⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x5120, .f32⟩
  | .hbm, ⟨9, _⟩ => ⟨S8192x1024, .f32⟩
  | .hbm, ⟨10, _⟩ => ⟨S1536x1024, .f32⟩
  | .hbm, ⟨11, _⟩ => ⟨S8192x512, .f32⟩
  | .hbm, ⟨12, _⟩ => ⟨S8192x1536, .f32⟩
  | .hbm, ⟨13, _⟩ => ⟨S8192x4x128, .f32⟩
  | .hbm, ⟨14, _⟩ => ⟨S256x512, .f32⟩
  | .hbm, ⟨15, _⟩ => ⟨S256x512, .f32⟩
  | .hbm, ⟨16, _⟩ => ⟨S256x4x128, .f32⟩
  | .hbm, ⟨17, _⟩ => ⟨S256x4x128, .f32⟩
  | .hbm, ⟨18, _⟩ => ⟨S4x8192x256, .f32⟩
  | .hbm, ⟨19, _⟩ => ⟨S_, .f32⟩
  | .hbm, ⟨20, _⟩ => ⟨S4x8192x256, .f32⟩
  | .hbm, ⟨21, _⟩ => ⟨S4x8192x256, .f32⟩
  | .hbm, ⟨22, _⟩ => ⟨S_, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S4x8192, .f32⟩
  | .hbm, ⟨27, _⟩ => ⟨S4x8192x1, .f32⟩
  | .hbm, ⟨28, _⟩ => ⟨S4x8192x256, .f32⟩
  | .hbm, ⟨29, _⟩ => ⟨S4x8192x256, .f32⟩
  | .hbm, ⟨30, _⟩ => ⟨S4x8192x256, .f32⟩
  | .hbm, ⟨31, _⟩ => ⟨S_, .f32⟩
  | .hbm, ⟨32, _⟩ => ⟨S4x8192, .f32⟩
  | .hbm, ⟨33, _⟩ => ⟨S4x8192x1, .f32⟩
  | .hbm, ⟨34, _⟩ => ⟨S4x8192x256, .f32⟩
  | .hbm, ⟨35, _⟩ => ⟨S4x8192x256, .f32⟩
  | .hbm, ⟨36, _⟩ => ⟨S4x128x8192, .f32⟩
  | .hbm, ⟨37, _⟩ => ⟨S8192x4x128, .f32⟩
  | .hbm, ⟨38, _⟩ => ⟨S8192x512, .f32⟩
  | .hbm, ⟨39, _⟩ => ⟨S8192x1536, .f32⟩
  | .hbm, ⟨40, _⟩ => ⟨S8192x1536, .f32⟩
  | .hbm, ⟨41, _⟩ => ⟨S8192x1536, .f32⟩
  | .hbm, ⟨42, _⟩ => ⟨S_, .f32⟩
  | .hbm, ⟨43, _⟩ => ⟨S8192x1536, .f32⟩
  | .hbm, ⟨44, _⟩ => ⟨S8192x1536, .f32⟩
  | .hbm, ⟨45, _⟩ => ⟨S_, .f32⟩
  | .hbm, ⟨46, _⟩ => ⟨S8192x1536, .f32⟩
  | .hbm, ⟨47, _⟩ => ⟨S8192x1536, .f32⟩
  | .hbm, ⟨48, _⟩ => ⟨S8192x1536, .f32⟩
  | .hbm, ⟨49, _⟩ => ⟨S8192x1536, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S8192x1, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S_, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S8192, .f32⟩
  | .hbm, ⟨89, _⟩ => ⟨S_, .f32⟩
  | .hbm, ⟨90, _⟩ => ⟨S8192, .f32⟩
  | .hbm, ⟨91, _⟩ => ⟨S8192, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S8192, .f32⟩
  | .hbm, ⟨100, _⟩ => ⟨S_, .f32⟩
  | .hbm, ⟨101, _⟩ => ⟨S8192, .f32⟩
  | .hbm, ⟨102, _⟩ => ⟨S8192, .f32⟩
  | .hbm, ⟨103, _⟩ => ⟨S8192x1024, .f32⟩
  | .hbm, ⟨104, _⟩ => ⟨S8192x1024, .f32⟩
  | .hbm, ⟨105, _⟩ => ⟨S8192x512, .bf16⟩
  | .hbm, ⟨106, _⟩ => ⟨S1x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_4 : Ref sig .tc := ⟨.hbm, 55, rfl⟩
abbrev main_v34 : Ref sig .tc := ⟨.hbm, 56, rfl⟩
abbrev main_v35 : Ref sig .tc := ⟨.hbm, 57, rfl⟩
abbrev main_cst_5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_8 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_9 : Ref sig .tc := ⟨.hbm, 84, rfl⟩
abbrev main_v58 : Ref sig .tc := ⟨.hbm, 85, rfl⟩
abbrev main_v59 : Ref sig .tc := ⟨.hbm, 86, rfl⟩
abbrev main_cst_10 : Ref sig .tc := ⟨.hbm, 87, rfl⟩
abbrev main_v60 : Ref sig .tc := ⟨.hbm, 88, rfl⟩
abbrev main_cst_11 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_cst_13 : Ref sig .tc := ⟨.hbm, 94, rfl⟩
abbrev main_v64 : Ref sig .tc := ⟨.hbm, 95, rfl⟩
abbrev main_cst_14 : Ref sig .tc := ⟨.hbm, 96, rfl⟩
abbrev main_cst_15 : Ref sig .tc := ⟨.hbm, 97, rfl⟩
abbrev main_v65 : Ref sig .tc := ⟨.hbm, 98, rfl⟩
abbrev main_v66 : Ref sig .tc := ⟨.hbm, 99, rfl⟩
abbrev main_cst_16 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩

abbrev nD : Nat := 1
abbrev τ : Topo := Topo.v7x

variable {F : FTy → Type} [FloatOps F]
-- ==== Kernel12.lean ====
abbrev S7x1024x640 : Shape := ⟨3, ![7, 1024, 640]⟩
abbrev S1024x640 : Shape := ⟨2, ![1024, 640]⟩
abbrev S4x1024x640 : Shape := ⟨3, ![4, 1024, 640]⟩
abbrev S7x256x640 : Shape := ⟨3, ![7, 256, 640]⟩
abbrev S256x640 : Shape := ⟨2, ![256, 640]⟩
abbrev S1x256x640 : Shape := ⟨3, ![1, 256, 640]⟩

abbrev nBuf : Space → Nat
  | .hbm => 19
  | .vmem => 44
  | .smem => 0
  | _ => 0

abbrev bufTy : (tb : Table) → Fin (tcTables nBuf tb) → BufTy
  | .hbm, ⟨0, _⟩ => ⟨S7x1024x640, .bf16⟩
  | .hbm, ⟨1, _⟩ => ⟨S7x1024x640, .bf16⟩
  | .hbm, ⟨2, _⟩ => ⟨S7x1024x640, .bf16⟩
  | .hbm, ⟨3, _⟩ => ⟨S7x1024x640, .bf16⟩
  | .hbm, ⟨4, _⟩ => ⟨S1024x640, .bf16⟩
  | .hbm, ⟨5, _⟩ => ⟨S1024x640, .bf16⟩
  | .hbm, ⟨6, _⟩ => ⟨S1024x640, .bf16⟩
  | .hbm, ⟨7, _⟩ => ⟨S1024x640, .bf16⟩
  | .hbm, ⟨8, _⟩ => ⟨S4x1024x640, .f32⟩
  | .hbm, ⟨9, _⟩ => ⟨S4x1024x640, .f32⟩
  | .hbm, ⟨10, _⟩ => ⟨S4x1024x640, .f32⟩
  | .hbm, ⟨11, _⟩ => ⟨S4x1024x640, .f32⟩
  | .hbm, ⟨12, _⟩ => ⟨S4x1024x640, .f32⟩
  | .hbm, ⟨13, _⟩ => ⟨S4x1024x640, .f32⟩
  | .hbm, ⟨14, _⟩ => ⟨S4x1024x640, .f32⟩
  | .hbm, ⟨15, _⟩ => ⟨S4x1024x640, .f32⟩
  | .hbm, ⟨16, _⟩ => ⟨S4x1024x640, .f32⟩
  | .hbm, ⟨17, _⟩ => ⟨S4x1024x640, .f32⟩
  | .hbm, ⟨18, _⟩ => ⟨S4x1024x640, .f32⟩
  | .local _ .vmem, ⟨0, _⟩ => ⟨S7x256x640, .bf16⟩
  | .local _ .vmem, ⟨1, _⟩ => ⟨S7x256x640, .bf16⟩
  | .local _ .vmem, ⟨2, _⟩ => ⟨S7x256x640, .bf16⟩
  | .local _ .vmem, ⟨3, _⟩ => ⟨S7x256x640, .bf16⟩
  | .local _ .vmem, ⟨4, _⟩ => ⟨S7x256x640, .bf16⟩
  | .local _ .vmem, ⟨5, _⟩ => ⟨S7x256x640, .bf16⟩
  | .local _ .vmem, ⟨6, _⟩ => ⟨S256x640, .bf16⟩
  | .local _ .vmem, ⟨7, _⟩ => ⟨S256x640, .bf16⟩
  | .local _ .vmem, ⟨8, _⟩ => ⟨S256x640, .bf16⟩
  | .local _ .vmem, ⟨9, _⟩ => ⟨S256x640, .bf16⟩
  | .local _ .vmem, ⟨10, _⟩ => ⟨S256x640, .bf16⟩
  | .local _ .vmem, ⟨11, _⟩ => ⟨S256x640, .bf16⟩
  | .local _ .vmem, ⟨12, _⟩ => ⟨S1x256x640, .f32⟩
  | .local _ .vmem, ⟨13, _⟩ => ⟨S1x256x640, .f32⟩
  | .local _ .vmem, ⟨14, _⟩ => ⟨S1x256x640, .f32⟩
  | .local _ .vmem, ⟨15, _⟩ => ⟨S1x256x640, .f32⟩
  | .local _ .vmem, ⟨16, _⟩ => ⟨S1x256x640, .f32⟩
  | .local _ .vmem, ⟨17, _⟩ => ⟨S1x256x640, .f32⟩
  | .local _ .vmem, ⟨18, _⟩ => ⟨S1x256x640, .f32⟩
  | .local _ .vmem, ⟨19, _⟩ => ⟨S1x256x640, .f32⟩
  | .local _ .vmem, ⟨20, _⟩ => ⟨S1x256x640, .f32⟩
  | .local _ .vmem, ⟨21, _⟩ => ⟨S1x256x640, .f32⟩
  | .local _ .vmem, ⟨22, _⟩ => ⟨S1x256x640, .f32⟩
  | .local _ .vmem, ⟨23, _⟩ => ⟨S1x256x640, .f32⟩
  | .local _ .vmem, ⟨24, _⟩ => ⟨S1x256x640, .f32⟩
  | .local _ .vmem, ⟨25, _⟩ => ⟨S1x256x640, .f32⟩
  | .local _ .vmem, ⟨26, _⟩ => ⟨S7x256x640, .bf16⟩
  | .local _ .vmem, ⟨27, _⟩ => ⟨S7x256x640, .bf16⟩
  | .local _ .vmem, ⟨28, _⟩ => ⟨S256x640, .bf16⟩
  | .local _ .vmem, ⟨29, _⟩ => ⟨S256x640, .bf16⟩
  | .local _ .vmem, ⟨30, _⟩ => ⟨S1x256x640, .f32⟩
  | .local _ .vmem, ⟨31, _⟩ => ⟨S1x256x640, .f32⟩
  | .local _ .vmem, ⟨32, _⟩ => ⟨S1x256x640, .f32⟩
  | .local _ .vmem, ⟨33, _⟩ => ⟨S1x256x640, .f32⟩
  | .local _ .vmem, ⟨34, _⟩ => ⟨S1x256x640, .f32⟩
  | .local _ .vmem, ⟨35, _⟩ => ⟨S1x256x640, .f32⟩
  | .local _ .vmem, ⟨36, _⟩ => ⟨S1x256x640, .f32⟩
  | .local _ .vmem, ⟨37, _⟩ => ⟨S1x256x640, .f32⟩
  | .local _ .vmem, ⟨38, _⟩ => ⟨S1x256x640, .f32⟩
  | .local _ .vmem, ⟨39, _⟩ => ⟨S1x256x640, .f32⟩
  | .local _ .vmem, ⟨40, _⟩ => ⟨S1x256x640, .f32⟩
  | .local _ .vmem, ⟨41, _⟩ => ⟨S1x256x640, .f32⟩
  | .local _ .vmem, ⟨42, _⟩ => ⟨S1x256x640, .f32⟩
  | .local _ .vmem, ⟨43, _⟩ => ⟨S1x256x640, .f32⟩
  | _, _ => ⟨S7x1024x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v1_0 : Ref sig .tc := ⟨.hbm, 15, rfl⟩
abbrev main_v1_1 : Ref sig .tc := ⟨.hbm, 16, rfl⟩
abbrev main_v1_2 : Ref sig .tc := ⟨.hbm, 17, rfl⟩
abbrev main_v1_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_stg2_1 : Ref sig .tc := ⟨.vmem, 31, rfl⟩
abbrev cc1_stg3_0 : Ref sig .tc := ⟨.vmem, 32, rfl⟩
abbrev cc1_stg3_1 : Ref sig .tc := ⟨.vmem, 33, rfl⟩
abbrev cc1_stg4_0 : Ref sig .tc := ⟨.vmem, 34, rfl⟩
abbrev cc1_stg4_1 : Ref sig .tc := ⟨.vmem, 35, rfl⟩
abbrev cc1_stg5_0 : Ref sig .tc := ⟨.vmem, 36, rfl⟩
abbrev cc1_stg5_1 : Ref sig .tc := ⟨.vmem, 37, rfl⟩
abbrev cc1_stg6_0 : Ref sig .tc := ⟨.vmem, 38, rfl⟩
abbrev cc1_stg6_1 : Ref sig .tc := ⟨.vmem, 39, rfl⟩
abbrev cc1_stg7_0 : Ref sig .tc := ⟨.vmem, 40, rfl⟩
abbrev cc1_stg7_1 : Ref sig .tc := ⟨.vmem, 41, rfl⟩
abbrev cc1_stg8_0 : Ref sig .tc := ⟨.vmem, 42, rfl⟩
abbrev cc1_stg8_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc1_sem0_0 : DmaSem sig := 26
abbrev cc1_sem0_1 : DmaSem sig := 27
abbrev cc1_sem1_0 : DmaSem sig := 28
abbrev cc1_sem1_1 : DmaSem sig := 29
abbrev cc1_sem2_0 : DmaSem sig := 30
abbrev cc1_sem2_1 : DmaSem sig := 31
abbrev cc1_sem3_0 : DmaSem sig := 32
abbrev cc1_sem3_1 : DmaSem sig := 33
abbrev cc1_sem4_0 : DmaSem sig := 34
abbrev cc1_sem4_1 : DmaSem sig := 35
abbrev cc1_sem5_0 : DmaSem sig := 36
abbrev cc1_sem5_1 : DmaSem sig := 37
abbrev cc1_sem6_0 : DmaSem sig := 38
abbrev cc1_sem6_1 : DmaSem sig := 39
abbrev cc1_sem7_0 : DmaSem sig := 40
abbrev cc1_sem7_1 : DmaSem sig := 41
abbrev cc1_sem8_0 : DmaSem sig := 42
abbrev cc1_sem8_1 : DmaSem sig := 43

abbrev nD : Nat := 1
abbrev τ : Topo := Topo.v7x

variable {F : FTy → Type} [FloatOps F]

abbrev grid0 : Pipeline.Grid := ⟨2, ![3, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, arg1.toNat, c0_i32.toNat]

abbrev stage0_0 : Fin 2 → Memref sig .tc .vmem S7x256x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S7x256x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S7x256x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x640 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x640 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x640 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x640 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x640 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x640 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev grid1 : Pipeline.Grid := ⟨2, ![1, 4], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

abbrev stage1_0 : Fin 2 → Memref sig .tc .vmem S7x256x640 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x640 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x640 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x640 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x640 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x256x640 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x256x640 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x256x640 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x256x640 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== Reference12Ideal.lean ====
abbrev S7x1024x640 : Shape := ⟨3, ![7, 1024, 640]⟩
abbrev S1024x640 : Shape := ⟨2, ![1024, 640]⟩
abbrev S4x1024x640 : Shape := ⟨3, ![4, 1024, 640]⟩
abbrev S1x1024x640 : Shape := ⟨3, ![1, 1024, 640]⟩
abbrev S1x7x1024x640 : Shape := ⟨4, ![1, 7, 1024, 640]⟩
abbrev S4x7x1024x640 : Shape := ⟨4, ![4, 7, 1024, 640]⟩
abbrev S_ : Shape := ⟨0, ![]⟩

abbrev nBuf : Space → Nat
  | .hbm => 59
  | .vmem => 0
  | .smem => 0
  | _ => 0

abbrev bufTy : (tb : Table) → Fin (tcTables nBuf tb) → BufTy
  | .hbm, ⟨0, _⟩ => ⟨S7x1024x640, .bf16⟩
  | .hbm, ⟨1, _⟩ => ⟨S7x1024x640, .bf16⟩
  | .hbm, ⟨2, _⟩ => ⟨S7x1024x640, .bf16⟩
  | .hbm, ⟨3, _⟩ => ⟨S7x1024x640, .bf16⟩
  | .hbm, ⟨4, _⟩ => ⟨S1024x640, .bf16⟩
  | .hbm, ⟨5, _⟩ => ⟨S1024x640, .bf16⟩
  | .hbm, ⟨6, _⟩ => ⟨S1024x640, .bf16⟩
  | .hbm, ⟨7, _⟩ => ⟨S1024x640, .bf16⟩
  | .hbm, ⟨8, _⟩ => ⟨S4x1024x640, .f32⟩
  | .hbm, ⟨9, _⟩ => ⟨S4x1024x640, .f32⟩
  | .hbm, ⟨10, _⟩ => ⟨S4x1024x640, .f32⟩
  | .hbm, ⟨11, _⟩ => ⟨S1x1024x640, .bf16⟩
  | .hbm, ⟨12, _⟩ => ⟨S1x1024x640, .bf16⟩
  | .hbm, ⟨13, _⟩ => ⟨S1x1024x640, .bf16⟩
  | .hbm, ⟨14, _⟩ => ⟨S1x1024x640, .bf16⟩
  | .hbm, ⟨15, _⟩ => ⟨S4x1024x640, .bf16⟩
  | .hbm, ⟨16, _⟩ => ⟨S4x1024x640, .f32⟩
  | .hbm, ⟨17, _⟩ => ⟨S1x7x1024x640, .bf16⟩
  | .hbm, ⟨18, _⟩ => ⟨S1x7x1024x640, .bf16⟩
  | .hbm, ⟨19, _⟩ => ⟨S1x7x1024x640, .bf16⟩
  | .hbm, ⟨20, _⟩ => ⟨S1x7x1024x640, .bf16⟩
  | .hbm, ⟨21, _⟩ => ⟨S4x7x1024x640, .bf16⟩
  | .hbm, ⟨22, _⟩ => ⟨S4x7x1024x640, .f32⟩
  | .hbm, ⟨23, _⟩ => ⟨S_, .f32⟩
  | .hbm, ⟨24, _⟩ => ⟨S4x1024x640, .f32⟩
  | .hbm, ⟨25, _⟩ => ⟨S4x1024x640, .f32⟩
  | .hbm, ⟨26, _⟩ => ⟨S_, .f32⟩
  | .hbm, ⟨27, _⟩ => ⟨S4x1024x640, .f32⟩
  | .hbm, ⟨28, _⟩ => ⟨S4x1024x640, .f32⟩
  | .hbm, ⟨29, _⟩ => ⟨S_, .f32⟩
  | .hbm, ⟨30, _⟩ => ⟨S4x1024x640, .f32⟩
  | .hbm, ⟨31, _⟩ => ⟨S4x1024x640, .f32⟩
  | .hbm, ⟨32, _⟩ => ⟨S4x1024x640, .f32⟩
  | .hbm, ⟨33, _⟩ => ⟨S_, .f32⟩
  | .hbm, ⟨34, _⟩ => ⟨S4x1024x640, .f32⟩
  | .hbm, ⟨35, _⟩ => ⟨S4x1024x640, .f32⟩
  | .hbm, ⟨36, _⟩ => ⟨S4x1024x640, .f32⟩
  | .hbm, ⟨37, _⟩ => ⟨S_, .f32⟩
  | .hbm, ⟨38, _⟩ => ⟨S4x1024x640, .f32⟩
  | .hbm, ⟨39, _⟩ => ⟨S4x1024x640, .f32⟩
  | .hbm, ⟨40, _⟩ => ⟨S4x1024x640, .f32⟩
  | .hbm, ⟨41, _⟩ => ⟨S_, .f32⟩
  | .hbm, ⟨42, _⟩ => ⟨S4x1024x640, .f32⟩
  | .hbm, ⟨43, _⟩ => ⟨S4x1024x640, .f32⟩
  | .hbm, ⟨44, _⟩ => ⟨S_, .f32⟩
  | .hbm, ⟨45, _⟩ => ⟨S4x1024x640, .f32⟩
  | .hbm, ⟨46, _⟩ => ⟨S4x1024x640, .f32⟩
  | .hbm, ⟨47, _⟩ => ⟨S4x1024x640, .f32⟩
  | .hbm, ⟨48, _⟩ => ⟨S_, .f32⟩
  | .hbm, ⟨49, _⟩ => ⟨S4x1024x640, .f32⟩
  | .hbm, ⟨50, _⟩ => ⟨S4x1024x640, .f32⟩
  | .hbm, ⟨51, _⟩ => ⟨S4x1024x640, .f32⟩
  | .hbm, ⟨52, _⟩ => ⟨S_, .f32⟩
  | .hbm, ⟨53, _⟩ => ⟨S4x1024x640, .f32⟩
  | .hbm, ⟨54, _⟩ => ⟨S4x1024x640, .f32⟩
  | .hbm, ⟨55, _⟩ => ⟨S4x1024x640, .f32⟩
  | .hbm, ⟨56, _⟩ => ⟨S_, .f32⟩
  | .hbm, ⟨57, _⟩ => ⟨S4x1024x640, .f32⟩
  | .hbm, ⟨58, _⟩ => ⟨S4x1024x640, .f32⟩
  | _, _ => ⟨S7x1024x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Proof.Attn.Base.lean ====
/- The grid of the gradient call: which of the kinds of point a point is, and its staging buffers. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Tactic
public import Idealize.ShloMosaic.Lib.Pipeline.TableIdle

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The points of kind A: first tile of a head group. -/
abbrev IsA (t : Fin cfg0.N) : Prop := t.val % 34 = 0
theorem factsA : ∀ t : Fin grid0.N, t.val % 34 = 0 → (k0_cond1 (grid0.coords t) = 1#1) ∧ (¬k0_cond2 (grid0.coords t) = 1#1) ∧ (k0_cond3 (grid0.coords t) = 1#1) ∧ (¬k0_cond4 (grid0.coords t) = 1#1) ∧ (k0_off2 (grid0.coords t) 0#32 = ![1, 0, 0]) ∧ (k0_off2 (grid0.coords t) 1#32 = ![2, 0, 0]) ∧ (k0_off2 (grid0.coords t) 2#32 = ![0, 0, 0]) := by decide +kernel

/-- The points of kind B: second tile of a head group. -/
abbrev IsB (t : Fin cfg0.N) : Prop := t.val % 34 = 1
theorem factsB : ∀ t : Fin grid0.N, t.val % 34 = 1 → (¬k0_cond1 (grid0.coords t) = 1#1) ∧ (k0_cond2 (grid0.coords t) = 1#1) ∧ (k0_cond3 (grid0.coords t) = 1#1) ∧ (¬k0_cond4 (grid0.coords t) = 1#1) ∧ (k0_off1 (grid0.coords t) = ![1, 0, 0]) ∧ (k0_off2 (grid0.coords t) 0#32 = ![2, 0, 0]) ∧ (k0_off2 (grid0.coords t) 1#32 = ![0, 0, 0]) ∧ (k0_off2 (grid0.coords t) 2#32 = ![1, 0, 0]) := by decide +kernel

/-- The points of kind C0: a later query tile whose number is 0 modulo 3. -/
abbrev IsC0 (t : Fin cfg0.N) : Prop := (2 ≤ t.val % 34 ∧ t.val % 34 < 32 ∧ t.val % 34 % 3 = 0)
theorem factsC0 : ∀ t : Fin grid0.N, (2 ≤ t.val % 34 ∧ t.val % 34 < 32 ∧ t.val % 34 % 3 = 0) → (¬k0_cond1 (grid0.coords t) = 1#1) ∧ (k0_cond2 (grid0.coords t) = 1#1) ∧ (k0_cond3 (grid0.coords t) = 1#1) ∧ (k0_cond4 (grid0.coords t) = 1#1) ∧ (k0_off1 (grid0.coords t) = ![0, 0, 0]) ∧ (k0_off2 (grid0.coords t) 0#32 = ![1, 0, 0]) ∧ (k0_off2 (grid0.coords t) 1#32 = ![2, 0, 0]) ∧ (k0_off2 (grid0.coords t) 2#32 = ![0, 0, 0]) ∧ (k0_off3 (grid0.coords t) = ![1, 0, 0]) := by decide +kernel

/-- The points of kind C1: a later query tile whose number is 1 modulo 3. -/
abbrev IsC1 (t : Fin cfg0.N) : Prop := (2 ≤ t.val % 34 ∧ t.val % 34 < 32 ∧ t.val % 34 % 3 = 1)
theorem factsC1 : ∀ t : Fin grid0.N, (2 ≤ t.val % 34 ∧ t.val % 34 < 32 ∧ t.val % 34 % 3 = 1) → (¬k0_cond1 (grid0.coords t) = 1#1) ∧ (k0_cond2 (grid0.coords t) = 1#1) ∧ (k0_cond3 (grid0.coords t) = 1#1) ∧ (k0_cond4 (grid0.coords t) = 1#1) ∧ (k0_off1 (grid0.coords t) = ![1, 0, 0]) ∧ (k0_off2 (grid0.coords t) 0#32 = ![2, 0, 0]) ∧ (k0_off2 (grid0.coords t) 1#32 = ![0, 0, 0]) ∧ (k0_off2 (grid0.coords t) 2#32 = ![1, 0, 0]) ∧ (k0_off3 (grid0.coords t) = ![2, 0, 0]) := by decide +kernel

/-- The points of kind C2: a later query tile whose number is 2 modulo 3. -/
abbrev IsC2 (t : Fin cfg0.N) : Prop := (2 ≤ t.val % 34 ∧ t.val % 34 < 32 ∧ t.val % 34 % 3 = 2)
theorem factsC2 : ∀ t : Fin grid0.N, (2 ≤ t.val % 34 ∧ t.val % 34 < 32 ∧ t.val % 34 % 3 = 2) → (¬k0_cond1 (grid0.coords t) = 1#1) ∧ (k0_cond2 (grid0.coords t) = 1#1) ∧ (k0_cond3 (grid0.coords t) = 1#1) ∧ (k0_cond4 (grid0.coords t) = 1#1) ∧ (k0_off1 (grid0.coords t) = ![2, 0, 0]) ∧ (k0_off2 (grid0.coords t) 0#32 = ![0, 0, 0]) ∧ (k0_off2 (grid0.coords t) 1#32 = ![1, 0, 0]) ∧ (k0_off2 (grid0.coords t) 2#32 = ![2, 0, 0]) ∧ (k0_off3 (grid0.coords t) = ![0, 0, 0]) := by decide +kernel

/-- The points of kind D0: a closing point past the last query tile, which writes out slot 0. -/
abbrev IsD0 (t : Fin cfg0.N) : Prop := t.val % 34 = 32
theorem factsD0 : ∀ t : Fin grid0.N, t.val % 34 = 32 → (¬k0_cond1 (grid0.coords t) = 1#1) ∧ (¬k0_cond2 (grid0.coords t) = 1#1) ∧ (¬k0_cond3 (grid0.coords t) = 1#1) ∧ (k0_cond4 (grid0.coords t) = 1#1) ∧ (k0_off3 (grid0.coords t) = ![0, 0, 0]) := by decide +kernel

/-- The points of kind D1: a closing point past the last query tile, which writes out slot 1. -/
abbrev IsD1 (t : Fin cfg0.N) : Prop := t.val % 34 = 33
theorem factsD1 : ∀ t : Fin grid0.N, t.val % 34 = 33 → (¬k0_cond1 (grid0.coords t) = 1#1) ∧ (¬k0_cond2 (grid0.coords t) = 1#1) ∧ (¬k0_cond3 (grid0.coords t) = 1#1) ∧ (k0_cond4 (grid0.coords t) = 1#1) ∧ (k0_off3 (grid0.coords t) = ![1, 0, 0]) := by decide +kernel
abbrev ms0 (t : Fin cfg0.N) : Memref sig .tc .vmem S256x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x256 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x256 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x256 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S4x256x768 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S256x256 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S256x256 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S256x256 .bf16 := win0_10.stage (cfg0.slots t 10)
abbrev hs10 (t : Fin cfg0.N) : (ms10 t).IsWhole := hstage0_10 ((cfg0.slots t 10).cast nbuf0_10)
abbrev ms11 (t : Fin cfg0.N) : Memref sig .tc .vmem S256x256 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S4x256x768 .f32 := win0_12.stage (cfg0.slots t 12)
abbrev hs12 (t : Fin cfg0.N) : (ms12 t).IsWhole := hstage0_12 ((cfg0.slots t 12).cast nbuf0_12)
abbrev sc0 : Memref sig .tc .vmem S3x256x256 .f32 := Memref.whole cc0_scratch0
abbrev hsc0 : (sc0).IsWhole := Memref.isWhole_whole _
abbrev sc1 : Memref sig .tc .vmem S3x256x256 .f32 := Memref.whole cc0_scratch1
abbrev hsc1 : (sc1).IsWhole := Memref.isWhole_whole _

/-- The region's invariant before the first point: the two scratch buffers at anything, and the generator register. -/
theorem phiA_eq (c : Dev nD) : (Pipeline.ΦA (U := UR sig nD τ) (Val := Elt F) spec0 c : sProp 𝕄)
    = iprop(((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

end Cert.KernelIdeal.Attn

end
-- ==== Proof.Attn.RunA.lean ====
/- The body of the gradient call at one kind of grid point (first tile of a head group), run once. -/
module

public import proofs.«01_k».proof.Proof.Attn.Base

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body stores at first tile of a head group: the pieces written into each output block and each scratch buffer (last first), with the
    proof that the body, given its blocks, runs to the continuation with those pieces written. -/
noncomputable def runA (c : Dev nD) (i : grid0.Coords) (arg2 : Memref sig .tc .vmem S256x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S4x256x768 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S256x256 .bf16) (harg12 : arg12.IsWhole) (arg13 : Memref sig .tc .vmem S256x256 .bf16) (harg13 : arg13.IsWhole) (arg14 : Memref sig .tc .vmem S4x256x768 .f32) (harg14 : arg14.IsWhole) (arg15 : Memref sig .tc .vmem S3x256x256 .f32) (harg15 : arg15.IsWhole) (arg16 : Memref sig .tc .vmem S3x256x256 .f32) (harg16 : arg16.IsWhole) (hc1 : k0_cond1 i = 1#1) (hc2 : ¬k0_cond2 i = 1#1) (hc3 : k0_cond3 i = 1#1) (hc4 : ¬k0_cond4 i = 1#1) (ho0 : k0_off2 i 0#32 = ![1, 0, 0]) (ho1 : k0_off2 i 1#32 = ![2, 0, 0]) (ho2 : k0_off2 i 2#32 = ![0, 0, 0])
    (x2 : Vec F S256x256 .bf16) (x3 : Vec F S256x256 .bf16) (x4 : Vec F S256x256 .bf16) (x5 : Vec F S256x256 .bf16) (x6 : Vec F S256x256 .bf16) (x7 : Vec F S256x256 .bf16) (x8 : Vec F S256x256 .bf16) (x9 : Vec F S4x256x768 .bf16) (x10 : Vec F S256x256 .bf16)
     :
    Σ' (L11 : List (View.Piece (Elt F) S256x256 .bf16)), Σ' (L14 : List (View.Piece (Elt F) S4x256x768 .f32)), Σ' (L15 : List (View.Piece (Elt F) S3x256x256 .f32)), { L16 : List (View.Piece (Elt F) S3x256x256 .f32) //
      ∀ (z12 : Vec F S256x256 .bf16) (z13 : Vec F S256x256 .bf16) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare z12 ∗ owns (c : Thread nD τ) arg13 fullShare z13 ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L11) ∗ owns (c : Thread nD τ) arg12 fullShare z12 ∗ owns (c : Thread nD τ) arg13 fullShare z13 ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun z12 z13 E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton]
    letI : ClosedOff (k0_off2 i 0#32) := ⟨![1, 0, 0], ho0⟩
    letI : ClosedOff (k0_off2 i 1#32) := ⟨![2, 0, 0], ho1⟩
    letI : ClosedOff (k0_off2 i 2#32) := ⟨![0, 0, 0], ho2⟩
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%d14, %f14, -, H14⟩, ⟨%d15, %f15, -, H15⟩, ⟨%d16, %f16, -, H16⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hf12; obtain rfl := harg13.eq_unread hf13
    sl_exec (disch := first | sl_exact hc1 | sl_exact hc2 | sl_exact hc3 | sl_exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; iexact H11
    isplitl [H12]
    · iexists _; isplitr; · ipureintro; exact harg12.read_unread _
      iexact H12
    isplitl [H13]
    · iexists _; isplitr; · ipureintro; exact harg13.read_unread _
      iexact H13
    isplitl [H14]
    · iexists _; iexact H14
    isplitl [H15]
    · iexists _; iexact H15
    iexists _; iexact H16

end Cert.KernelIdeal.Attn

end
-- ==== Proof.Attn.RunB.lean ====
/- The body of the gradient call at one kind of grid point (second tile of a head group), run once. -/
module

public import proofs.«01_k».proof.Proof.Attn.Base

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body stores at second tile of a head group: the pieces written into each output block and each scratch buffer (last first), with the
    proof that the body, given its blocks, runs to the continuation with those pieces written. -/
noncomputable def runB (c : Dev nD) (i : grid0.Coords) (arg2 : Memref sig .tc .vmem S256x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S4x256x768 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S256x256 .bf16) (harg12 : arg12.IsWhole) (arg13 : Memref sig .tc .vmem S256x256 .bf16) (harg13 : arg13.IsWhole) (arg14 : Memref sig .tc .vmem S4x256x768 .f32) (harg14 : arg14.IsWhole) (arg15 : Memref sig .tc .vmem S3x256x256 .f32) (harg15 : arg15.IsWhole) (arg16 : Memref sig .tc .vmem S3x256x256 .f32) (harg16 : arg16.IsWhole) (hc1 : ¬k0_cond1 i = 1#1) (hc2 : k0_cond2 i = 1#1) (hc3 : k0_cond3 i = 1#1) (hc4 : ¬k0_cond4 i = 1#1) (ho0 : k0_off1 i = ![1, 0, 0]) (ho1 : k0_off2 i 0#32 = ![2, 0, 0]) (ho2 : k0_off2 i 1#32 = ![0, 0, 0]) (ho3 : k0_off2 i 2#32 = ![1, 0, 0])
    (x2 : Vec F S256x256 .bf16) (x3 : Vec F S256x256 .bf16) (x4 : Vec F S256x256 .bf16) (x5 : Vec F S256x256 .bf16) (x6 : Vec F S256x256 .bf16) (x7 : Vec F S256x256 .bf16) (x8 : Vec F S256x256 .bf16) (x9 : Vec F S4x256x768 .bf16) (x10 : Vec F S256x256 .bf16)
    (y14 : Vec F S4x256x768 .f32) (y15 : Vec F S3x256x256 .f32) (y16 : Vec F S3x256x256 .f32) :
    Σ' (L11 : List (View.Piece (Elt F) S256x256 .bf16)), Σ' (L14 : List (View.Piece (Elt F) S4x256x768 .f32)), Σ' (L15 : List (View.Piece (Elt F) S3x256x256 .f32)), { L16 : List (View.Piece (Elt F) S3x256x256 .f32) //
      ∀ (z12 : Vec F S256x256 .bf16) (z13 : Vec F S256x256 .bf16) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare z12 ∗ owns (c : Thread nD τ) arg13 fullShare z13 ∗ owns (c : Thread nD τ) arg14 fullShare y14 ∗ owns (c : Thread nD τ) arg15 fullShare y15 ∗ owns (c : Thread nD τ) arg16 fullShare y16
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L11) ∗ owns (c : Thread nD τ) arg12 fullShare z12 ∗ owns (c : Thread nD τ) arg13 fullShare z13 ∗ (arg14.view.loc (c : Thread nD τ) ↦[arg14.view.set]{fullShare} arg14.view.writes (Elt F) (harg14.unread y14) L14) ∗ (arg15.view.loc (c : Thread nD τ) ↦[arg15.view.set]{fullShare} arg15.view.writes (Elt F) (harg15.unread y15) L15) ∗ (arg16.view.loc (c : Thread nD τ) ↦[arg16.view.set]{fullShare} arg16.view.writes (Elt F) (harg16.unread y16) L16)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun z12 z13 E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton]
    letI : ClosedOff (k0_off1 i) := ⟨![1, 0, 0], ho0⟩
    letI : ClosedOff (k0_off2 i 0#32) := ⟨![2, 0, 0], ho1⟩
    letI : ClosedOff (k0_off2 i 1#32) := ⟨![0, 0, 0], ho2⟩
    letI : ClosedOff (k0_off2 i 2#32) := ⟨![1, 0, 0], ho3⟩
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%f14, %hf14, H14⟩, ⟨%f15, %hf15, H15⟩, ⟨%f16, %hf16, H16⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hf12; obtain rfl := harg13.eq_unread hf13; obtain rfl := harg14.eq_unread hf14; obtain rfl := harg15.eq_unread hf15; obtain rfl := harg16.eq_unread hf16
    sl_exec (disch := first | sl_exact hc1 | sl_exact hc2 | sl_exact hc3 | sl_exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; iexact H11
    isplitl [H12]
    · iexists _; isplitr; · ipureintro; exact harg12.read_unread _
      iexact H12
    isplitl [H13]
    · iexists _; isplitr; · ipureintro; exact harg13.read_unread _
      iexact H13
    isplitl [H14]
    · iexact H14
    isplitl [H15]
    · iexact H15
    iexact H16

end Cert.KernelIdeal.Attn

end
-- ==== Proof.Attn.RunC0.lean ====
/- The body of the gradient call at one kind of grid point (a later query tile whose number is 0 modulo 3), run once. -/
module

public import proofs.«01_k».proof.Proof.Attn.Base

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body stores at a later query tile whose number is 0 modulo 3: the pieces written into each output block and each scratch buffer (last first), with the
    proof that the body, given its blocks, runs to the continuation with those pieces written. -/
noncomputable def runC0 (c : Dev nD) (i : grid0.Coords) (arg2 : Memref sig .tc .vmem S256x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S4x256x768 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S256x256 .bf16) (harg12 : arg12.IsWhole) (arg13 : Memref sig .tc .vmem S256x256 .bf16) (harg13 : arg13.IsWhole) (arg14 : Memref sig .tc .vmem S4x256x768 .f32) (harg14 : arg14.IsWhole) (arg15 : Memref sig .tc .vmem S3x256x256 .f32) (harg15 : arg15.IsWhole) (arg16 : Memref sig .tc .vmem S3x256x256 .f32) (harg16 : arg16.IsWhole) (hc1 : ¬k0_cond1 i = 1#1) (hc2 : k0_cond2 i = 1#1) (hc3 : k0_cond3 i = 1#1) (hc4 : k0_cond4 i = 1#1) (ho0 : k0_off1 i = ![0, 0, 0]) (ho1 : k0_off2 i 0#32 = ![1, 0, 0]) (ho2 : k0_off2 i 1#32 = ![2, 0, 0]) (ho3 : k0_off2 i 2#32 = ![0, 0, 0]) (ho4 : k0_off3 i = ![1, 0, 0])
    (x2 : Vec F S256x256 .bf16) (x3 : Vec F S256x256 .bf16) (x4 : Vec F S256x256 .bf16) (x5 : Vec F S256x256 .bf16) (x6 : Vec F S256x256 .bf16) (x7 : Vec F S256x256 .bf16) (x8 : Vec F S256x256 .bf16) (x9 : Vec F S4x256x768 .bf16) (x10 : Vec F S256x256 .bf16)
    (y14 : Vec F S4x256x768 .f32) (y15 : Vec F S3x256x256 .f32) (y16 : Vec F S3x256x256 .f32) :
    Σ' (L11 : List (View.Piece (Elt F) S256x256 .bf16)), Σ' (L12 : List (View.Piece (Elt F) S256x256 .bf16)), Σ' (L13 : List (View.Piece (Elt F) S256x256 .bf16)), Σ' (L14 : List (View.Piece (Elt F) S4x256x768 .f32)), Σ' (L15 : List (View.Piece (Elt F) S3x256x256 .f32)), { L16 : List (View.Piece (Elt F) S3x256x256 .f32) //
      ∀  (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare y14 ∗ owns (c : Thread nD τ) arg15 fullShare y15 ∗ owns (c : Thread nD τ) arg16 fullShare y16
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (arg14.view.loc (c : Thread nD τ) ↦[arg14.view.set]{fullShare} arg14.view.writes (Elt F) (harg14.unread y14) L14) ∗ (arg15.view.loc (c : Thread nD τ) ↦[arg15.view.set]{fullShare} arg15.view.writes (Elt F) (harg15.unread y15) L15) ∗ (arg16.view.loc (c : Thread nD τ) ↦[arg16.view.set]{fullShare} arg16.view.writes (Elt F) (harg16.unread y16) L16)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, fun  E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton]
    letI : ClosedOff (k0_off1 i) := ⟨![0, 0, 0], ho0⟩
    letI : ClosedOff (k0_off2 i 0#32) := ⟨![1, 0, 0], ho1⟩
    letI : ClosedOff (k0_off2 i 1#32) := ⟨![2, 0, 0], ho2⟩
    letI : ClosedOff (k0_off2 i 2#32) := ⟨![0, 0, 0], ho3⟩
    letI : ClosedOff (k0_off3 i) := ⟨![1, 0, 0], ho4⟩
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%f14, %hf14, H14⟩, ⟨%f15, %hf15, H15⟩, ⟨%f16, %hf16, H16⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg14.eq_unread hf14; obtain rfl := harg15.eq_unread hf15; obtain rfl := harg16.eq_unread hf16
    sl_exec (disch := first | sl_exact hc1 | sl_exact hc2 | sl_exact hc3 | sl_exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; iexact H11
    isplitl [H12]
    · iexists _; iexact H12
    isplitl [H13]
    · iexists _; iexact H13
    isplitl [H14]
    · iexact H14
    isplitl [H15]
    · iexact H15
    iexact H16

end Cert.KernelIdeal.Attn

end
-- ==== Proof.Attn.RunC1.lean ====
/- The body of the gradient call at one kind of grid point (a later query tile whose number is 1 modulo 3), run once. -/
module

public import proofs.«01_k».proof.Proof.Attn.Base

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body stores at a later query tile whose number is 1 modulo 3: the pieces written into each output block and each scratch buffer (last first), with the
    proof that the body, given its blocks, runs to the continuation with those pieces written. -/
noncomputable def runC1 (c : Dev nD) (i : grid0.Coords) (arg2 : Memref sig .tc .vmem S256x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S4x256x768 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S256x256 .bf16) (harg12 : arg12.IsWhole) (arg13 : Memref sig .tc .vmem S256x256 .bf16) (harg13 : arg13.IsWhole) (arg14 : Memref sig .tc .vmem S4x256x768 .f32) (harg14 : arg14.IsWhole) (arg15 : Memref sig .tc .vmem S3x256x256 .f32) (harg15 : arg15.IsWhole) (arg16 : Memref sig .tc .vmem S3x256x256 .f32) (harg16 : arg16.IsWhole) (hc1 : ¬k0_cond1 i = 1#1) (hc2 : k0_cond2 i = 1#1) (hc3 : k0_cond3 i = 1#1) (hc4 : k0_cond4 i = 1#1) (ho0 : k0_off1 i = ![1, 0, 0]) (ho1 : k0_off2 i 0#32 = ![2, 0, 0]) (ho2 : k0_off2 i 1#32 = ![0, 0, 0]) (ho3 : k0_off2 i 2#32 = ![1, 0, 0]) (ho4 : k0_off3 i = ![2, 0, 0])
    (x2 : Vec F S256x256 .bf16) (x3 : Vec F S256x256 .bf16) (x4 : Vec F S256x256 .bf16) (x5 : Vec F S256x256 .bf16) (x6 : Vec F S256x256 .bf16) (x7 : Vec F S256x256 .bf16) (x8 : Vec F S256x256 .bf16) (x9 : Vec F S4x256x768 .bf16) (x10 : Vec F S256x256 .bf16)
    (y14 : Vec F S4x256x768 .f32) (y15 : Vec F S3x256x256 .f32) (y16 : Vec F S3x256x256 .f32) :
    Σ' (L11 : List (View.Piece (Elt F) S256x256 .bf16)), Σ' (L12 : List (View.Piece (Elt F) S256x256 .bf16)), Σ' (L13 : List (View.Piece (Elt F) S256x256 .bf16)), Σ' (L14 : List (View.Piece (Elt F) S4x256x768 .f32)), Σ' (L15 : List (View.Piece (Elt F) S3x256x256 .f32)), { L16 : List (View.Piece (Elt F) S3x256x256 .f32) //
      ∀  (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare y14 ∗ owns (c : Thread nD τ) arg15 fullShare y15 ∗ owns (c : Thread nD τ) arg16 fullShare y16
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (arg14.view.loc (c : Thread nD τ) ↦[arg14.view.set]{fullShare} arg14.view.writes (Elt F) (harg14.unread y14) L14) ∗ (arg15.view.loc (c : Thread nD τ) ↦[arg15.view.set]{fullShare} arg15.view.writes (Elt F) (harg15.unread y15) L15) ∗ (arg16.view.loc (c : Thread nD τ) ↦[arg16.view.set]{fullShare} arg16.view.writes (Elt F) (harg16.unread y16) L16)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, fun  E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton]
    letI : ClosedOff (k0_off1 i) := ⟨![1, 0, 0], ho0⟩
    letI : ClosedOff (k0_off2 i 0#32) := ⟨![2, 0, 0], ho1⟩
    letI : ClosedOff (k0_off2 i 1#32) := ⟨![0, 0, 0], ho2⟩
    letI : ClosedOff (k0_off2 i 2#32) := ⟨![1, 0, 0], ho3⟩
    letI : ClosedOff (k0_off3 i) := ⟨![2, 0, 0], ho4⟩
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%f14, %hf14, H14⟩, ⟨%f15, %hf15, H15⟩, ⟨%f16, %hf16, H16⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg14.eq_unread hf14; obtain rfl := harg15.eq_unread hf15; obtain rfl := harg16.eq_unread hf16
    sl_exec (disch := first | sl_exact hc1 | sl_exact hc2 | sl_exact hc3 | sl_exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; iexact H11
    isplitl [H12]
    · iexists _; iexact H12
    isplitl [H13]
    · iexists _; iexact H13
    isplitl [H14]
    · iexact H14
    isplitl [H15]
    · iexact H15
    iexact H16

end Cert.KernelIdeal.Attn

end
-- ==== Proof.Attn.RunC2.lean ====
/- The body of the gradient call at one kind of grid point (a later query tile whose number is 2 modulo 3), run once. -/
module

public import proofs.«01_k».proof.Proof.Attn.Base

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body stores at a later query tile whose number is 2 modulo 3: the pieces written into each output block and each scratch buffer (last first), with the
    proof that the body, given its blocks, runs to the continuation with those pieces written. -/
noncomputable def runC2 (c : Dev nD) (i : grid0.Coords) (arg2 : Memref sig .tc .vmem S256x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S4x256x768 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S256x256 .bf16) (harg12 : arg12.IsWhole) (arg13 : Memref sig .tc .vmem S256x256 .bf16) (harg13 : arg13.IsWhole) (arg14 : Memref sig .tc .vmem S4x256x768 .f32) (harg14 : arg14.IsWhole) (arg15 : Memref sig .tc .vmem S3x256x256 .f32) (harg15 : arg15.IsWhole) (arg16 : Memref sig .tc .vmem S3x256x256 .f32) (harg16 : arg16.IsWhole) (hc1 : ¬k0_cond1 i = 1#1) (hc2 : k0_cond2 i = 1#1) (hc3 : k0_cond3 i = 1#1) (hc4 : k0_cond4 i = 1#1) (ho0 : k0_off1 i = ![2, 0, 0]) (ho1 : k0_off2 i 0#32 = ![0, 0, 0]) (ho2 : k0_off2 i 1#32 = ![1, 0, 0]) (ho3 : k0_off2 i 2#32 = ![2, 0, 0]) (ho4 : k0_off3 i = ![0, 0, 0])
    (x2 : Vec F S256x256 .bf16) (x3 : Vec F S256x256 .bf16) (x4 : Vec F S256x256 .bf16) (x5 : Vec F S256x256 .bf16) (x6 : Vec F S256x256 .bf16) (x7 : Vec F S256x256 .bf16) (x8 : Vec F S256x256 .bf16) (x9 : Vec F S4x256x768 .bf16) (x10 : Vec F S256x256 .bf16)
    (y14 : Vec F S4x256x768 .f32) (y15 : Vec F S3x256x256 .f32) (y16 : Vec F S3x256x256 .f32) :
    Σ' (L11 : List (View.Piece (Elt F) S256x256 .bf16)), Σ' (L12 : List (View.Piece (Elt F) S256x256 .bf16)), Σ' (L13 : List (View.Piece (Elt F) S256x256 .bf16)), Σ' (L14 : List (View.Piece (Elt F) S4x256x768 .f32)), Σ' (L15 : List (View.Piece (Elt F) S3x256x256 .f32)), { L16 : List (View.Piece (Elt F) S3x256x256 .f32) //
      ∀  (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare y14 ∗ owns (c : Thread nD τ) arg15 fullShare y15 ∗ owns (c : Thread nD τ) arg16 fullShare y16
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (arg14.view.loc (c : Thread nD τ) ↦[arg14.view.set]{fullShare} arg14.view.writes (Elt F) (harg14.unread y14) L14) ∗ (arg15.view.loc (c : Thread nD τ) ↦[arg15.view.set]{fullShare} arg15.view.writes (Elt F) (harg15.unread y15) L15) ∗ (arg16.view.loc (c : Thread nD τ) ↦[arg16.view.set]{fullShare} arg16.view.writes (Elt F) (harg16.unread y16) L16)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, fun  E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton]
    letI : ClosedOff (k0_off1 i) := ⟨![2, 0, 0], ho0⟩
    letI : ClosedOff (k0_off2 i 0#32) := ⟨![0, 0, 0], ho1⟩
    letI : ClosedOff (k0_off2 i 1#32) := ⟨![1, 0, 0], ho2⟩
    letI : ClosedOff (k0_off2 i 2#32) := ⟨![2, 0, 0], ho3⟩
    letI : ClosedOff (k0_off3 i) := ⟨![0, 0, 0], ho4⟩
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%f14, %hf14, H14⟩, ⟨%f15, %hf15, H15⟩, ⟨%f16, %hf16, H16⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg14.eq_unread hf14; obtain rfl := harg15.eq_unread hf15; obtain rfl := harg16.eq_unread hf16
    sl_exec (disch := first | sl_exact hc1 | sl_exact hc2 | sl_exact hc3 | sl_exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; iexact H11
    isplitl [H12]
    · iexists _; iexact H12
    isplitl [H13]
    · iexists _; iexact H13
    isplitl [H14]
    · iexact H14
    isplitl [H15]
    · iexact H15
    iexact H16

end Cert.KernelIdeal.Attn

end
-- ==== Proof.Attn.RunD0.lean ====
/- The body of the gradient call at one kind of grid point (a closing point past the last query tile, which writes out slot 0), run once. -/
module

public import proofs.«01_k».proof.Proof.Attn.Base

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body stores at a closing point past the last query tile, which writes out slot 0: the pieces written into each output block and each scratch buffer (last first), with the
    proof that the body, given its blocks, runs to the continuation with those pieces written. -/
noncomputable def runD0 (c : Dev nD) (i : grid0.Coords) (arg2 : Memref sig .tc .vmem S256x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S4x256x768 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S256x256 .bf16) (harg12 : arg12.IsWhole) (arg13 : Memref sig .tc .vmem S256x256 .bf16) (harg13 : arg13.IsWhole) (arg14 : Memref sig .tc .vmem S4x256x768 .f32) (harg14 : arg14.IsWhole) (arg15 : Memref sig .tc .vmem S3x256x256 .f32) (harg15 : arg15.IsWhole) (arg16 : Memref sig .tc .vmem S3x256x256 .f32) (harg16 : arg16.IsWhole) (hc1 : ¬k0_cond1 i = 1#1) (hc2 : ¬k0_cond2 i = 1#1) (hc3 : ¬k0_cond3 i = 1#1) (hc4 : k0_cond4 i = 1#1) (ho0 : k0_off3 i = ![0, 0, 0])
    (x2 : Vec F S256x256 .bf16) (x3 : Vec F S256x256 .bf16) (x4 : Vec F S256x256 .bf16) (x5 : Vec F S256x256 .bf16) (x6 : Vec F S256x256 .bf16) (x7 : Vec F S256x256 .bf16) (x8 : Vec F S256x256 .bf16) (x9 : Vec F S4x256x768 .bf16) (x10 : Vec F S256x256 .bf16)
    (y15 : Vec F S3x256x256 .f32) (y16 : Vec F S3x256x256 .f32) :
    Σ' (L12 : List (View.Piece (Elt F) S256x256 .bf16)), { L13 : List (View.Piece (Elt F) S256x256 .bf16) //
      ∀ (z11 : Vec F S256x256 .bf16) (z14 : Vec F S4x256x768 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare z11 ∗ (∃ d, owns (c : Thread nD τ) arg12 fullShare d) ∗ (∃ d, owns (c : Thread nD τ) arg13 fullShare d) ∗ owns (c : Thread nD τ) arg14 fullShare z14 ∗ owns (c : Thread nD τ) arg15 fullShare y15 ∗ owns (c : Thread nD τ) arg16 fullShare y16
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare z11 ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ owns (c : Thread nD τ) arg14 fullShare z14 ∗ owns (c : Thread nD τ) arg15 fullShare y15 ∗ owns (c : Thread nD τ) arg16 fullShare y16) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun z11 z14 E K => ?run⟩
  case run =>
    simp only [cc0_attn_bwd_eq_skeleton]; unfold cc0_attn_bwd_skel
    letI : ClosedOff (k0_off3 i) := ⟨![0, 0, 0], ho0⟩
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, ⟨%f15, %hf15, H15⟩, ⟨%f16, %hf16, H16⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg14.eq_unread hf14; obtain rfl := harg15.eq_unread hf15; obtain rfl := harg16.eq_unread hf16
    sl_exec (disch := first | sl_exact hc1 | sl_exact hc2 | sl_exact hc3 | sl_exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; iexact H12
    isplitl [H13]
    · iexists _; iexact H13
    isplitl [H14]
    · iexists _; isplitr; · ipureintro; exact harg14.read_unread _
      iexact H14
    isplitl [H15]
    · iexists _; isplitr; · ipureintro; exact harg15.read_unread _
      iexact H15
    iexists _; isplitr; · ipureintro; exact harg16.read_unread _
    iexact H16

end Cert.KernelIdeal.Attn

end
-- ==== Proof.Attn.RunD1.lean ====
/- The body of the gradient call at one kind of grid point (a closing point past the last query tile, which writes out slot 1), run once. -/
module

public import proofs.«01_k».proof.Proof.Attn.Base

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body stores at a closing point past the last query tile, which writes out slot 1: the pieces written into each output block and each scratch buffer (last first), with the
    proof that the body, given its blocks, runs to the continuation with those pieces written. -/
noncomputable def runD1 (c : Dev nD) (i : grid0.Coords) (arg2 : Memref sig .tc .vmem S256x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S4x256x768 .bf16) (harg9 : arg9.IsWhole) (arg10 : Memref sig .tc .vmem S256x256 .bf16) (harg10 : arg10.IsWhole) (arg11 : Memref sig .tc .vmem S256x256 .bf16) (harg11 : arg11.IsWhole) (arg12 : Memref sig .tc .vmem S256x256 .bf16) (harg12 : arg12.IsWhole) (arg13 : Memref sig .tc .vmem S256x256 .bf16) (harg13 : arg13.IsWhole) (arg14 : Memref sig .tc .vmem S4x256x768 .f32) (harg14 : arg14.IsWhole) (arg15 : Memref sig .tc .vmem S3x256x256 .f32) (harg15 : arg15.IsWhole) (arg16 : Memref sig .tc .vmem S3x256x256 .f32) (harg16 : arg16.IsWhole) (hc1 : ¬k0_cond1 i = 1#1) (hc2 : ¬k0_cond2 i = 1#1) (hc3 : ¬k0_cond3 i = 1#1) (hc4 : k0_cond4 i = 1#1) (ho0 : k0_off3 i = ![1, 0, 0])
    (x2 : Vec F S256x256 .bf16) (x3 : Vec F S256x256 .bf16) (x4 : Vec F S256x256 .bf16) (x5 : Vec F S256x256 .bf16) (x6 : Vec F S256x256 .bf16) (x7 : Vec F S256x256 .bf16) (x8 : Vec F S256x256 .bf16) (x9 : Vec F S4x256x768 .bf16) (x10 : Vec F S256x256 .bf16)
    (y15 : Vec F S3x256x256 .f32) (y16 : Vec F S3x256x256 .f32) :
    Σ' (L12 : List (View.Piece (Elt F) S256x256 .bf16)), { L13 : List (View.Piece (Elt F) S256x256 .bf16) //
      ∀ (z11 : Vec F S256x256 .bf16) (z14 : Vec F S4x256x768 .f32) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare z11 ∗ (∃ d, owns (c : Thread nD τ) arg12 fullShare d) ∗ (∃ d, owns (c : Thread nD τ) arg13 fullShare d) ∗ owns (c : Thread nD τ) arg14 fullShare z14 ∗ owns (c : Thread nD τ) arg15 fullShare y15 ∗ owns (c : Thread nD τ) arg16 fullShare y16
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare z11 ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ owns (c : Thread nD τ) arg14 fullShare z14 ∗ owns (c : Thread nD τ) arg15 fullShare y15 ∗ owns (c : Thread nD τ) arg16 fullShare y16) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun z11 z14 E K => ?run⟩
  case run =>
    simp only [cc0_attn_bwd_eq_skeleton]; unfold cc0_attn_bwd_skel
    letI : ClosedOff (k0_off3 i) := ⟨![1, 0, 0], ho0⟩
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, ⟨%f15, %hf15, H15⟩, ⟨%f16, %hf16, H16⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg14.eq_unread hf14; obtain rfl := harg15.eq_unread hf15; obtain rfl := harg16.eq_unread hf16
    sl_exec (disch := first | sl_exact hc1 | sl_exact hc2 | sl_exact hc3 | sl_exact hc4)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; iexact H12
    isplitl [H13]
    · iexists _; iexact H13
    isplitl [H14]
    · iexists _; isplitr; · ipureintro; exact harg14.read_unread _
      iexact H14
    isplitl [H15]
    · iexists _; isplitr; · ipureintro; exact harg15.read_unread _
      iexact H15
    iexists _; isplitr; · ipureintro; exact harg16.read_unread _
    iexact H16

end Cert.KernelIdeal.Attn

end
-- ==== Proof.Attn.State.lean ====
/- What the output blocks and the two scratch buffers of the gradient call hold after each grid point. -/
module

public import proofs.«01_k».proof.Proof.Attn.RunA
public import proofs.«01_k».proof.Proof.Attn.RunB
public import proofs.«01_k».proof.Proof.Attn.RunC0
public import proofs.«01_k».proof.Proof.Attn.RunC1
public import proofs.«01_k».proof.Proof.Attn.RunC2
public import proofs.«01_k».proof.Proof.Attn.RunD0
public import proofs.«01_k».proof.Proof.Attn.RunD1

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The contents carried from point to point: the blocks of the gradients of q, k and v, the block of the gradient of the
    biases, and the two accumulators of the gradients of k and v. -/
structure St (F : FTy → Type) where
  dq : Vec F S256x256 .bf16
  dk : Vec F S256x256 .bf16
  dv : Vec F S256x256 .bf16
  dtb : Vec F S4x256x768 .f32
  ka : Vec F S3x256x256 .f32
  va : Vec F S3x256x256 .f32

/-- Contents nothing depends on. -/
def St.any : St F := ⟨(ms9 (⟨0, by decide⟩ : Fin cfg0.N)).view.read (Elt F) (ms9 (⟨0, by decide⟩ : Fin cfg0.N)).view.junk, (ms10 (⟨0, by decide⟩ : Fin cfg0.N)).view.read (Elt F) (ms10 (⟨0, by decide⟩ : Fin cfg0.N)).view.junk, (ms11 (⟨0, by decide⟩ : Fin cfg0.N)).view.read (Elt F) (ms11 (⟨0, by decide⟩ : Fin cfg0.N)).view.junk, (ms12 (⟨0, by decide⟩ : Fin cfg0.N)).view.read (Elt F) (ms12 (⟨0, by decide⟩ : Fin cfg0.N)).view.junk, sc0.view.read (Elt F) sc0.view.junk, sc1.view.read (Elt F) sc1.view.junk⟩

/-- The run of kind A at point `t`, on that point's blocks. -/
abbrev atA (c : Dev nD) (t : Fin cfg0.N) (h : IsA t)  :=
  runA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) sc0 hsc0 sc1 hsc1 ((factsA t h).1) ((factsA t h).2.1) ((factsA t h).2.2.1) ((factsA t h).2.2.2.1) ((factsA t h).2.2.2.2.1) ((factsA t h).2.2.2.2.2.1) ((factsA t h).2.2.2.2.2.2) (iblk m c 0 t) (iblk m c 1 t) (iblk m c 2 t) (iblk m c 3 t) (iblk m c 4 t) (iblk m c 5 t) (iblk m c 6 t) (iblk m c 7 t) (iblk m c 8 t)
/-- The contents after a point of kind A. -/
def stepA (c : Dev nD) (t : Fin cfg0.N) (h : IsA t) (p : St F) : St F :=
  ⟨(ms9 t).view.read (Elt F) ((ms9 t).view.writes (Elt F) (ms9 t).view.junk (atA m c t h ).1),
    p.dk,
    p.dv,
    (ms12 t).view.read (Elt F) ((ms12 t).view.writes (Elt F) (ms12 t).view.junk (atA m c t h ).2.1),
    sc0.view.read (Elt F) (sc0.view.writes (Elt F) sc0.view.junk (atA m c t h ).2.2.1),
    sc1.view.read (Elt F) (sc1.view.writes (Elt F) sc1.view.junk (atA m c t h ).2.2.2.1)⟩
theorem coverA_dq (c : Dev nD) (t : Fin cfg0.N) (h : IsA t)  (y : S256x256.Idx) : ∃ pc ∈ (atA m c t h ).1, y ∈ pc.1.set :=
  View.cover_of_tiledL (atA m c t h ).1 S256x256.size (by sl_kernel_rfl) y
theorem coverA_dtb (c : Dev nD) (t : Fin cfg0.N) (h : IsA t)  (y : S4x256x768.Idx) : ∃ pc ∈ (atA m c t h ).2.1, y ∈ pc.1.set :=
  (View.cover_of_tiledL (((atA m c t h ).2.1).drop 4) S4x256x768.size (by sl_kernel_rfl) y).imp fun _ hp => ⟨List.mem_of_mem_drop hp.1, hp.2⟩
theorem coverA_ka (c : Dev nD) (t : Fin cfg0.N) (h : IsA t)  (y : S3x256x256.Idx) : ∃ pc ∈ (atA m c t h ).2.2.1, y ∈ pc.1.set :=
  (View.cover_of_tiledL (((atA m c t h ).2.2.1).drop 3) S3x256x256.size (by sl_kernel_rfl) y).imp fun _ hp => ⟨List.mem_of_mem_drop hp.1, hp.2⟩
theorem coverA_va (c : Dev nD) (t : Fin cfg0.N) (h : IsA t)  (y : S3x256x256.Idx) : ∃ pc ∈ (atA m c t h ).2.2.2.1, y ∈ pc.1.set :=
  (View.cover_of_tiledL (((atA m c t h ).2.2.2.1).drop 3) S3x256x256.size (by sl_kernel_rfl) y).imp fun _ hp => ⟨List.mem_of_mem_drop hp.1, hp.2⟩

/-- The run of kind B at point `t`, on that point's blocks. -/
abbrev atB (c : Dev nD) (t : Fin cfg0.N) (h : IsB t) (y14 : Vec F S4x256x768 .f32) (y15 : Vec F S3x256x256 .f32) (y16 : Vec F S3x256x256 .f32) :=
  runB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) sc0 hsc0 sc1 hsc1 ((factsB t h).1) ((factsB t h).2.1) ((factsB t h).2.2.1) ((factsB t h).2.2.2.1) ((factsB t h).2.2.2.2.1) ((factsB t h).2.2.2.2.2.1) ((factsB t h).2.2.2.2.2.2.1) ((factsB t h).2.2.2.2.2.2.2) (iblk m c 0 t) (iblk m c 1 t) (iblk m c 2 t) (iblk m c 3 t) (iblk m c 4 t) (iblk m c 5 t) (iblk m c 6 t) (iblk m c 7 t) (iblk m c 8 t) y14 y15 y16
/-- The contents after a point of kind B. -/
def stepB (c : Dev nD) (t : Fin cfg0.N) (h : IsB t) (p : St F) : St F :=
  ⟨(ms9 t).view.read (Elt F) ((ms9 t).view.writes (Elt F) (ms9 t).view.junk (atB m c t h p.dtb p.ka p.va).1),
    p.dk,
    p.dv,
    (ms12 t).view.read (Elt F) ((ms12 t).view.writes (Elt F) ((hs12 t).unread p.dtb) (atB m c t h p.dtb p.ka p.va).2.1),
    sc0.view.read (Elt F) (sc0.view.writes (Elt F) (hsc0.unread p.ka) (atB m c t h p.dtb p.ka p.va).2.2.1),
    sc1.view.read (Elt F) (sc1.view.writes (Elt F) (hsc1.unread p.va) (atB m c t h p.dtb p.ka p.va).2.2.2.1)⟩
theorem coverB_dq (c : Dev nD) (t : Fin cfg0.N) (h : IsB t) (y14 : Vec F S4x256x768 .f32) (y15 : Vec F S3x256x256 .f32) (y16 : Vec F S3x256x256 .f32) (y : S256x256.Idx) : ∃ pc ∈ (atB m c t h y14 y15 y16).1, y ∈ pc.1.set :=
  View.cover_of_tiledL (atB m c t h y14 y15 y16).1 S256x256.size (by sl_kernel_rfl) y

/-- The run of kind C0 at point `t`, on that point's blocks. -/
abbrev atC0 (c : Dev nD) (t : Fin cfg0.N) (h : IsC0 t) (y14 : Vec F S4x256x768 .f32) (y15 : Vec F S3x256x256 .f32) (y16 : Vec F S3x256x256 .f32) :=
  runC0 (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) sc0 hsc0 sc1 hsc1 ((factsC0 t h).1) ((factsC0 t h).2.1) ((factsC0 t h).2.2.1) ((factsC0 t h).2.2.2.1) ((factsC0 t h).2.2.2.2.1) ((factsC0 t h).2.2.2.2.2.1) ((factsC0 t h).2.2.2.2.2.2.1) ((factsC0 t h).2.2.2.2.2.2.2.1) ((factsC0 t h).2.2.2.2.2.2.2.2) (iblk m c 0 t) (iblk m c 1 t) (iblk m c 2 t) (iblk m c 3 t) (iblk m c 4 t) (iblk m c 5 t) (iblk m c 6 t) (iblk m c 7 t) (iblk m c 8 t) y14 y15 y16
/-- The contents after a point of kind C0. -/
def stepC0 (c : Dev nD) (t : Fin cfg0.N) (h : IsC0 t) (p : St F) : St F :=
  ⟨(ms9 t).view.read (Elt F) ((ms9 t).view.writes (Elt F) (ms9 t).view.junk (atC0 m c t h p.dtb p.ka p.va).1),
    (ms10 t).view.read (Elt F) ((ms10 t).view.writes (Elt F) (ms10 t).view.junk (atC0 m c t h p.dtb p.ka p.va).2.1),
    (ms11 t).view.read (Elt F) ((ms11 t).view.writes (Elt F) (ms11 t).view.junk (atC0 m c t h p.dtb p.ka p.va).2.2.1),
    (ms12 t).view.read (Elt F) ((ms12 t).view.writes (Elt F) ((hs12 t).unread p.dtb) (atC0 m c t h p.dtb p.ka p.va).2.2.2.1),
    sc0.view.read (Elt F) (sc0.view.writes (Elt F) (hsc0.unread p.ka) (atC0 m c t h p.dtb p.ka p.va).2.2.2.2.1),
    sc1.view.read (Elt F) (sc1.view.writes (Elt F) (hsc1.unread p.va) (atC0 m c t h p.dtb p.ka p.va).2.2.2.2.2.1)⟩
theorem coverC0_dq (c : Dev nD) (t : Fin cfg0.N) (h : IsC0 t) (y14 : Vec F S4x256x768 .f32) (y15 : Vec F S3x256x256 .f32) (y16 : Vec F S3x256x256 .f32) (y : S256x256.Idx) : ∃ pc ∈ (atC0 m c t h y14 y15 y16).1, y ∈ pc.1.set :=
  View.cover_of_tiledL (atC0 m c t h y14 y15 y16).1 S256x256.size (by sl_kernel_rfl) y
theorem coverC0_dk (c : Dev nD) (t : Fin cfg0.N) (h : IsC0 t) (y14 : Vec F S4x256x768 .f32) (y15 : Vec F S3x256x256 .f32) (y16 : Vec F S3x256x256 .f32) (y : S256x256.Idx) : ∃ pc ∈ (atC0 m c t h y14 y15 y16).2.1, y ∈ pc.1.set :=
  View.cover_of_tiledL (atC0 m c t h y14 y15 y16).2.1 S256x256.size (by sl_kernel_rfl) y
theorem coverC0_dv (c : Dev nD) (t : Fin cfg0.N) (h : IsC0 t) (y14 : Vec F S4x256x768 .f32) (y15 : Vec F S3x256x256 .f32) (y16 : Vec F S3x256x256 .f32) (y : S256x256.Idx) : ∃ pc ∈ (atC0 m c t h y14 y15 y16).2.2.1, y ∈ pc.1.set :=
  View.cover_of_tiledL (atC0 m c t h y14 y15 y16).2.2.1 S256x256.size (by sl_kernel_rfl) y

/-- The run of kind C1 at point `t`, on that point's blocks. -/
abbrev atC1 (c : Dev nD) (t : Fin cfg0.N) (h : IsC1 t) (y14 : Vec F S4x256x768 .f32) (y15 : Vec F S3x256x256 .f32) (y16 : Vec F S3x256x256 .f32) :=
  runC1 (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) sc0 hsc0 sc1 hsc1 ((factsC1 t h).1) ((factsC1 t h).2.1) ((factsC1 t h).2.2.1) ((factsC1 t h).2.2.2.1) ((factsC1 t h).2.2.2.2.1) ((factsC1 t h).2.2.2.2.2.1) ((factsC1 t h).2.2.2.2.2.2.1) ((factsC1 t h).2.2.2.2.2.2.2.1) ((factsC1 t h).2.2.2.2.2.2.2.2) (iblk m c 0 t) (iblk m c 1 t) (iblk m c 2 t) (iblk m c 3 t) (iblk m c 4 t) (iblk m c 5 t) (iblk m c 6 t) (iblk m c 7 t) (iblk m c 8 t) y14 y15 y16
/-- The contents after a point of kind C1. -/
def stepC1 (c : Dev nD) (t : Fin cfg0.N) (h : IsC1 t) (p : St F) : St F :=
  ⟨(ms9 t).view.read (Elt F) ((ms9 t).view.writes (Elt F) (ms9 t).view.junk (atC1 m c t h p.dtb p.ka p.va).1),
    (ms10 t).view.read (Elt F) ((ms10 t).view.writes (Elt F) (ms10 t).view.junk (atC1 m c t h p.dtb p.ka p.va).2.1),
    (ms11 t).view.read (Elt F) ((ms11 t).view.writes (Elt F) (ms11 t).view.junk (atC1 m c t h p.dtb p.ka p.va).2.2.1),
    (ms12 t).view.read (Elt F) ((ms12 t).view.writes (Elt F) ((hs12 t).unread p.dtb) (atC1 m c t h p.dtb p.ka p.va).2.2.2.1),
    sc0.view.read (Elt F) (sc0.view.writes (Elt F) (hsc0.unread p.ka) (atC1 m c t h p.dtb p.ka p.va).2.2.2.2.1),
    sc1.view.read (Elt F) (sc1.view.writes (Elt F) (hsc1.unread p.va) (atC1 m c t h p.dtb p.ka p.va).2.2.2.2.2.1)⟩
theorem coverC1_dq (c : Dev nD) (t : Fin cfg0.N) (h : IsC1 t) (y14 : Vec F S4x256x768 .f32) (y15 : Vec F S3x256x256 .f32) (y16 : Vec F S3x256x256 .f32) (y : S256x256.Idx) : ∃ pc ∈ (atC1 m c t h y14 y15 y16).1, y ∈ pc.1.set :=
  View.cover_of_tiledL (atC1 m c t h y14 y15 y16).1 S256x256.size (by sl_kernel_rfl) y
theorem coverC1_dk (c : Dev nD) (t : Fin cfg0.N) (h : IsC1 t) (y14 : Vec F S4x256x768 .f32) (y15 : Vec F S3x256x256 .f32) (y16 : Vec F S3x256x256 .f32) (y : S256x256.Idx) : ∃ pc ∈ (atC1 m c t h y14 y15 y16).2.1, y ∈ pc.1.set :=
  View.cover_of_tiledL (atC1 m c t h y14 y15 y16).2.1 S256x256.size (by sl_kernel_rfl) y
theorem coverC1_dv (c : Dev nD) (t : Fin cfg0.N) (h : IsC1 t) (y14 : Vec F S4x256x768 .f32) (y15 : Vec F S3x256x256 .f32) (y16 : Vec F S3x256x256 .f32) (y : S256x256.Idx) : ∃ pc ∈ (atC1 m c t h y14 y15 y16).2.2.1, y ∈ pc.1.set :=
  View.cover_of_tiledL (atC1 m c t h y14 y15 y16).2.2.1 S256x256.size (by sl_kernel_rfl) y

/-- The run of kind C2 at point `t`, on that point's blocks. -/
abbrev atC2 (c : Dev nD) (t : Fin cfg0.N) (h : IsC2 t) (y14 : Vec F S4x256x768 .f32) (y15 : Vec F S3x256x256 .f32) (y16 : Vec F S3x256x256 .f32) :=
  runC2 (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) sc0 hsc0 sc1 hsc1 ((factsC2 t h).1) ((factsC2 t h).2.1) ((factsC2 t h).2.2.1) ((factsC2 t h).2.2.2.1) ((factsC2 t h).2.2.2.2.1) ((factsC2 t h).2.2.2.2.2.1) ((factsC2 t h).2.2.2.2.2.2.1) ((factsC2 t h).2.2.2.2.2.2.2.1) ((factsC2 t h).2.2.2.2.2.2.2.2) (iblk m c 0 t) (iblk m c 1 t) (iblk m c 2 t) (iblk m c 3 t) (iblk m c 4 t) (iblk m c 5 t) (iblk m c 6 t) (iblk m c 7 t) (iblk m c 8 t) y14 y15 y16
/-- The contents after a point of kind C2. -/
def stepC2 (c : Dev nD) (t : Fin cfg0.N) (h : IsC2 t) (p : St F) : St F :=
  ⟨(ms9 t).view.read (Elt F) ((ms9 t).view.writes (Elt F) (ms9 t).view.junk (atC2 m c t h p.dtb p.ka p.va).1),
    (ms10 t).view.read (Elt F) ((ms10 t).view.writes (Elt F) (ms10 t).view.junk (atC2 m c t h p.dtb p.ka p.va).2.1),
    (ms11 t).view.read (Elt F) ((ms11 t).view.writes (Elt F) (ms11 t).view.junk (atC2 m c t h p.dtb p.ka p.va).2.2.1),
    (ms12 t).view.read (Elt F) ((ms12 t).view.writes (Elt F) ((hs12 t).unread p.dtb) (atC2 m c t h p.dtb p.ka p.va).2.2.2.1),
    sc0.view.read (Elt F) (sc0.view.writes (Elt F) (hsc0.unread p.ka) (atC2 m c t h p.dtb p.ka p.va).2.2.2.2.1),
    sc1.view.read (Elt F) (sc1.view.writes (Elt F) (hsc1.unread p.va) (atC2 m c t h p.dtb p.ka p.va).2.2.2.2.2.1)⟩
theorem coverC2_dq (c : Dev nD) (t : Fin cfg0.N) (h : IsC2 t) (y14 : Vec F S4x256x768 .f32) (y15 : Vec F S3x256x256 .f32) (y16 : Vec F S3x256x256 .f32) (y : S256x256.Idx) : ∃ pc ∈ (atC2 m c t h y14 y15 y16).1, y ∈ pc.1.set :=
  View.cover_of_tiledL (atC2 m c t h y14 y15 y16).1 S256x256.size (by sl_kernel_rfl) y
theorem coverC2_dk (c : Dev nD) (t : Fin cfg0.N) (h : IsC2 t) (y14 : Vec F S4x256x768 .f32) (y15 : Vec F S3x256x256 .f32) (y16 : Vec F S3x256x256 .f32) (y : S256x256.Idx) : ∃ pc ∈ (atC2 m c t h y14 y15 y16).2.1, y ∈ pc.1.set :=
  View.cover_of_tiledL (atC2 m c t h y14 y15 y16).2.1 S256x256.size (by sl_kernel_rfl) y
theorem coverC2_dv (c : Dev nD) (t : Fin cfg0.N) (h : IsC2 t) (y14 : Vec F S4x256x768 .f32) (y15 : Vec F S3x256x256 .f32) (y16 : Vec F S3x256x256 .f32) (y : S256x256.Idx) : ∃ pc ∈ (atC2 m c t h y14 y15 y16).2.2.1, y ∈ pc.1.set :=
  View.cover_of_tiledL (atC2 m c t h y14 y15 y16).2.2.1 S256x256.size (by sl_kernel_rfl) y

/-- The run of kind D0 at point `t`, on that point's blocks. -/
abbrev atD0 (c : Dev nD) (t : Fin cfg0.N) (h : IsD0 t) (y15 : Vec F S3x256x256 .f32) (y16 : Vec F S3x256x256 .f32) :=
  runD0 (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) sc0 hsc0 sc1 hsc1 ((factsD0 t h).1) ((factsD0 t h).2.1) ((factsD0 t h).2.2.1) ((factsD0 t h).2.2.2.1) ((factsD0 t h).2.2.2.2) (iblk m c 0 t) (iblk m c 1 t) (iblk m c 2 t) (iblk m c 3 t) (iblk m c 4 t) (iblk m c 5 t) (iblk m c 6 t) (iblk m c 7 t) (iblk m c 8 t) y15 y16
/-- The contents after a point of kind D0. -/
def stepD0 (c : Dev nD) (t : Fin cfg0.N) (h : IsD0 t) (p : St F) : St F :=
  ⟨p.dq,
    (ms10 t).view.read (Elt F) ((ms10 t).view.writes (Elt F) (ms10 t).view.junk (atD0 m c t h p.ka p.va).1),
    (ms11 t).view.read (Elt F) ((ms11 t).view.writes (Elt F) (ms11 t).view.junk (atD0 m c t h p.ka p.va).2.1),
    p.dtb,
    p.ka,
    p.va⟩
theorem coverD0_dk (c : Dev nD) (t : Fin cfg0.N) (h : IsD0 t) (y15 : Vec F S3x256x256 .f32) (y16 : Vec F S3x256x256 .f32) (y : S256x256.Idx) : ∃ pc ∈ (atD0 m c t h y15 y16).1, y ∈ pc.1.set :=
  View.cover_of_tiledL (atD0 m c t h y15 y16).1 S256x256.size (by sl_kernel_rfl) y
theorem coverD0_dv (c : Dev nD) (t : Fin cfg0.N) (h : IsD0 t) (y15 : Vec F S3x256x256 .f32) (y16 : Vec F S3x256x256 .f32) (y : S256x256.Idx) : ∃ pc ∈ (atD0 m c t h y15 y16).2.1, y ∈ pc.1.set :=
  View.cover_of_tiledL (atD0 m c t h y15 y16).2.1 S256x256.size (by sl_kernel_rfl) y

/-- The run of kind D1 at point `t`, on that point's blocks. -/
abbrev atD1 (c : Dev nD) (t : Fin cfg0.N) (h : IsD1 t) (y15 : Vec F S3x256x256 .f32) (y16 : Vec F S3x256x256 .f32) :=
  runD1 (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) sc0 hsc0 sc1 hsc1 ((factsD1 t h).1) ((factsD1 t h).2.1) ((factsD1 t h).2.2.1) ((factsD1 t h).2.2.2.1) ((factsD1 t h).2.2.2.2) (iblk m c 0 t) (iblk m c 1 t) (iblk m c 2 t) (iblk m c 3 t) (iblk m c 4 t) (iblk m c 5 t) (iblk m c 6 t) (iblk m c 7 t) (iblk m c 8 t) y15 y16
/-- The contents after a point of kind D1. -/
def stepD1 (c : Dev nD) (t : Fin cfg0.N) (h : IsD1 t) (p : St F) : St F :=
  ⟨p.dq,
    (ms10 t).view.read (Elt F) ((ms10 t).view.writes (Elt F) (ms10 t).view.junk (atD1 m c t h p.ka p.va).1),
    (ms11 t).view.read (Elt F) ((ms11 t).view.writes (Elt F) (ms11 t).view.junk (atD1 m c t h p.ka p.va).2.1),
    p.dtb,
    p.ka,
    p.va⟩
theorem coverD1_dk (c : Dev nD) (t : Fin cfg0.N) (h : IsD1 t) (y15 : Vec F S3x256x256 .f32) (y16 : Vec F S3x256x256 .f32) (y : S256x256.Idx) : ∃ pc ∈ (atD1 m c t h y15 y16).1, y ∈ pc.1.set :=
  View.cover_of_tiledL (atD1 m c t h y15 y16).1 S256x256.size (by sl_kernel_rfl) y
theorem coverD1_dv (c : Dev nD) (t : Fin cfg0.N) (h : IsD1 t) (y15 : Vec F S3x256x256 .f32) (y16 : Vec F S3x256x256 .f32) (y : S256x256.Idx) : ∃ pc ∈ (atD1 m c t h y15 y16).2.1, y ∈ pc.1.set :=
  View.cover_of_tiledL (atD1 m c t h y15 y16).2.1 S256x256.size (by sl_kernel_rfl) y

/-- The contents after point `t`, from those before it. -/
def next (c : Dev nD) (t : Fin cfg0.N) (p : St F) : St F :=
  if h : IsA t then stepA m c t h p else
  if h : IsB t then stepB m c t h p else
  if h : IsC0 t then stepC0 m c t h p else
  if h : IsC1 t then stepC1 m c t h p else
  if h : IsC2 t then stepC2 m c t h p else
  if h : IsD0 t then stepD0 m c t h p else
  if h : IsD1 t then stepD1 m c t h p else
  p
theorem next_A (c : Dev nD) (t : Fin cfg0.N) (h : IsA t) (p : St F) : next m c t p = stepA m c t h p := by
  unfold next
  rw [dif_pos h]
theorem next_B (c : Dev nD) (t : Fin cfg0.N) (h : IsB t) (p : St F) : next m c t p = stepB m c t h p := by
  unfold next
  rw [dif_neg (show ¬IsA t by unfold IsA; unfold IsB at h; omega)]
  rw [dif_pos h]
theorem next_C0 (c : Dev nD) (t : Fin cfg0.N) (h : IsC0 t) (p : St F) : next m c t p = stepC0 m c t h p := by
  unfold next
  rw [dif_neg (show ¬IsA t by unfold IsA; unfold IsC0 at h; omega)]
  rw [dif_neg (show ¬IsB t by unfold IsB; unfold IsC0 at h; omega)]
  rw [dif_pos h]
theorem next_C1 (c : Dev nD) (t : Fin cfg0.N) (h : IsC1 t) (p : St F) : next m c t p = stepC1 m c t h p := by
  unfold next
  rw [dif_neg (show ¬IsA t by unfold IsA; unfold IsC1 at h; omega)]
  rw [dif_neg (show ¬IsB t by unfold IsB; unfold IsC1 at h; omega)]
  rw [dif_neg (show ¬IsC0 t by unfold IsC0; unfold IsC1 at h; omega)]
  rw [dif_pos h]
theorem next_C2 (c : Dev nD) (t : Fin cfg0.N) (h : IsC2 t) (p : St F) : next m c t p = stepC2 m c t h p := by
  unfold next
  rw [dif_neg (show ¬IsA t by unfold IsA; unfold IsC2 at h; omega)]
  rw [dif_neg (show ¬IsB t by unfold IsB; unfold IsC2 at h; omega)]
  rw [dif_neg (show ¬IsC0 t by unfold IsC0; unfold IsC2 at h; omega)]
  rw [dif_neg (show ¬IsC1 t by unfold IsC1; unfold IsC2 at h; omega)]
  rw [dif_pos h]
theorem next_D0 (c : Dev nD) (t : Fin cfg0.N) (h : IsD0 t) (p : St F) : next m c t p = stepD0 m c t h p := by
  unfold next
  rw [dif_neg (show ¬IsA t by unfold IsA; unfold IsD0 at h; omega)]
  rw [dif_neg (show ¬IsB t by unfold IsB; unfold IsD0 at h; omega)]
  rw [dif_neg (show ¬IsC0 t by unfold IsC0; unfold IsD0 at h; omega)]
  rw [dif_neg (show ¬IsC1 t by unfold IsC1; unfold IsD0 at h; omega)]
  rw [dif_neg (show ¬IsC2 t by unfold IsC2; unfold IsD0 at h; omega)]
  rw [dif_pos h]
theorem next_D1 (c : Dev nD) (t : Fin cfg0.N) (h : IsD1 t) (p : St F) : next m c t p = stepD1 m c t h p := by
  unfold next
  rw [dif_neg (show ¬IsA t by unfold IsA; unfold IsD1 at h; omega)]
  rw [dif_neg (show ¬IsB t by unfold IsB; unfold IsD1 at h; omega)]
  rw [dif_neg (show ¬IsC0 t by unfold IsC0; unfold IsD1 at h; omega)]
  rw [dif_neg (show ¬IsC1 t by unfold IsC1; unfold IsD1 at h; omega)]
  rw [dif_neg (show ¬IsC2 t by unfold IsC2; unfold IsD1 at h; omega)]
  rw [dif_neg (show ¬IsD0 t by unfold IsD0; unfold IsD1 at h; omega)]
  rw [dif_pos h]

/-- The contents before point `n` (after point `n - 1`). -/
def stB (c : Dev nD) : ℕ → St F
  | 0 => St.any
  | n + 1 => if h : n < cfg0.N then next m c ⟨n, h⟩ (stB c n) else St.any
theorem stB_succ (c : Dev nD) (t : Fin cfg0.N) : stB m c (t.val + 1) = next m c t (stB m c t.val) := by
  rw [stB, dif_pos t.isLt]

end Cert.KernelIdeal.Attn

end
-- ==== Proof.Attn.Frame.lean ====
/- The gradient call ends, and leaves its arguments as they were. -/
module

public import proofs.«01_k».proof.Proof.Attn.State
public import Idealize.ShloMosaic.Lib.Pipeline.FrameBody
public import Idealize.ShloMosaic.Lib.Claim

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The invariant before point `n`: the two accumulators at what the point before left (at anything before the first). -/
def Phi (c : Dev nD) : ℕ → sProp 𝕄
  | 0 => Pipeline.ΦA spec0 c
  | n + 1 => iprop((owns (c : Thread nD τ) sc0 fullShare (stB m c (n + 1)).ka ∗ owns (c : Thread nD τ) sc1 fullShare (stB m c (n + 1)).va) ∗ (∃ r, prngReg c r))
theorem Phi_pos (c : Dev nD) (n : ℕ) (h : n ≠ 0) :
    Phi m c n = iprop((owns (c : Thread nD τ) sc0 fullShare (stB m c n).ka ∗ owns (c : Thread nD τ) sc1 fullShare (stB m c n).va) ∗ (∃ r, prngReg c r)) := by
  cases n with
  | zero => exact absurd rfl h
  | succ n => rfl
theorem Phi_any (c : Dev nD) (n : ℕ) :
    Phi m c n ⊢ iprop(((∃ d, owns (c : Thread nD τ) sc0 fullShare d) ∗ (∃ d, owns (c : Thread nD τ) sc1 fullShare d)) ∗ (∃ r, prngReg c r)) := by
  cases n with
  | zero => exact .of_eq (phiA_eq c)
  | succ n =>
    rw [Phi_pos m c (n + 1) (Nat.succ_ne_zero _)]
    iintro ⟨⟨H, K⟩, R⟩
    isplitl [H K]
    · isplitl [H]
      · iexists _; iexact H
      · iexists _; iexact K
    · iexact R

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (stB m c (t.val + 1)).dq
    | ⟨10, _⟩ => (stB m c (t.val + 1)).dk
    | ⟨11, _⟩ => (stB m c (t.val + 1)).dv
    | ⟨12, _⟩ => (stB m c (t.val + 1)).dtb
  Φ t := Phi m c t.val
  q w := Pipeline.shareOf spec0 w
  owed _ := 0

theorem A_eq (c : Dev nD) (w : Fin cfg0.W) : (dats m 0 c).A w = V m c (Pipeline.arrRef spec0 w) := by dsimp only [dats]
theorem Phi_eq (c : Dev nD) (t : Fin (cfg0.N + 1)) : (dats m 0 c).Φ t = Phi m c t.val := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = (stB m c (t.val + 1)).dq := by dsimp only [dats]
theorem after_10 (c : Dev nD) (t : Fin cfg0.N) : (dats m 0 c).after 10 t = (stB m c (t.val + 1)).dk := by dsimp only [dats]
theorem after_11 (c : Dev nD) (t : Fin cfg0.N) : (dats m 0 c).after 11 t = (stB m c (t.val + 1)).dv := by dsimp only [dats]
theorem after_12 (c : Dev nD) (t : Fin cfg0.N) : (dats m 0 c).after 12 t = (stB m c (t.val + 1)).dtb := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- At the idle points of windows 9 and 12 (past the last query tile) the contents are carried. -/
theorem idle9 : ∀ t : Fin grid0.N, cfg0.idle 9 (grid0.coords t) = decide (32 ≤ t.val % 34) := by decide +kernel
theorem idle12 : ∀ t : Fin grid0.N, cfg0.idle 12 (grid0.coords t) = decide (32 ≤ t.val % 34) := by decide +kernel
theorem idle10 : ∀ t : Fin grid0.N, cfg0.idle 10 (grid0.coords t) = decide (t.val % 34 < 2) := by decide +kernel
theorem idle11 : ∀ t : Fin grid0.N, cfg0.idle 11 (grid0.coords t) = decide (t.val % 34 < 2) := by decide +kernel
theorem flush9 : ∀ t : Fin grid0.N, win0_9.flush t = !decide (t.val % 34 = 31 ∨ t.val % 34 = 32) := by decide +kernel
theorem flush10 : ∀ t : Fin grid0.N, win0_10.flush t = decide (2 ≤ t.val % 34) := by decide +kernel
theorem flush11 : ∀ t : Fin grid0.N, win0_11.flush t = decide (2 ≤ t.val % 34) := by decide +kernel
theorem flush12 : ∀ t : Fin grid0.N, win0_12.flush t = decide (t.val % 34 = 33) := by decide +kernel

theorem keep_D (c : Dev nD) (t : Fin cfg0.N) (h : 32 ≤ t.val % 34) (p : St F) :
    (next m c t p).dq = p.dq ∧ (next m c t p).dtb = p.dtb := by
  by_cases h0 : IsD0 t
  · rw [next_D0 m c t h0]; exact ⟨rfl, rfl⟩
  · have h1 : IsD1 t := by unfold IsD0 at h0; unfold IsD1; omega
    rw [next_D1 m c t h1]; exact ⟨rfl, rfl⟩

theorem fresh9 (n : ℕ) (h : n ≤ cfg0.N) : cfg0.fresh 9 n = !decide (n % 34 = 32 ∨ n % 34 = 33) :=
  Pipeline.Cfg.fresh_tab cfg0 9 (fun n => !decide (n % 34 = 32 ∨ n % 34 = 33)) rfl
    (fun t => by
      rw [show (cfg0.win 9).flush t = _ from flush9 t, show cfg0.idle 9 (cfg0.grid.coords t) = _ from idle9 t]
      rw [Bool.eq_iff_iff]
      simp only [Bool.not_eq_true', decide_eq_false_iff_not, decide_eq_true_eq, Bool.or_eq_true, Bool.and_eq_true]
      omega) n h
theorem fresh12 (n : ℕ) (h : n ≤ cfg0.N) : cfg0.fresh 12 n = decide (n % 34 = 0) :=
  Pipeline.Cfg.fresh_tab cfg0 12 (fun n => decide (n % 34 = 0)) rfl
    (fun t => by
      rw [show (cfg0.win 12).flush t = _ from flush12 t, show cfg0.idle 12 (cfg0.grid.coords t) = _ from idle12 t]
      rw [Bool.eq_iff_iff]
      simp only [decide_eq_true_eq, Bool.or_eq_true, Bool.and_eq_true]
      omega) n h

theorem before_9 (c : Dev nD) (t : Fin cfg0.N) (h : 32 ≤ t.val % 34) (d) : (dats m 0 c).before 9 t d = (stB m c t.val).dq := by
  have ht : t.val ≠ 0 := by intro h0; rw [h0] at h; omega
  rw [Pipeline.Dat.before_out_traj (dats m 0 c) 9 rfl (fun _ _ => rfl) (fun t _ hi _ => by
    rw [show cfg0.idle 9 (cfg0.grid.coords t) = _ from idle9 t] at hi
    rw [after_9, after_9, stB_succ, (keep_D m c t (of_decide_eq_true hi) _).1]
    congr 2; show _ = t.val - 1 + 1; omega) t.val t rfl d, fresh9 t.val (by omega),
    if_neg (by simp only [Bool.not_eq_true', decide_eq_false_iff_not]; omega), after_9]
  congr 2; show t.val - 1 + 1 = _; omega
theorem before_12 (c : Dev nD) (t : Fin cfg0.N) (h : t.val % 34 ≠ 0) (d) : (dats m 0 c).before 12 t d = (stB m c t.val).dtb := by
  have ht : t.val ≠ 0 := by intro h0; rw [h0] at h; omega
  rw [Pipeline.Dat.before_out_traj (dats m 0 c) 12 rfl (fun _ _ => rfl) (fun t _ hi _ => by
    rw [show cfg0.idle 12 (cfg0.grid.coords t) = _ from idle12 t] at hi
    rw [after_12, after_12, stB_succ, (keep_D m c t (of_decide_eq_true hi) _).2]
    congr 2; show _ = t.val - 1 + 1; omega) t.val t rfl d, fresh12 t.val (by omega),
    if_neg (by simp only [decide_eq_true_eq]; omega), after_12]
  congr 2; show t.val - 1 + 1 = _; omega

/-- What the body is handed at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))

/-- What the body leaves of output window `w`. -/
def post (c : Dev nD) (t : Fin cfg0.N) (w : Fin cfg0.W) : sProp 𝕄 :=
  match cfg0.idle w (grid0.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)
theorem post_live (c : Dev nD) (t : Fin cfg0.N) (w : Fin cfg0.W) (h : cfg0.idle w (grid0.coords t) = false) :
    post m c t w = owns (c : Thread nD τ) ((cfg0.win w).stage (cfg0.slots t w)) fullShare ((dats m 0 c).after w t) := by
  unfold post; rw [h]
theorem post_flush (c : Dev nD) (t : Fin cfg0.N) (w : Fin cfg0.W) (h : (cfg0.win w).flush t = true) :
    post m c t w = owns (c : Thread nD τ) ((cfg0.win w).stage (cfg0.slots t w)) fullShare ((dats m 0 c).after w t) := by
  unfold post; rw [h]; cases cfg0.idle w (grid0.coords t) <;> rfl
theorem post_idle (c : Dev nD) (t : Fin cfg0.N) (w : Fin cfg0.W) (h : cfg0.idle w (grid0.coords t) = true) (hf : (cfg0.win w).flush t = false) :
    post m c t w = iprop(∃ d, owns (c : Thread nD τ) ((cfg0.win w).stage (cfg0.slots t w)) fullShare ((dats m 0 c).before w t d)) := by
  unfold post; rw [h, hf]

/-- What the body returns at point `t`. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ post m c t 9 ∗ post m c t 10 ∗ post m c t 11 ∗ post m c t 12)

set_option maxHeartbeats 4000000 in
theorem soundA (c : Dev nD) (t : Fin cfg0.N) (h : IsA t) :
    bodyPre m c t ⊢ wp frame (wpE (defs₀ (F := F)) Variants.none c none) Set.univ (bodyAt0 t) (fun _ => bodyPost m c t) := by
  unfold bodyPre bodyPost bodyAt0
  have h' := h
  unfold IsA at h'
  simp only [before_0, before_1, before_2, before_3, before_4, before_5, before_6, before_7, before_8]
  rw [show (dats m 0 c).owesAt () t.succ = (dats m 0 c).owesAt () t.castSucc from rfl, Phi_eq, Phi_eq,
    show (t.castSucc).val = t.val from rfl, show (t.succ).val = t.val + 1 from rfl, Phi_pos m c (t.val + 1) (Nat.succ_ne_zero _),
    after_0, after_1, after_2, after_3, after_4, after_5, after_6, after_7, after_8]
  rw [post_live m c t 9 ((idle9 t).trans (decide_eq_false (by omega))), after_9, stB_succ, next_A m c t h]
  rw [post_idle m c t 10 ((idle10 t).trans (decide_eq_true (by omega))) ((flush10 t).trans (by simp only [h']; decide))]
  rw [post_idle m c t 11 ((idle11 t).trans (decide_eq_true (by omega))) ((flush11 t).trans (by simp only [h']; decide))]
  rw [post_live m c t 12 ((idle12 t).trans (decide_eq_false (by omega))), after_12, stB_succ, next_A m c t h]
  try rw [stB_succ, next_A m c t h]
  refine (sep_mono_left (Phi_any m c t.val)).trans ?_
  unfold stepA; dsimp only
  iintro ⟨⟨⟨⟨%d15, H15⟩, ⟨%d16, H16⟩⟩, HR⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((atA m c t h ).2.2.2.2 _ _  Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  isplitl [H13]; · iexact H13
  isplitl [H14]; · iexists _; iexact H14
  isplitl [H15]; · iexists _; iexact H15
  isplitl [H16]; · iexists _; iexact H16
  iintro ⟨H2, H3, H4, H5, H6, H7, H8, H9, H10, ⟨%e11, H11⟩, H12, H13, ⟨%e14, H14⟩, ⟨%e15, H15⟩, ⟨%e16, H16⟩⟩
  isplitl [H15 H16 HR]
  · isplitl [H15 H16]
    · isplitl [H15]
      · unfold owns; iexists _; isplitr
        swap; · iexact H15
        ipureintro; exact View.read_writes_of_cover _ _ _ _ _ (coverA_ka m c t h )
      · unfold owns; iexists _; isplitr
        swap; · iexact H16
        ipureintro; exact View.read_writes_of_cover _ _ _ _ _ (coverA_va m c t h )
    · iexact HR
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (coverA_dq m c t h )
  isplitl [H12]
  · iexists _; iexact H12
  isplitl [H13]
  · iexists _; iexact H13
  unfold owns; iexists _; isplitr
  swap; · iexact H14
  ipureintro; exact View.read_writes_of_cover _ _ _ _ _ (coverA_dtb m c t h )

set_option maxHeartbeats 4000000 in
theorem soundB (c : Dev nD) (t : Fin cfg0.N) (h : IsB t) :
    bodyPre m c t ⊢ wp frame (wpE (defs₀ (F := F)) Variants.none c none) Set.univ (bodyAt0 t) (fun _ => bodyPost m c t) := by
  unfold bodyPre bodyPost bodyAt0
  have h' := h
  unfold IsB at h'
  simp only [before_0, before_1, before_2, before_3, before_4, before_5, before_6, before_7, before_8]
  rw [show (dats m 0 c).owesAt () t.succ = (dats m 0 c).owesAt () t.castSucc from rfl, Phi_eq, Phi_eq,
    show (t.castSucc).val = t.val from rfl, show (t.succ).val = t.val + 1 from rfl, Phi_pos m c (t.val + 1) (Nat.succ_ne_zero _),
    after_0, after_1, after_2, after_3, after_4, after_5, after_6, after_7, after_8]
  rw [post_live m c t 9 ((idle9 t).trans (decide_eq_false (by omega))), after_9, stB_succ, next_B m c t h]
  rw [post_idle m c t 10 ((idle10 t).trans (decide_eq_true (by omega))) ((flush10 t).trans (by simp only [h']; decide))]
  rw [post_idle m c t 11 ((idle11 t).trans (decide_eq_true (by omega))) ((flush11 t).trans (by simp only [h']; decide))]
  rw [post_live m c t 12 ((idle12 t).trans (decide_eq_false (by omega))), after_12, stB_succ, next_B m c t h]
  try rw [stB_succ, next_B m c t h]
  simp only [before_12 m c t (by omega)]
  rw [Phi_pos m c t.val (by intro h0; rw [h0] at h'; omega)]
  unfold stepB; dsimp only
  iintro ⟨⟨⟨H15, H16⟩, HR⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((atB m c t h (stB m c t.val).dtb (stB m c t.val).ka (stB m c t.val).va).2.2.2.2 _ _  Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  isplitl [H13]; · iexact H13
  isplitl [H14]; · iexact H14
  isplitl [H15]; · iexact H15
  isplitl [H16]; · iexact H16
  iintro ⟨H2, H3, H4, H5, H6, H7, H8, H9, H10, ⟨%e11, H11⟩, H12, H13, H14, H15, H16⟩
  isplitl [H15 H16 HR]
  · isplitl [H15 H16]
    · isplitl [H15]
      · unfold owns; iexists _; isplitr
        swap; · iexact H15
        ipureintro; rfl
      · unfold owns; iexists _; isplitr
        swap; · iexact H16
        ipureintro; rfl
    · iexact HR
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (coverB_dq m c t h (stB m c t.val).dtb (stB m c t.val).ka (stB m c t.val).va)
  isplitl [H12]
  · iexists _; iexact H12
  isplitl [H13]
  · iexists _; iexact H13
  unfold owns; iexists _; isplitr
  swap; · iexact H14
  ipureintro; rfl

set_option maxHeartbeats 4000000 in
theorem soundC0 (c : Dev nD) (t : Fin cfg0.N) (h : IsC0 t) :
    bodyPre m c t ⊢ wp frame (wpE (defs₀ (F := F)) Variants.none c none) Set.univ (bodyAt0 t) (fun _ => bodyPost m c t) := by
  unfold bodyPre bodyPost bodyAt0
  have h' := h
  unfold IsC0 at h'
  simp only [before_0, before_1, before_2, before_3, before_4, before_5, before_6, before_7, before_8]
  rw [show (dats m 0 c).owesAt () t.succ = (dats m 0 c).owesAt () t.castSucc from rfl, Phi_eq, Phi_eq,
    show (t.castSucc).val = t.val from rfl, show (t.succ).val = t.val + 1 from rfl, Phi_pos m c (t.val + 1) (Nat.succ_ne_zero _),
    after_0, after_1, after_2, after_3, after_4, after_5, after_6, after_7, after_8]
  rw [post_live m c t 9 ((idle9 t).trans (decide_eq_false (by omega))), after_9, stB_succ, next_C0 m c t h]
  rw [post_live m c t 10 ((idle10 t).trans (decide_eq_false (by omega))), after_10, stB_succ, next_C0 m c t h]
  rw [post_live m c t 11 ((idle11 t).trans (decide_eq_false (by omega))), after_11, stB_succ, next_C0 m c t h]
  rw [post_live m c t 12 ((idle12 t).trans (decide_eq_false (by omega))), after_12, stB_succ, next_C0 m c t h]
  try rw [stB_succ, next_C0 m c t h]
  simp only [before_12 m c t (by omega)]
  rw [Phi_pos m c t.val (by intro h0; rw [h0] at h'; omega)]
  unfold stepC0; dsimp only
  iintro ⟨⟨⟨H15, H16⟩, HR⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((atC0 m c t h (stB m c t.val).dtb (stB m c t.val).ka (stB m c t.val).va).2.2.2.2.2.2  Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexact H14
  isplitl [H15]; · iexact H15
  isplitl [H16]; · iexact H16
  iintro ⟨H2, H3, H4, H5, H6, H7, H8, H9, H10, ⟨%e11, H11⟩, ⟨%e12, H12⟩, ⟨%e13, H13⟩, H14, H15, H16⟩
  isplitl [H15 H16 HR]
  · isplitl [H15 H16]
    · isplitl [H15]
      · unfold owns; iexists _; isplitr
        swap; · iexact H15
        ipureintro; rfl
      · unfold owns; iexists _; isplitr
        swap; · iexact H16
        ipureintro; rfl
    · iexact HR
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (coverC0_dq m c t h (stB m c t.val).dtb (stB m c t.val).ka (stB m c t.val).va)
  isplitl [H12]
  · unfold owns; iexists _; isplitr
    swap; · iexact H12
    ipureintro; exact View.read_writes_of_cover _ _ _ _ _ (coverC0_dk m c t h (stB m c t.val).dtb (stB m c t.val).ka (stB m c t.val).va)
  isplitl [H13]
  · unfold owns; iexists _; isplitr
    swap; · iexact H13
    ipureintro; exact View.read_writes_of_cover _ _ _ _ _ (coverC0_dv m c t h (stB m c t.val).dtb (stB m c t.val).ka (stB m c t.val).va)
  unfold owns; iexists _; isplitr
  swap; · iexact H14
  ipureintro; rfl

set_option maxHeartbeats 4000000 in
theorem soundC1 (c : Dev nD) (t : Fin cfg0.N) (h : IsC1 t) :
    bodyPre m c t ⊢ wp frame (wpE (defs₀ (F := F)) Variants.none c none) Set.univ (bodyAt0 t) (fun _ => bodyPost m c t) := by
  unfold bodyPre bodyPost bodyAt0
  have h' := h
  unfold IsC1 at h'
  simp only [before_0, before_1, before_2, before_3, before_4, before_5, before_6, before_7, before_8]
  rw [show (dats m 0 c).owesAt () t.succ = (dats m 0 c).owesAt () t.castSucc from rfl, Phi_eq, Phi_eq,
    show (t.castSucc).val = t.val from rfl, show (t.succ).val = t.val + 1 from rfl, Phi_pos m c (t.val + 1) (Nat.succ_ne_zero _),
    after_0, after_1, after_2, after_3, after_4, after_5, after_6, after_7, after_8]
  rw [post_live m c t 9 ((idle9 t).trans (decide_eq_false (by omega))), after_9, stB_succ, next_C1 m c t h]
  rw [post_live m c t 10 ((idle10 t).trans (decide_eq_false (by omega))), after_10, stB_succ, next_C1 m c t h]
  rw [post_live m c t 11 ((idle11 t).trans (decide_eq_false (by omega))), after_11, stB_succ, next_C1 m c t h]
  rw [post_live m c t 12 ((idle12 t).trans (decide_eq_false (by omega))), after_12, stB_succ, next_C1 m c t h]
  try rw [stB_succ, next_C1 m c t h]
  simp only [before_12 m c t (by omega)]
  rw [Phi_pos m c t.val (by intro h0; rw [h0] at h'; omega)]
  unfold stepC1; dsimp only
  iintro ⟨⟨⟨H15, H16⟩, HR⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((atC1 m c t h (stB m c t.val).dtb (stB m c t.val).ka (stB m c t.val).va).2.2.2.2.2.2  Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexact H14
  isplitl [H15]; · iexact H15
  isplitl [H16]; · iexact H16
  iintro ⟨H2, H3, H4, H5, H6, H7, H8, H9, H10, ⟨%e11, H11⟩, ⟨%e12, H12⟩, ⟨%e13, H13⟩, H14, H15, H16⟩
  isplitl [H15 H16 HR]
  · isplitl [H15 H16]
    · isplitl [H15]
      · unfold owns; iexists _; isplitr
        swap; · iexact H15
        ipureintro; rfl
      · unfold owns; iexists _; isplitr
        swap; · iexact H16
        ipureintro; rfl
    · iexact HR
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (coverC1_dq m c t h (stB m c t.val).dtb (stB m c t.val).ka (stB m c t.val).va)
  isplitl [H12]
  · unfold owns; iexists _; isplitr
    swap; · iexact H12
    ipureintro; exact View.read_writes_of_cover _ _ _ _ _ (coverC1_dk m c t h (stB m c t.val).dtb (stB m c t.val).ka (stB m c t.val).va)
  isplitl [H13]
  · unfold owns; iexists _; isplitr
    swap; · iexact H13
    ipureintro; exact View.read_writes_of_cover _ _ _ _ _ (coverC1_dv m c t h (stB m c t.val).dtb (stB m c t.val).ka (stB m c t.val).va)
  unfold owns; iexists _; isplitr
  swap; · iexact H14
  ipureintro; rfl

set_option maxHeartbeats 4000000 in
theorem soundC2 (c : Dev nD) (t : Fin cfg0.N) (h : IsC2 t) :
    bodyPre m c t ⊢ wp frame (wpE (defs₀ (F := F)) Variants.none c none) Set.univ (bodyAt0 t) (fun _ => bodyPost m c t) := by
  unfold bodyPre bodyPost bodyAt0
  have h' := h
  unfold IsC2 at h'
  simp only [before_0, before_1, before_2, before_3, before_4, before_5, before_6, before_7, before_8]
  rw [show (dats m 0 c).owesAt () t.succ = (dats m 0 c).owesAt () t.castSucc from rfl, Phi_eq, Phi_eq,
    show (t.castSucc).val = t.val from rfl, show (t.succ).val = t.val + 1 from rfl, Phi_pos m c (t.val + 1) (Nat.succ_ne_zero _),
    after_0, after_1, after_2, after_3, after_4, after_5, after_6, after_7, after_8]
  rw [post_live m c t 9 ((idle9 t).trans (decide_eq_false (by omega))), after_9, stB_succ, next_C2 m c t h]
  rw [post_live m c t 10 ((idle10 t).trans (decide_eq_false (by omega))), after_10, stB_succ, next_C2 m c t h]
  rw [post_live m c t 11 ((idle11 t).trans (decide_eq_false (by omega))), after_11, stB_succ, next_C2 m c t h]
  rw [post_live m c t 12 ((idle12 t).trans (decide_eq_false (by omega))), after_12, stB_succ, next_C2 m c t h]
  try rw [stB_succ, next_C2 m c t h]
  simp only [before_12 m c t (by omega)]
  rw [Phi_pos m c t.val (by intro h0; rw [h0] at h'; omega)]
  unfold stepC2; dsimp only
  iintro ⟨⟨⟨H15, H16⟩, HR⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((atC2 m c t h (stB m c t.val).dtb (stB m c t.val).ka (stB m c t.val).va).2.2.2.2.2.2  Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexact H14
  isplitl [H15]; · iexact H15
  isplitl [H16]; · iexact H16
  iintro ⟨H2, H3, H4, H5, H6, H7, H8, H9, H10, ⟨%e11, H11⟩, ⟨%e12, H12⟩, ⟨%e13, H13⟩, H14, H15, H16⟩
  isplitl [H15 H16 HR]
  · isplitl [H15 H16]
    · isplitl [H15]
      · unfold owns; iexists _; isplitr
        swap; · iexact H15
        ipureintro; rfl
      · unfold owns; iexists _; isplitr
        swap; · iexact H16
        ipureintro; rfl
    · iexact HR
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; exact View.read_writes_of_cover _ _ _ _ _ (coverC2_dq m c t h (stB m c t.val).dtb (stB m c t.val).ka (stB m c t.val).va)
  isplitl [H12]
  · unfold owns; iexists _; isplitr
    swap; · iexact H12
    ipureintro; exact View.read_writes_of_cover _ _ _ _ _ (coverC2_dk m c t h (stB m c t.val).dtb (stB m c t.val).ka (stB m c t.val).va)
  isplitl [H13]
  · unfold owns; iexists _; isplitr
    swap; · iexact H13
    ipureintro; exact View.read_writes_of_cover _ _ _ _ _ (coverC2_dv m c t h (stB m c t.val).dtb (stB m c t.val).ka (stB m c t.val).va)
  unfold owns; iexists _; isplitr
  swap; · iexact H14
  ipureintro; rfl

set_option maxHeartbeats 4000000 in
theorem soundD0 (c : Dev nD) (t : Fin cfg0.N) (h : IsD0 t) :
    bodyPre m c t ⊢ wp frame (wpE (defs₀ (F := F)) Variants.none c none) Set.univ (bodyAt0 t) (fun _ => bodyPost m c t) := by
  unfold bodyPre bodyPost bodyAt0
  have h' := h
  unfold IsD0 at h'
  simp only [before_0, before_1, before_2, before_3, before_4, before_5, before_6, before_7, before_8]
  rw [show (dats m 0 c).owesAt () t.succ = (dats m 0 c).owesAt () t.castSucc from rfl, Phi_eq, Phi_eq,
    show (t.castSucc).val = t.val from rfl, show (t.succ).val = t.val + 1 from rfl, Phi_pos m c (t.val + 1) (Nat.succ_ne_zero _),
    after_0, after_1, after_2, after_3, after_4, after_5, after_6, after_7, after_8]
  rw [post_idle m c t 9 ((idle9 t).trans (decide_eq_true (by omega))) ((flush9 t).trans (by simp only [h']; decide))]
  rw [post_live m c t 10 ((idle10 t).trans (decide_eq_false (by omega))), after_10, stB_succ, next_D0 m c t h]
  rw [post_live m c t 11 ((idle11 t).trans (decide_eq_false (by omega))), after_11, stB_succ, next_D0 m c t h]
  rw [post_idle m c t 12 ((idle12 t).trans (decide_eq_true (by omega))) ((flush12 t).trans (by simp only [h']; decide))]
  try rw [stB_succ, next_D0 m c t h]
  rw [Phi_pos m c t.val (by intro h0; rw [h0] at h'; omega)]
  unfold stepD0; dsimp only
  iintro ⟨⟨⟨H15, H16⟩, HR⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((atD0 m c t h (stB m c t.val).ka (stB m c t.val).va).2.2 _ _  Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexact H14
  isplitl [H15]; · iexact H15
  isplitl [H16]; · iexact H16
  iintro ⟨H2, H3, H4, H5, H6, H7, H8, H9, H10, H11, ⟨%e12, H12⟩, ⟨%e13, H13⟩, H14, H15, H16⟩
  isplitl [H15 H16 HR]
  · isplitl [H15 H16]
    · isplitl [H15]
      · iexact H15
      · iexact H16
    · iexact HR
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists _; iexact H11
  isplitl [H12]
  · unfold owns; iexists _; isplitr
    swap; · iexact H12
    ipureintro; exact View.read_writes_of_cover _ _ _ _ _ (coverD0_dk m c t h (stB m c t.val).ka (stB m c t.val).va)
  isplitl [H13]
  · unfold owns; iexists _; isplitr
    swap; · iexact H13
    ipureintro; exact View.read_writes_of_cover _ _ _ _ _ (coverD0_dv m c t h (stB m c t.val).ka (stB m c t.val).va)
  iexists _; iexact H14

set_option maxHeartbeats 4000000 in
theorem soundD1 (c : Dev nD) (t : Fin cfg0.N) (h : IsD1 t) :
    bodyPre m c t ⊢ wp frame (wpE (defs₀ (F := F)) Variants.none c none) Set.univ (bodyAt0 t) (fun _ => bodyPost m c t) := by
  unfold bodyPre bodyPost bodyAt0
  have h' := h
  unfold IsD1 at h'
  simp only [before_0, before_1, before_2, before_3, before_4, before_5, before_6, before_7, before_8]
  rw [show (dats m 0 c).owesAt () t.succ = (dats m 0 c).owesAt () t.castSucc from rfl, Phi_eq, Phi_eq,
    show (t.castSucc).val = t.val from rfl, show (t.succ).val = t.val + 1 from rfl, Phi_pos m c (t.val + 1) (Nat.succ_ne_zero _),
    after_0, after_1, after_2, after_3, after_4, after_5, after_6, after_7, after_8]
  rw [post_flush m c t 9 ((flush9 t).trans (by simp only [h']; decide)), after_9, stB_succ, next_D1 m c t h]
  rw [post_live m c t 10 ((idle10 t).trans (decide_eq_false (by omega))), after_10, stB_succ, next_D1 m c t h]
  rw [post_live m c t 11 ((idle11 t).trans (decide_eq_false (by omega))), after_11, stB_succ, next_D1 m c t h]
  rw [post_flush m c t 12 ((flush12 t).trans (by simp only [h']; decide)), after_12, stB_succ, next_D1 m c t h]
  try rw [stB_succ, next_D1 m c t h]
  simp only [before_12 m c t (by omega)]
  simp only [before_9 m c t (by omega)]
  rw [Phi_pos m c t.val (by intro h0; rw [h0] at h'; omega)]
  unfold stepD1; dsimp only
  iintro ⟨⟨⟨H15, H16⟩, HR⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((atD1 m c t h (stB m c t.val).ka (stB m c t.val).va).2.2 _ _  Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexact H14
  isplitl [H15]; · iexact H15
  isplitl [H16]; · iexact H16
  iintro ⟨H2, H3, H4, H5, H6, H7, H8, H9, H10, H11, ⟨%e12, H12⟩, ⟨%e13, H13⟩, H14, H15, H16⟩
  isplitl [H15 H16 HR]
  · isplitl [H15 H16]
    · isplitl [H15]
      · iexact H15
      · iexact H16
    · iexact HR
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexact H11
  isplitl [H12]
  · unfold owns; iexists _; isplitr
    swap; · iexact H12
    ipureintro; exact View.read_writes_of_cover _ _ _ _ _ (coverD1_dk m c t h (stB m c t.val).ka (stB m c t.val).va)
  isplitl [H13]
  · unfold owns; iexists _; isplitr
    swap; · iexact H13
    ipureintro; exact View.read_writes_of_cover _ _ _ _ _ (coverD1_dv m c t h (stB m c t.val).ka (stB m c t.val).va)
  iexact H14

theorem sound_body (c : Dev nD) (t : Fin cfg0.N) :
    bodyPre m c t ⊢ wp frame (wpE (defs₀ (F := F)) Variants.none c none) Set.univ (bodyAt0 t) (fun _ => bodyPost m c t) := by
  by_cases hA : IsA t
  · exact soundA m c t hA
  by_cases hB : IsB t
  · exact soundB m c t hB
  by_cases hC0 : IsC0 t
  · exact soundC0 m c t hC0
  by_cases hC1 : IsC1 t
  · exact soundC1 m c t hC1
  by_cases hC2 : IsC2 t
  · exact soundC2 m c t hC2
  by_cases hD0 : IsD0 t
  · exact soundD0 m c t hD0
  refine soundD1 m c t ?_
  unfold IsA at hA; unfold IsB at hB; unfold IsC0 at hC0; unfold IsC1 at hC1; unfold IsC2 at hC2; unfold IsD0 at hD0; unfold IsD1
  have : t.val % 34 < 34 := Nat.mod_lt _ (by decide)
  omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: it ends, every windowed array holds what the proof data say, and every counter is zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m)
    (hmain := hmain m Variants.none) (hA := A_eq m)
    (hin := fun c => .of_eq (Phi_eq m c 0).symm)
    (hout := fun c => ((Entails.of_eq (Phi_eq m c _)).trans (Phi_any m c _)).trans (.of_eq (phiA_eq c).symm))
    (hQ' := fun _ h => h)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Attn

end
-- ==== Proof.Dx.Value.lean ====
/- The input gradient of the in-projection: what the launch leaves in its result array, and that it is the reference's. -/
module
public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.ReadBack
public import Idealize.ShloMosaic.Lib.Pipeline.ValueKit.Held
public import proofs.«01_k».proof.Defs
@[expose] public section
set_option maxRecDepth 16384
noncomputable section
namespace Cert.Kernel2Ideal.Dx
open Cert.Kernel2Ideal Cert.Kernel2Ideal.Gen Idealize.ShloMosaic Idealize.ShloMosaic.TcCoe Idealize.SL.Sem
open Idealize.ShloMosaic.Pipeline (Dat)
variable {F : FTy → Type} [FloatOps F]
variable (m : (ℓ : Loc nD τ sig) → Buf (Elt F) ℓ)

/-- The weight, transposed: what the scratch holds at every point. -/
def wT (c : Dev nD) : Vec F S5120x1024 .bf16 := fun y => m ((c.tc : Thread nD τ).loc main_arg4) (ix2 (y 1) (y 0))

theorem idx : ∀ t : Fin grid0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![t.val, 0] := by decide +kernel

theorem wblk (c : Dev nD) (t : Fin cfg0.N) (i : S1024x5120.Idx) : iblk m c 4 t i = m ((c.tc : Thread nD τ).loc main_arg4) i := by
  blk_ext [iblk, V, idx t]

theorem canonW (c : Dev nD) (t : Fin cfg0.N) (y : S5120x1024.Idx) : View.canon
    [⟨Rect.unit ![4096, 0] ![1024, 1024] inb_S5120x1024_S1024x1024_4096_0, k0_pay5 (View.ld (iblk m c 4 t) (Rect.unit ![0, 4096] ![1024, 1024] inb_S1024x5120_S1024x1024_0_4096))⟩,
    ⟨Rect.unit ![3072, 0] ![1024, 1024] inb_S5120x1024_S1024x1024_3072_0, k0_pay4 (View.ld (iblk m c 4 t) (Rect.unit ![0, 3072] ![1024, 1024] inb_S1024x5120_S1024x1024_0_3072))⟩,
    ⟨Rect.unit ![2048, 0] ![1024, 1024] inb_S5120x1024_S1024x1024_2048_0, k0_pay3 (View.ld (iblk m c 4 t) (Rect.unit ![0, 2048] ![1024, 1024] inb_S1024x5120_S1024x1024_0_2048))⟩,
    ⟨Rect.unit ![1024, 0] ![1024, 1024] inb_S5120x1024_S1024x1024_1024_0, k0_pay2 (View.ld (iblk m c 4 t) (Rect.unit ![0, 1024] ![1024, 1024] inb_S1024x5120_S1024x1024_0_1024))⟩,
    ⟨Rect.unit ![0, 0] ![1024, 1024] inb_S5120x1024_S1024x1024_0_0, k0_pay1 (View.ld (iblk m c 4 t) (Rect.unit ![0, 0] ![1024, 1024] inb_S1024x5120_S1024x1024_0_0))⟩] y = wT m c y := by
  canon_tiles x h
  all_goals (open_payloads; pointwise; refine (wblk m c t _).trans ?_; unfold wT; blk_ext [idx t])

theorem scrA (c : Dev nD) (t : Fin cfg0.N) (h : t.val % 16 = 0) : (outsAt0 m c t.val t.isLt).2 = wT m c := by
  rw [Gen.outsAt0_A m c t h]
  frame_out
  funext y
  exact canonW m c t y
theorem scr (c : Dev nD) (t : Fin cfg0.N) : (outsAt0 m c t.val t.isLt).2 = wT m c := by
  have hN : cfg0.N = 16 := N_0
  have key : ∀ n (h : n < cfg0.N), (outsAt0 m c n h).2 = wT m c := by
    intro n
    induction n with
    | zero => intro h; exact scrA m c ⟨0, h⟩ rfl
    | succ n ih =>
      intro h
      rw [Gen.outsAt0_B m c ⟨n + 1, h⟩ (by show ¬ (n + 1) % 16 = 0; omega)]
      unfold sout0_B_0
      simp only [Nat.add_sub_cancel]
      exact ih _
  exact key t.val t.isLt
theorem out (c : Dev nD) (t : Fin cfg0.N) : (outsAt0 m c t.val t.isLt).1
    = k0_pay6 (iblk m c 0 t) (iblk m c 1 t) (iblk m c 2 t) (iblk m c 3 t) (iblk m c 5 t) (wT m c) := by
  by_cases h : t.val % 16 = 0
  · rw [Gen.outsAt0_A m c t h]
    frame_out
    rw [View.readCov_eq_canon']
    congr 1
    funext y
    refine (canonW m c t _).trans (congrArg _ ?_)
    funext a; apply Fin.ext; rw [LoadRect.idx_apply]; fin_cases a <;> simp [Rect.unit]
  · rw [Gen.outsAt0_B m c t h]
    frame_out
    simp only [read_unread_whole]
    rw [scr m c ⟨t.val - 1, lt_of_le_of_lt (Nat.sub_le _ _) t.isLt⟩]

section
open Cert.Reference2Ideal Cert.Reference2Ideal.Gen
/-- The reference's result as a function of its arguments. -/
def ref (a b c : FVec Ideal Cert.Reference2Ideal.S8192x1024 .bf16) (d : FVec Ideal Cert.Reference2Ideal.S8192x2048 .bf16) (w : FVec Ideal Cert.Reference2Ideal.S1024x5120 .bf16) (e : FVec Ideal Cert.Reference2Ideal.S8192x1024 .f32) : FVec Ideal Cert.Reference2Ideal.S8192x1024 .f32 :=
  addf e (Host.dotGeneral Cert.Reference2Ideal.dot_S8192x5120_S1024x5120_S8192x1024_1_1_0_0_n_n none (extf .f32 (concatenate Cert.Reference2Ideal.S8192x5120 1 [⟨Cert.Reference2Ideal.S8192x1024, a⟩, ⟨Cert.Reference2Ideal.S8192x1024, b⟩, ⟨Cert.Reference2Ideal.S8192x1024, c⟩, ⟨Cert.Reference2Ideal.S8192x2048, d⟩] Cert.Reference2Ideal.Gen.concatenates_S8192x1024_S8192x1024_S8192x1024_S8192x2048_S8192x5120_d1) Cert.Reference2Ideal.Gen.bitsLt_bf16_f32) (extf .f32 w Cert.Reference2Ideal.Gen.bitsLt_bf16_f32))
end

/-- What a point's body computes is the reference's result at the point's rows. -/
theorem pay_apply (m : (ℓ : Loc nD τ sig) → Buf (Elt Ideal) ℓ) (c : Dev nD) (t : Fin cfg0.N) (y : S512x1024.Idx) (r : S8192x1024.Idx) (e0 : (r 0).val = t.val * 512 + (y 0).val) (e1 : (r 1).val = (y 1).val) :
   k0_pay6 (F := Ideal) (iblk m c 0 t) (iblk m c 1 t) (iblk m c 2 t) (iblk m c 3 t) (iblk m c 5 t) (wT m c) y
    = ref (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) r := by
  unfold k0_pay6 ref
  pointwise
  have H0 : ∀ k : Fin 1024, iblk m c 0 t (ix2 (y 0) k) = m ((c.tc : Thread nD τ).loc main_arg0) (ix2 (r 0) k) := fun k => by blk_ext [iblk, V, idx t]
  have H1 : ∀ k : Fin 1024, iblk m c 1 t (ix2 (y 0) k) = m ((c.tc : Thread nD τ).loc main_arg1) (ix2 (r 0) k) := fun k => by blk_ext [iblk, V, idx t]
  have H2 : ∀ k : Fin 1024, iblk m c 2 t (ix2 (y 0) k) = m ((c.tc : Thread nD τ).loc main_arg2) (ix2 (r 0) k) := fun k => by blk_ext [iblk, V, idx t]
  have H3 : ∀ k : Fin 2048, iblk m c 3 t (ix2 (y 0) k) = m ((c.tc : Thread nD τ).loc main_arg3) (ix2 (r 0) k) := fun k => by blk_ext [iblk, V, idx t]
  have H5 : iblk m c 5 t y = m ((c.tc : Thread nD τ).loc main_arg5) r := by blk_ext [iblk, V, idx t]
  have HW : ∀ k : Fin 5120, wT m c (ix2 k (y 1)) = m ((c.tc : Thread nD τ).loc main_arg4) (ix2 (r 1) k) := fun k => by unfold wT; blk_ext []
  rw [H5]
  refine congrArg _ (Finset.sum_congr rfl fun x _ => ?_)
  rw [HW]
  refine congrArg (· * _) ?_
  split_ifs <;> first | exact H0 _ | exact H1 _ | exact H2 _ | exact H3 _

theorem final (m : (ℓ : Loc nD τ sig) → Buf (Elt Ideal) ℓ) (c : Dev nD) : (dats m 0 c).arrAt 6 cfg0.N =
    ref (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 6 _ (by decide +kernel) fun t hf y => ?_
  blk_simp
  rw [after0_6, out]
  refine pay_apply m c t _ _ ?_ ?_
  all_goals blk_simp [idx t]

set_option maxHeartbeats 1000000 in
theorem algebraic : Cert.algebraic_Kernel2Ideal_Reference2Ideal := by
  intro m ρ m' ρ' _ hagree
  refine ⟨fun c => ref (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)), (θ_run Cert.Kernel2Ideal.defs _ _).mono (fun r h c => ⟨(h c).1.trans (final m c), (h c).2⟩) (Cert.Kernel2Ideal.Value.run_blocks (F := Ideal) m ρ), ?_⟩
  refine (θ_run Cert.Reference2Ideal.defs _ _).mono (fun _ h c => ⟨(h c).1.trans ?_, (h c).2⟩) (Cert.Reference2Ideal.Value.run (F := Ideal) m' ρ')
  obtain ⟨a0, a1, a2, a3, a4, a5⟩ := hagree c
  rw [a0, a1, a2, a3, a4, a5]
  rfl
end Cert.Kernel2Ideal.Dx
end
-- ==== Proof.Dw.Value.lean ====
/- The weight gradient of the in-projection: what the launch leaves in its result array, and that it is the reference's. -/
module
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack
public import proofs.«01_k».proof.Defs
@[expose] public section
set_option maxRecDepth 16384
noncomputable section
namespace Cert.Kernel3Ideal.Dw
open Cert.Kernel3Ideal Cert.Kernel3Ideal.Gen Idealize.ShloMosaic Idealize.ShloMosaic.TcCoe Idealize.SL.Sem
open Idealize.ShloMosaic.Pipeline (Dat)
variable {F : FTy → Type} [FloatOps F]
variable (m : (ℓ : Loc nD τ sig) → Buf (Elt F) ℓ)

theorem idx : ∀ t : Fin grid0.N, win0_0.index t = ![0, 0] ∧ win0_1.index t = ![0, min t.val 3] ∧ win0_2.index t = ![0, min (t.val - 4) 3]
    ∧ win0_3.index t = ![0, min (t.val - 8) 3] ∧ win0_4.index t = ![0, t.val - 12] ∧ win0_5.index t = ![0, t.val] := by decide +kernel

/-- What a point leaves in its block of the result: the product with the block of the piece the point's columns lie in. -/
theorem out (c : Dev nD) (t : Fin cfg0.N) : outsAt0 m c t.val t.isLt
    = k0_pay1 (iblk m c 0 t) (if t.val < 4 then iblk m c 1 t else if t.val < 8 then iblk m c 2 t else if t.val < 12 then iblk m c 3 t else iblk m c 4 t) := by
  have hN : t.val < 20 := lt_of_lt_of_eq t.isLt N_0
  by_cases h0 : t.val < 4
  · rw [Gen.outsAt0_A m c t h0 (by omega) (by omega) (by omega), if_pos h0]
    frame_out
  rw [if_neg h0]
  by_cases h1 : t.val < 8
  · rw [Gen.outsAt0_B m c t h0 (by omega) (by omega) (by omega), if_pos h1]
    frame_out
    rfl
  rw [if_neg h1]
  by_cases h2 : t.val < 12
  · rw [Gen.outsAt0_C m c t h0 (by omega) (by omega) (by omega), if_pos h2]
    frame_out
    rfl
  · rw [Gen.outsAt0_D m c t h0 (by omega) (by omega) (by omega), if_neg h2]
    frame_out
    rfl

/-- The reference's result as a function of its arguments. -/
def ref (x : FVec Ideal Cert.Reference3Ideal.S1024x8192 .bf16) (a b c : FVec Ideal Cert.Reference3Ideal.S8192x1024 .bf16) (d : FVec Ideal Cert.Reference3Ideal.S8192x2048 .bf16) : FVec Ideal Cert.Reference3Ideal.S1024x5120 .bf16 :=
  truncf .bf16 (transpose Cert.Reference3Ideal.S1024x5120 [1, 0] (Host.dotGeneral Cert.Reference3Ideal.dot_S8192x5120_S8192x1024_S5120x1024_0_0_1_1_n_n none (extf .f32 (concatenate Cert.Reference3Ideal.S8192x5120 1 [⟨Cert.Reference3Ideal.S8192x1024, a⟩, ⟨Cert.Reference3Ideal.S8192x1024, b⟩, ⟨Cert.Reference3Ideal.S8192x1024, c⟩, ⟨Cert.Reference3Ideal.S8192x2048, d⟩] Cert.Reference3Ideal.Gen.concatenates_S8192x1024_S8192x1024_S8192x1024_S8192x2048_S8192x5120_d1) Cert.Reference3Ideal.Gen.bitsLt_bf16_f32) (extf .f32 (transpose Cert.Reference3Ideal.S8192x1024 [1, 0] x Cert.Reference3Ideal.Gen.transposes_S1024x8192_S8192x1024_1_0) Cert.Reference3Ideal.Gen.bitsLt_bf16_f32)) Cert.Reference3Ideal.Gen.transposes_S5120x1024_S1024x5120_1_0) Cert.Reference3Ideal.Gen.bitsLt_bf16_f32

/-- What a point's body computes is the reference's result at the point's columns. -/
theorem pay_apply (m : (ℓ : Loc nD τ sig) → Buf (Elt Ideal) ℓ) (c : Dev nD) (t : Fin cfg0.N) (y : S1024x256.Idx) (r : S1024x5120.Idx) (e0 : (r 0).val = (y 0).val) (e1 : (r 1).val = t.val * 256 + (y 1).val) :
   k0_pay1 (F := Ideal) (iblk m c 0 t) (if t.val < 4 then iblk m c 1 t else if t.val < 8 then iblk m c 2 t else if t.val < 12 then iblk m c 3 t else iblk m c 4 t) y
    = ref (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) r := by
  have hN : t.val < 20 := lt_of_lt_of_eq t.isLt N_0
  have hy : (y 1).val < 256 := (y 1).isLt
  have H0 : ∀ k : Fin 8192, iblk m c 0 t (ix2 (y 0) k) = m ((c.tc : Thread nD τ).loc main_arg0) (ix2 (r 0) k) := fun k => by blk_ext [iblk, V, idx t]
  unfold k0_pay1 ref
  pointwise
  refine Finset.sum_congr rfl fun x _ => ?_
  rw [H0, mul_comm]
  refine congrArg (· * _) ?_
  split_ifs <;> first | omega | (blk_ext [iblk, V, idx t]; try omega)

theorem final (m : (ℓ : Loc nD τ sig) → Buf (Elt Ideal) ℓ) (c : Dev nD) : (dats m 0 c).arrAt 5 cfg0.N =
    ref (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  blk_simp
  rw [after0_5, out]
  refine pay_apply m c t _ _ ?_ ?_
  all_goals blk_simp [idx t]

set_option maxHeartbeats 1000000 in
theorem algebraic : Cert.algebraic_Kernel3Ideal_Reference3Ideal := by
  intro m ρ m' ρ' _ hagree
  refine ⟨fun c => ref (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), (θ_run Cert.Kernel3Ideal.defs _ _).mono (fun r h c => ⟨(h c).1.trans (final m c), (h c).2⟩) (Cert.Kernel3Ideal.Value.run_blocks (F := Ideal) m ρ), ?_⟩
  refine (θ_run Cert.Reference3Ideal.defs _ _).mono (fun _ h c => ⟨(h c).1.trans ?_, (h c).2⟩) (Cert.Reference3Ideal.Value.run (F := Ideal) m' ρ')
  obtain ⟨a0, a1, a2, a3, a4⟩ := hagree c
  rw [a0, a1, a2, a3, a4]
  rfl
end Cert.Kernel3Ideal.Dw
end
-- ==== Proof.Inproj.Value.lean ====
/- The in-projection: what the launch leaves in its two result arrays, and that they are the reference's. -/
module
public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import Idealize.ShloMosaic.Lib.Tactic
public import proofs.«01_k».proof.Defs
@[expose] public section
set_option maxRecDepth 16384
noncomputable section
namespace Cert.Kernel4Ideal.Inproj
open Cert.Kernel4Ideal Cert.Kernel4Ideal.Gen Idealize.ShloMosaic Idealize.ShloMosaic.TcCoe Idealize.SL.Sem
open Idealize.ShloMosaic.Pipeline (Dat)
variable {F : FTy → Type} [FloatOps F]
variable (m : (ℓ : Loc nD τ sig) → Buf (Elt F) ℓ)

theorem idx : ∀ t : Fin grid0.N, win0_0.index t = ![t.val, 0] ∧ win0_1.index t = ![0, 0] ∧ win0_2.index t = ![t.val, 0] ∧ win0_3.index t = ![0, t.val] := by decide +kernel

/-- The weight as the launch reads it: the argument, narrowed. -/
theorem weight (c : Dev nD) : V m c main_v0 = truncf .bf16 (m ((c.tc : Thread nD τ).loc main_arg1) : FVec F S1024x5120 .f32) bitsLt_bf16_f32 := by
  unfold_abbrev_sides
  after_results

/-- The reference's projection as a function of its arguments. -/
def ref (x : FVec Ideal Cert.Reference4Ideal.S8192x1024 .f32) (w : FVec Ideal Cert.Reference4Ideal.S1024x5120 .f32) : FVec Ideal Cert.Reference4Ideal.S8192x5120 .bf16 :=
  truncf .bf16 (Host.dotGeneral Cert.Reference4Ideal.dot_S8192x1024_S1024x5120_S8192x5120_1_0_0_1_n_n none x w) Cert.Reference4Ideal.Gen.bitsLt_bf16_f32

theorem rows (m : (ℓ : Loc nD τ sig) → Buf (Elt Ideal) ℓ) (c : Dev nD) (t : Fin cfg0.N) (i : S1024x1024.Idx) (j : S8192x1024.Idx) (e0 : (j 0).val = t.val * 1024 + (i 0).val) (e1 : (j 1).val = (i 1).val) :
    iblk m c 0 t i = m ((c.tc : Thread nD τ).loc main_arg0) j := by
  show V m c main_arg0 _ = _
  rw [V_main_arg0]
  blk_ext [idx t]

theorem cols (m : (ℓ : Loc nD τ sig) → Buf (Elt Ideal) ℓ) (c : Dev nD) (t : Fin cfg0.N) (i : S1024x5120.Idx) :
    iblk m c 1 t i = m ((c.tc : Thread nD τ).loc main_arg1) i := by
  show V m c main_v0 _ = _
  rw [weight]
  blk_ext [idx t]

theorem out2 (m : (ℓ : Loc nD τ sig) → Buf (Elt Ideal) ℓ) (c : Dev nD) (t : Fin cfg0.N) (y : S1024x5120.Idx) (r : S8192x5120.Idx) (e0 : (r 0).val = t.val * 1024 + (y 0).val) (e1 : (r 1).val = (y 1).val) :
    out0_2 (F := Ideal) (iblk m c 0 t) (iblk m c 1 t) y = ref (m ((c.tc : Thread nD τ).loc main_arg0)) (m ((c.tc : Thread nD τ).loc main_arg1)) r := by
  have key : ∀ y : S1024x5120.Idx, out0_2 (F := Ideal) (iblk m c 0 t) (iblk m c 1 t) y = ∑ k : Fin 1024, (show EReal from iblk m c 0 t (ix2 (y 0) k)) * (show EReal from iblk m c 1 t (ix2 k (y 1))) := by
    intro y
    unfold out0_2
    canon_tiles x h
    all_goals (open_payloads; pointwise; refine Finset.sum_congr rfl fun k _ => ?_; congr 1 <;> first | (blk_ext []; done) | (refine congrArg (fun z => iblk m c 1 t (ix2 k z)) (Fin.ext ?_); first | exact h1.symm | (rw [h1]; simp)))
  rw [key]
  unfold ref
  pointwise
  refine Finset.sum_congr rfl fun k _ => ?_
  rw [rows m c t (ix2 (y 0) k) (ix2 (r 0) k) e0 rfl, cols]
  congr 1
  blk_ext []

theorem final2 (m : (ℓ : Loc nD τ sig) → Buf (Elt Ideal) ℓ) (c : Dev nD) : (dats m 0 c).arrAt 2 cfg0.N =
    ref (m ((c.tc : Thread nD τ).loc main_arg0)) (m ((c.tc : Thread nD τ).loc main_arg1)) := by
  refine (dats m 0 c).arrAt_eq_of_covers 2 _ (by decide +kernel) fun t hf y => ?_
  blk_simp
  rw [after0_2]
  refine out2 m c t _ _ ?_ ?_
  all_goals blk_simp [idx t]

/-- The reference's transposed input. -/
def refT (x : FVec Ideal Cert.Reference4Ideal.S8192x1024 .f32) : FVec Ideal Cert.Reference4Ideal.S1024x8192 .bf16 :=
  truncf .bf16 (transpose Cert.Reference4Ideal.S1024x8192 [1, 0] x Cert.Reference4Ideal.Gen.transposes_S8192x1024_S1024x8192_1_0) Cert.Reference4Ideal.Gen.bitsLt_bf16_f32

theorem out3 (m : (ℓ : Loc nD τ sig) → Buf (Elt Ideal) ℓ) (c : Dev nD) (t : Fin cfg0.N) (y : S1024x1024.Idx) (r : S1024x8192.Idx) (e0 : (r 0).val = (y 0).val) (e1 : (r 1).val = t.val * 1024 + (y 1).val) :
    out0_3 (F := Ideal) (iblk m c 0 t) (iblk m c 1 t) y = refT (m ((c.tc : Thread nD τ).loc main_arg0)) r := by
  have key : ∀ y : S1024x1024.Idx, out0_3 (F := Ideal) (iblk m c 0 t) (iblk m c 1 t) y = iblk m c 0 t (ix2 (y 1) (y 0)) := by
    intro y
    unfold out0_3
    canon_tiles x h
    all_goals (open_payloads; pointwise; blk_ext [])
  rw [key]
  unfold refT
  pointwise
  rw [rows m c t (ix2 (y 1) (y 0)) (ix2 (r 1) (r 0)) e1 e0]
  blk_ext []

theorem final3 (m : (ℓ : Loc nD τ sig) → Buf (Elt Ideal) ℓ) (c : Dev nD) : (dats m 0 c).arrAt 3 cfg0.N =
    refT (m ((c.tc : Thread nD τ).loc main_arg0)) := by
  refine (dats m 0 c).arrAt_eq_of_covers 3 _ (by decide +kernel) fun t hf y => ?_
  blk_simp
  rw [after0_3]
  refine out3 m c t _ _ ?_ ?_
  all_goals blk_simp [idx t]

set_option maxHeartbeats 1000000 in
theorem algebraic : Cert.algebraic_Kernel4Ideal_Reference4Ideal := by
  intro m ρ m' ρ' _ hagree
  refine ⟨fun c => ref (m ((c.tc : Thread nD τ).loc main_arg0)) (m ((c.tc : Thread nD τ).loc main_arg1)), fun c => refT (m ((c.tc : Thread nD τ).loc main_arg0)), (θ_run Cert.Kernel4Ideal.defs _ _).mono (fun r h c => ⟨(h c).1.trans (final2 m c), (h c).2.1.trans (final3 m c), (h c).2.2⟩) (Cert.Kernel4Ideal.Value.run_blocks (F := Ideal) m ρ), ?_⟩
  refine (θ_run Cert.Reference4Ideal.defs _ _).mono (fun _ h c => ⟨(h c).1.trans ?_, (h c).2.1.trans ?_, (h c).2.2⟩) (Cert.Reference4Ideal.Value.run (F := Ideal) m' ρ')
  all_goals obtain ⟨a0, a1⟩ := hagree c
  · rw [a0, a1]
    rfl
  · rw [a0]
    rfl
end Cert.Kernel4Ideal.Inproj
end
-- ==== Proof.LayerOut.Memory.lean ====
module
public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack
public import Idealize.ShloMosaic.Lib.Tactic
public import proofs.«01_k».proof.Defs
@[expose] public section
set_option maxRecDepth 16384
noncomputable section
namespace Cert.Kernel5Ideal.LayerOut
open Cert.Kernel5Ideal Cert.Kernel5Ideal.Gen Idealize.ShloMosaic Idealize.ShloMosaic.TcCoe Idealize.SL.Sem
open Idealize.ShloMosaic.Pipeline (Dat)

/-! ## One row's mathematics -/

abbrev ninf : EReal := Ideal.ofBits FTy.f32 0xFF800000#32
/-- A query row's scaled products with the memory keys. -/
def rowScore (q : Fin 128 → EReal) (k : Fin 256 → Fin 128 → EReal) (n : Fin 256) : EReal :=
  Ideal.div (∑ d, q d * k n d) (Ideal.ofBits FTy.f32 0x413504F3#32)
def rowExp (s : Fin 256 → EReal) (n : Fin 256) : EReal := Ideal.exp (s n - Finset.univ.fold max ninf s)
def rowSoft (s : Fin 256 → EReal) (n : Fin 256) : EReal := Ideal.div (rowExp s n) (∑ x, rowExp s x)
def rowHead (q : Fin 128 → EReal) (k : Fin 256 → Fin 128 → EReal) (v : Fin 256 → EReal) : EReal :=
  ∑ n, rowSoft (rowScore q k) n * v n
/-- The gate. -/
def silu (z : EReal) : EReal := z * Ideal.div 1 (1 + Ideal.exp (-z))
def rowMean (r : Fin 1024 → EReal) : EReal := Ideal.div (∑ k, r k) (Ideal.ofBits FTy.f32 0x44800000#32)
/-- A row's normalization, scaled and shifted. -/
def rowNorm (r : Fin 1024 → EReal) (g b : EReal) (j : Fin 1024) : EReal :=
  (r j - rowMean r) * Ideal.rsqrt (rowMean (fun k => (r k - rowMean r) * (r k - rowMean r)) + Ideal.ofBits FTy.f32 0x3727C5AC#32) * g + b

/-! ## The kernel's memory attention -/

def scoreK (q : FVec Ideal S512x128 .bf16) (k : FVec Ideal S256x128 .bf16) : FVec Ideal S512x256 .f32 :=
  divf (matmul dot_S512x128_S256x128_S512x256_1_1_0_0_n_n none q k (constant S512x256 .f32 0x00000000#32)) (broadcast S512x256 (Scalar.ofBits .f32 0x413504F3#32 : Ideal .f32))
def expK (s : FVec Ideal S512x256 .f32) : FVec Ideal S512x256 .f32 :=
  exp (subf s (broadcastTo S512x256 (shapeCast S512x1 (multiReduction .maximumf [1] S512 s 0xFF800000#32 reduces_S512x256_S512 (.inl rfl) rfl) shapeCasts_S512_S512x1) broadcasts_S512x1_S512x256))
def softK (s : FVec Ideal S512x256 .f32) : FVec Ideal S512x256 .bf16 :=
  truncf .bf16 (divf (expK s) (broadcastTo S512x256 (shapeCast S512x1 (multiReduction .add [1] S512 (expK s) 0x00000000#32 reduces_S512x256_S512 (.inl rfl) rfl) shapeCasts_S512_S512x1) broadcasts_S512x1_S512x256)) bitsLt_bf16_f32
def headK (q : FVec Ideal S512x128 .bf16) (k v : FVec Ideal S256x128 .bf16) : FVec Ideal S512x128 .f32 :=
  matmul dot_S512x256_S256x128_S512x128_1_0_0_1_n_n none (softK (scoreK q k)) v (constant S512x128 .f32 0x00000000#32)

theorem scoreK_apply (q : FVec Ideal S512x128 .bf16) (k : FVec Ideal S256x128 .bf16) (y : S512x256.Idx) :
    scoreK q k y = rowScore (fun d => q (ix2 (y 0) d)) (fun n d => k (ix2 n d)) (y 1) := by
  unfold scoreK rowScore
  pointwise
theorem expK_apply (s : FVec Ideal S512x256 .f32) (y : S512x256.Idx) : expK s y = rowExp (fun n => s (ix2 (y 0) n)) (y 1) := by
  unfold expK rowExp
  pointwise
theorem softK_apply (s : FVec Ideal S512x256 .f32) (y : S512x256.Idx) : softK s y = rowSoft (fun n => s (ix2 (y 0) n)) (y 1) := by
  unfold softK rowSoft
  pointwise
  simp only [expK_apply]
  rfl
theorem headK_apply (q : FVec Ideal S512x128 .bf16) (k v : FVec Ideal S256x128 .bf16) (y : S512x128.Idx) :
    headK q k v y = rowHead (fun d => q (ix2 (y 0) d)) (fun n d => k (ix2 n d)) (fun n => v (ix2 n (y 1))) := by
  unfold headK rowHead
  pointwise
  simp only [softK_apply, scoreK_apply]
  rfl

def memK (x2 : FVec Ideal S512x512 .bf16) (x6 : FVec Ideal S256x1024 .f32) : FVec Ideal S512x512 .bf16 :=
  truncf .bf16 (concatenate S512x512 1 [
    ⟨S512x128, headK (extractStridedSlice S512x128 ![0, 0] x2 slices_S512x512_o0_0_S512x128) (extractStridedSlice S256x128 ![0, 0] (truncf .bf16 x6 bitsLt_bf16_f32) slices_S256x1024_o0_0_S256x128) (extractStridedSlice S256x128 ![0, 512] (truncf .bf16 x6 bitsLt_bf16_f32) slices_S256x1024_o0_512_S256x128)⟩,
    ⟨S512x128, headK (extractStridedSlice S512x128 ![0, 128] x2 slices_S512x512_o0_128_S512x128) (extractStridedSlice S256x128 ![0, 128] (truncf .bf16 x6 bitsLt_bf16_f32) slices_S256x1024_o0_128_S256x128) (extractStridedSlice S256x128 ![0, 640] (truncf .bf16 x6 bitsLt_bf16_f32) slices_S256x1024_o0_640_S256x128)⟩,
    ⟨S512x128, headK (extractStridedSlice S512x128 ![0, 256] x2 slices_S512x512_o0_256_S512x128) (extractStridedSlice S256x128 ![0, 256] (truncf .bf16 x6 bitsLt_bf16_f32) slices_S256x1024_o0_256_S256x128) (extractStridedSlice S256x128 ![0, 768] (truncf .bf16 x6 bitsLt_bf16_f32) slices_S256x1024_o0_768_S256x128)⟩,
    ⟨S512x128, headK (extractStridedSlice S512x128 ![0, 384] x2 slices_S512x512_o0_384_S512x128) (extractStridedSlice S256x128 ![0, 384] (truncf .bf16 x6 bitsLt_bf16_f32) slices_S256x1024_o0_384_S256x128) (extractStridedSlice S256x128 ![0, 896] (truncf .bf16 x6 bitsLt_bf16_f32) slices_S256x1024_o0_896_S256x128)⟩]
    concatenates_S512x128_S512x128_S512x128_S512x128_S512x512_d1) bitsLt_bf16_f32

theorem memK_eq (x2 : FVec Ideal S512x512 .bf16) (x6 : FVec Ideal S256x1024 .f32) :
    k0_pay7 x2 (k0_pay3 x6) (k0_pay4 x2 x6) (k0_pay5 x2 x6) (k0_pay6 x2 x6) = memK x2 x6 := rfl

/-- The memory attention of one row at one of its 512 lanes. -/
def rowMem (q : Fin 512 → EReal) (kv : Fin 256 → Fin 1024 → EReal) (j : Fin 512) : EReal :=
  rowHead (fun d => q ⟨j.val / 128 * 128 + d.val, by omega⟩) (fun n d => kv n ⟨j.val / 128 * 128 + d.val, by omega⟩) (fun n => kv n ⟨512 + j.val, by omega⟩)

theorem rowHead_congr {q q' : Fin 128 → EReal} {k k' : Fin 256 → Fin 128 → EReal} {v v' : Fin 256 → EReal} (hq : ∀ d, q d = q' d) (hk : ∀ n d, k n d = k' n d)
    (hv : ∀ n, v n = v' n) : rowHead q k v = rowHead q' k' v' := by
  rw [show q = q' from funext hq, show k = k' from funext fun n => funext (hk n), show v = v' from funext hv]

theorem memK_apply (x2 : FVec Ideal S512x512 .bf16) (x6 : FVec Ideal S256x1024 .f32) (y : S512x512.Idx) :
    memK x2 x6 y = rowMem (fun d => x2 (ix2 (y 0) d)) (fun n d => x6 (ix2 n d)) (y 1) := by
  have hy : (y 1).val < 512 := (y 1).isLt
  unfold memK rowMem
  pointwise
  split_ifs with h1 h2 h3
  all_goals
    rw [headK_apply]
    refine rowHead_congr (fun d => ?_) (fun n d => ?_) (fun n => ?_)
    all_goals pointwise
    all_goals
      first
        | exact congrArg (fun z => x2 (ix2 (y 0) z)) (Fin.ext (by first | (simp; done) | (simp; omega)))
        | exact congrArg (fun z => x6 (ix2 n z)) (Fin.ext (by first | (simp; done) | (simp; omega)))

/-! ## The reference's memory attention -/

section Reference
open Cert.Reference5Ideal Cert.Reference5Ideal.Gen

def scoreR (h : FVec Ideal Cert.Reference5Ideal.S8192x5120 .bf16) (kv : FVec Ideal Cert.Reference5Ideal.S256x1024 .f32) : FVec Ideal S4x8192x256 .f32 :=
  Host.divf (Host.dotGeneral dot_S8192x4x128_S256x4x128_S4x8192x256_2_2_0_0_1_1 none (shapeCast _ (extractStridedSlice S8192x512 ![0, 3072] (extf .f32 h Cert.Reference5Ideal.Gen.bitsLt_bf16_f32) slices_S8192x5120_S8192x512_0_3072) shapeCasts_S8192x512_S8192x4x128) (shapeCast _ (extractStridedSlice S256x512 ![0, 0] kv slices_S256x1024_S256x512_0_0) shapeCasts_S256x512_S256x4x128)) (broadcastInDim S4x8192x256 ![] bcast_S_S4x8192x256 (constant S_ .f32 0x413504F3#32))
def expR (s : FVec Ideal S4x8192x256 .f32) : FVec Ideal S4x8192x256 .f32 :=
  Host.exp (subf s (broadcastInDim S4x8192x256 ![0, 1, 2] bcast_S4x8192x1_S4x8192x256_0_1_2 (broadcastInDim S4x8192x1 ![0, 1] bcast_S4x8192_S4x8192x1_0_1 (maximumf (broadcastInDim S4x8192 ![] bcast_S_S4x8192 (constant S_ .f32 0xFF800000#32)) (Host.reduce FloatOps.maximumf s (constant S_ .f32 0xFF800000#32) reducesTo_S4x8192x256_S4x8192_d2 h_S_)))))
def softR (s : FVec Ideal S4x8192x256 .f32) : FVec Ideal S4x8192x256 .f32 :=
  Host.divf (expR s) (broadcastInDim S4x8192x256 ![0, 1, 2] bcast_S4x8192x1_S4x8192x256_0_1_2 (broadcastInDim S4x8192x1 ![0, 1] bcast_S4x8192_S4x8192x1_0_1 (Host.reduceAdd (expR s) (constant S_ .f32 0x00000000#32) reducesTo_S4x8192x256_S4x8192_d2 h_S_)))
def memR (h : FVec Ideal Cert.Reference5Ideal.S8192x5120 .bf16) (kv : FVec Ideal Cert.Reference5Ideal.S256x1024 .f32) : FVec Ideal Cert.Reference5Ideal.S8192x512 .f32 :=
  shapeCast _ (transpose S8192x4x128 [2, 0, 1] (Host.dotGeneral dot_S256x4x128_S4x8192x256_S4x128x8192_0_2_2_1_1_0 none (shapeCast _ (extractStridedSlice S256x512 ![0, 512] kv slices_S256x1024_S256x512_0_512) shapeCasts_S256x512_S256x4x128) (softR (scoreR h kv))) transposes_S4x128x8192_S8192x4x128_2_0_1) shapeCasts_S8192x4x128_S8192x512

theorem scoreR_apply (h : FVec Ideal Cert.Reference5Ideal.S8192x5120 .bf16) (kv : FVec Ideal Cert.Reference5Ideal.S256x1024 .f32) (y : S4x8192x256.Idx) :
    scoreR h kv y = rowScore (fun d => h (ix2 (y 1) ⟨3072 + ((y 0).val * 128 + d.val), by have : (y 0).val < 4 := (y 0).isLt; omega⟩)) (fun n d => kv (ix2 n ⟨(y 0).val * 128 + d.val, by have : (y 0).val < 4 := (y 0).isLt; omega⟩)) (y 2) := by
  unfold scoreR rowScore
  pointwise
theorem reduceMax (s : FVec Ideal S4x8192x256 .f32) (y : S4x8192.Idx) : Host.reduce FloatOps.maximumf s (constant S_ .f32 0xFF800000#32) reducesTo_S4x8192x256_S4x8192_d2 h_S_ y
    = (Finset.univ : Finset (Fin 256)).fold max ninf (fun x => s (ix3 (y 0) (y 1) x)) := by
  have h : S4x8192x256.Reduces [2] S4x8192 := by decide
  rw [Host.reduce_eq_fold_single FloatOps.maximumf s _ _ h _ y]
  refine congrArg (fun g => (Finset.univ : Finset (Fin 256)).fold max ninf g) (funext fun x => ?_)
  refine congrArg s (funext fun a => Fin.ext ?_)
  rw [Shape.Reduces.lift_val]
  fin_cases a <;> rfl
def maxR (s : FVec Ideal S4x8192x256 .f32) : FVec Ideal S4x8192 .f32 := Host.reduce FloatOps.maximumf s (constant S_ .f32 0xFF800000#32) reducesTo_S4x8192x256_S4x8192_d2 h_S_
theorem maxR_apply (s : FVec Ideal S4x8192x256 .f32) (y : S4x8192.Idx) : maxR s y = (Finset.univ : Finset (Fin 256)).fold max ninf (fun x => s (ix3 (y 0) (y 1) x)) := reduceMax s y
/-- The row maximum as the reference takes it: once more against the least value. -/
def topR (s : FVec Ideal S4x8192x256 .f32) : FVec Ideal S4x8192 .f32 :=
  maximumf (broadcastInDim S4x8192 ![] bcast_S_S4x8192 (constant S_ .f32 0xFF800000#32)) (maxR s)
theorem max_low (b : EReal) (f : Fin 256 → EReal) : max b ((Finset.univ : Finset (Fin 256)).fold max b f) = (Finset.univ : Finset (Fin 256)).fold max b f :=
  max_eq_right ((Finset.le_fold_max _).2 (.inl le_rfl))
theorem maximumf_at {s : Shape} (a b : FVec Ideal s .f32) (y : s.Idx) : maximumf a b y = max (show EReal from a y) (show EReal from b y) := by
  pointwise
theorem low_at (y : S4x8192.Idx) : broadcastInDim S4x8192 ![] bcast_S_S4x8192 (constant S_ .f32 0xFF800000#32 : FVec Ideal S_ .f32) y = ninf := by
  pointwise
theorem topR_apply (s : FVec Ideal S4x8192x256 .f32) (y : S4x8192.Idx) : topR s y = (Finset.univ : Finset (Fin 256)).fold max ninf (fun x => s (ix3 (y 0) (y 1) x)) := by
  unfold topR
  rw [maximumf_at, low_at, maxR_apply]
  exact max_low _ _
theorem expR_eq (s : FVec Ideal S4x8192x256 .f32) : expR s = Host.exp (subf s (broadcastInDim S4x8192x256 ![0, 1, 2] bcast_S4x8192x1_S4x8192x256_0_1_2 (broadcastInDim S4x8192x1 ![0, 1] bcast_S4x8192_S4x8192x1_0_1 (topR s)))) := rfl
theorem expR_top (s : FVec Ideal S4x8192x256 .f32) (y : S4x8192x256.Idx) : expR s y = Ideal.exp (s y - topR s (ix2 (y 0) (y 1))) := by
  rw [expR_eq]
  pointwise
theorem expR_apply (s : FVec Ideal S4x8192x256 .f32) (y : S4x8192x256.Idx) : expR s y = rowExp (fun n => s (ix3 (y 0) (y 1) n)) (y 2) := by
  have hy : y = ix3 (y 0) (y 1) (y 2) := by funext a; fin_cases a <;> rfl
  rw [expR_top, topR_apply]
  unfold rowExp
  exact congrArg (fun z => Ideal.exp (z - (Finset.univ : Finset (Fin 256)).fold max ninf (fun x => s (ix3 (y 0) (y 1) x)))) (congrArg s hy)
theorem softR_apply (s : FVec Ideal S4x8192x256 .f32) (y : S4x8192x256.Idx) : softR s y = rowSoft (fun n => s (ix3 (y 0) (y 1) n)) (y 2) := by
  unfold softR rowSoft
  pointwise
  simp only [expR_apply]
  rfl
theorem memR_apply (h : FVec Ideal Cert.Reference5Ideal.S8192x5120 .bf16) (kv : FVec Ideal Cert.Reference5Ideal.S256x1024 .f32) (y : Cert.Reference5Ideal.S8192x512.Idx) :
    memR h kv y = rowMem (fun d => h (ix2 (y 0) ⟨3072 + d.val, by omega⟩)) (fun n d => kv (ix2 n d)) (y 1) := by
  unfold memR rowMem rowHead
  pointwise
  refine Finset.sum_congr rfl fun n _ => ?_
  rw [mul_comm, softR_apply]
  simp only [scoreR_apply]
  rfl
end Reference
end Cert.Kernel5Ideal.LayerOut
end
-- ==== Proof.LayerOut.Output.lean ====
module
public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack
public import Idealize.ShloMosaic.Lib.Tactic
public import proofs.«01_k».proof.Defs
public import proofs.«01_k».proof.Proof.LayerOut.Memory
@[expose] public section
set_option maxRecDepth 16384
noncomputable section
namespace Cert.Kernel5Ideal.LayerOut
open Cert.Kernel5Ideal Cert.Kernel5Ideal.Gen Idealize.ShloMosaic Idealize.ShloMosaic.TcCoe Idealize.SL.Sem
open Idealize.ShloMosaic.Pipeline (Dat)

/-! ## Gate, out-projection and normalization -/

/-- One row before normalization: the scaled residual plus the out-projection of the gated branch. -/
def rowOut (x : EReal) (mix : Fin 1024 → EReal) (mem : Fin 512 → EReal) (z : Fin 1536 → EReal) (w : Fin 1536 → EReal) : EReal :=
  Ideal.ofBits FTy.f32 0x3FD744FD#32 * x + ∑ k : Fin 1536, (if h : k.val < 1024 then mix ⟨k.val, h⟩ else mem ⟨k.val - 1024, by omega⟩) * silu (z k) * w k

def accK (x1 : FVec Ideal S512x1024 .bf16) (mem z0 z1 z2 : FVec Ideal S512x512 .bf16) (w0 w1 w2 : FVec Ideal S512x1024 .bf16) : FVec Ideal S512x1024 .f32 :=
  k0_pay15 (k0_pay9 x1) (k0_pay10 x1) (extf .f32 mem bitsLt_bf16_f32) (k0_pay12 (F := Ideal)) (k0_pay13 z0) (k0_pay14 z0) (Scalar.ofBits .f32 0x3F800000#32) w0 z1 w1 z2 w2

/-- One row's gated branch through the out-projection, as the kernel adds it: three runs of 512. -/
def rowAcc (mix : Fin 1024 → EReal) (mem z0 z1 z2 : Fin 512 → EReal) (w0 w1 w2 : Fin 512 → EReal) : EReal :=
  ((∑ k : Fin 512, mix ⟨k.val, by omega⟩ * silu (z0 k) * w0 k) + ∑ k : Fin 512, mix ⟨512 + k.val, by omega⟩ * silu (z1 k) * w1 k) + ∑ k : Fin 512, mem k * silu (z2 k) * w2 k

theorem accK_apply (x1 : FVec Ideal S512x1024 .bf16) (mem z0 z1 z2 : FVec Ideal S512x512 .bf16) (w0 w1 w2 : FVec Ideal S512x1024 .bf16) (y : S512x1024.Idx) :
    accK x1 mem z0 z1 z2 w0 w1 w2 y = rowAcc (fun k => x1 (ix2 (y 0) k)) (fun k => mem (ix2 (y 0) k)) (fun k => z0 (ix2 (y 0) k)) (fun k => z1 (ix2 (y 0) k)) (fun k => z2 (ix2 (y 0) k)) (fun k => w0 (ix2 k (y 1))) (fun k => w1 (ix2 k (y 1))) (fun k => w2 (ix2 k (y 1))) := by
  have e : ∀ z : EReal, silu z = z * Ideal.div 1 (1 + Ideal.exp (0 - z)) := fun z => by unfold silu; rw [zero_sub]
  unfold accK rowAcc
  simp only [e]
  open_payloads
  pointwise

/-- The long row in its three runs. -/
theorem rowOut_split (x : EReal) (mix : Fin 1024 → EReal) (mem : Fin 512 → EReal) (z w : Fin 1536 → EReal) :
    rowOut x mix mem z w = Ideal.ofBits FTy.f32 0x3FD744FD#32 * x + rowAcc mix mem (fun k => z ⟨k.val, by omega⟩) (fun k => z ⟨512 + k.val, by omega⟩) (fun k => z ⟨1024 + k.val, by omega⟩)
      (fun k => w ⟨k.val, by omega⟩) (fun k => w ⟨512 + k.val, by omega⟩) (fun k => w ⟨1024 + k.val, by omega⟩) := by
  unfold rowOut rowAcc
  congr 1
  rw [show (∑ k : Fin 1536, (if h : k.val < 1024 then mix ⟨k.val, h⟩ else mem ⟨k.val - 1024, by omega⟩) * silu (z k) * w k) = ∑ k : Fin (512 + 512 + 512), (if h : k.val < 1024 then mix ⟨k.val, h⟩ else mem ⟨k.val - 1024, by omega⟩) * silu (z k) * w k from rfl, Fin.sum_univ_add, Fin.sum_univ_add]
  congr 1

theorem normK_apply (v124 v125 : FVec Ideal S512x1024 .f32) (g b : FVec Ideal S1x1024 .f32) (y : S512x1024.Idx) :
    k0_pay2 v124 v125 g b y = rowNorm (fun k => k0_pay1 v124 v125 (ix2 (y 0) k)) (g (ix2 0 (y 1))) (b (ix2 0 (y 1))) (y 1) := by
  unfold k0_pay2 rowNorm rowMean
  pointwise
section Reference
open Cert.Reference5Ideal Cert.Reference5Ideal.Gen
def residR (x : FVec Ideal Cert.Reference5Ideal.S8192x1024 .f32) (h : FVec Ideal Cert.Reference5Ideal.S8192x5120 .bf16) (mix : FVec Ideal Cert.Reference5Ideal.S8192x1024 .bf16)
    (kv : FVec Ideal Cert.Reference5Ideal.S256x1024 .f32) (w : FVec Ideal Cert.Reference5Ideal.S1536x1024 .bf16) : FVec Ideal Cert.Reference5Ideal.S8192x1024 .f32 :=
  addf (mulf (broadcastInDim Cert.Reference5Ideal.S8192x1024 ![] bcast_S_S8192x1024 (constant S_ .f32 0x3FD744FD#32)) x) (Host.dotGeneral dot_S8192x1536_S1536x1024_S8192x1024_1_0_0_1_n_n none (mulf (concatenate S8192x1536 1 [⟨Cert.Reference5Ideal.S8192x1024, (extf .f32 mix Cert.Reference5Ideal.Gen.bitsLt_bf16_f32)⟩, ⟨Cert.Reference5Ideal.S8192x512, memR h kv⟩] concatenates_S8192x1024_S8192x512_S8192x1536_d1) (mulf (extractStridedSlice S8192x1536 ![0, 3584] (extf .f32 h Cert.Reference5Ideal.Gen.bitsLt_bf16_f32) slices_S8192x5120_S8192x1536_0_3584) (Host.divf (broadcastInDim S8192x1536 ![] bcast_S_S8192x1536 (constant S_ .f32 0x3F800000#32)) (addf (broadcastInDim S8192x1536 ![] bcast_S_S8192x1536 (constant S_ .f32 0x3F800000#32)) (Host.exp (Host.negf (extractStridedSlice S8192x1536 ![0, 3584] (extf .f32 h Cert.Reference5Ideal.Gen.bitsLt_bf16_f32) slices_S8192x5120_S8192x1536_0_3584))))))) (extf .f32 w Cert.Reference5Ideal.Gen.bitsLt_bf16_f32))
def normR (r : FVec Ideal Cert.Reference5Ideal.S8192x1024 .f32) (g b : FVec Ideal Cert.Reference5Ideal.S1x1024 .f32) : FVec Ideal Cert.Reference5Ideal.S8192x1024 .f32 :=
  addf (mulf (mulf (subf r (broadcastInDim Cert.Reference5Ideal.S8192x1024 ![0, 1] bcast_S8192x1_S8192x1024_0_1 (Host.divf (broadcastInDim S8192x1 ![0] bcast_S8192_S8192x1_0 (Host.reduceAdd r (constant S_ .f32 0x00000000#32) reducesTo_S8192x1024_S8192_d1 h_S_)) (broadcastInDim S8192x1 ![] bcast_S_S8192x1 (constant S_ .f32 0x44800000#32))))) (broadcastInDim Cert.Reference5Ideal.S8192x1024 ![0, 1] bcast_S8192x1_S8192x1024_0_1 (Host.rsqrt (addf (Host.divf (broadcastInDim S8192x1 ![0] bcast_S8192_S8192x1_0 (Host.reduceAdd (mulf (subf r (broadcastInDim Cert.Reference5Ideal.S8192x1024 ![0, 1] bcast_S8192x1_S8192x1024_0_1 (Host.divf (broadcastInDim S8192x1 ![0] bcast_S8192_S8192x1_0 (Host.reduceAdd r (constant S_ .f32 0x00000000#32) reducesTo_S8192x1024_S8192_d1 h_S_)) (broadcastInDim S8192x1 ![] bcast_S_S8192x1 (constant S_ .f32 0x44800000#32))))) (subf r (broadcastInDim Cert.Reference5Ideal.S8192x1024 ![0, 1] bcast_S8192x1_S8192x1024_0_1 (Host.divf (broadcastInDim S8192x1 ![0] bcast_S8192_S8192x1_0 (Host.reduceAdd r (constant S_ .f32 0x00000000#32) reducesTo_S8192x1024_S8192_d1 h_S_)) (broadcastInDim S8192x1 ![] bcast_S_S8192x1 (constant S_ .f32 0x44800000#32)))))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))))) (broadcastInDim Cert.Reference5Ideal.S8192x1024 ![0, 1] bcast_S1x1024_S8192x1024_0_1 g)) (broadcastInDim Cert.Reference5Ideal.S8192x1024 ![0, 1] bcast_S1x1024_S8192x1024_0_1 b)
theorem residR_apply (x : FVec Ideal Cert.Reference5Ideal.S8192x1024 .f32) (h : FVec Ideal Cert.Reference5Ideal.S8192x5120 .bf16) (mix : FVec Ideal Cert.Reference5Ideal.S8192x1024 .bf16)
    (kv : FVec Ideal Cert.Reference5Ideal.S256x1024 .f32) (w : FVec Ideal Cert.Reference5Ideal.S1536x1024 .bf16) (y) : residR x h mix kv w y = rowOut (x y) (fun k => mix (ix2 (y 0) k)) (fun k => memR h kv (ix2 (y 0) k)) (fun k => h (ix2 (y 0) ⟨3584 + k.val, by omega⟩)) (fun k => w (ix2 k (y 1))) := by
  unfold residR rowOut silu
  pointwise
theorem normR_apply (r : FVec Ideal Cert.Reference5Ideal.S8192x1024 .f32) (g b : FVec Ideal Cert.Reference5Ideal.S1x1024 .f32) (y) : normR r g b y = rowNorm (fun k => r (ix2 (y 0) k)) (g (ix2 0 (y 1))) (b (ix2 0 (y 1))) (y 1) := by
  unfold normR rowNorm rowMean
  pointwise
end Reference
end Cert.Kernel5Ideal.LayerOut
end
-- ==== Proof.LayerOut.Tile.lean ====
module
public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack
public import Idealize.ShloMosaic.Lib.Tactic
public import proofs.«01_k».proof.Defs
public import proofs.«01_k».proof.Proof.LayerOut.Output
@[expose] public section
set_option maxRecDepth 16384
noncomputable section
namespace Cert.Kernel5Ideal.LayerOut
open Cert.Kernel5Ideal Cert.Kernel5Ideal.Gen Idealize.ShloMosaic Idealize.ShloMosaic.TcCoe Idealize.SL.Sem
open Idealize.ShloMosaic.Pipeline (Dat)

/-! ## The tile's results from its blocks -/

theorem ld0 (X : Vec Ideal S512x512 .bf16) : View.ld X r0_0 = X := View.ld_unit_zero (by funext a; fin_cases a <;> rfl) _ X
theorem ld1 (X : Vec Ideal S256x1024 .f32) : View.ld X r0_1 = X := View.ld_unit_zero (by funext a; fin_cases a <;> rfl) _ X
theorem ld2 (X : Vec Ideal S512x1024 .f32) : View.ld X r0_2 = X := View.ld_unit_zero (by funext a; fin_cases a <;> rfl) _ X
theorem ld2' (X : Vec Ideal S512x1024 .bf16) : View.ld X r0_2 = X := View.ld_unit_zero (by funext a; fin_cases a <;> rfl) _ X
theorem ld6 (X : Vec Ideal S1x1024 .f32) : View.ld X r0_6 = X := View.ld_unit_zero (by funext a; fin_cases a <;> rfl) _ X

/-- A tile's rows before normalization. -/
def resK (x0 : Vec Ideal S512x1024 .f32) (x1 : Vec Ideal S512x1024 .bf16) (x2 x3 x4 x5 : Vec Ideal S512x512 .bf16) (x6 : Vec Ideal S256x1024 .f32) (x7 : Vec Ideal S1536x1024 .bf16) : FVec Ideal S512x1024 .f32 :=
  k0_pay1 (accK x1 (memK x2 x6) x3 x4 x5 (View.ld x7 r0_3) (View.ld x7 r0_4) (View.ld x7 r0_5)) x0

theorem acc_eq (x0 : Vec Ideal S512x1024 .f32) (x1 : Vec Ideal S512x1024 .bf16) (x2 x3 x4 x5 : Vec Ideal S512x512 .bf16) (x6 : Vec Ideal S256x1024 .f32) (x7 : Vec Ideal S1536x1024 .bf16) (x8 x9 : Vec Ideal S1x1024 .f32) :
    k0_pay20 x0 x1 x2 x3 x4 x5 x6 x7 x8 x9 = accK x1 (memK x2 x6) x3 x4 x5 (View.ld x7 r0_3) (View.ld x7 r0_4) (View.ld x7 r0_5) := by
  unfold k0_pay20 k0_pay16 k0_pay17 k0_pay18 k0_pay19
  simp only [ld0, ld1, ld2, ld2']
  rw [← memK_eq]
  rfl

theorem resK_apply (x0 : Vec Ideal S512x1024 .f32) (x1 : Vec Ideal S512x1024 .bf16) (x2 x3 x4 x5 : Vec Ideal S512x512 .bf16) (x6 : Vec Ideal S256x1024 .f32) (x7 : Vec Ideal S1536x1024 .bf16) (y : S512x1024.Idx) :
    resK x0 x1 x2 x3 x4 x5 x6 x7 y = Ideal.ofBits FTy.f32 0x3FD744FD#32 * x0 y + rowAcc (fun k => x1 (ix2 (y 0) k)) (fun k => memK x2 x6 (ix2 (y 0) k)) (fun k => x3 (ix2 (y 0) k)) (fun k => x4 (ix2 (y 0) k)) (fun k => x5 (ix2 (y 0) k))
      (fun k => x7 (ix2 ⟨k.val, by omega⟩ (y 1))) (fun k => x7 (ix2 ⟨512 + k.val, by omega⟩ (y 1))) (fun k => x7 (ix2 ⟨1024 + k.val, by omega⟩ (y 1))) := by
  have e : resK x0 x1 x2 x3 x4 x5 x6 x7 y = Ideal.ofBits FTy.f32 0x3FD744FD#32 * x0 y + accK x1 (memK x2 x6) x3 x4 x5 (View.ld x7 r0_3) (View.ld x7 r0_4) (View.ld x7 r0_5) y := by
    unfold resK k0_pay1
    pointwise
  rw [e, accK_apply]
  refine congrArg₂ (· + ·) rfl ?_
  unfold rowAcc
  refine congrArg₂ (· + ·) (congrArg₂ (· + ·) (Finset.sum_congr rfl fun k _ => congrArg₂ (· * ·) rfl ?_) (Finset.sum_congr rfl fun k _ => congrArg₂ (· * ·) rfl ?_)) (Finset.sum_congr rfl fun k _ => congrArg₂ (· * ·) rfl ?_)
  · show x7 (r0_3.idx (ix2 k (y 1))) = _
    refine congrArg x7 ?_
    funext a
    fin_cases a <;> refine Fin.ext ?_ <;> simp [Rect.unit]
  · show x7 (r0_4.idx (ix2 k (y 1))) = _
    refine congrArg x7 ?_
    funext a
    fin_cases a <;> refine Fin.ext ?_ <;> simp [Rect.unit]
  · show x7 (r0_5.idx (ix2 k (y 1))) = _
    refine congrArg x7 ?_
    funext a
    fin_cases a <;> refine Fin.ext ?_ <;> simp [Rect.unit]

theorem out11 (x0 : Vec Ideal S512x1024 .f32) (x1 : Vec Ideal S512x1024 .bf16) (x2 x3 x4 x5 : Vec Ideal S512x512 .bf16) (x6 : Vec Ideal S256x1024 .f32) (x7 : Vec Ideal S1536x1024 .bf16) (x8 x9 : Vec Ideal S1x1024 .f32) : out0_11 (F := Ideal) x0 x1 x2 x3 x4 x5 x6 x7 x8 x9 = resK x0 x1 x2 x3 x4 x5 x6 x7 := by
  unfold out0_11
  rw [acc_eq, ld2]
  funext y
  canon_tiles y h
  all_goals blk_ext []
theorem out10 (x0 : Vec Ideal S512x1024 .f32) (x1 : Vec Ideal S512x1024 .bf16) (x2 x3 x4 x5 : Vec Ideal S512x512 .bf16) (x6 : Vec Ideal S256x1024 .f32) (x7 : Vec Ideal S1536x1024 .bf16) (x8 x9 : Vec Ideal S1x1024 .f32) : out0_10 (F := Ideal) x0 x1 x2 x3 x4 x5 x6 x7 x8 x9 = k0_pay2 (accK x1 (memK x2 x6) x3 x4 x5 (View.ld x7 r0_3) (View.ld x7 r0_4) (View.ld x7 r0_5)) x0 x8 x9 := by
  unfold out0_10
  rw [acc_eq, ld2, ld6, ld6]
  funext y
  canon_tiles y h
  all_goals blk_ext []
theorem out12 (x0 : Vec Ideal S512x1024 .f32) (x1 : Vec Ideal S512x1024 .bf16) (x2 x3 x4 x5 : Vec Ideal S512x512 .bf16) (x6 : Vec Ideal S256x1024 .f32) (x7 : Vec Ideal S1536x1024 .bf16) (x8 x9 : Vec Ideal S1x1024 .f32) : out0_12 (F := Ideal) x0 x1 x2 x3 x4 x5 x6 x7 x8 x9 = memK x2 x6 := by
  unfold out0_12 k0_pay16 k0_pay17 k0_pay18 k0_pay19
  rw [ld0, ld1, memK_eq]
  funext y
  canon_tiles y h
  all_goals blk_ext []
end Cert.Kernel5Ideal.LayerOut
end
-- ==== Proof.LayerOut.Value.lean ====
module
public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack
public import Idealize.ShloMosaic.Lib.Tactic
public import proofs.«01_k».proof.Defs
public import proofs.«01_k».proof.Proof.LayerOut.Tile
@[expose] public section
set_option maxRecDepth 16384
noncomputable section
namespace Cert.Kernel5Ideal.LayerOut
open Cert.Kernel5Ideal Cert.Kernel5Ideal.Gen Idealize.ShloMosaic Idealize.ShloMosaic.TcCoe Idealize.SL.Sem
open Idealize.ShloMosaic.Pipeline (Dat)

/-! ## The blocks read the arguments -/

theorem idx : ∀ t : Fin grid0.N, win0_0.index t = ![t.val, 0] ∧ win0_1.index t = ![t.val, 0] ∧ win0_2.index t = ![t.val, 6] ∧ win0_3.index t = ![t.val, 7] ∧ win0_4.index t = ![t.val, 8] ∧ win0_5.index t = ![t.val, 9]
    ∧ win0_6.index t = ![0, 0] ∧ win0_7.index t = ![0, 0] ∧ win0_8.index t = ![0, 0] ∧ win0_9.index t = ![0, 0] ∧ win0_10.index t = ![t.val, 0] ∧ win0_11.index t = ![t.val, 0] ∧ win0_12.index t = ![t.val, 0] := by decide +kernel

theorem blk0 (m : (ℓ : Loc nD τ sig) → Buf (Elt Ideal) ℓ) (c : Dev nD) (t : Fin cfg0.N) (i : S512x1024.Idx) (j : S8192x1024.Idx) (e0 : (j 0).val = t.val * 512 + (i 0).val) (e1 : (j 1).val = (i 1).val) :
    iblk m c 0 t i = m ((c.tc : Thread nD τ).loc main_arg0) j := by
  show V m c main_arg0 _ = _
  rw [V_main_arg0]
  blk_ext [idx t]
theorem blk1 (m : (ℓ : Loc nD τ sig) → Buf (Elt Ideal) ℓ) (c : Dev nD) (t : Fin cfg0.N) (i : S512x1024.Idx) (j : S8192x1024.Idx) (e0 : (j 0).val = t.val * 512 + (i 0).val) (e1 : (j 1).val = (i 1).val) :
    iblk m c 1 t i = m ((c.tc : Thread nD τ).loc main_arg2) j := by
  show V m c main_arg2 _ = _
  rw [V_main_arg2]
  blk_ext [idx t]
theorem blk2 (m : (ℓ : Loc nD τ sig) → Buf (Elt Ideal) ℓ) (c : Dev nD) (t : Fin cfg0.N) (i : S512x512.Idx) (j : S8192x5120.Idx) (e0 : (j 0).val = t.val * 512 + (i 0).val) (e1 : (j 1).val = 3072 + (i 1).val) :
    iblk m c 2 t i = m ((c.tc : Thread nD τ).loc main_arg1) j := by
  show V m c main_arg1 _ = _
  rw [V_main_arg1]
  blk_ext [idx t]
theorem blk3 (m : (ℓ : Loc nD τ sig) → Buf (Elt Ideal) ℓ) (c : Dev nD) (t : Fin cfg0.N) (i : S512x512.Idx) (j : S8192x5120.Idx) (e0 : (j 0).val = t.val * 512 + (i 0).val) (e1 : (j 1).val = 3584 + (i 1).val) :
    iblk m c 3 t i = m ((c.tc : Thread nD τ).loc main_arg1) j := by
  show V m c main_arg1 _ = _
  rw [V_main_arg1]
  blk_ext [idx t]
theorem blk4 (m : (ℓ : Loc nD τ sig) → Buf (Elt Ideal) ℓ) (c : Dev nD) (t : Fin cfg0.N) (i : S512x512.Idx) (j : S8192x5120.Idx) (e0 : (j 0).val = t.val * 512 + (i 0).val) (e1 : (j 1).val = 4096 + (i 1).val) :
    iblk m c 4 t i = m ((c.tc : Thread nD τ).loc main_arg1) j := by
  show V m c main_arg1 _ = _
  rw [V_main_arg1]
  blk_ext [idx t]
theorem blk5 (m : (ℓ : Loc nD τ sig) → Buf (Elt Ideal) ℓ) (c : Dev nD) (t : Fin cfg0.N) (i : S512x512.Idx) (j : S8192x5120.Idx) (e0 : (j 0).val = t.val * 512 + (i 0).val) (e1 : (j 1).val = 4608 + (i 1).val) :
    iblk m c 5 t i = m ((c.tc : Thread nD τ).loc main_arg1) j := by
  show V m c main_arg1 _ = _
  rw [V_main_arg1]
  blk_ext [idx t]
theorem blk6 (m : (ℓ : Loc nD τ sig) → Buf (Elt Ideal) ℓ) (c : Dev nD) (t : Fin cfg0.N) (i : S256x1024.Idx) (j : S256x1024.Idx) (e0 : (j 0).val = (i 0).val) (e1 : (j 1).val = (i 1).val) :
    iblk m c 6 t i = m ((c.tc : Thread nD τ).loc main_arg3) j := by
  show V m c main_arg3 _ = _
  rw [V_main_arg3]
  blk_ext [idx t]
theorem blk7 (m : (ℓ : Loc nD τ sig) → Buf (Elt Ideal) ℓ) (c : Dev nD) (t : Fin cfg0.N) (i : S1536x1024.Idx) (j : S1536x1024.Idx) (e0 : (j 0).val = (i 0).val) (e1 : (j 1).val = (i 1).val) :
    iblk m c 7 t i = m ((c.tc : Thread nD τ).loc main_arg4) j := by
  show V m c main_arg4 _ = _
  rw [V_main_arg4]
  blk_ext [idx t]
theorem blk8 (m : (ℓ : Loc nD τ sig) → Buf (Elt Ideal) ℓ) (c : Dev nD) (t : Fin cfg0.N) (i : S1x1024.Idx) (j : S1x1024.Idx) (e0 : (j 0).val = (i 0).val) (e1 : (j 1).val = (i 1).val) :
    iblk m c 8 t i = m ((c.tc : Thread nD τ).loc main_arg5) j := by
  show V m c main_arg5 _ = _
  rw [V_main_arg5]
  blk_ext [idx t]
theorem blk9 (m : (ℓ : Loc nD τ sig) → Buf (Elt Ideal) ℓ) (c : Dev nD) (t : Fin cfg0.N) (i : S1x1024.Idx) (j : S1x1024.Idx) (e0 : (j 0).val = (i 0).val) (e1 : (j 1).val = (i 1).val) :
    iblk m c 9 t i = m ((c.tc : Thread nD τ).loc main_arg6) j := by
  show V m c main_arg6 _ = _
  rw [V_main_arg6]
  blk_ext [idx t]

theorem mem_at (m : (ℓ : Loc nD τ sig) → Buf (Elt Ideal) ℓ) (c : Dev nD) (t : Fin cfg0.N) (y : S512x512.Idx) (r : S8192x512.Idx) (e0 : (r 0).val = t.val * 512 + (y 0).val) (e1 : (r 1).val = (y 1).val) :
    memK (iblk m c 2 t) (iblk m c 6 t) y = memR (m ((c.tc : Thread nD τ).loc main_arg1)) (m ((c.tc : Thread nD τ).loc main_arg3)) r := by
  rw [memK_apply, memR_apply]
  have h1 : r 1 = y 1 := Fin.ext e1
  rw [h1]
  refine congrArg₂ (fun q kv => rowMem q kv (y 1)) (funext fun d => ?_) (funext fun n => funext fun d => ?_)
  · exact blk2 m c t _ _ e0 rfl
  · exact blk6 m c t _ _ rfl rfl

theorem res_at (m : (ℓ : Loc nD τ sig) → Buf (Elt Ideal) ℓ) (c : Dev nD) (t : Fin cfg0.N) (y : S512x1024.Idx) (r : S8192x1024.Idx) (e0 : (r 0).val = t.val * 512 + (y 0).val) (e1 : (r 1).val = (y 1).val) :
    resK (iblk m c 0 t) (iblk m c 1 t) (iblk m c 2 t) (iblk m c 3 t) (iblk m c 4 t) (iblk m c 5 t) (iblk m c 6 t) (iblk m c 7 t) y = residR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) r := by
  rw [resK_apply, residR_apply, rowOut_split]
  refine congrArg₂ (· + ·) (congrArg (Ideal.ofBits FTy.f32 0x3FD744FD#32 * ·) (blk0 m c t _ _ e0 e1)) ?_
  unfold rowAcc
  refine congrArg₂ (· + ·) (congrArg₂ (· + ·) (Finset.sum_congr rfl fun k _ => ?_) (Finset.sum_congr rfl fun k _ => ?_)) (Finset.sum_congr rfl fun k _ => ?_)
  · exact congrArg₂ (· * ·) (congrArg₂ (· * ·) (blk1 m c t _ _ e0 rfl) (congrArg silu (blk3 m c t _ _ e0 rfl))) (blk7 m c t _ _ rfl e1)
  · exact congrArg₂ (· * ·) (congrArg₂ (· * ·) (blk1 m c t _ _ e0 rfl) (congrArg silu (blk4 m c t _ _ e0 (show 3584 + (512 + k.val) = 4096 + k.val by omega)))) (blk7 m c t _ _ rfl e1)
  · exact congrArg₂ (· * ·) (congrArg₂ (· * ·) (mem_at m c t _ _ e0 rfl) (congrArg silu (blk5 m c t _ _ e0 (show 3584 + (1024 + k.val) = 4608 + k.val by omega)))) (blk7 m c t _ _ rfl e1)

theorem norm_at (m : (ℓ : Loc nD τ sig) → Buf (Elt Ideal) ℓ) (c : Dev nD) (t : Fin cfg0.N) (y : S512x1024.Idx) (r : S8192x1024.Idx) (e0 : (r 0).val = t.val * 512 + (y 0).val) (e1 : (r 1).val = (y 1).val) :
    out0_10 (F := Ideal) (iblk m c 0 t) (iblk m c 1 t) (iblk m c 2 t) (iblk m c 3 t) (iblk m c 4 t) (iblk m c 5 t) (iblk m c 6 t) (iblk m c 7 t) (iblk m c 8 t) (iblk m c 9 t) y = normR (residR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6)) r := by
  rw [out10, normK_apply, normR_apply]
  have h1 : r 1 = y 1 := Fin.ext e1
  rw [h1]
  have ea : ∀ k : Fin 1024, k0_pay1 (accK (iblk m c 1 t) (memK (iblk m c 2 t) (iblk m c 6 t)) (iblk m c 3 t) (iblk m c 4 t) (iblk m c 5 t) (View.ld (iblk m c 7 t) r0_3) (View.ld (iblk m c 7 t) r0_4) (View.ld (iblk m c 7 t) r0_5)) (iblk m c 0 t) (ix2 (y 0) k) = residR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 (r 0) k) := fun k =>
    res_at m c t (ix2 (y 0) k) (ix2 (r 0) k) e0 rfl
  have eg := blk8 m c t (ix2 0 (y 1)) (ix2 0 (y 1)) rfl rfl
  have eb := blk9 m c t (ix2 0 (y 1)) (ix2 0 (y 1)) rfl rfl
  exact (congrArg (fun f => rowNorm f _ _ (y 1)) (funext ea)).trans (congrArg₂ (fun g b => rowNorm _ g b (y 1)) eg eb)

/-! ## The arrays the launch leaves -/

theorem final10 (m : (ℓ : Loc nD τ sig) → Buf (Elt Ideal) ℓ) (c : Dev nD) : (dats m 0 c).arrAt 10 cfg0.N = (normR (residR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6))) := by
  refine (dats m 0 c).arrAt_eq_of_covers 10 _ (by decide +kernel) fun t hf y => ?_
  blk_simp
  rw [after0_10]
  refine norm_at m c t _ _ ?_ ?_
  all_goals blk_simp [idx t]

theorem final11 (m : (ℓ : Loc nD τ sig) → Buf (Elt Ideal) ℓ) (c : Dev nD) : (dats m 0 c).arrAt 11 cfg0.N = (residR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  refine (dats m 0 c).arrAt_eq_of_covers 11 _ (by decide +kernel) fun t hf y => ?_
  blk_simp
  rw [after0_11]
  rw [out11]
  refine res_at m c t _ _ ?_ ?_
  all_goals blk_simp [idx t]

theorem final12 (m : (ℓ : Loc nD τ sig) → Buf (Elt Ideal) ℓ) (c : Dev nD) : (dats m 0 c).arrAt 12 cfg0.N = (truncf .bf16 (memR (m ((c.tc : Thread nD τ).loc main_arg1)) (m ((c.tc : Thread nD τ).loc main_arg3))) Cert.Reference5Ideal.Gen.bitsLt_bf16_f32) := by
  refine (dats m 0 c).arrAt_eq_of_covers 12 _ (by decide +kernel) fun t hf y => ?_
  blk_simp
  rw [after0_12]
  rw [out12]
  refine Eq.trans ( mem_at m c t _ _ ?_ ?_) rfl
  all_goals blk_simp [idx t]

set_option maxHeartbeats 1000000 in
theorem algebraic : Cert.algebraic_Kernel5Ideal_Reference5Ideal := by
  intro m ρ m' ρ' _ hagree
  refine ⟨fun c => normR (residR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6)), fun c => residR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), fun c => truncf .bf16 (memR (m ((c.tc : Thread nD τ).loc main_arg1)) (m ((c.tc : Thread nD τ).loc main_arg3))) Cert.Reference5Ideal.Gen.bitsLt_bf16_f32, (θ_run Cert.Kernel5Ideal.defs _ _).mono (fun r h c => ⟨(h c).1.trans (final10 m c), (h c).2.1.trans (final11 m c), (h c).2.2.1.trans (final12 m c), (h c).2.2.2⟩) (Cert.Kernel5Ideal.Value.run_blocks (F := Ideal) m ρ), ?_⟩
  refine (θ_run Cert.Reference5Ideal.defs _ _).mono (fun _ h c => ⟨(h c).1.trans ?_, (h c).2.1.trans ?_, (h c).2.2.1.trans ?_, (h c).2.2.2⟩) (Cert.Reference5Ideal.Value.run (F := Ideal) m' ρ')
  all_goals obtain ⟨a0, a1, a2, a3, a4, a5, a6⟩ := hagree c
  · refine Eq.trans (b := normR (residR (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4))) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6))) rfl ?_
    rw [a0, a1, a2, a3, a4, a5, a6]
  · refine Eq.trans (b := residR (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4))) rfl ?_
    rw [a0, a1, a2, a3, a4]
  · refine Eq.trans (b := truncf .bf16 (memR (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg3))) Cert.Reference5Ideal.Gen.bitsLt_bf16_f32) rfl ?_
    rw [a1, a3]
end Cert.Kernel5Ideal.LayerOut
end
-- ==== Proof.Conv.Tile.lean ====
/- The gated convolution's backward, one block of 512 rows: what its body computes, as functions of the row in the whole sequence. -/
module
public import proofs.«01_k».proof.Proof.Gen.Kernel6Ideal.Value
public import Idealize.ShloMosaic.Lib.Pipeline.ValueKit
public import Idealize.ShloMosaic.Lib.Pipeline.ReadBack
public import Idealize.ShloMosaic.Lib.Tactic
@[expose] public section
set_option maxRecDepth 16384
noncomputable section
namespace Cert.Kernel6Ideal.Conv
open Cert.Kernel6Ideal Cert.Kernel6Ideal.Gen Idealize.ShloMosaic Idealize.ShloMosaic.TcCoe Idealize.SL.Sem

/-- A column's gated rows, two zero rows before them: row `k` of the padded sequence. -/
def padded (a : ℕ → Fin 1024 → EReal) (k : ℕ) (j : Fin 1024) : EReal := if k < 2 then 0 else a (k - 2) j
/-- The convolution of three taps at row `s`. -/
def taps (w : Fin 3 → Fin 1024 → EReal) (P : ℕ → Fin 1024 → EReal) (s : ℕ) (j : Fin 1024) : EReal :=
  (w 0 j * P s j + w 1 j * P (s + 1) j) + w 2 j * P (s + 2) j
/-- Its transpose: the gradient of the gated row `s`. -/
def tapsBack (w : Fin 3 → Fin 1024 → EReal) (C : ℕ → Fin 1024 → EReal) (s : ℕ) (j : Fin 1024) : EReal :=
  (w 2 j * C s j + w 1 j * C (s + 1) j) + w 0 j * C (s + 2) j

theorem sel_one {α : Type} (x y : α) : Scalar.select 1#1 x y = x := by simp [Scalar.select]
theorem sel_zero {α : Type} (x y : α) : Scalar.select 0#1 x y = y := by simp [Scalar.select]
theorem sel_slt1 {α : Type} (k : ℕ) (hk : k < 16) (x y : α) : Scalar.select (IntOp.cmpi .slt (BitVec.ofNat 32 k) 1#32) x y = if k < 1 then x else y := by
  have e : ∀ b : Fin 16, IntOp.cmpi .slt (BitVec.ofNat 32 b.val) 1#32 = if b.val < 1 then 1#1 else 0#1 := by decide +kernel
  rw [e ⟨k, hk⟩]
  dsimp only
  split_ifs
  · exact sel_one x y
  · exact sel_zero x y
theorem sel_slt2 {α : Type} (k : ℕ) (hk : k < 16) (x y : α) : Scalar.select (IntOp.cmpi .slt (BitVec.ofNat 32 k) 2#32) x y = if k < 2 then x else y := by
  have e : ∀ b : Fin 16, IntOp.cmpi .slt (BitVec.ofNat 32 b.val) 2#32 = if b.val < 2 then 1#1 else 0#1 := by decide +kernel
  rw [e ⟨k, hk⟩]
  dsimp only
  split_ifs
  · exact sel_one x y
  · exact sel_zero x y
theorem sel_sge15 {α : Type} (k : ℕ) (hk : k < 16) (x y : α) : Scalar.select (IntOp.cmpi .sge (BitVec.ofNat 32 k) 15#32) x y = if 15 ≤ k then x else y := by
  have e : ∀ b : Fin 16, IntOp.cmpi .sge (BitVec.ofNat 32 b.val) 15#32 = if 15 ≤ b.val then 1#1 else 0#1 := by decide +kernel
  rw [e ⟨k, hk⟩]
  dsimp only
  split_ifs
  · exact sel_one x y
  · exact sel_zero x y
theorem sel_sge14 {α : Type} (k : ℕ) (hk : k < 16) (x y : α) : Scalar.select (IntOp.cmpi .sge (BitVec.ofNat 32 k) 14#32) x y = if 14 ≤ k then x else y := by
  have e : ∀ b : Fin 16, IntOp.cmpi .sge (BitVec.ofNat 32 b.val) 14#32 = if 14 ≤ b.val then 1#1 else 0#1 := by decide +kernel
  rw [e ⟨k, hk⟩]
  dsimp only
  split_ifs
  · exact sel_one x y
  · exact sel_zero x y
/-- The first block has no block before it. -/
theorem sel_first {α : Type} (n : ℕ) (hn : n < 16) (x y : α) : Scalar.select (Scalar.cmpi .sgt (BitVec.ofNat 32 n) 0#32) x y = if n = 0 then y else x := by
  have e : ∀ b : Fin 16, Scalar.cmpi .sgt (BitVec.ofNat 32 b.val) 0#32 = if b.val = 0 then 0#1 else 1#1 := by decide +kernel
  rw [e ⟨n, hn⟩]
  dsimp only
  split_ifs
  · exact sel_zero x y
  · exact sel_one x y
/-- The last block has no block after it. -/
theorem sel_last {α : Type} (n : ℕ) (hn : n < 16) (x y : α) : Scalar.select (Scalar.cmpi .slt (BitVec.ofNat 32 n) 15#32) x y = if n < 15 then x else y := by
  have e : ∀ b : Fin 16, Scalar.cmpi .slt (BitVec.ofNat 32 b.val) 15#32 = if b.val < 15 then 1#1 else 0#1 := by decide +kernel
  rw [e ⟨n, hn⟩]
  dsimp only
  split_ifs
  · exact sel_one x y
  · exact sel_zero x y

section shifts
variable (n : ℕ) (a : ℕ → Fin 1024 → EReal)

/-- The gated rows moved down by one. -/
theorem shift1 (i : grid0.Coords) (v3 v5 : Vec Ideal S512x1024 .bf16) (v9 v11 : Vec Ideal S16x1024 .bf16)
    (ha : ∀ r c, k0_pay4 (F := Ideal) v3 v5 (ix2 r c) = a (n * 512 + r.val) c)
    (hp : ∀ r c, k0_pay5 (F := Ideal) i v9 v11 (ix2 r c) = if n = 0 then 0 else a (n * 512 + r.val - 16) c) (r : Fin 512) (c : Fin 1024) :
    k0_pay6 (F := Ideal) i v3 v5 v9 v11 (ix2 r c) = padded a (n * 512 + r.val + 1) c := by
  unfold k0_pay6 padded
  pointwise
  by_cases h1 : r.val < 16
  · refine (dif_pos h1).trans ((sel_slt1 _ h1 _ _).trans ?_)
    by_cases h3 : r.val < 1
    · refine (if_pos h3).trans ((hp _ _).trans ?_)
      by_cases h0 : n = 0
      · exact (if_pos h0).trans (if_pos (by omega)).symm
      · refine (if_neg h0).trans (Eq.trans ?_ (if_neg (by omega)).symm)
        refine congrArg (fun k => a k _) ?_
        dsimp only
        omega
    · refine (if_neg h3).trans ((ha _ _).trans (Eq.trans ?_ (if_neg (by omega)).symm))
      refine congrArg (fun k => a k _) ?_
      dsimp only
      omega
  · refine (dif_neg h1).trans ((ha _ _).trans (Eq.trans ?_ (if_neg (by omega)).symm))
    refine congrArg (fun k => a k _) ?_
    dsimp only
    omega

/-- The gated rows moved down by two. -/
theorem shift2 (i : grid0.Coords) (v3 v5 : Vec Ideal S512x1024 .bf16) (v9 v11 : Vec Ideal S16x1024 .bf16)
    (ha : ∀ r c, k0_pay4 (F := Ideal) v3 v5 (ix2 r c) = a (n * 512 + r.val) c)
    (hp : ∀ r c, k0_pay5 (F := Ideal) i v9 v11 (ix2 r c) = if n = 0 then 0 else a (n * 512 + r.val - 16) c) (r : Fin 512) (c : Fin 1024) :
    k0_pay7 (F := Ideal) i v3 v5 v9 v11 (ix2 r c) = padded a (n * 512 + r.val) c := by
  unfold k0_pay7 padded
  pointwise
  by_cases h1 : r.val < 16
  · refine (dif_pos h1).trans ((sel_slt2 _ h1 _ _).trans ?_)
    by_cases h3 : r.val < 2
    · refine (if_pos h3).trans ((hp _ _).trans ?_)
      by_cases h0 : n = 0
      · exact (if_pos h0).trans (if_pos (by omega)).symm
      · refine (if_neg h0).trans (Eq.trans ?_ (if_neg (by omega)).symm)
        refine congrArg (fun k => a k _) ?_
        dsimp only
        omega
    · refine (if_neg h3).trans ((ha _ _).trans (Eq.trans ?_ (if_neg (by omega)).symm))
      refine congrArg (fun k => a k _) ?_
      dsimp only
      omega
  · refine (dif_neg h1).trans ((ha _ _).trans (Eq.trans ?_ (if_neg (by omega)).symm))
    refine congrArg (fun k => a k _) ?_
    dsimp only
    omega

/-- The gradient of the gated rows of a block: the rows after it come from the next block's first rows. -/
theorem back (i : BitVec 32) (v35 : FVec Ideal S8x1024 .f32) (v47 v52 : Vec Ideal S512x1024 .bf16) (v56 v58 : Vec Ideal S16x1024 .bf16)
    (ha : ∀ r c, k0_pay12 (F := Ideal) v47 v52 (ix2 r c) = a (n * 512 + r.val) c)
    (hp : ∀ r c, k0_pay13 (F := Ideal) i v56 v58 (ix2 r c) = a (n * 512 + 512 + r.val) c) (r : Fin 512) (c : Fin 1024) :
    k0_pay17 (F := Ideal) (k0_pay13 i v56 v58) (k0_pay14 i v35 v47 v52 v56 v58) (k0_pay15 v35) (k0_pay16 v47 v52) (ix2 r c)
      = tapsBack (fun k j => v35 (ix2 ⟨k.val, Nat.lt_of_lt_of_le k.isLt (by decide)⟩ j)) a (n * 512 + r.val) c := by
  have e14 : k0_pay14 (F := Ideal) i v35 v47 v52 v56 v58 (ix2 r c) = v35 (ix2 2 c) * a (n * 512 + r.val) c + v35 (ix2 1 c) * a (n * 512 + r.val + 1) c := by
    unfold k0_pay14
    pointwise
    refine congrArg₂ (· + ·) (congrArg (_ * ·) (ha _ _)) (congrArg (_ * ·) ?_)
    by_cases h1 : r.val < 496
    · refine (dif_pos h1).trans ((ha _ _).trans ?_)
      refine congrArg (fun k => a k _) ?_
      dsimp only
      omega
    · refine (dif_neg h1).trans ((sel_sge15 _ (by omega) _ _).trans ?_)
      by_cases h3 : 15 ≤ r.val - 496
      · refine (if_pos h3).trans ((hp _ _).trans ?_)
        refine congrArg (fun k => a k _) ?_
        dsimp only
        omega
      · refine (if_neg h3).trans ((ha _ _).trans ?_)
        refine congrArg (fun k => a k _) ?_
        dsimp only
        omega
  unfold k0_pay17 k0_pay16 k0_pay15 tapsBack
  pointwise
  refine congrArg₂ (· + ·) e14 (congrArg (_ * ·) ?_)
  by_cases h1 : r.val < 496
  · refine (dif_pos h1).trans ((ha _ _).trans ?_)
    refine congrArg (fun k => a k _) ?_
    dsimp only
    omega
  · refine (dif_neg h1).trans ((sel_sge14 _ (by omega) _ _).trans ?_)
    by_cases h3 : 14 ≤ r.val - 496
    · refine (if_pos h3).trans ((hp _ _).trans ?_)
      refine congrArg (fun k => a k _) ?_
      dsimp only
      omega
    · refine (if_neg h3).trans ((ha _ _).trans ?_)
      refine congrArg (fun k => a k _) ?_
      dsimp only
      omega
end shifts
end Cert.Kernel6Ideal.Conv
end
-- ==== Proof.Conv.Rows.lean ====
/- Rows of the taps' gradient, stored and read one at a time; and the convolution's backward as functions of the row. -/
module
public import proofs.«01_k».proof.Proof.Conv.Tile
@[expose] public section
set_option maxRecDepth 16384
noncomputable section
namespace Cert.Kernel6Ideal.Conv
open Cert.Kernel6Ideal Cert.Kernel6Ideal.Gen Idealize.ShloMosaic Idealize.ShloMosaic.TcCoe Idealize.SL.Sem

theorem row_emb (o : ℕ) (inb : ∀ a, (![o, 0] : Fin 2 → ℕ) a + (![1, 1024] : Fin 2 → ℕ) a ≤ S8x1024.size a) (k : Fin 8) (hk : k.val = o) (c : Fin 1024) :
    (Rect.unit (s := S8x1024) ![o, 0] ![1, 1024] inb).emb (ix2 (0 : Fin 1) c) = ix2 k c := by
  funext a
  fin_cases a <;> refine Fin.ext ?_
  · show o + 1 * 0 = k.val
    omega
  · show 0 + 1 * c.val = c.val
    omega

theorem row_not_mem (o : ℕ) (inb : ∀ a, (![o, 0] : Fin 2 → ℕ) a + (![1, 1024] : Fin 2 → ℕ) a ≤ S8x1024.size a) (k : Fin 8) (hk : k.val ≠ o) (c : Fin 1024) :
    (ix2 k c : S8x1024.Idx) ∉ (Rect.unit (s := S8x1024) ![o, 0] ![1, 1024] inb).set := by
  rw [Rect.mem_set_unit]
  intro h
  have h0 := h 0
  have h1 : o ≤ k.val ∧ k.val < o + 1 := h0
  omega

/-- A stored row over the rows stored before it. -/
theorem canon_row (o : ℕ) (inb : ∀ a, (![o, 0] : Fin 2 → ℕ) a + (![1, 1024] : Fin 2 → ℕ) a ≤ S8x1024.size a) (p : S1x1024.Idx → Elt Ideal .f32) (L : List (View.Piece (Elt Ideal) S8x1024 .f32)) (k : Fin 8) (c : Fin 1024) :
    View.canon ((⟨Rect.unit (s := S8x1024) ![o, 0] ![1, 1024] inb, p⟩ : View.Piece (Elt Ideal) S8x1024 .f32) :: L) (ix2 k c) = if k.val = o then p (ix2 0 c) else View.canon L (ix2 k c) := by
  by_cases hk : k.val = o
  · rw [if_pos hk, ← row_emb o inb k hk c]
    exact View.canon_cons_emb _ _ _ _
  · rw [if_neg hk]
    exact View.canon_cons_of_not_mem _ _ (row_not_mem o inb k hk c)

/-- Likewise over contents held before. -/
theorem read_row {κ : Kind} {sp : Space} (v : View sig κ sp S8x1024 .f32) (f : v.ty.Contents (Elt Ideal)) (o : ℕ) (inb : ∀ a, (![o, 0] : Fin 2 → ℕ) a + (![1, 1024] : Fin 2 → ℕ) a ≤ S8x1024.size a) (p : S1x1024.Idx → Elt Ideal .f32) (L : List (View.Piece (Elt Ideal) S8x1024 .f32)) (k : Fin 8) (c : Fin 1024) :
    v.read (Elt Ideal) (v.writes (Elt Ideal) f ((⟨Rect.unit (s := S8x1024) ![o, 0] ![1, 1024] inb, p⟩ : View.Piece (Elt Ideal) S8x1024 .f32) :: L)) (ix2 k c) = if k.val = o then p (ix2 0 c) else v.read (Elt Ideal) (v.writes (Elt Ideal) f L) (ix2 k c) := by
  by_cases hk : k.val = o
  · rw [if_pos hk, ← row_emb o inb k hk c]
    exact View.read_writes_cons_emb _ _ _ _ _ _
  · rw [if_neg hk, View.writes_cons]
    exact View.read_slice_write_of_not_mem _ _ _ _ (by rw [Rect.map_emb_univ]; exact row_not_mem o inb k hk c)

/-- A loaded row of what was stored. -/
theorem load_row {κ : Kind} {sp : Space} (v : View sig κ sp S8x1024 .f32) (o : Fin 8) (inb : ∀ a, (![o.val, 0] : Fin 2 → ℕ) a + (![1, 1024] : Fin 2 → ℕ) a ≤ S8x1024.size a) (L : List (View.Piece (Elt Ideal) S8x1024 .f32)) (c : Fin 1024) :
    v.readCov L (Rect.unit (s := S8x1024) ![o.val, 0] ![1, 1024] inb).toLoadRect (ix2 0 c) = View.canon L (ix2 o c) := by
  rw [View.readCov_eq_canon']
  exact congrArg (View.canon L) (row_emb o.val inb o rfl c)

theorem ld_row (o : Fin 8) (inb : ∀ a, (![o.val, 0] : Fin 2 → ℕ) a + (![1, 1024] : Fin 2 → ℕ) a ≤ S8x1024.size a) (x : Vec Ideal S8x1024 .f32) (c : Fin 1024) :
    View.ld x (Rect.unit (s := S8x1024) ![o.val, 0] ![1, 1024] inb) (ix2 0 c) = x (ix2 o c) :=
  congrArg x (row_emb o.val inb o rfl c)

end Cert.Kernel6Ideal.Conv
end
-- ==== Proof.Conv.Value.lean ====
/- The gated convolution's backward: what the launch leaves in its four result arrays, and that they are the reference's. -/
module
public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ReadBack
public import Idealize.ShloMosaic.Lib.Tactic
public import proofs.«01_k».proof.Defs
public import proofs.«01_k».proof.Proof.Conv.Tile
public import proofs.«01_k».proof.Proof.Conv.Rows
@[expose] public section
set_option maxRecDepth 16384
noncomputable section
namespace Cert.Kernel6Ideal.Conv
open Cert.Kernel6Ideal Cert.Kernel6Ideal.Gen Idealize.ShloMosaic Idealize.ShloMosaic.TcCoe Idealize.SL.Sem
open Idealize.ShloMosaic.Pipeline (Dat)

/-! ## The results as functions of the arguments -/

def col (o : ℕ) (ho : o + 1024 ≤ 5120) (j : Fin 1024) : Fin 5120 := ⟨o + j.val, by have := j.isLt; omega⟩

/-- The gated row `k`, and zero past the end. -/
def gated (h : FVec Ideal S8192x5120 .bf16) (k : ℕ) (j : Fin 1024) : EReal :=
  if hk : k < 8192 then h (ix2 ⟨k, hk⟩ (col 1024 (by decide) j)) * h (ix2 ⟨k, hk⟩ (col 2048 (by decide) j)) else 0
/-- The gradient of the convolution's row `k`, and zero past the end. -/
def grad (h : FVec Ideal S8192x5120 .bf16) (d : FVec Ideal S8192x1024 .bf16) (k : ℕ) (j : Fin 1024) : EReal :=
  if hk : k < 8192 then d (ix2 ⟨k, hk⟩ j) * h (ix2 ⟨k, hk⟩ (col 0 (by decide) j)) else 0
def tap (w : FVec Ideal S3x1024 .f32) (k : Fin 3) (j : Fin 1024) : EReal := w (ix2 k j)

def dbgR (h : FVec Ideal S8192x5120 .bf16) (w : FVec Ideal S3x1024 .f32) (d : FVec Ideal S8192x1024 .bf16) : FVec Ideal S8192x1024 .bf16 :=
  fun y => (show EReal from d y) * taps (tap w) (padded (gated h)) (y 0).val (y 1)
def dcgR (h : FVec Ideal S8192x5120 .bf16) (w : FVec Ideal S3x1024 .f32) (d : FVec Ideal S8192x1024 .bf16) : FVec Ideal S8192x1024 .bf16 :=
  fun y => tapsBack (tap w) (grad h d) (y 0).val (y 1) * (show EReal from h (ix2 (y 0) (col 2048 (by decide) (y 1))))
def duR (h : FVec Ideal S8192x5120 .bf16) (w : FVec Ideal S3x1024 .f32) (d : FVec Ideal S8192x1024 .bf16) : FVec Ideal S8192x1024 .bf16 :=
  fun y => tapsBack (tap w) (grad h d) (y 0).val (y 1) * (show EReal from h (ix2 (y 0) (col 1024 (by decide) (y 1))))
/-- The taps' gradient summed over the first `N` rows. -/
def tapGrad (h : FVec Ideal S8192x5120 .bf16) (d : FVec Ideal S8192x1024 .bf16) (N : ℕ) (k : ℕ) (j : Fin 1024) : EReal :=
  ∑ s ∈ Finset.range N, grad h d s j * padded (gated h) (s + k) j
def dwR (h : FVec Ideal S8192x5120 .bf16) (d : FVec Ideal S8192x1024 .bf16) (N : ℕ) : FVec Ideal S8x1024 .f32 :=
  fun y => if (y 0).val < 3 then tapGrad h d N (y 0).val (y 1) else 0

/-! ## The blocks read the arguments -/

theorem idx : ∀ t : Fin grid0.N, win0_0.index t = ![t.val, 0] ∧ win0_1.index t = ![t.val, 1] ∧ win0_2.index t = ![t.val, 2] ∧ win0_3.index t = ![32 * t.val - 1, 1] ∧ win0_4.index t = ![32 * t.val - 1, 2] ∧ win0_5.index t = ![min (32 * (t.val + 1)) 511, 0]
    ∧ win0_6.index t = ![t.val, 0] ∧ win0_7.index t = ![min (32 * (t.val + 1)) 511, 0] ∧ win0_8.index t = ![0, 0] ∧ win0_9.index t = ![t.val, 0] ∧ win0_10.index t = ![t.val, 0] ∧ win0_11.index t = ![t.val, 0] ∧ win0_12.index t = ![0, 0] := by decide +kernel

variable (m : (ℓ : Loc nD τ sig) → Buf (Elt Ideal) ℓ)

/-- The taps as the launch reads them: three rows, five rows of padding. -/
def w8 (w : FVec Ideal S3x1024 .f32) : FVec Ideal S8x1024 .f32 := pad S8x1024 ![0, 0] ![5, 0] ![0, 0] w (sitofp .f32 (constantI S_ 32 0#32)) pads_S3x1024_S8x1024_050_000 h_S_
theorem weight (c : Dev nD) : V m c main_v0 = w8 (m ((c.tc : Thread nD τ).loc main_arg1)) := by
  unfold w8
  unfold_abbrev_sides
  simp only [hostOps0, hostOps0_1, List.flatten_cons, List.flatten_nil, List.append_nil, List.cons_append, List.nil_append, StableHlo.TRef.binary, StableHlo.TRef.unary, StableHlo.TRef.toBuf, StableHlo.TRef.ofBuf, cast_eq]
  after_results_simp

theorem blk0 (c : Dev nD) (t : Fin cfg0.N) (i : S512x1024.Idx) (j : S8192x5120.Idx) (e0 : (j 0).val = t.val * 512 + (i 0).val) (e1 : (j 1).val = (i 1).val) :
    iblk m c 0 t i = m ((c.tc : Thread nD τ).loc main_arg0) j := by
  show V m c main_arg0 _ = _
  rw [V_main_arg0]
  blk_ext [idx t]
theorem blk1 (c : Dev nD) (t : Fin cfg0.N) (i : S512x1024.Idx) (j : S8192x5120.Idx) (e0 : (j 0).val = t.val * 512 + (i 0).val) (e1 : (j 1).val = 1024 + (i 1).val) :
    iblk m c 1 t i = m ((c.tc : Thread nD τ).loc main_arg0) j := by
  show V m c main_arg0 _ = _
  rw [V_main_arg0]
  blk_ext [idx t]
theorem blk2 (c : Dev nD) (t : Fin cfg0.N) (i : S512x1024.Idx) (j : S8192x5120.Idx) (e0 : (j 0).val = t.val * 512 + (i 0).val) (e1 : (j 1).val = 2048 + (i 1).val) :
    iblk m c 2 t i = m ((c.tc : Thread nD τ).loc main_arg0) j := by
  show V m c main_arg0 _ = _
  rw [V_main_arg0]
  blk_ext [idx t]
theorem blk3 (c : Dev nD) (t : Fin cfg0.N) (i : S16x1024.Idx) (j : S8192x5120.Idx) (e0 : (j 0).val = (32 * t.val - 1) * 16 + (i 0).val) (e1 : (j 1).val = 1024 + (i 1).val) :
    iblk m c 3 t i = m ((c.tc : Thread nD τ).loc main_arg0) j := by
  show V m c main_arg0 _ = _
  rw [V_main_arg0]
  blk_ext [idx t]
theorem blk4 (c : Dev nD) (t : Fin cfg0.N) (i : S16x1024.Idx) (j : S8192x5120.Idx) (e0 : (j 0).val = (32 * t.val - 1) * 16 + (i 0).val) (e1 : (j 1).val = 2048 + (i 1).val) :
    iblk m c 4 t i = m ((c.tc : Thread nD τ).loc main_arg0) j := by
  show V m c main_arg0 _ = _
  rw [V_main_arg0]
  blk_ext [idx t]
theorem blk5 (c : Dev nD) (t : Fin cfg0.N) (i : S16x1024.Idx) (j : S8192x5120.Idx) (e0 : (j 0).val = min (32 * (t.val + 1)) 511 * 16 + (i 0).val) (e1 : (j 1).val = (i 1).val) :
    iblk m c 5 t i = m ((c.tc : Thread nD τ).loc main_arg0) j := by
  show V m c main_arg0 _ = _
  rw [V_main_arg0]
  blk_ext [idx t]
theorem blk6 (c : Dev nD) (t : Fin cfg0.N) (i : S512x1024.Idx) (j : S8192x1024.Idx) (e0 : (j 0).val = t.val * 512 + (i 0).val) (e1 : (j 1).val = (i 1).val) :
    iblk m c 6 t i = m ((c.tc : Thread nD τ).loc main_arg2) j := by
  show V m c main_arg2 _ = _
  rw [V_main_arg2]
  blk_ext [idx t]
theorem blk7 (c : Dev nD) (t : Fin cfg0.N) (i : S16x1024.Idx) (j : S8192x1024.Idx) (e0 : (j 0).val = min (32 * (t.val + 1)) 511 * 16 + (i 0).val) (e1 : (j 1).val = (i 1).val) :
    iblk m c 7 t i = m ((c.tc : Thread nD τ).loc main_arg2) j := by
  show V m c main_arg2 _ = _
  rw [V_main_arg2]
  blk_ext [idx t]
theorem blk8 (c : Dev nD) (t : Fin cfg0.N) (k : Fin 8) (k' : Fin 3) (hk : k'.val = k.val) (j : Fin 1024) :
    iblk m c 8 t (ix2 k j) = tap (m ((c.tc : Thread nD τ).loc main_arg1)) k' j := by
  have e : iblk m c 8 t (ix2 k j) = V m c main_v0 (ix2 k j) := by
    show V m c main_v0 _ = _
    blk_ext [idx t]
  rw [e, weight]
  have hk3 := k'.isLt
  have hj := j.isLt
  unfold tap w8
  pointwise
  refine (dif_pos (by omega)).trans (congrArg (fun z => m ((c.tc : Thread nD τ).loc main_arg1) (ix2 z j)) (Fin.ext hk.symm))

theorem coord : ∀ t : Fin grid0.N, (grid0.coords t 0).val = t.val := by decide +kernel

theorem rows (c : Dev nD) (t : Fin cfg0.N) (r : Fin 512) (j : Fin 1024) :
    k0_pay4 (F := Ideal) (iblk m c 1 t) (iblk m c 2 t) (ix2 r j) = gated (m ((c.tc : Thread nD τ).loc main_arg0)) (t.val * 512 + r.val) j := by
  have hN : t.val < 16 := lt_of_lt_of_eq t.isLt N_0
  have hr := r.isLt
  unfold k0_pay4 k0_pay3 k0_pay2 gated
  pointwise
  rw [dif_pos (by omega)]
  exact congrArg₂ (· * ·) (blk1 m c t _ _ rfl rfl) (blk2 m c t _ _ rfl rfl)

theorem rowsBefore (c : Dev nD) (t : Fin cfg0.N) (r : Fin 16) (j : Fin 1024) :
    k0_pay5 (F := Ideal) (grid0.coords t) (iblk m c 3 t) (iblk m c 4 t) (ix2 r j) = if t.val = 0 then 0 else gated (m ((c.tc : Thread nD τ).loc main_arg0)) (t.val * 512 + r.val - 16) j := by
  have hN : t.val < 16 := lt_of_lt_of_eq t.isLt N_0
  have hr := r.isLt
  unfold k0_pay5 gated
  pointwise
  rw [coord t]
  refine (sel_first _ hN _ _).trans ?_
  by_cases h0 : t.val = 0
  · rw [if_pos h0, if_pos h0]
  · rw [if_neg h0, if_neg h0, dif_pos (by omega)]
    exact congrArg₂ (· * ·) (blk3 m c t _ _ (show t.val * 512 + r.val - 16 = (32 * t.val - 1) * 16 + r.val by omega) rfl) (blk4 m c t _ _ (show t.val * 512 + r.val - 16 = (32 * t.val - 1) * 16 + r.val by omega) rfl)

theorem grads (c : Dev nD) (t : Fin cfg0.N) (r : Fin 512) (j : Fin 1024) :
    k0_pay12 (F := Ideal) (iblk m c 6 t) (iblk m c 0 t) (ix2 r j) = grad (m ((c.tc : Thread nD τ).loc main_arg0)) (m ((c.tc : Thread nD τ).loc main_arg2)) (t.val * 512 + r.val) j := by
  have hN : t.val < 16 := lt_of_lt_of_eq t.isLt N_0
  have hr := r.isLt
  unfold k0_pay12 k0_pay10 grad
  pointwise
  rw [dif_pos (by omega)]
  exact congrArg₂ (· * ·) (blk6 m c t _ _ rfl rfl) (blk0 m c t _ _ rfl (Nat.zero_add _))

theorem gradsAfter (c : Dev nD) (t : Fin cfg0.N) (r : Fin 16) (j : Fin 1024) :
    k0_pay13 (F := Ideal) (BitVec.ofNat 32 (grid0.coords t 0).val) (iblk m c 7 t) (iblk m c 5 t) (ix2 r j) = grad (m ((c.tc : Thread nD τ).loc main_arg0)) (m ((c.tc : Thread nD τ).loc main_arg2)) (t.val * 512 + 512 + r.val) j := by
  have hN : t.val < 16 := lt_of_lt_of_eq t.isLt N_0
  have hr := r.isLt
  unfold k0_pay13 grad
  pointwise
  rw [coord t]
  refine (sel_last _ hN _ _).trans ?_
  by_cases h0 : t.val < 15
  · rw [if_pos h0, dif_pos (by omega)]
    exact congrArg₂ (· * ·) (blk7 m c t _ _ (show t.val * 512 + 512 + r.val = min (32 * (t.val + 1)) 511 * 16 + r.val by omega) rfl) (blk5 m c t _ _ (show t.val * 512 + 512 + r.val = min (32 * (t.val + 1)) 511 * 16 + r.val by omega) (Nat.zero_add _))
  · rw [if_neg h0, dif_neg (by omega)]

/-! ## What a point leaves in its blocks -/

theorem out9 (c : Dev nD) (t : Fin cfg0.N) (r : Fin 512) (j : Fin 1024) (R : Fin 8192) (e : R.val = t.val * 512 + r.val) :
    (outsAt0 m c t.val t.isLt).1 (ix2 r j) = dbgR (m ((c.tc : Thread nD τ).loc main_arg0)) (m ((c.tc : Thread nD τ).loc main_arg1)) (m ((c.tc : Thread nD τ).loc main_arg2)) (ix2 R j) := by
  have key : (outsAt0 m c t.val t.isLt).1 = k0_pay11 (k0_pay4 (iblk m c 1 t) (iblk m c 2 t)) (k0_pay6 (grid0.coords t) (iblk m c 1 t) (iblk m c 2 t) (iblk m c 3 t) (iblk m c 4 t)) (k0_pay7 (grid0.coords t) (iblk m c 1 t) (iblk m c 2 t) (iblk m c 3 t) (iblk m c 4 t)) (k0_pay8 (iblk m c 8 t)) (k0_pay9 (iblk m c 8 t)) (iblk m c 6 t) := by
    by_cases h0 : t.val % 16 = 0
    · rw [Gen.outsAt0_A m c t h0]
      frame_out
    · rw [Gen.outsAt0_B m c t h0]
      frame_out
  rw [key]
  unfold k0_pay11 k0_pay9 k0_pay8 k0_pay10 dbgR taps
  pointwise
  rw [e]
  refine congrArg₂ (· * ·) (blk6 m c t _ _ e rfl) (congrArg₂ (· + ·) (congrArg₂ (· + ·) (congrArg₂ (· * ·) (blk8 m c t _ _ rfl _) ?_) (congrArg₂ (· * ·) (blk8 m c t _ _ rfl _) ?_)) (congrArg₂ (· * ·) (blk8 m c t _ _ rfl _) ?_))
  · exact shift2 t.val _ _ _ _ _ _ (rows m c t) (rowsBefore m c t) _ _
  · exact shift1 t.val _ _ _ _ _ _ (rows m c t) (rowsBefore m c t) _ _
  · refine (rows m c t _ _).trans (if_neg (by omega)).symm

theorem backAt (c : Dev nD) (t : Fin cfg0.N) (r : Fin 512) (j : Fin 1024) :
    k0_pay17 (F := Ideal) (k0_pay13 (BitVec.ofNat 32 (grid0.coords t 0).val) (iblk m c 7 t) (iblk m c 5 t)) (k0_pay14 (BitVec.ofNat 32 (grid0.coords t 0).val) (k0_pay8 (iblk m c 8 t)) (iblk m c 6 t) (iblk m c 0 t) (iblk m c 7 t) (iblk m c 5 t)) (k0_pay15 (k0_pay8 (iblk m c 8 t))) (k0_pay16 (iblk m c 6 t) (iblk m c 0 t)) (ix2 r j)
      = tapsBack (tap (m ((c.tc : Thread nD τ).loc main_arg1))) (grad (m ((c.tc : Thread nD τ).loc main_arg0)) (m ((c.tc : Thread nD τ).loc main_arg2))) (t.val * 512 + r.val) j := by
  refine (back t.val _ _ _ _ _ _ _ (grads m c t) (gradsAfter m c t) r j).trans ?_
  refine congrArg (fun w => tapsBack w _ _ _) (funext fun k => funext fun j' => ?_)
  unfold k0_pay8
  pointwise
  exact blk8 m c t _ _ rfl _

theorem out10 (c : Dev nD) (t : Fin cfg0.N) (r : Fin 512) (j : Fin 1024) (R : Fin 8192) (e : R.val = t.val * 512 + r.val) :
    (outsAt0 m c t.val t.isLt).2.1 (ix2 r j) = dcgR (m ((c.tc : Thread nD τ).loc main_arg0)) (m ((c.tc : Thread nD τ).loc main_arg1)) (m ((c.tc : Thread nD τ).loc main_arg2)) (ix2 R j) := by
  have key : (outsAt0 m c t.val t.isLt).2.1 = k0_pay18 (k0_pay3 (iblk m c 2 t)) (k0_pay13 (BitVec.ofNat 32 (grid0.coords t 0).val) (iblk m c 7 t) (iblk m c 5 t)) (k0_pay14 (BitVec.ofNat 32 (grid0.coords t 0).val) (k0_pay8 (iblk m c 8 t)) (iblk m c 6 t) (iblk m c 0 t) (iblk m c 7 t) (iblk m c 5 t)) (k0_pay15 (k0_pay8 (iblk m c 8 t))) (k0_pay16 (iblk m c 6 t) (iblk m c 0 t)) := by
    by_cases h0 : t.val % 16 = 0
    · rw [Gen.outsAt0_A m c t h0]
      frame_out
    · rw [Gen.outsAt0_B m c t h0]
      frame_out
  rw [key]
  unfold k0_pay18 k0_pay3 dcgR
  pointwise
  rw [e]
  exact congrArg₂ (· * ·) (backAt m c t _ _) (blk2 m c t _ _ e rfl)

theorem out11 (c : Dev nD) (t : Fin cfg0.N) (r : Fin 512) (j : Fin 1024) (R : Fin 8192) (e : R.val = t.val * 512 + r.val) :
    (outsAt0 m c t.val t.isLt).2.2.1 (ix2 r j) = duR (m ((c.tc : Thread nD τ).loc main_arg0)) (m ((c.tc : Thread nD τ).loc main_arg1)) (m ((c.tc : Thread nD τ).loc main_arg2)) (ix2 R j) := by
  have key : (outsAt0 m c t.val t.isLt).2.2.1 = k0_pay19 (k0_pay2 (iblk m c 1 t)) (k0_pay13 (BitVec.ofNat 32 (grid0.coords t 0).val) (iblk m c 7 t) (iblk m c 5 t)) (k0_pay14 (BitVec.ofNat 32 (grid0.coords t 0).val) (k0_pay8 (iblk m c 8 t)) (iblk m c 6 t) (iblk m c 0 t) (iblk m c 7 t) (iblk m c 5 t)) (k0_pay15 (k0_pay8 (iblk m c 8 t))) (k0_pay16 (iblk m c 6 t) (iblk m c 0 t)) := by
    by_cases h0 : t.val % 16 = 0
    · rw [Gen.outsAt0_A m c t h0]
      frame_out
    · rw [Gen.outsAt0_B m c t h0]
      frame_out
  rw [key]
  unfold k0_pay19 k0_pay2 duR
  pointwise
  rw [e]
  exact congrArg₂ (· * ·) (backAt m c t _ _) (blk1 m c t _ _ e rfl)

/-! ## The taps' gradient, accumulated point after point -/

/-- Rows `512·n` to `512·(n+1)`'s part of the sum. -/
theorem tapGrad_step (h : FVec Ideal S8192x5120 .bf16) (d : FVec Ideal S8192x1024 .bf16) (n k : ℕ) (j : Fin 1024) :
    tapGrad h d ((n + 1) * 512) k j = tapGrad h d (n * 512) k j + ∑ r : Fin 512, grad h d (n * 512 + r.val) j * padded (gated h) (n * 512 + r.val + k) j := by
  unfold tapGrad
  rw [show (n + 1) * 512 = n * 512 + 512 by ring, Finset.sum_range_add, Finset.sum_range (n := 512)]

theorem part0 (c : Dev nD) (t : Fin cfg0.N) (v : Vec Ideal S1x1024 .f32) (j : Fin 1024) :
    k0_pay20 (F := Ideal) (k0_pay7 (grid0.coords t) (iblk m c 1 t) (iblk m c 2 t) (iblk m c 3 t) (iblk m c 4 t)) (k0_pay12 (iblk m c 6 t) (iblk m c 0 t)) v (ix2 0 j) = v (ix2 0 j) + ∑ r : Fin 512, grad (m ((c.tc : Thread nD τ).loc main_arg0)) (m ((c.tc : Thread nD τ).loc main_arg2)) (t.val * 512 + r.val) j * padded (gated (m ((c.tc : Thread nD τ).loc main_arg0))) (t.val * 512 + r.val + 0) j := by
  unfold k0_pay20
  pointwise
  refine congrArg (_ + ·) (Finset.sum_congr rfl fun r _ => ?_)
  exact congrArg₂ (· * ·) (grads m c t _ _) (shift2 t.val _ _ _ _ _ _ (rows m c t) (rowsBefore m c t) _ _)
theorem part1 (c : Dev nD) (t : Fin cfg0.N) (v : Vec Ideal S1x1024 .f32) (j : Fin 1024) :
    k0_pay21 (F := Ideal) (k0_pay6 (grid0.coords t) (iblk m c 1 t) (iblk m c 2 t) (iblk m c 3 t) (iblk m c 4 t)) (k0_pay12 (iblk m c 6 t) (iblk m c 0 t)) v (ix2 0 j) = v (ix2 0 j) + ∑ r : Fin 512, grad (m ((c.tc : Thread nD τ).loc main_arg0)) (m ((c.tc : Thread nD τ).loc main_arg2)) (t.val * 512 + r.val) j * padded (gated (m ((c.tc : Thread nD τ).loc main_arg0))) (t.val * 512 + r.val + 1) j := by
  unfold k0_pay21
  pointwise
  refine congrArg (_ + ·) (Finset.sum_congr rfl fun r _ => ?_)
  exact congrArg₂ (· * ·) (grads m c t _ _) (shift1 t.val _ _ _ _ _ _ (rows m c t) (rowsBefore m c t) _ _)
theorem part2 (c : Dev nD) (t : Fin cfg0.N) (v : Vec Ideal S1x1024 .f32) (j : Fin 1024) :
    k0_pay22 (F := Ideal) (k0_pay4 (iblk m c 1 t) (iblk m c 2 t)) (k0_pay12 (iblk m c 6 t) (iblk m c 0 t)) v (ix2 0 j) = v (ix2 0 j) + ∑ r : Fin 512, grad (m ((c.tc : Thread nD τ).loc main_arg0)) (m ((c.tc : Thread nD τ).loc main_arg2)) (t.val * 512 + r.val) j * padded (gated (m ((c.tc : Thread nD τ).loc main_arg0))) (t.val * 512 + r.val + 2) j := by
  unfold k0_pay22
  pointwise
  refine congrArg (_ + ·) (Finset.sum_congr rfl fun r _ => ?_)
  exact congrArg₂ (· * ·) (grads m c t _ _) ((rows m c t _ _).trans (if_neg (by omega)).symm)

theorem zeros (k : Fin 8) (j : Fin 1024) : k0_pay1 (F := Ideal) (ix2 k j) = (0 : EReal) := by
  unfold k0_pay1
  pointwise

theorem row_next (h : FVec Ideal S8192x5120 .bf16) (d : FVec Ideal S8192x1024 .bf16) (n o : ℕ) (ho : o < 3) (k : Fin 8) (hk : k.val = o) (j : Fin 1024) (z : EReal) (hz : z = tapGrad h d (n * 512) o j) :
    z + ∑ r : Fin 512, grad h d (n * 512 + r.val) j * padded (gated h) (n * 512 + r.val + o) j = dwR h d ((n + 1) * 512) (ix2 k j) := by
  subst hk
  rw [hz, ← tapGrad_step]
  exact (if_pos ho).symm

theorem canon_zeros (inb : ∀ a, (![0, 0] : Fin 2 → ℕ) a + (![8, 1024] : Fin 2 → ℕ) a ≤ S8x1024.size a) (k : Fin 8) (j : Fin 1024) :
    View.canon [(⟨Rect.unit (s := S8x1024) ![0, 0] ![8, 1024] inb, k0_pay1 (F := Ideal)⟩ : View.Piece (Elt Ideal) S8x1024 .f32)] (ix2 k j) = (0 : EReal) :=
  (congrFun (View.canon_cons_unit_zero (S := S8x1024) (Val := Elt Ideal) (e := .f32) (by funext a; fin_cases a <;> rfl) inb (k0_pay1 (F := Ideal)) []) (ix2 k j)).trans (zeros k j)

theorem outFirst (c : Dev nD) (t : Fin cfg0.N) (h0 : t.val % 16 = 0) (k : Fin 8) (j : Fin 1024) :
    (outsAt0 m c t.val t.isLt).2.2.2 (ix2 k j) = dwR (m ((c.tc : Thread nD τ).loc main_arg0)) (m ((c.tc : Thread nD τ).loc main_arg2)) ((t.val + 1) * 512) (ix2 k j) := by
  have hN : t.val < 16 := lt_of_lt_of_eq t.isLt N_0
  have ht : t.val = 0 := by omega
  have hz : ∀ o, (0 : EReal) = tapGrad (m ((c.tc : Thread nD τ).loc main_arg0)) (m ((c.tc : Thread nD τ).loc main_arg2)) (t.val * 512) o j := fun o => by
    rw [ht]
    exact (Finset.sum_empty).symm
  rw [Gen.outsAt0_A m c t h0]
  frame_out
  refine (canon_row 2 _ _ _ k j).trans ?_
  by_cases k2 : k.val = 2
  · refine (if_pos k2).trans ((part2 m c t _ j).trans (row_next _ _ t.val 2 (by decide) k k2 j _ (Eq.trans ?_ (hz 2))))
    refine (load_row _ 2 _ _ j).trans ((canon_row 1 _ _ _ 2 j).trans ((if_neg (by decide)).trans ((canon_row 0 _ _ _ 2 j).trans ((if_neg (by decide)).trans (canon_zeros _ 2 j)))))
  refine (if_neg k2).trans ((canon_row 1 _ _ _ k j).trans ?_)
  by_cases k1 : k.val = 1
  · refine (if_pos k1).trans ((part1 m c t _ j).trans (row_next _ _ t.val 1 (by decide) k k1 j _ (Eq.trans ?_ (hz 1))))
    refine (load_row _ 1 _ _ j).trans ((canon_row 0 _ _ _ 1 j).trans ((if_neg (by decide)).trans (canon_zeros _ 1 j)))
  refine (if_neg k1).trans ((canon_row 0 _ _ _ k j).trans ?_)
  by_cases k0 : k.val = 0
  · refine (if_pos k0).trans ((part0 m c t _ j).trans (row_next _ _ t.val 0 (by decide) k k0 j _ (Eq.trans ?_ (hz 0))))
    exact (load_row _ 0 _ _ j).trans (canon_zeros _ 0 j)
  refine (if_neg k0).trans ((canon_zeros _ k j).trans ?_)
  exact (if_neg (show ¬ k.val < 3 by omega)).symm

theorem outNext (c : Dev nD) (t : Fin cfg0.N) (h0 : ¬t.val % 16 = 0)
    (ih : ∀ k j, (outsAt0 m c (t.val - 1) (Nat.lt_of_le_of_lt (Nat.sub_le _ _) t.isLt)).2.2.2 (ix2 k j) = dwR (m ((c.tc : Thread nD τ).loc main_arg0)) (m ((c.tc : Thread nD τ).loc main_arg2)) (t.val * 512) (ix2 k j)) (k : Fin 8) (j : Fin 1024) :
    (outsAt0 m c t.val t.isLt).2.2.2 (ix2 k j) = dwR (m ((c.tc : Thread nD τ).loc main_arg0)) (m ((c.tc : Thread nD τ).loc main_arg2)) ((t.val + 1) * 512) (ix2 k j) := by
  rw [Gen.outsAt0_B m c t h0]
  frame_out
  refine (read_row _ _ 2 _ _ _ k j).trans ?_
  by_cases k2 : k.val = 2
  · exact (if_pos k2).trans ((part2 m c t _ j).trans (row_next _ _ t.val 2 (by decide) k k2 j _ ((ld_row 2 _ _ j).trans ((ih 2 j).trans (if_pos (show 2 < 3 by decide))))))
  refine (if_neg k2).trans ((read_row _ _ 1 _ _ _ k j).trans ?_)
  by_cases k1 : k.val = 1
  · exact (if_pos k1).trans ((part1 m c t _ j).trans (row_next _ _ t.val 1 (by decide) k k1 j _ ((ld_row 1 _ _ j).trans ((ih 1 j).trans (if_pos (show 1 < 3 by decide))))))
  refine (if_neg k1).trans ((read_row _ _ 0 _ _ _ k j).trans ?_)
  by_cases k0 : k.val = 0
  · exact (if_pos k0).trans ((part0 m c t _ j).trans (row_next _ _ t.val 0 (by decide) k k0 j _ ((ld_row 0 _ _ j).trans ((ih 0 j).trans (if_pos (show 0 < 3 by decide))))))
  refine (if_neg k0).trans ?_
  have hk : ¬ k.val < 3 := by omega
  refine (congrFun (Memref.IsWhole.read_unread (hs0_12 t) _) (ix2 k j)).trans ((ih k j).trans ((if_neg hk).trans (if_neg hk).symm))

theorem out12 (c : Dev nD) : ∀ (n : ℕ) (hn : n < cfg0.N) (k : Fin 8) (j : Fin 1024), (outsAt0 m c n hn).2.2.2 (ix2 k j) = dwR (m ((c.tc : Thread nD τ).loc main_arg0)) (m ((c.tc : Thread nD τ).loc main_arg2)) ((n + 1) * 512) (ix2 k j) := by
  intro n
  induction n with
  | zero => exact fun hn k j => outFirst m c ⟨0, hn⟩ (show 0 % 16 = 0 by decide) k j
  | succ n ih =>
    intro hn k j
    have hN : n + 1 < 16 := lt_of_lt_of_eq hn N_0
    exact outNext m c ⟨n + 1, hn⟩ (show ¬(n + 1) % 16 = 0 by omega) (fun k j => ih (Nat.lt_of_succ_lt hn) k j) k j

/-! ## The arrays the launch leaves -/

theorem at9 (c : Dev nD) (t : Fin cfg0.N) (y : S512x1024.Idx) (R : S8192x1024.Idx) (e0 : (R 0).val = t.val * 512 + (y 0).val) (e1 : (R 1).val = (y 1).val) :
    (outsAt0 m c t.val t.isLt).1 y = dbgR (m ((c.tc : Thread nD τ).loc main_arg0)) (m ((c.tc : Thread nD τ).loc main_arg1)) (m ((c.tc : Thread nD τ).loc main_arg2)) R := by
  have h1 : R = ix2 (R 0) (y 1) := (eq_ix2 R).trans (congrArg (ix2 (R 0)) (Fin.ext e1))
  rw [h1]
  exact (congrArg (outsAt0 m c t.val t.isLt).1 (eq_ix2 y)).trans (out9 m c t (y 0) (y 1) (R 0) e0)

theorem final9 (c : Dev nD) : (dats m 0 c).arrAt 9 cfg0.N = dbgR (m ((c.tc : Thread nD τ).loc main_arg0)) (m ((c.tc : Thread nD τ).loc main_arg1)) (m ((c.tc : Thread nD τ).loc main_arg2)) := by
  refine (dats m 0 c).arrAt_eq_of_covers 9 _ (by decide +kernel) fun t hf y => ?_
  blk_simp
  rw [after0_9]
  refine at9 m c t _ _ ?_ ?_
  all_goals blk_simp [idx t]

theorem at10 (c : Dev nD) (t : Fin cfg0.N) (y : S512x1024.Idx) (R : S8192x1024.Idx) (e0 : (R 0).val = t.val * 512 + (y 0).val) (e1 : (R 1).val = (y 1).val) :
    (outsAt0 m c t.val t.isLt).2.1 y = dcgR (m ((c.tc : Thread nD τ).loc main_arg0)) (m ((c.tc : Thread nD τ).loc main_arg1)) (m ((c.tc : Thread nD τ).loc main_arg2)) R := by
  have h1 : R = ix2 (R 0) (y 1) := (eq_ix2 R).trans (congrArg (ix2 (R 0)) (Fin.ext e1))
  rw [h1]
  exact (congrArg (outsAt0 m c t.val t.isLt).2.1 (eq_ix2 y)).trans (out10 m c t (y 0) (y 1) (R 0) e0)

theorem final10 (c : Dev nD) : (dats m 0 c).arrAt 10 cfg0.N = dcgR (m ((c.tc : Thread nD τ).loc main_arg0)) (m ((c.tc : Thread nD τ).loc main_arg1)) (m ((c.tc : Thread nD τ).loc main_arg2)) := by
  refine (dats m 0 c).arrAt_eq_of_covers 10 _ (by decide +kernel) fun t hf y => ?_
  blk_simp
  rw [after0_10]
  refine at10 m c t _ _ ?_ ?_
  all_goals blk_simp [idx t]

theorem at11 (c : Dev nD) (t : Fin cfg0.N) (y : S512x1024.Idx) (R : S8192x1024.Idx) (e0 : (R 0).val = t.val * 512 + (y 0).val) (e1 : (R 1).val = (y 1).val) :
    (outsAt0 m c t.val t.isLt).2.2.1 y = duR (m ((c.tc : Thread nD τ).loc main_arg0)) (m ((c.tc : Thread nD τ).loc main_arg1)) (m ((c.tc : Thread nD τ).loc main_arg2)) R := by
  have h1 : R = ix2 (R 0) (y 1) := (eq_ix2 R).trans (congrArg (ix2 (R 0)) (Fin.ext e1))
  rw [h1]
  exact (congrArg (outsAt0 m c t.val t.isLt).2.2.1 (eq_ix2 y)).trans (out11 m c t (y 0) (y 1) (R 0) e0)

theorem final11 (c : Dev nD) : (dats m 0 c).arrAt 11 cfg0.N = duR (m ((c.tc : Thread nD τ).loc main_arg0)) (m ((c.tc : Thread nD τ).loc main_arg1)) (m ((c.tc : Thread nD τ).loc main_arg2)) := by
  refine (dats m 0 c).arrAt_eq_of_covers 11 _ (by decide +kernel) fun t hf y => ?_
  blk_simp
  rw [after0_11]
  refine at11 m c t _ _ ?_ ?_
  all_goals blk_simp [idx t]

theorem last : ∀ t : Fin cfg0.N, (cfg0.win 12).flush t = true → t.val = 15 := (by decide +kernel : ∀ t : Fin grid0.N, win0_12.flush t = true → t.val = 15)

theorem final12 (c : Dev nD) : (dats m 0 c).arrAt 12 cfg0.N = dwR (m ((c.tc : Thread nD τ).loc main_arg0)) (m ((c.tc : Thread nD τ).loc main_arg2)) 8192 := by
  refine (dats m 0 c).arrAt_eq_of_covers 12 _ (by decide +kernel) fun t hf y => ?_
  have ht := last t hf
  blk_simp
  rw [after0_12]
  have e : ∀ y R : S8x1024.Idx, (R 0).val = (y 0).val → (R 1).val = (y 1).val → (outsAt0 m c t.val t.isLt).2.2.2 y = dwR (m ((c.tc : Thread nD τ).loc main_arg0)) (m ((c.tc : Thread nD τ).loc main_arg2)) 8192 R := by
    intro y R e0 e1
    have h1 : R = y := (eq_ix2 R).trans ((congrArg₂ ix2 (Fin.ext e0) (Fin.ext e1)).trans (eq_ix2 y).symm)
    rw [h1]
    have o := out12 m c t.val t.isLt (y 0) (y 1)
    have en : (t.val + 1) * 512 = 8192 := by omega
    exact (congrArg (outsAt0 m c t.val t.isLt).2.2.2 (eq_ix2 y)).trans ((o.trans (congrArg (fun n => dwR (m ((c.tc : Thread nD τ).loc main_arg0)) (m ((c.tc : Thread nD τ).loc main_arg2)) n (ix2 (y 0) (y 1))) en)).trans (congrArg (dwR (m ((c.tc : Thread nD τ).loc main_arg0)) (m ((c.tc : Thread nD τ).loc main_arg2)) 8192) (eq_ix2 y).symm))
  refine e _ _ ?_ ?_
  all_goals blk_simp [idx t]

/-! ## The reference's terms -/

def piece0 (h : FVec Ideal Cert.Reference6Ideal.S8192x5120 .bf16) : FVec Ideal Cert.Reference6Ideal.S8192x1024 .f32 :=
  extractStridedSlice Cert.Reference6Ideal.S8192x1024 ![0, 0] (extf .f32 (extractStridedSlice Cert.Reference6Ideal.S8192x3072 ![0, 0] h Cert.Reference6Ideal.Gen.slices_S8192x5120_S8192x3072_0_0) Cert.Reference6Ideal.Gen.bitsLt_bf16_f32) Cert.Reference6Ideal.Gen.slices_S8192x3072_S8192x1024_0_0
def piece1024 (h : FVec Ideal Cert.Reference6Ideal.S8192x5120 .bf16) : FVec Ideal Cert.Reference6Ideal.S8192x1024 .f32 :=
  extractStridedSlice Cert.Reference6Ideal.S8192x1024 ![0, 1024] (extf .f32 (extractStridedSlice Cert.Reference6Ideal.S8192x3072 ![0, 0] h Cert.Reference6Ideal.Gen.slices_S8192x5120_S8192x3072_0_0) Cert.Reference6Ideal.Gen.bitsLt_bf16_f32) Cert.Reference6Ideal.Gen.slices_S8192x3072_S8192x1024_0_1024
def piece2048 (h : FVec Ideal Cert.Reference6Ideal.S8192x5120 .bf16) : FVec Ideal Cert.Reference6Ideal.S8192x1024 .f32 :=
  extractStridedSlice Cert.Reference6Ideal.S8192x1024 ![0, 2048] (extf .f32 (extractStridedSlice Cert.Reference6Ideal.S8192x3072 ![0, 0] h Cert.Reference6Ideal.Gen.slices_S8192x5120_S8192x3072_0_0) Cert.Reference6Ideal.Gen.bitsLt_bf16_f32) Cert.Reference6Ideal.Gen.slices_S8192x3072_S8192x1024_0_2048
def padRows (h : FVec Ideal Cert.Reference6Ideal.S8192x5120 .bf16) : FVec Ideal Cert.Reference6Ideal.S8194x1024 .f32 :=
  concatenate Cert.Reference6Ideal.S8194x1024 0 [⟨Cert.Reference6Ideal.S2x1024, (broadcastInDim Cert.Reference6Ideal.S2x1024 ![] Cert.Reference6Ideal.Gen.bcast_S_S2x1024 (constant Cert.Reference6Ideal.S_ .f32 0x00000000#32))⟩, ⟨Cert.Reference6Ideal.S8192x1024, (mulf (piece1024 h) (piece2048 h))⟩] Cert.Reference6Ideal.Gen.concatenates_S2x1024_S8192x1024_S8194x1024_d0
def gradRows (h : FVec Ideal Cert.Reference6Ideal.S8192x5120 .bf16) (d : FVec Ideal Cert.Reference6Ideal.S8192x1024 .bf16) : FVec Ideal Cert.Reference6Ideal.S8192x1024 .f32 :=
  mulf (piece0 h) (extf .f32 d Cert.Reference6Ideal.Gen.bitsLt_bf16_f32)
def tapRow0 (w : FVec Ideal Cert.Reference6Ideal.S3x1024 .f32) : FVec Ideal Cert.Reference6Ideal.S8192x1024 .f32 :=
  broadcastInDim Cert.Reference6Ideal.S8192x1024 ![0, 1] Cert.Reference6Ideal.Gen.bcast_S1x1024_S8192x1024_0_1 (broadcastInDim Cert.Reference6Ideal.S1x1024 ![1] Cert.Reference6Ideal.Gen.bcast_S1024_S1x1024_1 (shapeCast _ (extractStridedSlice Cert.Reference6Ideal.S1x1024 ![0, 0] w Cert.Reference6Ideal.Gen.slices_S3x1024_S1x1024_0_0) Cert.Reference6Ideal.Gen.shapeCasts_S1x1024_S1024))
def tapRow1 (w : FVec Ideal Cert.Reference6Ideal.S3x1024 .f32) : FVec Ideal Cert.Reference6Ideal.S8192x1024 .f32 :=
  broadcastInDim Cert.Reference6Ideal.S8192x1024 ![0, 1] Cert.Reference6Ideal.Gen.bcast_S1x1024_S8192x1024_0_1 (broadcastInDim Cert.Reference6Ideal.S1x1024 ![1] Cert.Reference6Ideal.Gen.bcast_S1024_S1x1024_1 (shapeCast _ (extractStridedSlice Cert.Reference6Ideal.S1x1024 ![1, 0] w Cert.Reference6Ideal.Gen.slices_S3x1024_S1x1024_1_0) Cert.Reference6Ideal.Gen.shapeCasts_S1x1024_S1024))
def tapRow2 (w : FVec Ideal Cert.Reference6Ideal.S3x1024 .f32) : FVec Ideal Cert.Reference6Ideal.S8192x1024 .f32 :=
  broadcastInDim Cert.Reference6Ideal.S8192x1024 ![0, 1] Cert.Reference6Ideal.Gen.bcast_S1x1024_S8192x1024_0_1 (broadcastInDim Cert.Reference6Ideal.S1x1024 ![1] Cert.Reference6Ideal.Gen.bcast_S1024_S1x1024_1 (shapeCast _ (extractStridedSlice Cert.Reference6Ideal.S1x1024 ![2, 0] w Cert.Reference6Ideal.Gen.slices_S3x1024_S1x1024_2_0) Cert.Reference6Ideal.Gen.shapeCasts_S1x1024_S1024))
def backRows (h : FVec Ideal Cert.Reference6Ideal.S8192x5120 .bf16) (w : FVec Ideal Cert.Reference6Ideal.S3x1024 .f32) (d : FVec Ideal Cert.Reference6Ideal.S8192x1024 .bf16) : FVec Ideal Cert.Reference6Ideal.S8192x1024 .f32 :=
  extractStridedSlice Cert.Reference6Ideal.S8192x1024 ![2, 0] (addf (addf (pad Cert.Reference6Ideal.S8194x1024 ![2, 0] ![0, 0] ![0, 0] (mulf (tapRow2 w) (gradRows h d)) (constant Cert.Reference6Ideal.S_ .f32 0x00000000#32) Cert.Reference6Ideal.Gen.pads_S8192x1024_S8194x1024_200_000 Cert.Reference6Ideal.Gen.h_S_) (pad Cert.Reference6Ideal.S8194x1024 ![1, 0] ![1, 0] ![0, 0] (mulf (tapRow1 w) (gradRows h d)) (constant Cert.Reference6Ideal.S_ .f32 0x00000000#32) Cert.Reference6Ideal.Gen.pads_S8192x1024_S8194x1024_110_000 Cert.Reference6Ideal.Gen.h_S_)) (pad Cert.Reference6Ideal.S8194x1024 ![0, 0] ![2, 0] ![0, 0] (mulf (tapRow0 w) (gradRows h d)) (constant Cert.Reference6Ideal.S_ .f32 0x00000000#32) Cert.Reference6Ideal.Gen.pads_S8192x1024_S8194x1024_020_000 Cert.Reference6Ideal.Gen.h_S_)) Cert.Reference6Ideal.Gen.slices_S8194x1024_S8192x1024_2_0
def sumRow0 (h : FVec Ideal Cert.Reference6Ideal.S8192x5120 .bf16) (d : FVec Ideal Cert.Reference6Ideal.S8192x1024 .bf16) : FVec Ideal Cert.Reference6Ideal.S1x1024 .f32 :=
  broadcastInDim Cert.Reference6Ideal.S1x1024 ![1] Cert.Reference6Ideal.Gen.bcast_S1024_S1x1024_1 (Host.reduceAdd (shapeCast _ (Host.reduceAdd (mulf (gradRows h d) (extractStridedSlice Cert.Reference6Ideal.S8192x1024 ![0, 0] (padRows h) Cert.Reference6Ideal.Gen.slices_S8194x1024_S8192x1024_0_0)) (constant Cert.Reference6Ideal.S_ .f32 0x00000000#32) Cert.Reference6Ideal.Gen.reducesTo_S8192x1024_S1024_d0 Cert.Reference6Ideal.Gen.h_S_) Cert.Reference6Ideal.Gen.shapeCasts_S1024_S1x1024) (constant Cert.Reference6Ideal.S_ .f32 0x00000000#32) Cert.Reference6Ideal.Gen.reducesTo_S1x1024_S1024_d0 Cert.Reference6Ideal.Gen.h_S_)
def sumRow1 (h : FVec Ideal Cert.Reference6Ideal.S8192x5120 .bf16) (d : FVec Ideal Cert.Reference6Ideal.S8192x1024 .bf16) : FVec Ideal Cert.Reference6Ideal.S1x1024 .f32 :=
  broadcastInDim Cert.Reference6Ideal.S1x1024 ![1] Cert.Reference6Ideal.Gen.bcast_S1024_S1x1024_1 (Host.reduceAdd (shapeCast _ (Host.reduceAdd (mulf (gradRows h d) (extractStridedSlice Cert.Reference6Ideal.S8192x1024 ![1, 0] (padRows h) Cert.Reference6Ideal.Gen.slices_S8194x1024_S8192x1024_1_0)) (constant Cert.Reference6Ideal.S_ .f32 0x00000000#32) Cert.Reference6Ideal.Gen.reducesTo_S8192x1024_S1024_d0 Cert.Reference6Ideal.Gen.h_S_) Cert.Reference6Ideal.Gen.shapeCasts_S1024_S1x1024) (constant Cert.Reference6Ideal.S_ .f32 0x00000000#32) Cert.Reference6Ideal.Gen.reducesTo_S1x1024_S1024_d0 Cert.Reference6Ideal.Gen.h_S_)
def sumRow2 (h : FVec Ideal Cert.Reference6Ideal.S8192x5120 .bf16) (d : FVec Ideal Cert.Reference6Ideal.S8192x1024 .bf16) : FVec Ideal Cert.Reference6Ideal.S1x1024 .f32 :=
  broadcastInDim Cert.Reference6Ideal.S1x1024 ![1] Cert.Reference6Ideal.Gen.bcast_S1024_S1x1024_1 (Host.reduceAdd (shapeCast _ (Host.reduceAdd (mulf (gradRows h d) (extractStridedSlice Cert.Reference6Ideal.S8192x1024 ![2, 0] (padRows h) Cert.Reference6Ideal.Gen.slices_S8194x1024_S8192x1024_2_0)) (constant Cert.Reference6Ideal.S_ .f32 0x00000000#32) Cert.Reference6Ideal.Gen.reducesTo_S8192x1024_S1024_d0 Cert.Reference6Ideal.Gen.h_S_) Cert.Reference6Ideal.Gen.shapeCasts_S1024_S1x1024) (constant Cert.Reference6Ideal.S_ .f32 0x00000000#32) Cert.Reference6Ideal.Gen.reducesTo_S1x1024_S1024_d0 Cert.Reference6Ideal.Gen.h_S_)
def refDbg (h : FVec Ideal Cert.Reference6Ideal.S8192x5120 .bf16) (w : FVec Ideal Cert.Reference6Ideal.S3x1024 .f32) (d : FVec Ideal Cert.Reference6Ideal.S8192x1024 .bf16) : FVec Ideal Cert.Reference6Ideal.S8192x1024 .bf16 :=
  truncf .bf16 (mulf (extf .f32 d Cert.Reference6Ideal.Gen.bitsLt_bf16_f32) (addf (addf (mulf (tapRow0 w) (extractStridedSlice Cert.Reference6Ideal.S8192x1024 ![0, 0] (padRows h) Cert.Reference6Ideal.Gen.slices_S8194x1024_S8192x1024_0_0)) (mulf (tapRow1 w) (extractStridedSlice Cert.Reference6Ideal.S8192x1024 ![1, 0] (padRows h) Cert.Reference6Ideal.Gen.slices_S8194x1024_S8192x1024_1_0))) (mulf (tapRow2 w) (extractStridedSlice Cert.Reference6Ideal.S8192x1024 ![2, 0] (padRows h) Cert.Reference6Ideal.Gen.slices_S8194x1024_S8192x1024_2_0)))) Cert.Reference6Ideal.Gen.bitsLt_bf16_f32
def refDcg (h : FVec Ideal Cert.Reference6Ideal.S8192x5120 .bf16) (w : FVec Ideal Cert.Reference6Ideal.S3x1024 .f32) (d : FVec Ideal Cert.Reference6Ideal.S8192x1024 .bf16) : FVec Ideal Cert.Reference6Ideal.S8192x1024 .bf16 :=
  truncf .bf16 (mulf (backRows h w d) (piece2048 h)) Cert.Reference6Ideal.Gen.bitsLt_bf16_f32
def refDu (h : FVec Ideal Cert.Reference6Ideal.S8192x5120 .bf16) (w : FVec Ideal Cert.Reference6Ideal.S3x1024 .f32) (d : FVec Ideal Cert.Reference6Ideal.S8192x1024 .bf16) : FVec Ideal Cert.Reference6Ideal.S8192x1024 .bf16 :=
  truncf .bf16 (mulf (piece1024 h) (backRows h w d)) Cert.Reference6Ideal.Gen.bitsLt_bf16_f32
def refDw (h : FVec Ideal Cert.Reference6Ideal.S8192x5120 .bf16) (d : FVec Ideal Cert.Reference6Ideal.S8192x1024 .bf16) : FVec Ideal Cert.Reference6Ideal.S8x1024 .f32 :=
  pad Cert.Reference6Ideal.S8x1024 ![0, 0] ![5, 0] ![0, 0] (addf (addf (pad Cert.Reference6Ideal.S3x1024 ![2, 0] ![0, 0] ![0, 0] (sumRow2 h d) (constant Cert.Reference6Ideal.S_ .f32 0x00000000#32) Cert.Reference6Ideal.Gen.pads_S1x1024_S3x1024_200_000 Cert.Reference6Ideal.Gen.h_S_) (pad Cert.Reference6Ideal.S3x1024 ![1, 0] ![1, 0] ![0, 0] (sumRow1 h d) (constant Cert.Reference6Ideal.S_ .f32 0x00000000#32) Cert.Reference6Ideal.Gen.pads_S1x1024_S3x1024_110_000 Cert.Reference6Ideal.Gen.h_S_)) (pad Cert.Reference6Ideal.S3x1024 ![0, 0] ![2, 0] ![0, 0] (sumRow0 h d) (constant Cert.Reference6Ideal.S_ .f32 0x00000000#32) Cert.Reference6Ideal.Gen.pads_S1x1024_S3x1024_020_000 Cert.Reference6Ideal.Gen.h_S_)) (sitofp .f32 (constantI Cert.Reference6Ideal.S_ 32 0#32)) Cert.Reference6Ideal.Gen.pads_S3x1024_S8x1024_050_000 Cert.Reference6Ideal.Gen.h_S_

theorem piece0_apply (h : FVec Ideal Cert.Reference6Ideal.S8192x5120 .bf16) (k : Fin 8192) (j : Fin 1024) : piece0 h (ix2 k j) = h (ix2 k (col 0 (by decide) j)) := by
  unfold piece0
  pointwise
  exact congrArg (fun z => h (ix2 k z)) (Fin.ext (Nat.zero_add _).symm)
theorem piece1024_apply (h : FVec Ideal Cert.Reference6Ideal.S8192x5120 .bf16) (k : Fin 8192) (j : Fin 1024) : piece1024 h (ix2 k j) = h (ix2 k (col 1024 (by decide) j)) := by
  unfold piece1024
  pointwise
  rfl
theorem piece2048_apply (h : FVec Ideal Cert.Reference6Ideal.S8192x5120 .bf16) (k : Fin 8192) (j : Fin 1024) : piece2048 h (ix2 k j) = h (ix2 k (col 2048 (by decide) j)) := by
  unfold piece2048
  pointwise
  rfl
theorem padRows_apply (h : FVec Ideal Cert.Reference6Ideal.S8192x5120 .bf16) (k : Fin 8194) (j : Fin 1024) : padRows h (ix2 k j) = padded (gated h) k.val j := by
  have hk := k.isLt
  unfold padRows padded gated
  pointwise
  by_cases h2 : k.val < 2
  · rw [dif_pos h2, if_pos h2]
  · rw [dif_neg h2, if_neg h2, dif_pos (by omega)]
    exact congrArg₂ (· * ·) (piece1024_apply h _ _) (piece2048_apply h _ _)
theorem gradRows_apply (h : FVec Ideal Cert.Reference6Ideal.S8192x5120 .bf16) (d : FVec Ideal Cert.Reference6Ideal.S8192x1024 .bf16) (k : Fin 8192) (j : Fin 1024) : gradRows h d (ix2 k j) = grad h d k.val j := by
  unfold gradRows grad
  pointwise
  refine (mul_comm _ _).trans ?_
  exact congrArg (_ * ·) (piece0_apply h k j)
theorem grad_end (h : FVec Ideal Cert.Reference6Ideal.S8192x5120 .bf16) (d : FVec Ideal Cert.Reference6Ideal.S8192x1024 .bf16) (k : ℕ) (hk : ¬ k < 8192) (j : Fin 1024) : grad h d k j = 0 := dif_neg hk
theorem backRows_apply (h : FVec Ideal Cert.Reference6Ideal.S8192x5120 .bf16) (w : FVec Ideal Cert.Reference6Ideal.S3x1024 .f32) (d : FVec Ideal Cert.Reference6Ideal.S8192x1024 .bf16) (k : Fin 8192) (j : Fin 1024) : backRows h w d (ix2 k j) = tapsBack (tap w) (grad h d) k.val j := by
  have hk := k.isLt
  unfold backRows tapRow0 tapRow1 tapRow2 tapsBack
  pointwise
  refine congrArg₂ (· + ·) (congrArg₂ (· + ·) (congrArg (_ * ·) (gradRows_apply h d k j)) ?_) ?_
  · by_cases h1 : 1 ≤ 2 + k.val ∧ 2 + k.val - 1 < 8192
    · refine (dif_pos h1).trans (congrArg (_ * ·) ((gradRows_apply h d _ j).trans (congrArg (fun n => grad h d n j) ?_)))
      dsimp only
      omega
    · refine (dif_neg h1).trans ?_
      rw [grad_end h d _ (by omega), mul_zero]
  · by_cases h1 : 2 + k.val < 8192
    · refine (dif_pos h1).trans (congrArg (_ * ·) ((gradRows_apply h d _ j).trans (congrArg (fun n => grad h d n j) ?_)))
      dsimp only
      omega
    · refine (dif_neg h1).trans ?_
      rw [grad_end h d _ (by omega), mul_zero]
theorem sumRow0_apply (h : FVec Ideal Cert.Reference6Ideal.S8192x5120 .bf16) (d : FVec Ideal Cert.Reference6Ideal.S8192x1024 .bf16) (j : Fin 1024) : sumRow0 h d (ix2 0 j) = tapGrad h d 8192 0 j := by
  unfold sumRow0 tapGrad
  rw [Finset.sum_range]
  pointwise
  refine (Fin.sum_univ_one _).trans (Finset.sum_congr rfl fun r _ => ?_)
  refine congrArg₂ (· * ·) (gradRows_apply h d r j) ((padRows_apply h _ j).trans (congrArg (fun n => padded (gated h) n j) ?_))
  dsimp only
  try omega
theorem sumRow1_apply (h : FVec Ideal Cert.Reference6Ideal.S8192x5120 .bf16) (d : FVec Ideal Cert.Reference6Ideal.S8192x1024 .bf16) (j : Fin 1024) : sumRow1 h d (ix2 0 j) = tapGrad h d 8192 1 j := by
  unfold sumRow1 tapGrad
  rw [Finset.sum_range]
  pointwise
  refine (Fin.sum_univ_one _).trans (Finset.sum_congr rfl fun r _ => ?_)
  refine congrArg₂ (· * ·) (gradRows_apply h d r j) ((padRows_apply h _ j).trans (congrArg (fun n => padded (gated h) n j) ?_))
  dsimp only
  try omega
theorem sumRow2_apply (h : FVec Ideal Cert.Reference6Ideal.S8192x5120 .bf16) (d : FVec Ideal Cert.Reference6Ideal.S8192x1024 .bf16) (j : Fin 1024) : sumRow2 h d (ix2 0 j) = tapGrad h d 8192 2 j := by
  unfold sumRow2 tapGrad
  rw [Finset.sum_range]
  pointwise
  refine (Fin.sum_univ_one _).trans (Finset.sum_congr rfl fun r _ => ?_)
  refine congrArg₂ (· * ·) (gradRows_apply h d r j) ((padRows_apply h _ j).trans (congrArg (fun n => padded (gated h) n j) ?_))
  dsimp only
  try omega
theorem refDw_apply (h : FVec Ideal Cert.Reference6Ideal.S8192x5120 .bf16) (d : FVec Ideal Cert.Reference6Ideal.S8192x1024 .bf16) (k : Fin 8) (j : Fin 1024) : refDw h d (ix2 k j) = dwR h d 8192 (ix2 k j) := by
  have hk := k.isLt
  have e0 : (FloatOps.sitofp (F := Ideal) FTy.f32 0#32 : EReal) = 0 := by
    show ((((0#32 : BitVec 32).toInt : ℤ) : ℝ) : EReal) = 0
    simp
  unfold refDw dwR
  pointwise
  rw [e0]
  by_cases h3 : k.val < 3
  · rw [dif_pos h3, if_pos h3]
    obtain q | q | q : k.val = 0 ∨ k.val = 1 ∨ k.val = 2 := by omega
    · rw [dif_neg (by omega), dif_neg (by omega), dif_pos (by omega), zero_add, zero_add]
      exact (congrArg (fun z : Fin 1 => sumRow0 h d (ix2 z j)) (Subsingleton.elim _ (0 : Fin 1))).trans ((sumRow0_apply h d j).trans (congrArg (fun n => tapGrad h d 8192 n j) q.symm))
    · rw [dif_neg (by omega), dif_pos (by omega), dif_neg (by omega), zero_add, add_zero]
      exact (congrArg (fun z : Fin 1 => sumRow1 h d (ix2 z j)) (Subsingleton.elim _ (0 : Fin 1))).trans ((sumRow1_apply h d j).trans (congrArg (fun n => tapGrad h d 8192 n j) q.symm))
    · rw [dif_pos (by omega), dif_neg (by omega), dif_neg (by omega), add_zero, add_zero]
      exact (congrArg (fun z : Fin 1 => sumRow2 h d (ix2 z j)) (Subsingleton.elim _ (0 : Fin 1))).trans ((sumRow2_apply h d j).trans (congrArg (fun n => tapGrad h d 8192 n j) q.symm))
  · rw [dif_neg h3, if_neg h3]

theorem refDw_eq (h : FVec Ideal Cert.Reference6Ideal.S8192x5120 .bf16) (d : FVec Ideal Cert.Reference6Ideal.S8192x1024 .bf16) : refDw h d = dwR h d 8192 := funext fun y => by
  rw [eq_ix2 y]
  exact refDw_apply h d _ _
theorem refDbg_eq (h : FVec Ideal Cert.Reference6Ideal.S8192x5120 .bf16) (w : FVec Ideal Cert.Reference6Ideal.S3x1024 .f32) (d : FVec Ideal Cert.Reference6Ideal.S8192x1024 .bf16) : refDbg h w d = dbgR h w d := funext fun y => by
  rw [eq_ix2 y]
  generalize y 0 = k
  generalize y 1 = j
  have hk : (k : Fin 8192).val < 8192 := k.isLt
  unfold refDbg dbgR taps tapRow0 tapRow1 tapRow2
  pointwise
  refine congrArg (_ * ·) (congrArg₂ (· + ·) (congrArg₂ (· + ·) (congrArg (_ * ·) ?_) (congrArg (_ * ·) ?_)) (congrArg (_ * ·) ?_))
  all_goals refine (padRows_apply h _ _).trans (congrArg (fun n => padded (gated h) n j) ?_)
  all_goals dsimp only
  all_goals omega
theorem refDcg_eq (h : FVec Ideal Cert.Reference6Ideal.S8192x5120 .bf16) (w : FVec Ideal Cert.Reference6Ideal.S3x1024 .f32) (d : FVec Ideal Cert.Reference6Ideal.S8192x1024 .bf16) : refDcg h w d = dcgR h w d := funext fun y => by
  rw [eq_ix2 y]
  generalize y 0 = k
  generalize y 1 = j
  unfold refDcg dcgR
  pointwise
  exact congrArg₂ (· * ·) (backRows_apply h w d k j) (piece2048_apply h k j)
theorem refDu_eq (h : FVec Ideal Cert.Reference6Ideal.S8192x5120 .bf16) (w : FVec Ideal Cert.Reference6Ideal.S3x1024 .f32) (d : FVec Ideal Cert.Reference6Ideal.S8192x1024 .bf16) : refDu h w d = duR h w d := funext fun y => by
  rw [eq_ix2 y]
  generalize y 0 = k
  generalize y 1 = j
  unfold refDu duR
  pointwise
  rw [mul_comm]
  exact congrArg₂ (· * ·) (backRows_apply h w d k j) (piece1024_apply h k j)

set_option maxHeartbeats 1000000 in
theorem algebraic : Cert.algebraic_Kernel6Ideal_Reference6Ideal := by
  intro m ρ m' ρ' _ hagree
  refine ⟨fun c => dbgR (m ((c.tc : Thread nD τ).loc main_arg0)) (m ((c.tc : Thread nD τ).loc main_arg1)) (m ((c.tc : Thread nD τ).loc main_arg2)), fun c => dcgR (m ((c.tc : Thread nD τ).loc main_arg0)) (m ((c.tc : Thread nD τ).loc main_arg1)) (m ((c.tc : Thread nD τ).loc main_arg2)), fun c => duR (m ((c.tc : Thread nD τ).loc main_arg0)) (m ((c.tc : Thread nD τ).loc main_arg1)) (m ((c.tc : Thread nD τ).loc main_arg2)), fun c => dwR (m ((c.tc : Thread nD τ).loc main_arg0)) (m ((c.tc : Thread nD τ).loc main_arg2)) 8192,
    (θ_run Cert.Kernel6Ideal.defs _ _).mono (fun r h c => ⟨(h c).1.trans (final9 m c), (h c).2.1.trans (final10 m c), (h c).2.2.1.trans (final11 m c), (h c).2.2.2.1.trans (final12 m c), (h c).2.2.2.2⟩) (Cert.Kernel6Ideal.Value.run_blocks (F := Ideal) m ρ), ?_⟩
  refine (θ_run Cert.Reference6Ideal.defs _ _).mono (fun _ h c => ⟨(h c).1.trans ?_, (h c).2.1.trans ?_, (h c).2.2.1.trans ?_, (h c).2.2.2.1.trans ?_, (h c).2.2.2.2⟩) (Cert.Reference6Ideal.Value.run (F := Ideal) m' ρ')
  all_goals obtain ⟨a0, a1, a2⟩ := hagree c
  · refine Eq.trans (b := refDbg (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2))) rfl ?_
    rw [a0, a1, a2]
    exact refDbg_eq _ _ _
  · refine Eq.trans (b := refDcg (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2))) rfl ?_
    rw [a0, a1, a2]
    exact refDcg_eq _ _ _
  · refine Eq.trans (b := refDu (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2))) rfl ?_
    rw [a0, a1, a2]
    exact refDu_eq _ _ _
  · refine Eq.trans (b := refDw (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg2))) rfl ?_
    rw [a0, a2]
    exact refDw_eq _ _
end Cert.Kernel6Ideal.Conv
end
-- ==== Proof.DwKv.Value.lean ====
/- The weight gradient of the memory projection: the launch leaves the reference's product. -/
module
public import proofs.«01_k».proof.Proof.Gen.Kernel7Ideal.Value
public import proofs.«01_k».proof.Proof.Gen.Reference7Ideal.Run
public import Idealize.ShloMosaic.Lib.Pipeline.ValueKit
public import Idealize.ShloMosaic.Lib.Pipeline.ReadBack
public import Idealize.ShloMosaic.Lib.Tactic
public import proofs.«01_k».proof.Defs
@[expose] public section
set_option maxRecDepth 16384
noncomputable section
namespace Cert.Kernel7Ideal.DwKv
open Cert.Kernel7Ideal Cert.Kernel7Ideal.Gen Idealize.ShloMosaic Idealize.ShloMosaic.TcCoe Idealize.SL.Sem
open Idealize.ShloMosaic.Pipeline (Dat)

section
open Cert.Reference7Ideal Cert.Reference7Ideal.Gen
/-- The reference's result as a function of its arguments. -/
def ref (x g : FVec Ideal S256x1024 .f32) : FVec Ideal S1024x1024 .bf16 :=
  truncf .bf16 (transpose S1024x1024 [1, 0] (Host.dotGeneral dot_S256x1024_S256x1024_S1024x1024_0_0_1_1_n_n none g x) transposes_S1024x1024_S1024x1024_1_0) Cert.Reference7Ideal.Gen.bitsLt_bf16_f32
end

/-- The launch forms each entry's products in the other order. -/
theorem value (x g : Vec Ideal S256x1024 .f32) : Value.G2 (F := Ideal) x g = ref x g := by
  funext y
  unfold Value.G2 k0_pay1 ref
  pointwise
  exact Finset.sum_congr rfl fun k _ => mul_comm _ _

theorem algebraic : Cert.algebraic_Kernel7Ideal_Reference7Ideal := by
  intro m ρ m' ρ' _ hagree
  refine ⟨fun c => ref (m ((c.tc : Thread nD τ).loc main_arg0)) (m ((c.tc : Thread nD τ).loc main_arg1)),
    (θ_run Cert.Kernel7Ideal.defs _ _).mono (fun r h c => ⟨(h c).1.trans (value _ _), (h c).2⟩) (Cert.Kernel7Ideal.Value.run (F := Ideal) m ρ), ?_⟩
  refine (θ_run Cert.Reference7Ideal.defs _ _).mono (fun _ h c => ⟨(h c).1.trans ?_, (h c).2⟩) (Cert.Reference7Ideal.Value.run (F := Ideal) m' ρ')
  obtain ⟨a0, a1⟩ := hagree c
  rw [a0, a1]
  rfl
end Cert.Kernel7Ideal.DwKv
end
-- ==== Proof.Small.Value.lean ====
/- One AdamW step over the small parameters: the launch leaves the summed gradient, the update and the two moments that the plain step gives. -/
module
public import proofs.«01_k».proof.Proof.Gen.Kernel8Ideal.Value
public import proofs.«01_k».proof.Proof.Gen.Reference8Ideal.Run
public import Idealize.ShloMosaic.Lib.Pipeline.ValueKit
public import Idealize.ShloMosaic.Lib.Pipeline.ReadBack
public import Idealize.ShloMosaic.Lib.Tactic
public import proofs.«01_k».proof.Defs
@[expose] public section
set_option maxRecDepth 16384
noncomputable section
namespace Cert.Kernel8Ideal.Small
open Cert.Kernel8Ideal Cert.Kernel8Ideal.Gen Idealize.ShloMosaic Idealize.ShloMosaic.TcCoe Idealize.SL.Sem
open Idealize.ShloMosaic.Pipeline (Dat)

/-! ## One entry's step -/

def mom1 (g m : EReal) : EReal := Ideal.ofBits FTy.f32 0x3F666666#32 * m + Ideal.ofBits FTy.f32 0x3DCCCCCD#32 * g
def mom2 (g v : EReal) : EReal := Ideal.ofBits FTy.f32 0x3F7FBE77#32 * v + Ideal.ofBits FTy.f32 0x3A83126F#32 * (g * g)
def update (w g m v : EReal) : EReal :=
  Ideal.ofBits FTy.f32 0xBA83126F#32 * (Ideal.div (Ideal.div (mom1 g m) (Ideal.ofBits FTy.f32 0x3F26BD02#32)) (Ideal.sqrt (Ideal.div (mom2 g v) (Ideal.ofBits FTy.f32 0x3C231ACC#32)) + Ideal.ofBits FTy.f32 0x322BCC77#32) + Ideal.ofBits FTy.f32 0x3C23D70A#32 * w)

/-! ## The reference's four results -/

abbrev Parts := FVec Ideal Cert.Reference8Ideal.S8x48x1024 .f32
abbrev State := FVec Ideal Cert.Reference8Ideal.S48x1024 .f32
section
open Cert.Reference8Ideal Cert.Reference8Ideal.Gen
def gradR (p : Parts) : State := Host.reduceAdd p (constant S_ .f32 0x00000000#32) reducesTo_S8x48x1024_S48x1024_d0 h_S_
def mom1R (g m : State) : State := addf (mulf (broadcastInDim S48x1024 ![] bcast_S_S48x1024 (constant S_ .f32 0x3F666666#32)) m) (mulf (broadcastInDim S48x1024 ![] bcast_S_S48x1024 (constant S_ .f32 0x3DCCCCCD#32)) g)
def mom2R (g v : State) : State := addf (mulf (broadcastInDim S48x1024 ![] bcast_S_S48x1024 (constant S_ .f32 0x3F7FBE77#32)) v) (mulf (broadcastInDim S48x1024 ![] bcast_S_S48x1024 (constant S_ .f32 0x3A83126F#32)) (mulf g g))
def updateR (w g m v : State) : State := mulf (broadcastInDim S48x1024 ![] bcast_S_S48x1024 (constant S_ .f32 0xBA83126F#32)) (addf (Host.divf (Host.divf (mom1R g m) (broadcastInDim S48x1024 ![] bcast_S_S48x1024 (constant S_ .f32 0x3F26BD02#32))) (addf (Host.sqrt (Host.divf (mom2R g v) (broadcastInDim S48x1024 ![] bcast_S_S48x1024 (constant S_ .f32 0x3C231ACC#32)))) (broadcastInDim S48x1024 ![] bcast_S_S48x1024 (constant S_ .f32 0x322BCC77#32)))) (mulf (broadcastInDim S48x1024 ![] bcast_S_S48x1024 (constant S_ .f32 0x3C23D70A#32)) w))
end
theorem gradR_apply (p : Parts) (y : S48x1024.Idx) : gradR p y = ∑ s : Fin 8, p (ix3 s (y 0) (y 1)) := by
  unfold gradR
  pointwise
theorem mom1R_apply (g m : State) (y : S48x1024.Idx) : mom1R g m y = mom1 (g y) (m y) := by
  unfold mom1R
  pointwise
  rfl
theorem mom2R_apply (g v : State) (y : S48x1024.Idx) : mom2R g v y = mom2 (g y) (v y) := by
  unfold mom2R
  pointwise
  rfl
theorem updateR_apply (w g m v : State) (y : S48x1024.Idx) : updateR w g m v y = update (w y) (g y) (m y) (v y) := by
  unfold updateR update
  rw [← mom1R_apply, ← mom2R_apply]
  pointwise

/-! ## The launch's payloads -/

theorem pay4_apply (p0 p1 p2 p3 p4 p5 p6 p7 : Vec Ideal S1x16x1024 .f32) (y : S16x1024.Idx) :
    k0_pay4 p0 p1 p2 p3 p4 p5 p6 p7 y = p0 (ix3 0 (y 0) (y 1)) + p1 (ix3 0 (y 0) (y 1)) + p2 (ix3 0 (y 0) (y 1)) + p3 (ix3 0 (y 0) (y 1)) + p4 (ix3 0 (y 0) (y 1)) + p5 (ix3 0 (y 0) (y 1)) + p6 (ix3 0 (y 0) (y 1)) + p7 (ix3 0 (y 0) (y 1)) := by
  unfold k0_pay4
  pointwise
theorem pay1_apply (g m : Vec Ideal S16x1024 .f32) (y : S16x1024.Idx) : k0_pay1 g m y = mom1 (g y) (m y) := by
  unfold k0_pay1
  pointwise
  rfl
theorem pay2_apply (g v : Vec Ideal S16x1024 .f32) (y : S16x1024.Idx) : k0_pay2 g v y = mom2 (g y) (v y) := by
  unfold k0_pay2
  pointwise
  rfl
theorem pay3_apply (g w m v : Vec Ideal S16x1024 .f32) (y : S16x1024.Idx) : k0_pay3 g w m v y = update (w y) (g y) (m y) (v y) := by
  unfold k0_pay3 update
  rw [← pay1_apply, ← pay2_apply]
  pointwise
theorem ld8 (X : Vec Ideal S16x1024 .f32) : View.ld X r0_8 = X := View.ld_unit_zero (by funext a; fin_cases a <;> rfl) _ X
def gradK (x : Vec Ideal S8x16x1024 .f32) : FVec Ideal S16x1024 .f32 := k0_pay4 (View.ld x r0_0) (View.ld x r0_1) (View.ld x r0_2) (View.ld x r0_3) (View.ld x r0_4) (View.ld x r0_5) (View.ld x r0_6) (View.ld x r0_7)
theorem gradK_apply (x : Vec Ideal S8x16x1024 .f32) (y : S16x1024.Idx) : gradK x y = ∑ s : Fin 8, x (ix3 s (y 0) (y 1)) := by
  unfold gradK
  rw [pay4_apply, Fin.sum_univ_eight]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  all_goals refine congrArg x ?_
  all_goals funext a
  all_goals fin_cases a <;> refine Fin.ext ?_ <;> simp [Rect.unit]
theorem out4 (x0 : Vec Ideal S8x16x1024 .f32) (x1 x2 x3 : Vec Ideal S16x1024 .f32) : out0_4 (F := Ideal) x0 x1 x2 x3 = gradK x0 := by
  unfold out0_4
  funext y
  canon_tiles y h
  all_goals blk_ext []
theorem out5 (x0 : Vec Ideal S8x16x1024 .f32) (x1 x2 x3 : Vec Ideal S16x1024 .f32) : out0_5 (F := Ideal) x0 x1 x2 x3 = k0_pay3 (gradK x0) x1 x2 x3 := by
  unfold out0_5 k0_pay5
  rw [ld8, ld8, ld8]
  funext y
  canon_tiles y h
  all_goals blk_ext []
theorem out6 (x0 : Vec Ideal S8x16x1024 .f32) (x1 x2 x3 : Vec Ideal S16x1024 .f32) : out0_6 (F := Ideal) x0 x1 x2 x3 = k0_pay1 (gradK x0) x2 := by
  unfold out0_6 k0_pay5
  rw [ld8]
  funext y
  canon_tiles y h
  all_goals blk_ext []
theorem out7 (x0 : Vec Ideal S8x16x1024 .f32) (x1 x2 x3 : Vec Ideal S16x1024 .f32) : out0_7 (F := Ideal) x0 x1 x2 x3 = k0_pay2 (gradK x0) x3 := by
  unfold out0_7 k0_pay5
  rw [ld8]
  funext y
  canon_tiles y h
  all_goals blk_ext []

/-! ## The blocks read the arguments -/

theorem idx : ∀ t : Fin grid0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] := by decide +kernel

variable (m : (ℓ : Loc nD τ sig) → Buf (Elt Ideal) ℓ) (c : Dev nD)
abbrev parts : Parts := m ((c.tc : Thread nD τ).loc main_arg0)
abbrev weights : State := m ((c.tc : Thread nD τ).loc main_arg1)
abbrev first : State := m ((c.tc : Thread nD τ).loc main_arg2)
abbrev second : State := m ((c.tc : Thread nD τ).loc main_arg3)

theorem blk0 (t : Fin cfg0.N) (i : S8x16x1024.Idx) (j : S8x48x1024.Idx) (e0 : (j 0).val = (i 0).val) (e1 : (j 1).val = t.val * 16 + (i 1).val) (e2 : (j 2).val = (i 2).val) :
    iblk m c 0 t i = parts m c j := by
  show V m c main_arg0 _ = _
  rw [V_main_arg0]
  blk_ext [idx t]
theorem blk1 (t : Fin cfg0.N) (i : S16x1024.Idx) (j : S48x1024.Idx) (e0 : (j 0).val = t.val * 16 + (i 0).val) (e1 : (j 1).val = (i 1).val) :
    iblk m c 1 t i = weights m c j := by
  show V m c main_arg1 _ = _
  rw [V_main_arg1]
  blk_ext [idx t]
theorem blk2 (t : Fin cfg0.N) (i : S16x1024.Idx) (j : S48x1024.Idx) (e0 : (j 0).val = t.val * 16 + (i 0).val) (e1 : (j 1).val = (i 1).val) :
    iblk m c 2 t i = first m c j := by
  show V m c main_arg2 _ = _
  rw [V_main_arg2]
  blk_ext [idx t]
theorem blk3 (t : Fin cfg0.N) (i : S16x1024.Idx) (j : S48x1024.Idx) (e0 : (j 0).val = t.val * 16 + (i 0).val) (e1 : (j 1).val = (i 1).val) :
    iblk m c 3 t i = second m c j := by
  show V m c main_arg3 _ = _
  rw [V_main_arg3]
  blk_ext [idx t]
theorem grad_at (t : Fin cfg0.N) (y : S16x1024.Idx) (r : S48x1024.Idx) (e0 : (r 0).val = t.val * 16 + (y 0).val) (e1 : (r 1).val = (y 1).val) :
    gradK (iblk m c 0 t) y = gradR (parts m c) r := by
  rw [gradK_apply, gradR_apply]
  refine Finset.sum_congr rfl fun s _ => ?_
  exact blk0 m c t (ix3 s (y 0) (y 1)) (ix3 s (r 0) (r 1)) rfl e0 e1

/-! ## The arrays the launch leaves -/

theorem final4 : (dats m 0 c).arrAt 4 cfg0.N = gradR (parts m c) := by
  refine (dats m 0 c).arrAt_eq_of_covers 4 _ (by decide +kernel) fun t hf y => ?_
  blk_simp
  rw [after0_4, out4]
  refine grad_at m c t _ _ ?_ ?_
  all_goals blk_simp [idx t]
theorem final5 : (dats m 0 c).arrAt 5 cfg0.N = updateR (weights m c) (gradR (parts m c)) (first m c) (second m c) := by
  refine (dats m 0 c).arrAt_eq_of_covers 5 _ (by decide +kernel) fun t hf y => ?_
  blk_simp
  rw [after0_5, out5, pay3_apply, updateR_apply]
  refine congr (congr (congrArg₂ update (blk1 m c t _ _ ?_ ?_) (grad_at m c t _ _ ?_ ?_)) (blk2 m c t _ _ ?_ ?_)) (blk3 m c t _ _ ?_ ?_)
  all_goals blk_simp [idx t]
theorem final6 : (dats m 0 c).arrAt 6 cfg0.N = mom1R (gradR (parts m c)) (first m c) := by
  refine (dats m 0 c).arrAt_eq_of_covers 6 _ (by decide +kernel) fun t hf y => ?_
  blk_simp
  rw [after0_6, out6, pay1_apply, mom1R_apply]
  refine congrArg₂ mom1 (grad_at m c t _ _ ?_ ?_) (blk2 m c t _ _ ?_ ?_)
  all_goals blk_simp [idx t]
theorem final7 : (dats m 0 c).arrAt 7 cfg0.N = mom2R (gradR (parts m c)) (second m c) := by
  refine (dats m 0 c).arrAt_eq_of_covers 7 _ (by decide +kernel) fun t hf y => ?_
  blk_simp
  rw [after0_7, out7, pay2_apply, mom2R_apply]
  refine congrArg₂ mom2 (grad_at m c t _ _ ?_ ?_) (blk3 m c t _ _ ?_ ?_)
  all_goals blk_simp [idx t]

set_option maxHeartbeats 1000000 in
theorem algebraic : Cert.algebraic_Kernel8Ideal_Reference8Ideal := by
  intro m ρ m' ρ' _ hagree
  refine ⟨fun c => gradR (parts m c), fun c => updateR (weights m c) (gradR (parts m c)) (first m c) (second m c), fun c => mom1R (gradR (parts m c)) (first m c), fun c => mom2R (gradR (parts m c)) (second m c),
    (θ_run Cert.Kernel8Ideal.defs _ _).mono (fun r h c => ⟨(h c).1.trans (final4 m c), (h c).2.1.trans (final5 m c), (h c).2.2.1.trans (final6 m c), (h c).2.2.2.1.trans (final7 m c), (h c).2.2.2.2⟩) (Cert.Kernel8Ideal.Value.run_blocks (F := Ideal) m ρ), ?_⟩
  refine (θ_run Cert.Reference8Ideal.defs _ _).mono (fun _ h c => ⟨(h c).1.trans ?_, (h c).2.1.trans ?_, (h c).2.2.1.trans ?_, (h c).2.2.2.1.trans ?_, (h c).2.2.2.2⟩) (Cert.Reference8Ideal.Value.run (F := Ideal) m' ρ')
  all_goals obtain ⟨a0, a1, a2, a3⟩ := hagree c
  · refine Eq.trans (b := gradR (m' ((c.tc : Thread Cert.Reference8Ideal.nD Cert.Reference8Ideal.τ).loc Cert.Reference8Ideal.main_arg0))) rfl ?_
    rw [a0]
  · refine Eq.trans (b := updateR (m' ((c.tc : Thread Cert.Reference8Ideal.nD Cert.Reference8Ideal.τ).loc Cert.Reference8Ideal.main_arg1)) (gradR (m' ((c.tc : Thread Cert.Reference8Ideal.nD Cert.Reference8Ideal.τ).loc Cert.Reference8Ideal.main_arg0))) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3))) rfl ?_
    rw [a0, a1, a2, a3]
  · refine Eq.trans (b := mom1R (gradR (m' ((c.tc : Thread Cert.Reference8Ideal.nD Cert.Reference8Ideal.τ).loc Cert.Reference8Ideal.main_arg0))) (m' ((c.tc : Thread Cert.Reference8Ideal.nD Cert.Reference8Ideal.τ).loc Cert.Reference8Ideal.main_arg2))) rfl ?_
    rw [a0, a2]
  · refine Eq.trans (b := mom2R (gradR (m' ((c.tc : Thread Cert.Reference8Ideal.nD Cert.Reference8Ideal.τ).loc Cert.Reference8Ideal.main_arg0))) (m' ((c.tc : Thread Cert.Reference8Ideal.nD Cert.Reference8Ideal.τ).loc Cert.Reference8Ideal.main_arg3))) rfl ?_
    rw [a0, a3]
end Cert.Kernel8Ideal.Small
end
-- ==== Proof.StepKv.Value.lean ====
/- One AdamW step over the rows of the memory projection that a device keeps, layer by layer: the launch leaves the summed gradient, the update and the two moments that the plain step gives. -/
module
public import proofs.«01_k».proof.Proof.Gen.Kernel9Ideal.Value
public import proofs.«01_k».proof.Proof.Gen.Reference9Ideal.Run
public import Idealize.ShloMosaic.Lib.Pipeline.ValueKit
public import Idealize.ShloMosaic.Lib.Pipeline.ReadBack
public import Idealize.ShloMosaic.Lib.Tactic
public import proofs.«01_k».proof.Defs
@[expose] public section
set_option maxRecDepth 16384
noncomputable section
namespace Cert.Kernel9Ideal.StepKv
open Cert.Kernel9Ideal Cert.Kernel9Ideal.Gen Idealize.ShloMosaic Idealize.ShloMosaic.TcCoe Idealize.SL.Sem
open Idealize.ShloMosaic.Pipeline (Dat)
/-! ## One entry's step -/

def mom1 (g m : EReal) : EReal := Ideal.ofBits FTy.f32 0x3F666666#32 * m + Ideal.ofBits FTy.f32 0x3DCCCCCD#32 * g
def mom2 (g v : EReal) : EReal := Ideal.ofBits FTy.f32 0x3F7FBE77#32 * v + Ideal.ofBits FTy.f32 0x3A83126F#32 * (g * g)
def update (w g m v : EReal) : EReal :=
  Ideal.ofBits FTy.f32 0xBA83126F#32 * (Ideal.div (Ideal.div (mom1 g m) (Ideal.ofBits FTy.f32 0x3F26BD02#32)) (Ideal.sqrt (Ideal.div (mom2 g v) (Ideal.ofBits FTy.f32 0x3C231ACC#32)) + Ideal.ofBits FTy.f32 0x322BCC77#32) + Ideal.ofBits FTy.f32 0x3C23D70A#32 * w)

/-! ## The reference's four results -/

abbrev Land := FVec Ideal Cert.Reference9Ideal.S7x128x1024 .bf16
abbrev Own := FVec Ideal Cert.Reference9Ideal.S128x1024 .bf16
abbrev State := FVec Ideal Cert.Reference9Ideal.S4x128x1024 .f32
section
open Cert.Reference9Ideal Cert.Reference9Ideal.Gen
def gradR (l0 l1 l2 l3 : Land) (o0 o1 o2 o3 : Own) : State :=
  addf (extf .f32 (concatenate S4x128x1024 0 [⟨S1x128x1024, broadcastInDim S1x128x1024 ![1, 2] bcast_S128x1024_S1x128x1024_1_2 o0⟩, ⟨S1x128x1024, broadcastInDim S1x128x1024 ![1, 2] bcast_S128x1024_S1x128x1024_1_2 o1⟩, ⟨S1x128x1024, broadcastInDim S1x128x1024 ![1, 2] bcast_S128x1024_S1x128x1024_1_2 o2⟩, ⟨S1x128x1024, broadcastInDim S1x128x1024 ![1, 2] bcast_S128x1024_S1x128x1024_1_2 o3⟩] concatenates_S1x128x1024_S1x128x1024_S1x128x1024_S1x128x1024_S4x128x1024_d0) Cert.Reference9Ideal.Gen.bitsLt_bf16_f32)
    (Host.reduceAdd (extf .f32 (concatenate S4x7x128x1024 0 [⟨S1x7x128x1024, broadcastInDim S1x7x128x1024 ![1, 2, 3] bcast_S7x128x1024_S1x7x128x1024_1_2_3 l0⟩, ⟨S1x7x128x1024, broadcastInDim S1x7x128x1024 ![1, 2, 3] bcast_S7x128x1024_S1x7x128x1024_1_2_3 l1⟩, ⟨S1x7x128x1024, broadcastInDim S1x7x128x1024 ![1, 2, 3] bcast_S7x128x1024_S1x7x128x1024_1_2_3 l2⟩, ⟨S1x7x128x1024, broadcastInDim S1x7x128x1024 ![1, 2, 3] bcast_S7x128x1024_S1x7x128x1024_1_2_3 l3⟩] concatenates_S1x7x128x1024_S1x7x128x1024_S1x7x128x1024_S1x7x128x1024_S4x7x128x1024_d0) Cert.Reference9Ideal.Gen.bitsLt_bf16_f32) (constant S_ .f32 0x00000000#32) reducesTo_S4x7x128x1024_S4x128x1024_d1 h_S_)
def mom1R (g m : State) : State := addf (mulf (broadcastInDim S4x128x1024 ![] bcast_S_S4x128x1024 (constant S_ .f32 0x3F666666#32)) m) (mulf (broadcastInDim S4x128x1024 ![] bcast_S_S4x128x1024 (constant S_ .f32 0x3DCCCCCD#32)) g)
def mom2R (g v : State) : State := addf (mulf (broadcastInDim S4x128x1024 ![] bcast_S_S4x128x1024 (constant S_ .f32 0x3F7FBE77#32)) v) (mulf (broadcastInDim S4x128x1024 ![] bcast_S_S4x128x1024 (constant S_ .f32 0x3A83126F#32)) (mulf g g))
def updateR (w g m v : State) : State := mulf (broadcastInDim S4x128x1024 ![] bcast_S_S4x128x1024 (constant S_ .f32 0xBA83126F#32)) (addf (Host.divf (Host.divf (mom1R g m) (broadcastInDim S4x128x1024 ![] bcast_S_S4x128x1024 (constant S_ .f32 0x3F26BD02#32))) (addf (Host.sqrt (Host.divf (mom2R g v) (broadcastInDim S4x128x1024 ![] bcast_S_S4x128x1024 (constant S_ .f32 0x3C231ACC#32)))) (broadcastInDim S4x128x1024 ![] bcast_S_S4x128x1024 (constant S_ .f32 0x322BCC77#32)))) (mulf (broadcastInDim S4x128x1024 ![] bcast_S_S4x128x1024 (constant S_ .f32 0x3C23D70A#32)) w))
end
theorem mom1R_apply (g m : State) (y : S4x128x1024.Idx) : mom1R g m y = mom1 (g y) (m y) := by
  unfold mom1R
  pointwise
  rfl
theorem mom2R_apply (g v : State) (y : S4x128x1024.Idx) : mom2R g v y = mom2 (g y) (v y) := by
  unfold mom2R
  pointwise
  rfl
theorem updateR_apply (w g m v : State) (y : S4x128x1024.Idx) : updateR w g m v y = update (w y) (g y) (m y) (v y) := by
  unfold updateR update
  rw [← mom1R_apply, ← mom2R_apply]
  pointwise

/-! ## The launch's payloads -/

def gradK (l : Vec Ideal S7x128x1024 .bf16) (o : Vec Ideal S128x1024 .bf16) : FVec Ideal S128x1024 .f32 :=
  k0_pay9 o (View.ld l (Rect.unit ![0, 0, 0] ![1, 128, 1024] inb_S7x128x1024_S1x128x1024_0_0_0)) (View.ld l (Rect.unit ![1, 0, 0] ![1, 128, 1024] inb_S7x128x1024_S1x128x1024_1_0_0)) (View.ld l (Rect.unit ![2, 0, 0] ![1, 128, 1024] inb_S7x128x1024_S1x128x1024_2_0_0)) (View.ld l (Rect.unit ![3, 0, 0] ![1, 128, 1024] inb_S7x128x1024_S1x128x1024_3_0_0)) (View.ld l (Rect.unit ![4, 0, 0] ![1, 128, 1024] inb_S7x128x1024_S1x128x1024_4_0_0)) (View.ld l (Rect.unit ![5, 0, 0] ![1, 128, 1024] inb_S7x128x1024_S1x128x1024_5_0_0)) (View.ld l (Rect.unit ![6, 0, 0] ![1, 128, 1024] inb_S7x128x1024_S1x128x1024_6_0_0))
theorem gradK_apply (l : Vec Ideal S7x128x1024 .bf16) (o : Vec Ideal S128x1024 .bf16) (y : S128x1024.Idx) : gradK l o y = o y + ∑ s : Fin 7, l (ix3 s (y 0) (y 1)) := by
  unfold gradK k0_pay9
  rw [Fin.sum_univ_seven]
  pointwise
  simp only [← add_assoc]
theorem pay1_apply (g : FVec Ideal S128x1024 .f32) (m : Vec Ideal S1x128x1024 .f32) (y : S128x1024.Idx) : k0_pay11 g m y = mom1 (g y) (m (ix3 0 (y 0) (y 1))) := by
  unfold k0_pay11
  pointwise
  rfl
theorem pay2_apply (g : FVec Ideal S128x1024 .f32) (v : Vec Ideal S1x128x1024 .f32) (y : S128x1024.Idx) : k0_pay12 g v y = mom2 (g y) (v (ix3 0 (y 0) (y 1))) := by
  unfold k0_pay12
  pointwise
  rfl
theorem pay3_apply (g : FVec Ideal S128x1024 .f32) (w m v : Vec Ideal S1x128x1024 .f32) (y : S1x128x1024.Idx) : k0_pay13 g w m v y = update (w y) (g (ix2 (y 1) (y 2))) (m (ix3 0 (y 1) (y 2))) (v (ix3 0 (y 1) (y 2))) := by
  unfold k0_pay13 update
  have e1 := pay1_apply g m (ix2 (y 1) (y 2))
  have e2 := pay2_apply g v (ix2 (y 1) (y 2))
  pointwise
  rw [e1, e2]
  rfl
theorem cast_apply (g : FVec Ideal S128x1024 .f32) (y : S1x128x1024.Idx) : k0_pay1 g y = g (ix2 (y 1) (y 2)) := by
  unfold k0_pay1
  pointwise

/-! ## What a point leaves in its blocks -/

variable (m : (ℓ : Loc nD τ sig) → Buf (Elt Ideal) ℓ) (c : Dev nD)
def landed (t : Fin cfg0.N) : Vec Ideal S7x128x1024 .bf16 := if t.val = 0 then iblk m c 0 t else if t.val = 1 then iblk m c 1 t else if t.val = 2 then iblk m c 2 t else iblk m c 3 t
def own (t : Fin cfg0.N) : Vec Ideal S128x1024 .bf16 := if t.val = 0 then iblk m c 4 t else if t.val = 1 then iblk m c 5 t else if t.val = 2 then iblk m c 6 t else iblk m c 7 t
abbrev gradAt (t : Fin cfg0.N) : FVec Ideal S128x1024 .f32 := gradK (landed m c t) (own m c t)
theorem layer0 (t : Fin cfg0.N) (h : t.val = 0) : gradAt m c t = gradK (iblk m c 0 t) (iblk m c 4 t) := by
  unfold gradAt landed own
  rw [if_pos h, if_pos h]
theorem layer1 (t : Fin cfg0.N) (h : t.val = 1) : gradAt m c t = gradK (iblk m c 1 t) (iblk m c 5 t) := by
  have h0 : ¬t.val = 0 := by omega
  unfold gradAt landed own
  rw [if_neg h0, if_pos h, if_neg h0, if_pos h]
theorem layer2 (t : Fin cfg0.N) (h : t.val = 2) : gradAt m c t = gradK (iblk m c 2 t) (iblk m c 6 t) := by
  have h0 : ¬t.val = 0 := by omega
  have h1 : ¬t.val = 1 := by omega
  unfold gradAt landed own
  rw [if_neg h0, if_neg h1, if_pos h, if_neg h0, if_neg h1, if_pos h]
theorem layer3 (t : Fin cfg0.N) (h : t.val = 3) : gradAt m c t = gradK (iblk m c 3 t) (iblk m c 7 t) := by
  have h0 : ¬t.val = 0 := by omega
  have h1 : ¬t.val = 1 := by omega
  have h2 : ¬t.val = 2 := by omega
  unfold gradAt landed own
  rw [if_neg h0, if_neg h1, if_neg h2, if_neg h0, if_neg h1, if_neg h2]
theorem out11 (t : Fin cfg0.N) : (outsAt0 m c t.val t.isLt).1 = k0_pay1 (gradAt m c t) := by
  have hN : t.val < 4 := lt_of_lt_of_eq t.isLt N_0
  obtain h | h | h | h : t.val = 0 ∨ t.val = 1 ∨ t.val = 2 ∨ t.val = 3 := by omega
  · rw [Gen.outsAt0_A m c t (by omega) (by omega) (by omega) (by omega), layer0 m c t h]
    frame_out
    rfl
  · rw [Gen.outsAt0_B m c t (by omega) (by omega) (by omega) (by omega), layer1 m c t h]
    frame_out
    rfl
  · rw [Gen.outsAt0_C m c t (by omega) (by omega) (by omega) (by omega), layer2 m c t h]
    frame_out
    rfl
  · rw [Gen.outsAt0_D m c t (by omega) (by omega) (by omega) (by omega), layer3 m c t h]
    frame_out
    rfl
theorem out12 (t : Fin cfg0.N) : (outsAt0 m c t.val t.isLt).2.1 = k0_pay13 (gradAt m c t) (iblk m c 8 t) (iblk m c 9 t) (iblk m c 10 t) := by
  have hN : t.val < 4 := lt_of_lt_of_eq t.isLt N_0
  obtain h | h | h | h : t.val = 0 ∨ t.val = 1 ∨ t.val = 2 ∨ t.val = 3 := by omega
  · rw [Gen.outsAt0_A m c t (by omega) (by omega) (by omega) (by omega), layer0 m c t h]
    frame_out
    rfl
  · rw [Gen.outsAt0_B m c t (by omega) (by omega) (by omega) (by omega), layer1 m c t h]
    frame_out
    rfl
  · rw [Gen.outsAt0_C m c t (by omega) (by omega) (by omega) (by omega), layer2 m c t h]
    frame_out
    rfl
  · rw [Gen.outsAt0_D m c t (by omega) (by omega) (by omega) (by omega), layer3 m c t h]
    frame_out
    rfl
theorem out13 (t : Fin cfg0.N) : (outsAt0 m c t.val t.isLt).2.2.1 = k0_pay1 (k0_pay11 (gradAt m c t) (iblk m c 9 t)) := by
  have hN : t.val < 4 := lt_of_lt_of_eq t.isLt N_0
  obtain h | h | h | h : t.val = 0 ∨ t.val = 1 ∨ t.val = 2 ∨ t.val = 3 := by omega
  · rw [Gen.outsAt0_A m c t (by omega) (by omega) (by omega) (by omega), layer0 m c t h]
    frame_out
    rfl
  · rw [Gen.outsAt0_B m c t (by omega) (by omega) (by omega) (by omega), layer1 m c t h]
    frame_out
    rfl
  · rw [Gen.outsAt0_C m c t (by omega) (by omega) (by omega) (by omega), layer2 m c t h]
    frame_out
    rfl
  · rw [Gen.outsAt0_D m c t (by omega) (by omega) (by omega) (by omega), layer3 m c t h]
    frame_out
    rfl
theorem out14 (t : Fin cfg0.N) : (outsAt0 m c t.val t.isLt).2.2.2 = k0_pay1 (k0_pay12 (gradAt m c t) (iblk m c 10 t)) := by
  have hN : t.val < 4 := lt_of_lt_of_eq t.isLt N_0
  obtain h | h | h | h : t.val = 0 ∨ t.val = 1 ∨ t.val = 2 ∨ t.val = 3 := by omega
  · rw [Gen.outsAt0_A m c t (by omega) (by omega) (by omega) (by omega), layer0 m c t h]
    frame_out
    rfl
  · rw [Gen.outsAt0_B m c t (by omega) (by omega) (by omega) (by omega), layer1 m c t h]
    frame_out
    rfl
  · rw [Gen.outsAt0_C m c t (by omega) (by omega) (by omega) (by omega), layer2 m c t h]
    frame_out
    rfl
  · rw [Gen.outsAt0_D m c t (by omega) (by omega) (by omega) (by omega), layer3 m c t h]
    frame_out
    rfl

/-! ## The blocks read the arguments -/

theorem idx : ∀ t : Fin grid0.N, win0_0.index t = ![0, 0, 0] ∧ win0_1.index t = ![0, 0, 0] ∧ win0_2.index t = ![0, 0, 0] ∧ win0_3.index t = ![0, 0, 0]
    ∧ win0_4.index t = ![0, 0] ∧ win0_5.index t = ![0, 0] ∧ win0_6.index t = ![0, 0] ∧ win0_7.index t = ![0, 0]
    ∧ win0_8.index t = ![t.val, 0, 0] ∧ win0_9.index t = ![t.val, 0, 0] ∧ win0_10.index t = ![t.val, 0, 0]
    ∧ win0_11.index t = ![t.val, 0, 0] ∧ win0_12.index t = ![t.val, 0, 0] ∧ win0_13.index t = ![t.val, 0, 0] ∧ win0_14.index t = ![t.val, 0, 0] := by decide +kernel

abbrev grad : State := gradR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
abbrev weights : State := m ((c.tc : Thread nD τ).loc main_arg8)
abbrev first : State := m ((c.tc : Thread nD τ).loc main_arg9)
abbrev second : State := m ((c.tc : Thread nD τ).loc main_arg10)
theorem blk8 (t : Fin cfg0.N) (i : S1x128x1024.Idx) (j : S4x128x1024.Idx) (e0 : (j 0).val = t.val) (e1 : (j 1).val = (i 1).val) (e2 : (j 2).val = (i 2).val) :
    iblk m c 8 t i = weights m c j := by
  have h0 : (i 0).val < 1 := (i 0).isLt
  show V m c main_arg8 _ = _
  rw [V_main_arg8]
  blk_ext [idx t]
theorem blk9 (t : Fin cfg0.N) (i : S1x128x1024.Idx) (j : S4x128x1024.Idx) (e0 : (j 0).val = t.val) (e1 : (j 1).val = (i 1).val) (e2 : (j 2).val = (i 2).val) :
    iblk m c 9 t i = first m c j := by
  have h0 : (i 0).val < 1 := (i 0).isLt
  show V m c main_arg9 _ = _
  rw [V_main_arg9]
  blk_ext [idx t]
theorem blk10 (t : Fin cfg0.N) (i : S1x128x1024.Idx) (j : S4x128x1024.Idx) (e0 : (j 0).val = t.val) (e1 : (j 1).val = (i 1).val) (e2 : (j 2).val = (i 2).val) :
    iblk m c 10 t i = second m c j := by
  have h0 : (i 0).val < 1 := (i 0).isLt
  show V m c main_arg10 _ = _
  rw [V_main_arg10]
  blk_ext [idx t]
theorem land0 (t : Fin cfg0.N) (i j : S7x128x1024.Idx) (e0 : (j 0).val = (i 0).val) (e1 : (j 1).val = (i 1).val) (e2 : (j 2).val = (i 2).val) :
    iblk m c 0 t i = m ((c.tc : Thread nD τ).loc main_arg0) j := by
  show V m c main_arg0 _ = _
  rw [V_main_arg0]
  blk_ext [idx t]
theorem own0 (t : Fin cfg0.N) (i j : S128x1024.Idx) (e0 : (j 0).val = (i 0).val) (e1 : (j 1).val = (i 1).val) :
    iblk m c 4 t i = m ((c.tc : Thread nD τ).loc main_arg4) j := by
  show V m c main_arg4 _ = _
  rw [V_main_arg4]
  blk_ext [idx t]
theorem land1 (t : Fin cfg0.N) (i j : S7x128x1024.Idx) (e0 : (j 0).val = (i 0).val) (e1 : (j 1).val = (i 1).val) (e2 : (j 2).val = (i 2).val) :
    iblk m c 1 t i = m ((c.tc : Thread nD τ).loc main_arg1) j := by
  show V m c main_arg1 _ = _
  rw [V_main_arg1]
  blk_ext [idx t]
theorem own1 (t : Fin cfg0.N) (i j : S128x1024.Idx) (e0 : (j 0).val = (i 0).val) (e1 : (j 1).val = (i 1).val) :
    iblk m c 5 t i = m ((c.tc : Thread nD τ).loc main_arg5) j := by
  show V m c main_arg5 _ = _
  rw [V_main_arg5]
  blk_ext [idx t]
theorem land2 (t : Fin cfg0.N) (i j : S7x128x1024.Idx) (e0 : (j 0).val = (i 0).val) (e1 : (j 1).val = (i 1).val) (e2 : (j 2).val = (i 2).val) :
    iblk m c 2 t i = m ((c.tc : Thread nD τ).loc main_arg2) j := by
  show V m c main_arg2 _ = _
  rw [V_main_arg2]
  blk_ext [idx t]
theorem own2 (t : Fin cfg0.N) (i j : S128x1024.Idx) (e0 : (j 0).val = (i 0).val) (e1 : (j 1).val = (i 1).val) :
    iblk m c 6 t i = m ((c.tc : Thread nD τ).loc main_arg6) j := by
  show V m c main_arg6 _ = _
  rw [V_main_arg6]
  blk_ext [idx t]
theorem land3 (t : Fin cfg0.N) (i j : S7x128x1024.Idx) (e0 : (j 0).val = (i 0).val) (e1 : (j 1).val = (i 1).val) (e2 : (j 2).val = (i 2).val) :
    iblk m c 3 t i = m ((c.tc : Thread nD τ).loc main_arg3) j := by
  show V m c main_arg3 _ = _
  rw [V_main_arg3]
  blk_ext [idx t]
theorem own3 (t : Fin cfg0.N) (i j : S128x1024.Idx) (e0 : (j 0).val = (i 0).val) (e1 : (j 1).val = (i 1).val) :
    iblk m c 7 t i = m ((c.tc : Thread nD τ).loc main_arg7) j := by
  show V m c main_arg7 _ = _
  rw [V_main_arg7]
  blk_ext [idx t]
theorem grad_at (t : Fin cfg0.N) (y : S128x1024.Idx) (r : S4x128x1024.Idx) (e0 : (r 0).val = t.val) (e1 : (r 1).val = (y 0).val) (e2 : (r 2).val = (y 1).val) :
    gradAt m c t y = grad m c r := by
  have hN : t.val < 4 := lt_of_lt_of_eq t.isLt N_0
  obtain h | h | h | h : t.val = 0 ∨ t.val = 1 ∨ t.val = 2 ∨ t.val = 3 := by omega
  · rw [layer0 m c t h]
    refine (gradK_apply _ _ y).trans ?_
    unfold grad gradR
    pointwise
    refine congrArg₂ (· + ·) (Eq.symm ?_) (Finset.sum_congr rfl fun s _ => Eq.symm ?_)
    · exact (dif_pos (by omega)).trans (own0 m c t y (ix2 (r 1) (r 2)) e1 e2).symm
    · exact (dif_pos (by omega)).trans (land0 m c t (ix3 s (y 0) (y 1)) (ix3 s (r 1) (r 2)) rfl e1 e2).symm
  · rw [layer1 m c t h]
    refine (gradK_apply _ _ y).trans ?_
    unfold grad gradR
    pointwise
    refine congrArg₂ (· + ·) (Eq.symm ?_) (Finset.sum_congr rfl fun s _ => Eq.symm ?_)
    · exact (dif_neg (by omega)).trans <| (dif_pos (by omega)).trans (own1 m c t y (ix2 (r 1) (r 2)) e1 e2).symm
    · exact (dif_neg (by omega)).trans <| (dif_pos (by omega)).trans (land1 m c t (ix3 s (y 0) (y 1)) (ix3 s (r 1) (r 2)) rfl e1 e2).symm
  · rw [layer2 m c t h]
    refine (gradK_apply _ _ y).trans ?_
    unfold grad gradR
    pointwise
    refine congrArg₂ (· + ·) (Eq.symm ?_) (Finset.sum_congr rfl fun s _ => Eq.symm ?_)
    · exact (dif_neg (by omega)).trans <| (dif_neg (by omega)).trans <| (dif_pos (by omega)).trans (own2 m c t y (ix2 (r 1) (r 2)) e1 e2).symm
    · exact (dif_neg (by omega)).trans <| (dif_neg (by omega)).trans <| (dif_pos (by omega)).trans (land2 m c t (ix3 s (y 0) (y 1)) (ix3 s (r 1) (r 2)) rfl e1 e2).symm
  · rw [layer3 m c t h]
    refine (gradK_apply _ _ y).trans ?_
    unfold grad gradR
    pointwise
    refine congrArg₂ (· + ·) (Eq.symm ?_) (Finset.sum_congr rfl fun s _ => Eq.symm ?_)
    · exact (dif_neg (by omega)).trans <| (dif_neg (by omega)).trans <| (dif_neg (by omega)).trans <| (own3 m c t y (ix2 (r 1) (r 2)) e1 e2).symm
    · exact (dif_neg (by omega)).trans <| (dif_neg (by omega)).trans <| (dif_neg (by omega)).trans <| (land3 m c t (ix3 s (y 0) (y 1)) (ix3 s (r 1) (r 2)) rfl e1 e2).symm

/-! ## The arrays the launch leaves -/

theorem final11 : (dats m 0 c).arrAt 11 cfg0.N = grad m c := by
  refine (dats m 0 c).arrAt_eq_of_covers 11 _ (by decide +kernel) fun t hf y => ?_
  blk_simp
  rw [after0_11, out11, cast_apply]
  refine grad_at m c t _ _ ?_ ?_ ?_
  all_goals blk_simp [idx t]
theorem final12 : (dats m 0 c).arrAt 12 cfg0.N = updateR (weights m c) (grad m c) (first m c) (second m c) := by
  refine (dats m 0 c).arrAt_eq_of_covers 12 _ (by decide +kernel) fun t hf y => ?_
  blk_simp
  rw [after0_12, out12, pay3_apply, updateR_apply]
  refine congr (congr (congrArg₂ update (blk8 m c t _ _ ?_ ?_ ?_) (grad_at m c t _ _ ?_ ?_ ?_)) (blk9 m c t _ _ ?_ ?_ ?_)) (blk10 m c t _ _ ?_ ?_ ?_)
  all_goals blk_simp [idx t]
theorem final13 : (dats m 0 c).arrAt 13 cfg0.N = mom1R (grad m c) (first m c) := by
  refine (dats m 0 c).arrAt_eq_of_covers 13 _ (by decide +kernel) fun t hf y => ?_
  blk_simp
  rw [after0_13, out13, cast_apply, pay1_apply, mom1R_apply]
  refine congrArg₂ mom1 (grad_at m c t _ _ ?_ ?_ ?_) (blk9 m c t _ _ ?_ ?_ ?_)
  all_goals blk_simp [idx t]
theorem final14 : (dats m 0 c).arrAt 14 cfg0.N = mom2R (grad m c) (second m c) := by
  refine (dats m 0 c).arrAt_eq_of_covers 14 _ (by decide +kernel) fun t hf y => ?_
  blk_simp
  rw [after0_14, out14, cast_apply, pay2_apply, mom2R_apply]
  refine congrArg₂ mom2 (grad_at m c t _ _ ?_ ?_ ?_) (blk10 m c t _ _ ?_ ?_ ?_)
  all_goals blk_simp [idx t]

section
variable (n : (ℓ : Loc Cert.Reference9Ideal.nD Cert.Reference9Ideal.τ Cert.Reference9Ideal.sig) → Buf (Elt Ideal) ℓ) (d : Dev Cert.Reference9Ideal.nD)
open Cert.Reference9Ideal in
abbrev gradN : State := gradR (n ((d.tc : Thread Cert.Reference9Ideal.nD Cert.Reference9Ideal.τ).loc Cert.Reference9Ideal.main_arg0)) (n ((d.tc : Thread Cert.Reference9Ideal.nD Cert.Reference9Ideal.τ).loc Cert.Reference9Ideal.main_arg1)) (n ((d.tc : Thread Cert.Reference9Ideal.nD Cert.Reference9Ideal.τ).loc Cert.Reference9Ideal.main_arg2)) (n ((d.tc : Thread Cert.Reference9Ideal.nD Cert.Reference9Ideal.τ).loc Cert.Reference9Ideal.main_arg3)) (n ((d.tc : Thread Cert.Reference9Ideal.nD Cert.Reference9Ideal.τ).loc Cert.Reference9Ideal.main_arg4)) (n ((d.tc : Thread Cert.Reference9Ideal.nD Cert.Reference9Ideal.τ).loc Cert.Reference9Ideal.main_arg5)) (n ((d.tc : Thread Cert.Reference9Ideal.nD Cert.Reference9Ideal.τ).loc Cert.Reference9Ideal.main_arg6)) (n ((d.tc : Thread Cert.Reference9Ideal.nD Cert.Reference9Ideal.τ).loc Cert.Reference9Ideal.main_arg7))
end

set_option maxHeartbeats 1000000 in
theorem algebraic : Cert.algebraic_Kernel9Ideal_Reference9Ideal := by
  intro m ρ m' ρ' _ hagree
  refine ⟨fun c => grad m c, fun c => updateR (weights m c) (grad m c) (first m c) (second m c), fun c => mom1R (grad m c) (first m c), fun c => mom2R (grad m c) (second m c),
    (θ_run Cert.Kernel9Ideal.defs _ _).mono (fun r h c => ⟨(h c).1.trans (final11 m c), (h c).2.1.trans (final12 m c), (h c).2.2.1.trans (final13 m c), (h c).2.2.2.1.trans (final14 m c), (h c).2.2.2.2⟩) (Cert.Kernel9Ideal.Value.run_blocks (F := Ideal) m ρ), ?_⟩
  refine (θ_run Cert.Reference9Ideal.defs _ _).mono (fun _ h c => ⟨(h c).1.trans ?_, (h c).2.1.trans ?_, (h c).2.2.1.trans ?_, (h c).2.2.2.1.trans ?_, (h c).2.2.2.2⟩) (Cert.Reference9Ideal.Value.run (F := Ideal) m' ρ')
  all_goals obtain ⟨a0, a1, a2, a3, a4, a5, a6, a7, a8, a9, a10⟩ := hagree c
  all_goals have eg : gradN m' c = grad m c := by (show gradR _ _ _ _ _ _ _ _ = gradR _ _ _ _ _ _ _ _; rw [a0, a1, a2, a3, a4, a5, a6, a7])
  · refine Eq.trans (b := gradN m' c) rfl ?_
    rw [eg]
  · refine Eq.trans (b := updateR (m' ((c.tc : Thread Cert.Reference9Ideal.nD Cert.Reference9Ideal.τ).loc Cert.Reference9Ideal.main_arg8)) (gradN m' c) (m' ((c.tc : Thread Cert.Reference9Ideal.nD Cert.Reference9Ideal.τ).loc Cert.Reference9Ideal.main_arg9)) (m' ((c.tc : Thread Cert.Reference9Ideal.nD Cert.Reference9Ideal.τ).loc Cert.Reference9Ideal.main_arg10))) rfl ?_
    rw [eg, a8, a9, a10]
  · refine Eq.trans (b := mom1R (gradN m' c) (m' ((c.tc : Thread Cert.Reference9Ideal.nD Cert.Reference9Ideal.τ).loc Cert.Reference9Ideal.main_arg9))) rfl ?_
    rw [eg, a9]
  · refine Eq.trans (b := mom2R (gradN m' c) (m' ((c.tc : Thread Cert.Reference9Ideal.nD Cert.Reference9Ideal.τ).loc Cert.Reference9Ideal.main_arg10))) rfl ?_
    rw [eg, a10]
end Cert.Kernel9Ideal.StepKv
end
-- ==== Proof.StepOut.Value.lean ====
/- One AdamW step over the rows of the out-projection that a device keeps, layer by layer: the launch leaves the summed gradient, the update and the two moments that the plain step gives. -/
module
public import proofs.«01_k».proof.Proof.Gen.Kernel10Ideal.Value
public import proofs.«01_k».proof.Proof.Gen.Reference10Ideal.Run
public import Idealize.ShloMosaic.Lib.Pipeline.ValueKit
public import Idealize.ShloMosaic.Lib.Pipeline.ReadBack
public import Idealize.ShloMosaic.Lib.Tactic
public import proofs.«01_k».proof.Defs
@[expose] public section
set_option maxRecDepth 16384
noncomputable section
namespace Cert.Kernel10Ideal.StepOut
open Cert.Kernel10Ideal Cert.Kernel10Ideal.Gen Idealize.ShloMosaic Idealize.ShloMosaic.TcCoe Idealize.SL.Sem
open Idealize.ShloMosaic.Pipeline (Dat)
/-! ## One entry's step -/

def mom1 (g m : EReal) : EReal := Ideal.ofBits FTy.f32 0x3F666666#32 * m + Ideal.ofBits FTy.f32 0x3DCCCCCD#32 * g
def mom2 (g v : EReal) : EReal := Ideal.ofBits FTy.f32 0x3F7FBE77#32 * v + Ideal.ofBits FTy.f32 0x3A83126F#32 * (g * g)
def update (w g m v : EReal) : EReal :=
  Ideal.ofBits FTy.f32 0xBA83126F#32 * (Ideal.div (Ideal.div (mom1 g m) (Ideal.ofBits FTy.f32 0x3F26BD02#32)) (Ideal.sqrt (Ideal.div (mom2 g v) (Ideal.ofBits FTy.f32 0x3C231ACC#32)) + Ideal.ofBits FTy.f32 0x322BCC77#32) + Ideal.ofBits FTy.f32 0x3C23D70A#32 * w)

/-! ## The reference's four results -/

abbrev Land := FVec Ideal Cert.Reference10Ideal.S7x192x1024 .bf16
abbrev Own := FVec Ideal Cert.Reference10Ideal.S192x1024 .bf16
abbrev State := FVec Ideal Cert.Reference10Ideal.S4x192x1024 .f32
section
open Cert.Reference10Ideal Cert.Reference10Ideal.Gen
def gradR (l0 l1 l2 l3 : Land) (o0 o1 o2 o3 : Own) : State :=
  addf (extf .f32 (concatenate S4x192x1024 0 [⟨S1x192x1024, broadcastInDim S1x192x1024 ![1, 2] bcast_S192x1024_S1x192x1024_1_2 o0⟩, ⟨S1x192x1024, broadcastInDim S1x192x1024 ![1, 2] bcast_S192x1024_S1x192x1024_1_2 o1⟩, ⟨S1x192x1024, broadcastInDim S1x192x1024 ![1, 2] bcast_S192x1024_S1x192x1024_1_2 o2⟩, ⟨S1x192x1024, broadcastInDim S1x192x1024 ![1, 2] bcast_S192x1024_S1x192x1024_1_2 o3⟩] concatenates_S1x192x1024_S1x192x1024_S1x192x1024_S1x192x1024_S4x192x1024_d0) Cert.Reference10Ideal.Gen.bitsLt_bf16_f32)
    (Host.reduceAdd (extf .f32 (concatenate S4x7x192x1024 0 [⟨S1x7x192x1024, broadcastInDim S1x7x192x1024 ![1, 2, 3] bcast_S7x192x1024_S1x7x192x1024_1_2_3 l0⟩, ⟨S1x7x192x1024, broadcastInDim S1x7x192x1024 ![1, 2, 3] bcast_S7x192x1024_S1x7x192x1024_1_2_3 l1⟩, ⟨S1x7x192x1024, broadcastInDim S1x7x192x1024 ![1, 2, 3] bcast_S7x192x1024_S1x7x192x1024_1_2_3 l2⟩, ⟨S1x7x192x1024, broadcastInDim S1x7x192x1024 ![1, 2, 3] bcast_S7x192x1024_S1x7x192x1024_1_2_3 l3⟩] concatenates_S1x7x192x1024_S1x7x192x1024_S1x7x192x1024_S1x7x192x1024_S4x7x192x1024_d0) Cert.Reference10Ideal.Gen.bitsLt_bf16_f32) (constant S_ .f32 0x00000000#32) reducesTo_S4x7x192x1024_S4x192x1024_d1 h_S_)
def mom1R (g m : State) : State := addf (mulf (broadcastInDim S4x192x1024 ![] bcast_S_S4x192x1024 (constant S_ .f32 0x3F666666#32)) m) (mulf (broadcastInDim S4x192x1024 ![] bcast_S_S4x192x1024 (constant S_ .f32 0x3DCCCCCD#32)) g)
def mom2R (g v : State) : State := addf (mulf (broadcastInDim S4x192x1024 ![] bcast_S_S4x192x1024 (constant S_ .f32 0x3F7FBE77#32)) v) (mulf (broadcastInDim S4x192x1024 ![] bcast_S_S4x192x1024 (constant S_ .f32 0x3A83126F#32)) (mulf g g))
def updateR (w g m v : State) : State := mulf (broadcastInDim S4x192x1024 ![] bcast_S_S4x192x1024 (constant S_ .f32 0xBA83126F#32)) (addf (Host.divf (Host.divf (mom1R g m) (broadcastInDim S4x192x1024 ![] bcast_S_S4x192x1024 (constant S_ .f32 0x3F26BD02#32))) (addf (Host.sqrt (Host.divf (mom2R g v) (broadcastInDim S4x192x1024 ![] bcast_S_S4x192x1024 (constant S_ .f32 0x3C231ACC#32)))) (broadcastInDim S4x192x1024 ![] bcast_S_S4x192x1024 (constant S_ .f32 0x322BCC77#32)))) (mulf (broadcastInDim S4x192x1024 ![] bcast_S_S4x192x1024 (constant S_ .f32 0x3C23D70A#32)) w))
end
theorem mom1R_apply (g m : State) (y : S4x192x1024.Idx) : mom1R g m y = mom1 (g y) (m y) := by
  unfold mom1R
  pointwise
  rfl
theorem mom2R_apply (g v : State) (y : S4x192x1024.Idx) : mom2R g v y = mom2 (g y) (v y) := by
  unfold mom2R
  pointwise
  rfl
theorem updateR_apply (w g m v : State) (y : S4x192x1024.Idx) : updateR w g m v y = update (w y) (g y) (m y) (v y) := by
  unfold updateR update
  rw [← mom1R_apply, ← mom2R_apply]
  pointwise

/-! ## The launch's payloads -/

def gradK (l : Vec Ideal S7x192x1024 .bf16) (o : Vec Ideal S192x1024 .bf16) : FVec Ideal S192x1024 .f32 :=
  k0_pay9 o (View.ld l (Rect.unit ![0, 0, 0] ![1, 192, 1024] inb_S7x192x1024_S1x192x1024_0_0_0)) (View.ld l (Rect.unit ![1, 0, 0] ![1, 192, 1024] inb_S7x192x1024_S1x192x1024_1_0_0)) (View.ld l (Rect.unit ![2, 0, 0] ![1, 192, 1024] inb_S7x192x1024_S1x192x1024_2_0_0)) (View.ld l (Rect.unit ![3, 0, 0] ![1, 192, 1024] inb_S7x192x1024_S1x192x1024_3_0_0)) (View.ld l (Rect.unit ![4, 0, 0] ![1, 192, 1024] inb_S7x192x1024_S1x192x1024_4_0_0)) (View.ld l (Rect.unit ![5, 0, 0] ![1, 192, 1024] inb_S7x192x1024_S1x192x1024_5_0_0)) (View.ld l (Rect.unit ![6, 0, 0] ![1, 192, 1024] inb_S7x192x1024_S1x192x1024_6_0_0))
theorem gradK_apply (l : Vec Ideal S7x192x1024 .bf16) (o : Vec Ideal S192x1024 .bf16) (y : S192x1024.Idx) : gradK l o y = o y + ∑ s : Fin 7, l (ix3 s (y 0) (y 1)) := by
  unfold gradK k0_pay9
  rw [Fin.sum_univ_seven]
  pointwise
  simp only [← add_assoc]
theorem pay1_apply (g : FVec Ideal S192x1024 .f32) (m : Vec Ideal S1x192x1024 .f32) (y : S192x1024.Idx) : k0_pay11 g m y = mom1 (g y) (m (ix3 0 (y 0) (y 1))) := by
  unfold k0_pay11
  pointwise
  rfl
theorem pay2_apply (g : FVec Ideal S192x1024 .f32) (v : Vec Ideal S1x192x1024 .f32) (y : S192x1024.Idx) : k0_pay12 g v y = mom2 (g y) (v (ix3 0 (y 0) (y 1))) := by
  unfold k0_pay12
  pointwise
  rfl
theorem pay3_apply (g : FVec Ideal S192x1024 .f32) (w m v : Vec Ideal S1x192x1024 .f32) (y : S1x192x1024.Idx) : k0_pay13 g w m v y = update (w y) (g (ix2 (y 1) (y 2))) (m (ix3 0 (y 1) (y 2))) (v (ix3 0 (y 1) (y 2))) := by
  unfold k0_pay13 update
  have e1 := pay1_apply g m (ix2 (y 1) (y 2))
  have e2 := pay2_apply g v (ix2 (y 1) (y 2))
  pointwise
  rw [e1, e2]
  rfl
theorem cast_apply (g : FVec Ideal S192x1024 .f32) (y : S1x192x1024.Idx) : k0_pay1 g y = g (ix2 (y 1) (y 2)) := by
  unfold k0_pay1
  pointwise

/-! ## What a point leaves in its blocks -/

variable (m : (ℓ : Loc nD τ sig) → Buf (Elt Ideal) ℓ) (c : Dev nD)
def landed (t : Fin cfg0.N) : Vec Ideal S7x192x1024 .bf16 := if t.val = 0 then iblk m c 0 t else if t.val = 1 then iblk m c 1 t else if t.val = 2 then iblk m c 2 t else iblk m c 3 t
def own (t : Fin cfg0.N) : Vec Ideal S192x1024 .bf16 := if t.val = 0 then iblk m c 4 t else if t.val = 1 then iblk m c 5 t else if t.val = 2 then iblk m c 6 t else iblk m c 7 t
abbrev gradAt (t : Fin cfg0.N) : FVec Ideal S192x1024 .f32 := gradK (landed m c t) (own m c t)
theorem layer0 (t : Fin cfg0.N) (h : t.val = 0) : gradAt m c t = gradK (iblk m c 0 t) (iblk m c 4 t) := by
  unfold gradAt landed own
  rw [if_pos h, if_pos h]
theorem layer1 (t : Fin cfg0.N) (h : t.val = 1) : gradAt m c t = gradK (iblk m c 1 t) (iblk m c 5 t) := by
  have h0 : ¬t.val = 0 := by omega
  unfold gradAt landed own
  rw [if_neg h0, if_pos h, if_neg h0, if_pos h]
theorem layer2 (t : Fin cfg0.N) (h : t.val = 2) : gradAt m c t = gradK (iblk m c 2 t) (iblk m c 6 t) := by
  have h0 : ¬t.val = 0 := by omega
  have h1 : ¬t.val = 1 := by omega
  unfold gradAt landed own
  rw [if_neg h0, if_neg h1, if_pos h, if_neg h0, if_neg h1, if_pos h]
theorem layer3 (t : Fin cfg0.N) (h : t.val = 3) : gradAt m c t = gradK (iblk m c 3 t) (iblk m c 7 t) := by
  have h0 : ¬t.val = 0 := by omega
  have h1 : ¬t.val = 1 := by omega
  have h2 : ¬t.val = 2 := by omega
  unfold gradAt landed own
  rw [if_neg h0, if_neg h1, if_neg h2, if_neg h0, if_neg h1, if_neg h2]
theorem out11 (t : Fin cfg0.N) : (outsAt0 m c t.val t.isLt).1 = k0_pay1 (gradAt m c t) := by
  have hN : t.val < 4 := lt_of_lt_of_eq t.isLt N_0
  obtain h | h | h | h : t.val = 0 ∨ t.val = 1 ∨ t.val = 2 ∨ t.val = 3 := by omega
  · rw [Gen.outsAt0_A m c t (by omega) (by omega) (by omega) (by omega), layer0 m c t h]
    frame_out
    rfl
  · rw [Gen.outsAt0_B m c t (by omega) (by omega) (by omega) (by omega), layer1 m c t h]
    frame_out
    rfl
  · rw [Gen.outsAt0_C m c t (by omega) (by omega) (by omega) (by omega), layer2 m c t h]
    frame_out
    rfl
  · rw [Gen.outsAt0_D m c t (by omega) (by omega) (by omega) (by omega), layer3 m c t h]
    frame_out
    rfl
theorem out12 (t : Fin cfg0.N) : (outsAt0 m c t.val t.isLt).2.1 = k0_pay13 (gradAt m c t) (iblk m c 8 t) (iblk m c 9 t) (iblk m c 10 t) := by
  have hN : t.val < 4 := lt_of_lt_of_eq t.isLt N_0
  obtain h | h | h | h : t.val = 0 ∨ t.val = 1 ∨ t.val = 2 ∨ t.val = 3 := by omega
  · rw [Gen.outsAt0_A m c t (by omega) (by omega) (by omega) (by omega), layer0 m c t h]
    frame_out
    rfl
  · rw [Gen.outsAt0_B m c t (by omega) (by omega) (by omega) (by omega), layer1 m c t h]
    frame_out
    rfl
  · rw [Gen.outsAt0_C m c t (by omega) (by omega) (by omega) (by omega), layer2 m c t h]
    frame_out
    rfl
  · rw [Gen.outsAt0_D m c t (by omega) (by omega) (by omega) (by omega), layer3 m c t h]
    frame_out
    rfl
theorem out13 (t : Fin cfg0.N) : (outsAt0 m c t.val t.isLt).2.2.1 = k0_pay1 (k0_pay11 (gradAt m c t) (iblk m c 9 t)) := by
  have hN : t.val < 4 := lt_of_lt_of_eq t.isLt N_0
  obtain h | h | h | h : t.val = 0 ∨ t.val = 1 ∨ t.val = 2 ∨ t.val = 3 := by omega
  · rw [Gen.outsAt0_A m c t (by omega) (by omega) (by omega) (by omega), layer0 m c t h]
    frame_out
    rfl
  · rw [Gen.outsAt0_B m c t (by omega) (by omega) (by omega) (by omega), layer1 m c t h]
    frame_out
    rfl
  · rw [Gen.outsAt0_C m c t (by omega) (by omega) (by omega) (by omega), layer2 m c t h]
    frame_out
    rfl
  · rw [Gen.outsAt0_D m c t (by omega) (by omega) (by omega) (by omega), layer3 m c t h]
    frame_out
    rfl
theorem out14 (t : Fin cfg0.N) : (outsAt0 m c t.val t.isLt).2.2.2 = k0_pay1 (k0_pay12 (gradAt m c t) (iblk m c 10 t)) := by
  have hN : t.val < 4 := lt_of_lt_of_eq t.isLt N_0
  obtain h | h | h | h : t.val = 0 ∨ t.val = 1 ∨ t.val = 2 ∨ t.val = 3 := by omega
  · rw [Gen.outsAt0_A m c t (by omega) (by omega) (by omega) (by omega), layer0 m c t h]
    frame_out
    rfl
  · rw [Gen.outsAt0_B m c t (by omega) (by omega) (by omega) (by omega), layer1 m c t h]
    frame_out
    rfl
  · rw [Gen.outsAt0_C m c t (by omega) (by omega) (by omega) (by omega), layer2 m c t h]
    frame_out
    rfl
  · rw [Gen.outsAt0_D m c t (by omega) (by omega) (by omega) (by omega), layer3 m c t h]
    frame_out
    rfl

/-! ## The blocks read the arguments -/

theorem idx : ∀ t : Fin grid0.N, win0_0.index t = ![0, 0, 0] ∧ win0_1.index t = ![0, 0, 0] ∧ win0_2.index t = ![0, 0, 0] ∧ win0_3.index t = ![0, 0, 0]
    ∧ win0_4.index t = ![0, 0] ∧ win0_5.index t = ![0, 0] ∧ win0_6.index t = ![0, 0] ∧ win0_7.index t = ![0, 0]
    ∧ win0_8.index t = ![t.val, 0, 0] ∧ win0_9.index t = ![t.val, 0, 0] ∧ win0_10.index t = ![t.val, 0, 0]
    ∧ win0_11.index t = ![t.val, 0, 0] ∧ win0_12.index t = ![t.val, 0, 0] ∧ win0_13.index t = ![t.val, 0, 0] ∧ win0_14.index t = ![t.val, 0, 0] := by decide +kernel

abbrev grad : State := gradR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
abbrev weights : State := m ((c.tc : Thread nD τ).loc main_arg8)
abbrev first : State := m ((c.tc : Thread nD τ).loc main_arg9)
abbrev second : State := m ((c.tc : Thread nD τ).loc main_arg10)
theorem blk8 (t : Fin cfg0.N) (i : S1x192x1024.Idx) (j : S4x192x1024.Idx) (e0 : (j 0).val = t.val) (e1 : (j 1).val = (i 1).val) (e2 : (j 2).val = (i 2).val) :
    iblk m c 8 t i = weights m c j := by
  have h0 : (i 0).val < 1 := (i 0).isLt
  show V m c main_arg8 _ = _
  rw [V_main_arg8]
  blk_ext [idx t]
theorem blk9 (t : Fin cfg0.N) (i : S1x192x1024.Idx) (j : S4x192x1024.Idx) (e0 : (j 0).val = t.val) (e1 : (j 1).val = (i 1).val) (e2 : (j 2).val = (i 2).val) :
    iblk m c 9 t i = first m c j := by
  have h0 : (i 0).val < 1 := (i 0).isLt
  show V m c main_arg9 _ = _
  rw [V_main_arg9]
  blk_ext [idx t]
theorem blk10 (t : Fin cfg0.N) (i : S1x192x1024.Idx) (j : S4x192x1024.Idx) (e0 : (j 0).val = t.val) (e1 : (j 1).val = (i 1).val) (e2 : (j 2).val = (i 2).val) :
    iblk m c 10 t i = second m c j := by
  have h0 : (i 0).val < 1 := (i 0).isLt
  show V m c main_arg10 _ = _
  rw [V_main_arg10]
  blk_ext [idx t]
theorem land0 (t : Fin cfg0.N) (i j : S7x192x1024.Idx) (e0 : (j 0).val = (i 0).val) (e1 : (j 1).val = (i 1).val) (e2 : (j 2).val = (i 2).val) :
    iblk m c 0 t i = m ((c.tc : Thread nD τ).loc main_arg0) j := by
  show V m c main_arg0 _ = _
  rw [V_main_arg0]
  blk_ext [idx t]
theorem own0 (t : Fin cfg0.N) (i j : S192x1024.Idx) (e0 : (j 0).val = (i 0).val) (e1 : (j 1).val = (i 1).val) :
    iblk m c 4 t i = m ((c.tc : Thread nD τ).loc main_arg4) j := by
  show V m c main_arg4 _ = _
  rw [V_main_arg4]
  blk_ext [idx t]
theorem land1 (t : Fin cfg0.N) (i j : S7x192x1024.Idx) (e0 : (j 0).val = (i 0).val) (e1 : (j 1).val = (i 1).val) (e2 : (j 2).val = (i 2).val) :
    iblk m c 1 t i = m ((c.tc : Thread nD τ).loc main_arg1) j := by
  show V m c main_arg1 _ = _
  rw [V_main_arg1]
  blk_ext [idx t]
theorem own1 (t : Fin cfg0.N) (i j : S192x1024.Idx) (e0 : (j 0).val = (i 0).val) (e1 : (j 1).val = (i 1).val) :
    iblk m c 5 t i = m ((c.tc : Thread nD τ).loc main_arg5) j := by
  show V m c main_arg5 _ = _
  rw [V_main_arg5]
  blk_ext [idx t]
theorem land2 (t : Fin cfg0.N) (i j : S7x192x1024.Idx) (e0 : (j 0).val = (i 0).val) (e1 : (j 1).val = (i 1).val) (e2 : (j 2).val = (i 2).val) :
    iblk m c 2 t i = m ((c.tc : Thread nD τ).loc main_arg2) j := by
  show V m c main_arg2 _ = _
  rw [V_main_arg2]
  blk_ext [idx t]
theorem own2 (t : Fin cfg0.N) (i j : S192x1024.Idx) (e0 : (j 0).val = (i 0).val) (e1 : (j 1).val = (i 1).val) :
    iblk m c 6 t i = m ((c.tc : Thread nD τ).loc main_arg6) j := by
  show V m c main_arg6 _ = _
  rw [V_main_arg6]
  blk_ext [idx t]
theorem land3 (t : Fin cfg0.N) (i j : S7x192x1024.Idx) (e0 : (j 0).val = (i 0).val) (e1 : (j 1).val = (i 1).val) (e2 : (j 2).val = (i 2).val) :
    iblk m c 3 t i = m ((c.tc : Thread nD τ).loc main_arg3) j := by
  show V m c main_arg3 _ = _
  rw [V_main_arg3]
  blk_ext [idx t]
theorem own3 (t : Fin cfg0.N) (i j : S192x1024.Idx) (e0 : (j 0).val = (i 0).val) (e1 : (j 1).val = (i 1).val) :
    iblk m c 7 t i = m ((c.tc : Thread nD τ).loc main_arg7) j := by
  show V m c main_arg7 _ = _
  rw [V_main_arg7]
  blk_ext [idx t]
theorem grad_at (t : Fin cfg0.N) (y : S192x1024.Idx) (r : S4x192x1024.Idx) (e0 : (r 0).val = t.val) (e1 : (r 1).val = (y 0).val) (e2 : (r 2).val = (y 1).val) :
    gradAt m c t y = grad m c r := by
  have hN : t.val < 4 := lt_of_lt_of_eq t.isLt N_0
  obtain h | h | h | h : t.val = 0 ∨ t.val = 1 ∨ t.val = 2 ∨ t.val = 3 := by omega
  · rw [layer0 m c t h]
    refine (gradK_apply _ _ y).trans ?_
    unfold grad gradR
    pointwise
    refine congrArg₂ (· + ·) (Eq.symm ?_) (Finset.sum_congr rfl fun s _ => Eq.symm ?_)
    · exact (dif_pos (by omega)).trans (own0 m c t y (ix2 (r 1) (r 2)) e1 e2).symm
    · exact (dif_pos (by omega)).trans (land0 m c t (ix3 s (y 0) (y 1)) (ix3 s (r 1) (r 2)) rfl e1 e2).symm
  · rw [layer1 m c t h]
    refine (gradK_apply _ _ y).trans ?_
    unfold grad gradR
    pointwise
    refine congrArg₂ (· + ·) (Eq.symm ?_) (Finset.sum_congr rfl fun s _ => Eq.symm ?_)
    · exact (dif_neg (by omega)).trans <| (dif_pos (by omega)).trans (own1 m c t y (ix2 (r 1) (r 2)) e1 e2).symm
    · exact (dif_neg (by omega)).trans <| (dif_pos (by omega)).trans (land1 m c t (ix3 s (y 0) (y 1)) (ix3 s (r 1) (r 2)) rfl e1 e2).symm
  · rw [layer2 m c t h]
    refine (gradK_apply _ _ y).trans ?_
    unfold grad gradR
    pointwise
    refine congrArg₂ (· + ·) (Eq.symm ?_) (Finset.sum_congr rfl fun s _ => Eq.symm ?_)
    · exact (dif_neg (by omega)).trans <| (dif_neg (by omega)).trans <| (dif_pos (by omega)).trans (own2 m c t y (ix2 (r 1) (r 2)) e1 e2).symm
    · exact (dif_neg (by omega)).trans <| (dif_neg (by omega)).trans <| (dif_pos (by omega)).trans (land2 m c t (ix3 s (y 0) (y 1)) (ix3 s (r 1) (r 2)) rfl e1 e2).symm
  · rw [layer3 m c t h]
    refine (gradK_apply _ _ y).trans ?_
    unfold grad gradR
    pointwise
    refine congrArg₂ (· + ·) (Eq.symm ?_) (Finset.sum_congr rfl fun s _ => Eq.symm ?_)
    · exact (dif_neg (by omega)).trans <| (dif_neg (by omega)).trans <| (dif_neg (by omega)).trans <| (own3 m c t y (ix2 (r 1) (r 2)) e1 e2).symm
    · exact (dif_neg (by omega)).trans <| (dif_neg (by omega)).trans <| (dif_neg (by omega)).trans <| (land3 m c t (ix3 s (y 0) (y 1)) (ix3 s (r 1) (r 2)) rfl e1 e2).symm

/-! ## The arrays the launch leaves -/

theorem final11 : (dats m 0 c).arrAt 11 cfg0.N = grad m c := by
  refine (dats m 0 c).arrAt_eq_of_covers 11 _ (by decide +kernel) fun t hf y => ?_
  blk_simp
  rw [after0_11, out11, cast_apply]
  refine grad_at m c t _ _ ?_ ?_ ?_
  all_goals blk_simp [idx t]
theorem final12 : (dats m 0 c).arrAt 12 cfg0.N = updateR (weights m c) (grad m c) (first m c) (second m c) := by
  refine (dats m 0 c).arrAt_eq_of_covers 12 _ (by decide +kernel) fun t hf y => ?_
  blk_simp
  rw [after0_12, out12, pay3_apply, updateR_apply]
  refine congr (congr (congrArg₂ update (blk8 m c t _ _ ?_ ?_ ?_) (grad_at m c t _ _ ?_ ?_ ?_)) (blk9 m c t _ _ ?_ ?_ ?_)) (blk10 m c t _ _ ?_ ?_ ?_)
  all_goals blk_simp [idx t]
theorem final13 : (dats m 0 c).arrAt 13 cfg0.N = mom1R (grad m c) (first m c) := by
  refine (dats m 0 c).arrAt_eq_of_covers 13 _ (by decide +kernel) fun t hf y => ?_
  blk_simp
  rw [after0_13, out13, cast_apply, pay1_apply, mom1R_apply]
  refine congrArg₂ mom1 (grad_at m c t _ _ ?_ ?_ ?_) (blk9 m c t _ _ ?_ ?_ ?_)
  all_goals blk_simp [idx t]
theorem final14 : (dats m 0 c).arrAt 14 cfg0.N = mom2R (grad m c) (second m c) := by
  refine (dats m 0 c).arrAt_eq_of_covers 14 _ (by decide +kernel) fun t hf y => ?_
  blk_simp
  rw [after0_14, out14, cast_apply, pay2_apply, mom2R_apply]
  refine congrArg₂ mom2 (grad_at m c t _ _ ?_ ?_ ?_) (blk10 m c t _ _ ?_ ?_ ?_)
  all_goals blk_simp [idx t]

section
variable (n : (ℓ : Loc Cert.Reference10Ideal.nD Cert.Reference10Ideal.τ Cert.Reference10Ideal.sig) → Buf (Elt Ideal) ℓ) (d : Dev Cert.Reference10Ideal.nD)
open Cert.Reference10Ideal in
abbrev gradN : State := gradR (n ((d.tc : Thread Cert.Reference10Ideal.nD Cert.Reference10Ideal.τ).loc Cert.Reference10Ideal.main_arg0)) (n ((d.tc : Thread Cert.Reference10Ideal.nD Cert.Reference10Ideal.τ).loc Cert.Reference10Ideal.main_arg1)) (n ((d.tc : Thread Cert.Reference10Ideal.nD Cert.Reference10Ideal.τ).loc Cert.Reference10Ideal.main_arg2)) (n ((d.tc : Thread Cert.Reference10Ideal.nD Cert.Reference10Ideal.τ).loc Cert.Reference10Ideal.main_arg3)) (n ((d.tc : Thread Cert.Reference10Ideal.nD Cert.Reference10Ideal.τ).loc Cert.Reference10Ideal.main_arg4)) (n ((d.tc : Thread Cert.Reference10Ideal.nD Cert.Reference10Ideal.τ).loc Cert.Reference10Ideal.main_arg5)) (n ((d.tc : Thread Cert.Reference10Ideal.nD Cert.Reference10Ideal.τ).loc Cert.Reference10Ideal.main_arg6)) (n ((d.tc : Thread Cert.Reference10Ideal.nD Cert.Reference10Ideal.τ).loc Cert.Reference10Ideal.main_arg7))
end

set_option maxHeartbeats 1000000 in
theorem algebraic : Cert.algebraic_Kernel10Ideal_Reference10Ideal := by
  intro m ρ m' ρ' _ hagree
  refine ⟨fun c => grad m c, fun c => updateR (weights m c) (grad m c) (first m c) (second m c), fun c => mom1R (grad m c) (first m c), fun c => mom2R (grad m c) (second m c),
    (θ_run Cert.Kernel10Ideal.defs _ _).mono (fun r h c => ⟨(h c).1.trans (final11 m c), (h c).2.1.trans (final12 m c), (h c).2.2.1.trans (final13 m c), (h c).2.2.2.1.trans (final14 m c), (h c).2.2.2.2⟩) (Cert.Kernel10Ideal.Value.run_blocks (F := Ideal) m ρ), ?_⟩
  refine (θ_run Cert.Reference10Ideal.defs _ _).mono (fun _ h c => ⟨(h c).1.trans ?_, (h c).2.1.trans ?_, (h c).2.2.1.trans ?_, (h c).2.2.2.1.trans ?_, (h c).2.2.2.2⟩) (Cert.Reference10Ideal.Value.run (F := Ideal) m' ρ')
  all_goals obtain ⟨a0, a1, a2, a3, a4, a5, a6, a7, a8, a9, a10⟩ := hagree c
  all_goals have eg : gradN m' c = grad m c := by (show gradR _ _ _ _ _ _ _ _ = gradR _ _ _ _ _ _ _ _; rw [a0, a1, a2, a3, a4, a5, a6, a7])
  · refine Eq.trans (b := gradN m' c) rfl ?_
    rw [eg]
  · refine Eq.trans (b := updateR (m' ((c.tc : Thread Cert.Reference10Ideal.nD Cert.Reference10Ideal.τ).loc Cert.Reference10Ideal.main_arg8)) (gradN m' c) (m' ((c.tc : Thread Cert.Reference10Ideal.nD Cert.Reference10Ideal.τ).loc Cert.Reference10Ideal.main_arg9)) (m' ((c.tc : Thread Cert.Reference10Ideal.nD Cert.Reference10Ideal.τ).loc Cert.Reference10Ideal.main_arg10))) rfl ?_
    rw [eg, a8, a9, a10]
  · refine Eq.trans (b := mom1R (gradN m' c) (m' ((c.tc : Thread Cert.Reference10Ideal.nD Cert.Reference10Ideal.τ).loc Cert.Reference10Ideal.main_arg9))) rfl ?_
    rw [eg, a9]
  · refine Eq.trans (b := mom2R (gradN m' c) (m' ((c.tc : Thread Cert.Reference10Ideal.nD Cert.Reference10Ideal.τ).loc Cert.Reference10Ideal.main_arg10))) rfl ?_
    rw [eg, a10]
end Cert.Kernel10Ideal.StepOut
end
-- ==== Proof.Loss.Memory.lean ====
module
public import proofs.«01_k».proof.Proof.Gen.Kernel11Ideal.Value
public import proofs.«01_k».proof.Proof.Gen.Reference11Ideal.Run
public import Idealize.ShloMosaic.Lib.Pipeline.ValueKit
public import Idealize.ShloMosaic.Lib.Pipeline.ReadBack
public import Idealize.ShloMosaic.Lib.Tactic
public import proofs.«01_k».proof.Defs
@[expose] public section
set_option maxRecDepth 16384
noncomputable section
namespace Cert.Kernel11Ideal.Loss
open Cert.Kernel11Ideal Cert.Kernel11Ideal.Gen Idealize.ShloMosaic Idealize.ShloMosaic.TcCoe Idealize.SL.Sem
open Idealize.ShloMosaic.Pipeline (Dat)

/-! ## One row's mathematics -/

abbrev ninf : EReal := Ideal.ofBits FTy.f32 0xFF800000#32
/-- A query row's scaled products with the memory keys. -/
def rowScore (q : Fin 128 → EReal) (k : Fin 256 → Fin 128 → EReal) (n : Fin 256) : EReal :=
  Ideal.div (∑ d, q d * k n d) (Ideal.ofBits FTy.f32 0x413504F3#32)
def rowExp (s : Fin 256 → EReal) (n : Fin 256) : EReal := Ideal.exp (s n - Finset.univ.fold max ninf s)
def rowSoft (s : Fin 256 → EReal) (n : Fin 256) : EReal := Ideal.div (rowExp s n) (∑ x, rowExp s x)
def rowHead (q : Fin 128 → EReal) (k : Fin 256 → Fin 128 → EReal) (v : Fin 256 → EReal) : EReal :=
  ∑ n, rowSoft (rowScore q k) n * v n
/-- The gate. -/
def silu (z : EReal) : EReal := z * Ideal.div 1 (1 + Ideal.exp (-z))
def rowMean (r : Fin 1024 → EReal) : EReal := Ideal.div (∑ k, r k) (Ideal.ofBits FTy.f32 0x44800000#32)
/-- A row's normalization, scaled and shifted. -/
def rowNorm (r : Fin 1024 → EReal) (g b : EReal) (j : Fin 1024) : EReal :=
  (r j - rowMean r) * Ideal.rsqrt (rowMean (fun k => (r k - rowMean r) * (r k - rowMean r)) + Ideal.ofBits FTy.f32 0x3727C5AC#32) * g + b

/-! ## The kernel's memory attention -/

def scoreK (q : FVec Ideal S512x128 .bf16) (k : FVec Ideal S256x128 .bf16) : FVec Ideal S512x256 .f32 :=
  divf (matmul dot_S512x128_S256x128_S512x256_1_1_0_0_n_n none q k (constant S512x256 .f32 0x00000000#32)) (broadcast S512x256 (Scalar.ofBits .f32 0x413504F3#32 : Ideal .f32))
def expK (s : FVec Ideal S512x256 .f32) : FVec Ideal S512x256 .f32 :=
  exp (subf s (broadcastTo S512x256 (shapeCast S512x1 (multiReduction .maximumf [1] S512 s 0xFF800000#32 reduces_S512x256_S512 (.inl rfl) rfl) shapeCasts_S512_S512x1) broadcasts_S512x1_S512x256))
def softK (s : FVec Ideal S512x256 .f32) : FVec Ideal S512x256 .bf16 :=
  truncf .bf16 (divf (expK s) (broadcastTo S512x256 (shapeCast S512x1 (multiReduction .add [1] S512 (expK s) 0x00000000#32 reduces_S512x256_S512 (.inl rfl) rfl) shapeCasts_S512_S512x1) broadcasts_S512x1_S512x256)) bitsLt_bf16_f32
def headK (q : FVec Ideal S512x128 .bf16) (k v : FVec Ideal S256x128 .bf16) : FVec Ideal S512x128 .f32 :=
  matmul dot_S512x256_S256x128_S512x128_1_0_0_1_n_n none (softK (scoreK q k)) v (constant S512x128 .f32 0x00000000#32)

theorem scoreK_apply (q : FVec Ideal S512x128 .bf16) (k : FVec Ideal S256x128 .bf16) (y : S512x256.Idx) :
    scoreK q k y = rowScore (fun d => q (ix2 (y 0) d)) (fun n d => k (ix2 n d)) (y 1) := by
  unfold scoreK rowScore
  pointwise
theorem expK_apply (s : FVec Ideal S512x256 .f32) (y : S512x256.Idx) : expK s y = rowExp (fun n => s (ix2 (y 0) n)) (y 1) := by
  unfold expK rowExp
  pointwise
theorem softK_apply (s : FVec Ideal S512x256 .f32) (y : S512x256.Idx) : softK s y = rowSoft (fun n => s (ix2 (y 0) n)) (y 1) := by
  unfold softK rowSoft
  pointwise
  simp only [expK_apply]
  rfl
theorem headK_apply (q : FVec Ideal S512x128 .bf16) (k v : FVec Ideal S256x128 .bf16) (y : S512x128.Idx) :
    headK q k v y = rowHead (fun d => q (ix2 (y 0) d)) (fun n d => k (ix2 n d)) (fun n => v (ix2 n (y 1))) := by
  unfold headK rowHead
  pointwise
  simp only [softK_apply, scoreK_apply]
  rfl

def memK (x2 : FVec Ideal S512x512 .bf16) (x6 : FVec Ideal S256x1024 .f32) : FVec Ideal S512x512 .bf16 :=
  truncf .bf16 (concatenate S512x512 1 [
    ⟨S512x128, headK (extractStridedSlice S512x128 ![0, 0] x2 slices_S512x512_o0_0_S512x128) (extractStridedSlice S256x128 ![0, 0] (truncf .bf16 x6 bitsLt_bf16_f32) slices_S256x1024_o0_0_S256x128) (extractStridedSlice S256x128 ![0, 512] (truncf .bf16 x6 bitsLt_bf16_f32) slices_S256x1024_o0_512_S256x128)⟩,
    ⟨S512x128, headK (extractStridedSlice S512x128 ![0, 128] x2 slices_S512x512_o0_128_S512x128) (extractStridedSlice S256x128 ![0, 128] (truncf .bf16 x6 bitsLt_bf16_f32) slices_S256x1024_o0_128_S256x128) (extractStridedSlice S256x128 ![0, 640] (truncf .bf16 x6 bitsLt_bf16_f32) slices_S256x1024_o0_640_S256x128)⟩,
    ⟨S512x128, headK (extractStridedSlice S512x128 ![0, 256] x2 slices_S512x512_o0_256_S512x128) (extractStridedSlice S256x128 ![0, 256] (truncf .bf16 x6 bitsLt_bf16_f32) slices_S256x1024_o0_256_S256x128) (extractStridedSlice S256x128 ![0, 768] (truncf .bf16 x6 bitsLt_bf16_f32) slices_S256x1024_o0_768_S256x128)⟩,
    ⟨S512x128, headK (extractStridedSlice S512x128 ![0, 384] x2 slices_S512x512_o0_384_S512x128) (extractStridedSlice S256x128 ![0, 384] (truncf .bf16 x6 bitsLt_bf16_f32) slices_S256x1024_o0_384_S256x128) (extractStridedSlice S256x128 ![0, 896] (truncf .bf16 x6 bitsLt_bf16_f32) slices_S256x1024_o0_896_S256x128)⟩]
    concatenates_S512x128_S512x128_S512x128_S512x128_S512x512_d1) bitsLt_bf16_f32

theorem memK_eq (x2 : FVec Ideal S512x512 .bf16) (x6 : FVec Ideal S256x1024 .f32) :
    k0_pay6 x2 (k0_pay2 x6) (k0_pay3 x2 x6) (k0_pay4 x2 x6) (k0_pay5 x2 x6) = memK x2 x6 := rfl

/-- The memory attention of one row at one of its 512 lanes. -/
def rowMem (q : Fin 512 → EReal) (kv : Fin 256 → Fin 1024 → EReal) (j : Fin 512) : EReal :=
  rowHead (fun d => q ⟨j.val / 128 * 128 + d.val, by omega⟩) (fun n d => kv n ⟨j.val / 128 * 128 + d.val, by omega⟩) (fun n => kv n ⟨512 + j.val, by omega⟩)

theorem rowHead_congr {q q' : Fin 128 → EReal} {k k' : Fin 256 → Fin 128 → EReal} {v v' : Fin 256 → EReal} (hq : ∀ d, q d = q' d) (hk : ∀ n d, k n d = k' n d)
    (hv : ∀ n, v n = v' n) : rowHead q k v = rowHead q' k' v' := by
  rw [show q = q' from funext hq, show k = k' from funext fun n => funext (hk n), show v = v' from funext hv]

theorem memK_apply (x2 : FVec Ideal S512x512 .bf16) (x6 : FVec Ideal S256x1024 .f32) (y : S512x512.Idx) :
    memK x2 x6 y = rowMem (fun d => x2 (ix2 (y 0) d)) (fun n d => x6 (ix2 n d)) (y 1) := by
  have hy : (y 1).val < 512 := (y 1).isLt
  unfold memK rowMem
  pointwise
  split_ifs with h1 h2 h3
  all_goals
    rw [headK_apply]
    refine rowHead_congr (fun d => ?_) (fun n d => ?_) (fun n => ?_)
    all_goals pointwise
    all_goals
      first
        | exact congrArg (fun z => x2 (ix2 (y 0) z)) (Fin.ext (by first | (simp; done) | (simp; omega)))
        | exact congrArg (fun z => x6 (ix2 n z)) (Fin.ext (by first | (simp; done) | (simp; omega)))

/-! ## The reference's memory attention -/

section Reference
open Cert.Reference11Ideal Cert.Reference11Ideal.Gen

def scoreR (h : FVec Ideal Cert.Reference11Ideal.S8192x5120 .bf16) (kv : FVec Ideal Cert.Reference11Ideal.S256x1024 .f32) : FVec Ideal S4x8192x256 .f32 :=
  Host.divf (Host.dotGeneral dot_S8192x4x128_S256x4x128_S4x8192x256_2_2_0_0_1_1 none (shapeCast _ (extractStridedSlice S8192x512 ![0, 3072] (extf .f32 h Cert.Reference11Ideal.Gen.bitsLt_bf16_f32) slices_S8192x5120_S8192x512_0_3072) shapeCasts_S8192x512_S8192x4x128) (shapeCast _ (extractStridedSlice S256x512 ![0, 0] kv slices_S256x1024_S256x512_0_0) shapeCasts_S256x512_S256x4x128)) (broadcastInDim S4x8192x256 ![] bcast_S_S4x8192x256 (constant S_ .f32 0x413504F3#32))
def expR (s : FVec Ideal S4x8192x256 .f32) : FVec Ideal S4x8192x256 .f32 :=
  Host.exp (subf s (broadcastInDim S4x8192x256 ![0, 1, 2] bcast_S4x8192x1_S4x8192x256_0_1_2 (broadcastInDim S4x8192x1 ![0, 1] bcast_S4x8192_S4x8192x1_0_1 (maximumf (broadcastInDim S4x8192 ![] bcast_S_S4x8192 (constant S_ .f32 0xFF800000#32)) (Host.reduce FloatOps.maximumf s (constant S_ .f32 0xFF800000#32) reducesTo_S4x8192x256_S4x8192_d2 h_S_)))))
def softR (s : FVec Ideal S4x8192x256 .f32) : FVec Ideal S4x8192x256 .f32 :=
  Host.divf (expR s) (broadcastInDim S4x8192x256 ![0, 1, 2] bcast_S4x8192x1_S4x8192x256_0_1_2 (broadcastInDim S4x8192x1 ![0, 1] bcast_S4x8192_S4x8192x1_0_1 (Host.reduceAdd (expR s) (constant S_ .f32 0x00000000#32) reducesTo_S4x8192x256_S4x8192_d2 h_S_)))
def memR (h : FVec Ideal Cert.Reference11Ideal.S8192x5120 .bf16) (kv : FVec Ideal Cert.Reference11Ideal.S256x1024 .f32) : FVec Ideal Cert.Reference11Ideal.S8192x512 .f32 :=
  shapeCast _ (transpose S8192x4x128 [2, 0, 1] (Host.dotGeneral dot_S256x4x128_S4x8192x256_S4x128x8192_0_2_2_1_1_0 none (shapeCast _ (extractStridedSlice S256x512 ![0, 512] kv slices_S256x1024_S256x512_0_512) shapeCasts_S256x512_S256x4x128) (softR (scoreR h kv))) transposes_S4x128x8192_S8192x4x128_2_0_1) shapeCasts_S8192x4x128_S8192x512

theorem scoreR_apply (h : FVec Ideal Cert.Reference11Ideal.S8192x5120 .bf16) (kv : FVec Ideal Cert.Reference11Ideal.S256x1024 .f32) (y : S4x8192x256.Idx) :
    scoreR h kv y = rowScore (fun d => h (ix2 (y 1) ⟨3072 + ((y 0).val * 128 + d.val), by have : (y 0).val < 4 := (y 0).isLt; omega⟩)) (fun n d => kv (ix2 n ⟨(y 0).val * 128 + d.val, by have : (y 0).val < 4 := (y 0).isLt; omega⟩)) (y 2) := by
  unfold scoreR rowScore
  pointwise
theorem reduceMax (s : FVec Ideal S4x8192x256 .f32) (y : S4x8192.Idx) : Host.reduce FloatOps.maximumf s (constant S_ .f32 0xFF800000#32) reducesTo_S4x8192x256_S4x8192_d2 h_S_ y
    = (Finset.univ : Finset (Fin 256)).fold max ninf (fun x => s (ix3 (y 0) (y 1) x)) := by
  have h : S4x8192x256.Reduces [2] S4x8192 := by decide
  rw [Host.reduce_eq_fold_single FloatOps.maximumf s _ _ h _ y]
  refine congrArg (fun g => (Finset.univ : Finset (Fin 256)).fold max ninf g) (funext fun x => ?_)
  refine congrArg s (funext fun a => Fin.ext ?_)
  rw [Shape.Reduces.lift_val]
  fin_cases a <;> rfl
def maxR (s : FVec Ideal S4x8192x256 .f32) : FVec Ideal S4x8192 .f32 := Host.reduce FloatOps.maximumf s (constant S_ .f32 0xFF800000#32) reducesTo_S4x8192x256_S4x8192_d2 h_S_
theorem maxR_apply (s : FVec Ideal S4x8192x256 .f32) (y : S4x8192.Idx) : maxR s y = (Finset.univ : Finset (Fin 256)).fold max ninf (fun x => s (ix3 (y 0) (y 1) x)) := reduceMax s y
/-- The row maximum as the reference takes it: once more against the least value. -/
def topR (s : FVec Ideal S4x8192x256 .f32) : FVec Ideal S4x8192 .f32 :=
  maximumf (broadcastInDim S4x8192 ![] bcast_S_S4x8192 (constant S_ .f32 0xFF800000#32)) (maxR s)
theorem max_low (b : EReal) (f : Fin 256 → EReal) : max b ((Finset.univ : Finset (Fin 256)).fold max b f) = (Finset.univ : Finset (Fin 256)).fold max b f :=
  max_eq_right ((Finset.le_fold_max _).2 (.inl le_rfl))
theorem maximumf_at {s : Shape} (a b : FVec Ideal s .f32) (y : s.Idx) : maximumf a b y = max (show EReal from a y) (show EReal from b y) := by
  pointwise
theorem low_at (y : S4x8192.Idx) : broadcastInDim S4x8192 ![] bcast_S_S4x8192 (constant S_ .f32 0xFF800000#32 : FVec Ideal S_ .f32) y = ninf := by
  pointwise
theorem topR_apply (s : FVec Ideal S4x8192x256 .f32) (y : S4x8192.Idx) : topR s y = (Finset.univ : Finset (Fin 256)).fold max ninf (fun x => s (ix3 (y 0) (y 1) x)) := by
  unfold topR
  rw [maximumf_at, low_at, maxR_apply]
  exact max_low _ _
theorem expR_eq (s : FVec Ideal S4x8192x256 .f32) : expR s = Host.exp (subf s (broadcastInDim S4x8192x256 ![0, 1, 2] bcast_S4x8192x1_S4x8192x256_0_1_2 (broadcastInDim S4x8192x1 ![0, 1] bcast_S4x8192_S4x8192x1_0_1 (topR s)))) := rfl
theorem expR_top (s : FVec Ideal S4x8192x256 .f32) (y : S4x8192x256.Idx) : expR s y = Ideal.exp (s y - topR s (ix2 (y 0) (y 1))) := by
  rw [expR_eq]
  pointwise
theorem expR_apply (s : FVec Ideal S4x8192x256 .f32) (y : S4x8192x256.Idx) : expR s y = rowExp (fun n => s (ix3 (y 0) (y 1) n)) (y 2) := by
  have hy : y = ix3 (y 0) (y 1) (y 2) := by funext a; fin_cases a <;> rfl
  rw [expR_top, topR_apply]
  unfold rowExp
  exact congrArg (fun z => Ideal.exp (z - (Finset.univ : Finset (Fin 256)).fold max ninf (fun x => s (ix3 (y 0) (y 1) x)))) (congrArg s hy)
theorem softR_apply (s : FVec Ideal S4x8192x256 .f32) (y : S4x8192x256.Idx) : softR s y = rowSoft (fun n => s (ix3 (y 0) (y 1) n)) (y 2) := by
  unfold softR rowSoft
  pointwise
  simp only [expR_apply]
  rfl
theorem memR_apply (h : FVec Ideal Cert.Reference11Ideal.S8192x5120 .bf16) (kv : FVec Ideal Cert.Reference11Ideal.S256x1024 .f32) (y : Cert.Reference11Ideal.S8192x512.Idx) :
    memR h kv y = rowMem (fun d => h (ix2 (y 0) ⟨3072 + d.val, by omega⟩)) (fun n d => kv (ix2 n d)) (y 1) := by
  unfold memR rowMem rowHead
  pointwise
  refine Finset.sum_congr rfl fun n _ => ?_
  rw [mul_comm, softR_apply]
  simp only [scoreR_apply]
  rfl
end Reference
end Cert.Kernel11Ideal.Loss
end
-- ==== Proof.Loss.Output.lean ====
module
public import proofs.«01_k».proof.Proof.Gen.Kernel11Ideal.Value
public import proofs.«01_k».proof.Proof.Gen.Reference11Ideal.Run
public import Idealize.ShloMosaic.Lib.Pipeline.ValueKit
public import Idealize.ShloMosaic.Lib.Pipeline.ReadBack
public import Idealize.ShloMosaic.Lib.Tactic
public import proofs.«01_k».proof.Defs
public import proofs.«01_k».proof.Proof.Loss.Memory
@[expose] public section
set_option maxRecDepth 16384
noncomputable section
namespace Cert.Kernel11Ideal.Loss
open Cert.Kernel11Ideal Cert.Kernel11Ideal.Gen Idealize.ShloMosaic Idealize.ShloMosaic.TcCoe Idealize.SL.Sem
open Idealize.ShloMosaic.Pipeline (Dat)

/-! ## Gate, out-projection and normalization -/

/-- One row before normalization: the scaled residual plus the out-projection of the gated branch. -/
def rowOut (x : EReal) (mix : Fin 1024 → EReal) (mem : Fin 512 → EReal) (z : Fin 1536 → EReal) (w : Fin 1536 → EReal) : EReal :=
  Ideal.ofBits FTy.f32 0x3FD744FD#32 * x + ∑ k : Fin 1536, (if h : k.val < 1024 then mix ⟨k.val, h⟩ else mem ⟨k.val - 1024, by omega⟩) * silu (z k) * w k

def accK (x1 : FVec Ideal S512x1024 .bf16) (mem z0 z1 z2 : FVec Ideal S512x512 .bf16) (w0 w1 w2 : FVec Ideal S512x1024 .bf16) : FVec Ideal S512x1024 .f32 :=
  k0_pay14 (k0_pay8 x1) (k0_pay9 x1) (extf .f32 mem bitsLt_bf16_f32) (k0_pay11 (F := Ideal)) (k0_pay12 z0) (k0_pay13 z0) (Scalar.ofBits .f32 0x3F800000#32) w0 z1 w1 z2 w2

/-- One row's gated branch through the out-projection, as the kernel adds it: three runs of 512. -/
def rowAcc (mix : Fin 1024 → EReal) (mem z0 z1 z2 : Fin 512 → EReal) (w0 w1 w2 : Fin 512 → EReal) : EReal :=
  ((∑ k : Fin 512, mix ⟨k.val, by omega⟩ * silu (z0 k) * w0 k) + ∑ k : Fin 512, mix ⟨512 + k.val, by omega⟩ * silu (z1 k) * w1 k) + ∑ k : Fin 512, mem k * silu (z2 k) * w2 k

theorem accK_apply (x1 : FVec Ideal S512x1024 .bf16) (mem z0 z1 z2 : FVec Ideal S512x512 .bf16) (w0 w1 w2 : FVec Ideal S512x1024 .bf16) (y : S512x1024.Idx) :
    accK x1 mem z0 z1 z2 w0 w1 w2 y = rowAcc (fun k => x1 (ix2 (y 0) k)) (fun k => mem (ix2 (y 0) k)) (fun k => z0 (ix2 (y 0) k)) (fun k => z1 (ix2 (y 0) k)) (fun k => z2 (ix2 (y 0) k)) (fun k => w0 (ix2 k (y 1))) (fun k => w1 (ix2 k (y 1))) (fun k => w2 (ix2 k (y 1))) := by
  have e : ∀ z : EReal, silu z = z * Ideal.div 1 (1 + Ideal.exp (0 - z)) := fun z => by unfold silu; rw [zero_sub]
  unfold accK rowAcc
  simp only [e]
  open_payloads
  pointwise

/-- The long row in its three runs. -/
theorem rowOut_split (x : EReal) (mix : Fin 1024 → EReal) (mem : Fin 512 → EReal) (z w : Fin 1536 → EReal) :
    rowOut x mix mem z w = Ideal.ofBits FTy.f32 0x3FD744FD#32 * x + rowAcc mix mem (fun k => z ⟨k.val, by omega⟩) (fun k => z ⟨512 + k.val, by omega⟩) (fun k => z ⟨1024 + k.val, by omega⟩)
      (fun k => w ⟨k.val, by omega⟩) (fun k => w ⟨512 + k.val, by omega⟩) (fun k => w ⟨1024 + k.val, by omega⟩) := by
  unfold rowOut rowAcc
  congr 1
  rw [show (∑ k : Fin 1536, (if h : k.val < 1024 then mix ⟨k.val, h⟩ else mem ⟨k.val - 1024, by omega⟩) * silu (z k) * w k) = ∑ k : Fin (512 + 512 + 512), (if h : k.val < 1024 then mix ⟨k.val, h⟩ else mem ⟨k.val - 1024, by omega⟩) * silu (z k) * w k from rfl, Fin.sum_univ_add, Fin.sum_univ_add]
  congr 1

/-- A tile's normalized rows minus the target. -/
theorem errK_apply (v124 v125 : FVec Ideal S512x1024 .f32) (g b : FVec Ideal S1x1024 .f32) (t : FVec Ideal S512x1024 .f32) (y : S512x1024.Idx) :
    k0_pay17 v124 v125 g b t y = rowNorm (fun k => k0_pay15 v124 v125 (ix2 (y 0) k)) (g (ix2 0 (y 1))) (b (ix2 0 (y 1))) (y 1) - t y := by
  unfold k0_pay17 rowNorm rowMean
  pointwise

theorem scaledK_apply (v124 v125 : FVec Ideal S512x1024 .f32) (g b : FVec Ideal S1x1024 .f32) (t : FVec Ideal S512x1024 .f32) (y : S512x1024.Idx) :
    k0_pay18 v124 v125 g b t y = k0_pay17 v124 v125 g b t y * Ideal.ofBits FTy.f32 0x3A800000#32 := by
  unfold k0_pay18
  pointwise

/-- What a tile adds to the loss. -/
theorem lossK_apply (e : FVec Ideal S512x1024 .f32) (l : FVec Ideal S1x1 .f32) (y : S1x1.Idx) :
    k0_pay1 e l y = l y + Ideal.ofBits FTy.f32 0x3A000000#32 * ∑ r : Fin 512, ∑ k : Fin 1024, e (ix2 r k) * e (ix2 r k) := by
  unfold k0_pay1
  pointwise
section Reference
open Cert.Reference11Ideal Cert.Reference11Ideal.Gen
def residR (x : FVec Ideal Cert.Reference11Ideal.S8192x1024 .f32) (h : FVec Ideal Cert.Reference11Ideal.S8192x5120 .bf16) (mix : FVec Ideal Cert.Reference11Ideal.S8192x1024 .bf16)
    (kv : FVec Ideal Cert.Reference11Ideal.S256x1024 .f32) (w : FVec Ideal Cert.Reference11Ideal.S1536x1024 .bf16) : FVec Ideal Cert.Reference11Ideal.S8192x1024 .f32 :=
  addf (mulf (broadcastInDim Cert.Reference11Ideal.S8192x1024 ![] bcast_S_S8192x1024 (constant S_ .f32 0x3FD744FD#32)) x) (Host.dotGeneral dot_S8192x1536_S1536x1024_S8192x1024_1_0_0_1_n_n none (mulf (concatenate S8192x1536 1 [⟨Cert.Reference11Ideal.S8192x1024, (extf .f32 mix Cert.Reference11Ideal.Gen.bitsLt_bf16_f32)⟩, ⟨Cert.Reference11Ideal.S8192x512, memR h kv⟩] concatenates_S8192x1024_S8192x512_S8192x1536_d1) (mulf (extractStridedSlice S8192x1536 ![0, 3584] (extf .f32 h Cert.Reference11Ideal.Gen.bitsLt_bf16_f32) slices_S8192x5120_S8192x1536_0_3584) (Host.divf (broadcastInDim S8192x1536 ![] bcast_S_S8192x1536 (constant S_ .f32 0x3F800000#32)) (addf (broadcastInDim S8192x1536 ![] bcast_S_S8192x1536 (constant S_ .f32 0x3F800000#32)) (Host.exp (Host.negf (extractStridedSlice S8192x1536 ![0, 3584] (extf .f32 h Cert.Reference11Ideal.Gen.bitsLt_bf16_f32) slices_S8192x5120_S8192x1536_0_3584))))))) (extf .f32 w Cert.Reference11Ideal.Gen.bitsLt_bf16_f32))
def normR (r : FVec Ideal Cert.Reference11Ideal.S8192x1024 .f32) (g b : FVec Ideal Cert.Reference11Ideal.S1x1024 .f32) : FVec Ideal Cert.Reference11Ideal.S8192x1024 .f32 :=
  addf (mulf (mulf (subf r (broadcastInDim Cert.Reference11Ideal.S8192x1024 ![0, 1] bcast_S8192x1_S8192x1024_0_1 (Host.divf (broadcastInDim S8192x1 ![0] bcast_S8192_S8192x1_0 (Host.reduceAdd r (constant S_ .f32 0x00000000#32) reducesTo_S8192x1024_S8192_d1 h_S_)) (broadcastInDim S8192x1 ![] bcast_S_S8192x1 (constant S_ .f32 0x44800000#32))))) (broadcastInDim Cert.Reference11Ideal.S8192x1024 ![0, 1] bcast_S8192x1_S8192x1024_0_1 (Host.rsqrt (addf (Host.divf (broadcastInDim S8192x1 ![0] bcast_S8192_S8192x1_0 (Host.reduceAdd (mulf (subf r (broadcastInDim Cert.Reference11Ideal.S8192x1024 ![0, 1] bcast_S8192x1_S8192x1024_0_1 (Host.divf (broadcastInDim S8192x1 ![0] bcast_S8192_S8192x1_0 (Host.reduceAdd r (constant S_ .f32 0x00000000#32) reducesTo_S8192x1024_S8192_d1 h_S_)) (broadcastInDim S8192x1 ![] bcast_S_S8192x1 (constant S_ .f32 0x44800000#32))))) (subf r (broadcastInDim Cert.Reference11Ideal.S8192x1024 ![0, 1] bcast_S8192x1_S8192x1024_0_1 (Host.divf (broadcastInDim S8192x1 ![0] bcast_S8192_S8192x1_0 (Host.reduceAdd r (constant S_ .f32 0x00000000#32) reducesTo_S8192x1024_S8192_d1 h_S_)) (broadcastInDim S8192x1 ![] bcast_S_S8192x1 (constant S_ .f32 0x44800000#32)))))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))))) (broadcastInDim Cert.Reference11Ideal.S8192x1024 ![0, 1] bcast_S1x1024_S8192x1024_0_1 g)) (broadcastInDim Cert.Reference11Ideal.S8192x1024 ![0, 1] bcast_S1x1024_S8192x1024_0_1 b)
theorem residR_apply (x : FVec Ideal Cert.Reference11Ideal.S8192x1024 .f32) (h : FVec Ideal Cert.Reference11Ideal.S8192x5120 .bf16) (mix : FVec Ideal Cert.Reference11Ideal.S8192x1024 .bf16)
    (kv : FVec Ideal Cert.Reference11Ideal.S256x1024 .f32) (w : FVec Ideal Cert.Reference11Ideal.S1536x1024 .bf16) (y) : residR x h mix kv w y = rowOut (x y) (fun k => mix (ix2 (y 0) k)) (fun k => memR h kv (ix2 (y 0) k)) (fun k => h (ix2 (y 0) ⟨3584 + k.val, by omega⟩)) (fun k => w (ix2 k (y 1))) := by
  unfold residR rowOut silu
  pointwise
theorem normR_apply (r : FVec Ideal Cert.Reference11Ideal.S8192x1024 .f32) (g b : FVec Ideal Cert.Reference11Ideal.S1x1024 .f32) (y) : normR r g b y = rowNorm (fun k => r (ix2 (y 0) k)) (g (ix2 0 (y 1))) (b (ix2 0 (y 1))) (y 1) := by
  unfold normR rowNorm rowMean
  pointwise
/-- The normalized rows minus the target. -/
def errR (xn t : FVec Ideal Cert.Reference11Ideal.S8192x1024 .f32) : FVec Ideal Cert.Reference11Ideal.S8192x1024 .f32 := subf xn t
/-- The loss head's gradient: half of twice the error over the width. -/
def gradR (e : FVec Ideal Cert.Reference11Ideal.S8192x1024 .f32) : FVec Ideal Cert.Reference11Ideal.S8192x1024 .f32 :=
  mulf (broadcastInDim Cert.Reference11Ideal.S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim Cert.Reference11Ideal.S8192x1024 ![] bcast_S_S8192x1024 (constant S_ .f32 0x40000000#32)) e)
/-- The loss: half the sum over the rows of the mean squared error. -/
def lossR (e : FVec Ideal Cert.Reference11Ideal.S8192x1024 .f32) : FVec Ideal Cert.Reference11Ideal.S1x1 .f32 :=
  shapeCast _ (mulf (constant S_ .f32 0x3F000000#32) (Host.reduceAdd (Host.divf (Host.reduceAdd (mulf e e) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_)) shapeCasts_S_S1x1
theorem gradR_apply (e : FVec Ideal Cert.Reference11Ideal.S8192x1024 .f32) (y) :
    gradR e y = Ideal.div (Ideal.ofBits FTy.f32 0x3F000000#32 * Ideal.ofBits FTy.f32 0x3F800000#32) (Ideal.ofBits FTy.f32 0x44800000#32) * (Ideal.ofBits FTy.f32 0x40000000#32 * e y) := by
  unfold gradR
  pointwise
theorem lossR_apply (e : FVec Ideal Cert.Reference11Ideal.S8192x1024 .f32) (y) :
    lossR e y = Ideal.ofBits FTy.f32 0x3F000000#32 * ∑ r : Fin 8192, Ideal.div (∑ k : Fin 1024, e (ix2 r k) * e (ix2 r k)) (Ideal.ofBits FTy.f32 0x44800000#32) := by
  unfold lossR
  pointwise
end Reference
end Cert.Kernel11Ideal.Loss
end
-- ==== Proof.Loss.Sum.lean ====
module
public import proofs.«01_k».proof.Proof.Gen.Kernel11Ideal.Value
public import proofs.«01_k».proof.Proof.Gen.Reference11Ideal.Run
public import Idealize.ShloMosaic.Lib.Pipeline.ValueKit
public import Idealize.ShloMosaic.Lib.Pipeline.ReadBack
public import Idealize.ShloMosaic.Lib.Tactic
public import proofs.«01_k».proof.Defs
public import proofs.«01_k».proof.Proof.Loss.Output
@[expose] public section
set_option maxRecDepth 16384
noncomputable section
namespace Cert.Kernel11Ideal.Loss
open Cert.Kernel11Ideal Cert.Kernel11Ideal.Gen Idealize.ShloMosaic Idealize.ShloMosaic.TcCoe Idealize.SL.Sem
open Idealize.ShloMosaic.Pipeline (Dat)

/-! ## The loss head's constants -/

theorem ofBits_half : Ideal.ofBits FTy.f32 0x3F000000#32 = ((1 / 2 : ℝ) : EReal) := by
  simp [Ideal.ofBits, Ideal.ieee, -EReal.coe_mul]; norm_num
theorem ofBits_two : Ideal.ofBits FTy.f32 0x40000000#32 = ((2 : ℝ) : EReal) := by
  simp [Ideal.ofBits, Ideal.ieee, -EReal.coe_mul]; norm_num
theorem ofBits_width : Ideal.ofBits FTy.f32 0x44800000#32 = ((1024 : ℝ) : EReal) := by
  simp [Ideal.ofBits, Ideal.ieee, -EReal.coe_mul]; norm_num
theorem ofBits_invWidth : Ideal.ofBits FTy.f32 0x3A800000#32 = ((1 / 1024 : ℝ) : EReal) := by
  simp [Ideal.ofBits, Ideal.ieee, -EReal.coe_mul]; norm_num
theorem ofBits_halfInvWidth : Ideal.ofBits FTy.f32 0x3A000000#32 = ((1 / 2048 : ℝ) : EReal) := by
  simp [Ideal.ofBits, Ideal.ieee, -EReal.coe_mul]; norm_num

theorem div_width (x : EReal) : Ideal.div x (Ideal.ofBits FTy.f32 0x44800000#32) = ((1 / 1024 : ℝ) : EReal) * x := by
  have h : ((1024 : ℝ) : EReal) ≠ 0 := by exact_mod_cast (by norm_num : (1024 : ℝ) ≠ 0)
  rw [ofBits_width]
  unfold Ideal.div
  rw [if_neg h, ← EReal.coe_inv, mul_comm, one_div]

/-- Half of twice the error over the width is the error over the width. -/
theorem grad_scale (x : EReal) :
    Ideal.div (Ideal.ofBits FTy.f32 0x3F000000#32 * Ideal.ofBits FTy.f32 0x3F800000#32) (Ideal.ofBits FTy.f32 0x44800000#32) * (Ideal.ofBits FTy.f32 0x40000000#32 * x) = x * Ideal.ofBits FTy.f32 0x3A800000#32 := by
  rw [div_width, Ideal.ofBits_one_f32, mul_one, ofBits_half, ofBits_two, ofBits_invWidth, ← mul_assoc, ← EReal.coe_mul, ← EReal.coe_mul, mul_comm]
  congr 2
  norm_num

/-! ## A positive constant through a sum -/

theorem const_mul_add {a : ℝ} (ha : 0 ≤ a) (x y : EReal) : (a : EReal) * (x + y) = (a : EReal) * x + (a : EReal) * y :=
  EReal.left_distrib_of_nonneg_of_ne_top (by exact_mod_cast ha) (EReal.coe_ne_top a) x y

theorem const_mul_sum {a : ℝ} (ha : 0 ≤ a) {ι : Type} (s : Finset ι) (f : ι → EReal) : (a : EReal) * ∑ i ∈ s, f i = ∑ i ∈ s, (a : EReal) * f i := by
  classical
  induction s using Finset.induction_on with
  | empty => simp
  | insert i s hi ih => rw [Finset.sum_insert hi, Finset.sum_insert hi, const_mul_add ha, ih]

/-! ## The loss, accumulated row after row -/

/-- The squared error of row `r`. -/
def rowSq (e : FVec Ideal S8192x1024 .f32) (r : ℕ) : EReal :=
  if h : r < 8192 then ∑ k : Fin 1024, e (ix2 ⟨r, h⟩ k) * e (ix2 ⟨r, h⟩ k) else 0

/-- The loss of the first `n` rows. -/
def lossUpTo (e : FVec Ideal S8192x1024 .f32) (n : ℕ) : EReal :=
  Ideal.ofBits FTy.f32 0x3A000000#32 * ∑ r ∈ Finset.range n, rowSq e r

theorem lossUpTo_zero (e : FVec Ideal S8192x1024 .f32) : lossUpTo e 0 = 0 := by
  unfold lossUpTo
  rw [Finset.range_zero, Finset.sum_empty, mul_zero]

theorem lossUpTo_step (e : FVec Ideal S8192x1024 .f32) (n : ℕ) :
    lossUpTo e ((n + 1) * 512) = lossUpTo e (n * 512) + Ideal.ofBits FTy.f32 0x3A000000#32 * ∑ r : Fin 512, rowSq e (n * 512 + r.val) := by
  unfold lossUpTo
  rw [show (n + 1) * 512 = n * 512 + 512 by omega, Finset.sum_range_add, ofBits_halfInvWidth, const_mul_add (by norm_num), Finset.sum_range fun r => rowSq e (n * 512 + r)]

theorem lossR_eq (e : FVec Ideal S8192x1024 .f32) (y) : lossR e y = lossUpTo e 8192 := by
  rw [lossR_apply]
  unfold lossUpTo
  simp only [div_width]
  rw [← const_mul_sum (by norm_num), ← mul_assoc, ofBits_half, ofBits_halfInvWidth, ← EReal.coe_mul, Finset.sum_range]
  refine congrArg₂ (· * ·) (congrArg _ (by norm_num)) (Finset.sum_congr rfl fun r _ => ?_)
  unfold rowSq
  rw [dif_pos r.isLt]
end Cert.Kernel11Ideal.Loss
end
-- ==== Proof.Loss.Tile.lean ====
module
public import proofs.«01_k».proof.Proof.Gen.Kernel11Ideal.Value
public import proofs.«01_k».proof.Proof.Gen.Reference11Ideal.Run
public import Idealize.ShloMosaic.Lib.Pipeline.ValueKit
public import Idealize.ShloMosaic.Lib.Pipeline.ReadBack
public import Idealize.ShloMosaic.Lib.Tactic
public import proofs.«01_k».proof.Defs
public import proofs.«01_k».proof.Proof.Loss.Sum
@[expose] public section
set_option maxRecDepth 16384
noncomputable section
namespace Cert.Kernel11Ideal.Loss
open Cert.Kernel11Ideal Cert.Kernel11Ideal.Gen Idealize.ShloMosaic Idealize.ShloMosaic.TcCoe Idealize.SL.Sem
open Idealize.ShloMosaic.Pipeline (Dat)

/-! ## The tile's results from its blocks -/

/-- The three runs of the out-projection's rows. -/
def slab0 (x7 : Vec Ideal S1536x1024 .bf16) : FVec Ideal S512x1024 .bf16 := View.ld x7 (Rect.unit (s := S1536x1024) ![0, 0] S512x1024.size inb_S1536x1024_S512x1024_0_0)
def slab1 (x7 : Vec Ideal S1536x1024 .bf16) : FVec Ideal S512x1024 .bf16 := View.ld x7 (Rect.unit (s := S1536x1024) ![512, 0] S512x1024.size inb_S1536x1024_S512x1024_512_0)
def slab2 (x7 : Vec Ideal S1536x1024 .bf16) : FVec Ideal S512x1024 .bf16 := View.ld x7 (Rect.unit (s := S1536x1024) ![1024, 0] S512x1024.size inb_S1536x1024_S512x1024_1024_0)

/-- A tile's rows before normalization. -/
def resK (x0 : Vec Ideal S512x1024 .f32) (x1 : Vec Ideal S512x1024 .bf16) (x2 x3 x4 x5 : Vec Ideal S512x512 .bf16) (x6 : Vec Ideal S256x1024 .f32) (x7 : Vec Ideal S1536x1024 .bf16) : FVec Ideal S512x1024 .f32 :=
  k0_pay15 (accK x1 (memK x2 x6) x3 x4 x5 (slab0 x7) (slab1 x7) (slab2 x7)) x0

/-- A tile's normalized rows minus the target. -/
def errK (x0 : Vec Ideal S512x1024 .f32) (x1 : Vec Ideal S512x1024 .bf16) (x2 x3 x4 x5 : Vec Ideal S512x512 .bf16) (x6 : Vec Ideal S256x1024 .f32) (x7 : Vec Ideal S1536x1024 .bf16) (x8 x9 : Vec Ideal S1x1024 .f32) (x10 : Vec Ideal S512x1024 .f32) : FVec Ideal S512x1024 .f32 :=
  k0_pay17 (accK x1 (memK x2 x6) x3 x4 x5 (slab0 x7) (slab1 x7) (slab2 x7)) x0 x8 x9 x10

theorem resK_apply (x0 : Vec Ideal S512x1024 .f32) (x1 : Vec Ideal S512x1024 .bf16) (x2 x3 x4 x5 : Vec Ideal S512x512 .bf16) (x6 : Vec Ideal S256x1024 .f32) (x7 : Vec Ideal S1536x1024 .bf16) (y : S512x1024.Idx) :
    resK x0 x1 x2 x3 x4 x5 x6 x7 y = Ideal.ofBits FTy.f32 0x3FD744FD#32 * x0 y + rowAcc (fun k => x1 (ix2 (y 0) k)) (fun k => memK x2 x6 (ix2 (y 0) k)) (fun k => x3 (ix2 (y 0) k)) (fun k => x4 (ix2 (y 0) k)) (fun k => x5 (ix2 (y 0) k))
      (fun k => x7 (ix2 ⟨k.val, by omega⟩ (y 1))) (fun k => x7 (ix2 ⟨512 + k.val, by omega⟩ (y 1))) (fun k => x7 (ix2 ⟨1024 + k.val, by omega⟩ (y 1))) := by
  have e : resK x0 x1 x2 x3 x4 x5 x6 x7 y = Ideal.ofBits FTy.f32 0x3FD744FD#32 * x0 y + accK x1 (memK x2 x6) x3 x4 x5 (slab0 x7) (slab1 x7) (slab2 x7) y := by
    unfold resK k0_pay15
    pointwise
  rw [e, accK_apply]
  refine congrArg₂ (· + ·) rfl ?_
  unfold rowAcc
  refine congrArg₂ (· + ·) (congrArg₂ (· + ·) (Finset.sum_congr rfl fun k _ => congrArg₂ (· * ·) rfl ?_) (Finset.sum_congr rfl fun k _ => congrArg₂ (· * ·) rfl ?_)) (Finset.sum_congr rfl fun k _ => congrArg₂ (· * ·) rfl ?_)
  · show x7 ((Rect.unit (s := S1536x1024) ![0, 0] S512x1024.size inb_S1536x1024_S512x1024_0_0).idx (ix2 k (y 1))) = _
    refine congrArg x7 ?_
    funext a
    fin_cases a <;> refine Fin.ext ?_ <;> simp [Rect.unit]
  · show x7 ((Rect.unit (s := S1536x1024) ![512, 0] S512x1024.size inb_S1536x1024_S512x1024_512_0).idx (ix2 k (y 1))) = _
    refine congrArg x7 ?_
    funext a
    fin_cases a <;> refine Fin.ext ?_ <;> simp [Rect.unit]
  · show x7 ((Rect.unit (s := S1536x1024) ![1024, 0] S512x1024.size inb_S1536x1024_S512x1024_1024_0).idx (ix2 k (y 1))) = _
    refine congrArg x7 ?_
    funext a
    fin_cases a <;> refine Fin.ext ?_ <;> simp [Rect.unit]

variable (m : (ℓ : Loc nD τ sig) → Buf (Elt Ideal) ℓ)

theorem out11 (c : Dev nD) (t : Fin cfg0.N) : (outsAt0 m c t.val t.isLt).1 = k0_pay18 (accK (iblk m c 1 t) (memK (iblk m c 2 t) (iblk m c 6 t)) (iblk m c 3 t) (iblk m c 4 t) (iblk m c 5 t) (slab0 (iblk m c 7 t)) (slab1 (iblk m c 7 t)) (slab2 (iblk m c 7 t))) (iblk m c 0 t) (iblk m c 8 t) (iblk m c 9 t) (iblk m c 10 t) := by
  by_cases h0 : t.val % 16 = 0
  · rw [Gen.outsAt0_A m c t h0]
    frame_out
    rfl
  · rw [Gen.outsAt0_B m c t h0]
    frame_out
    rfl

theorem out12 (c : Dev nD) (t : Fin cfg0.N) : (outsAt0 m c t.val t.isLt).2.1 = resK (iblk m c 0 t) (iblk m c 1 t) (iblk m c 2 t) (iblk m c 3 t) (iblk m c 4 t) (iblk m c 5 t) (iblk m c 6 t) (iblk m c 7 t) := by
  by_cases h0 : t.val % 16 = 0
  · rw [Gen.outsAt0_A m c t h0]
    frame_out
    rfl
  · rw [Gen.outsAt0_B m c t h0]
    frame_out
    rfl

theorem out13 (c : Dev nD) (t : Fin cfg0.N) : (outsAt0 m c t.val t.isLt).2.2.1 = memK (iblk m c 2 t) (iblk m c 6 t) := by
  by_cases h0 : t.val % 16 = 0
  · rw [Gen.outsAt0_A m c t h0]
    frame_out
    rfl
  · rw [Gen.outsAt0_B m c t h0]
    frame_out
    rfl

theorem out14First (c : Dev nD) (t : Fin cfg0.N) (h0 : t.val % 16 = 0) : (outsAt0 m c t.val t.isLt).2.2.2 = k0_pay1 (errK (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay16 (F := Ideal)) := by
  rw [Gen.outsAt0_A m c t h0]
  frame_out
  rfl

theorem out14Next (c : Dev nD) (t : Fin cfg0.N) (h0 : ¬t.val % 16 = 0) : (outsAt0 m c t.val t.isLt).2.2.2 = k0_pay1 (errK (iblk m c 0 t) (iblk m c 1 t) (iblk m c 2 t) (iblk m c 3 t) (iblk m c 4 t) (iblk m c 5 t) (iblk m c 6 t) (iblk m c 7 t) (iblk m c 8 t) (iblk m c 9 t) (iblk m c 10 t)) (outsAt0 m c (t.val - 1) (Nat.lt_of_le_of_lt (Nat.sub_le _ _) t.isLt)).2.2.2 := by
  rw [Gen.outsAt0_B m c t h0]
  frame_out
  rfl
end Cert.Kernel11Ideal.Loss
end
-- ==== Proof.Loss.Value.lean ====
module
public import proofs.«01_k».proof.Proof.Gen.Kernel11Ideal.Value
public import proofs.«01_k».proof.Proof.Gen.Reference11Ideal.Run
public import Idealize.ShloMosaic.Lib.Pipeline.ValueKit
public import Idealize.ShloMosaic.Lib.Pipeline.ReadBack
public import Idealize.ShloMosaic.Lib.Tactic
public import proofs.«01_k».proof.Defs
public import proofs.«01_k».proof.Proof.Loss.Tile
@[expose] public section
set_option maxRecDepth 16384
noncomputable section
namespace Cert.Kernel11Ideal.Loss
open Cert.Kernel11Ideal Cert.Kernel11Ideal.Gen Idealize.ShloMosaic Idealize.ShloMosaic.TcCoe Idealize.SL.Sem
open Idealize.ShloMosaic.Pipeline (Dat)

/-! ## The blocks read the arguments -/

theorem idx : ∀ t : Fin grid0.N, win0_0.index t = ![t.val, 0] ∧ win0_1.index t = ![t.val, 0] ∧ win0_2.index t = ![t.val, 6] ∧ win0_3.index t = ![t.val, 7] ∧ win0_4.index t = ![t.val, 8] ∧ win0_5.index t = ![t.val, 9]
    ∧ win0_6.index t = ![0, 0] ∧ win0_7.index t = ![0, 0] ∧ win0_8.index t = ![0, 0] ∧ win0_9.index t = ![0, 0] ∧ win0_10.index t = ![t.val, 0] ∧ win0_11.index t = ![t.val, 0] ∧ win0_12.index t = ![t.val, 0] ∧ win0_13.index t = ![t.val, 0] ∧ win0_14.index t = ![0, 0] := by decide +kernel

theorem blk0 (m : (ℓ : Loc nD τ sig) → Buf (Elt Ideal) ℓ) (c : Dev nD) (t : Fin cfg0.N) (i : S512x1024.Idx) (j : S8192x1024.Idx) (e0 : (j 0).val = t.val * 512 + (i 0).val) (e1 : (j 1).val = (i 1).val) :
    iblk m c 0 t i = m ((c.tc : Thread nD τ).loc main_arg0) j := by
  show V m c main_arg0 _ = _
  rw [V_main_arg0]
  blk_ext [idx t]
theorem blk1 (m : (ℓ : Loc nD τ sig) → Buf (Elt Ideal) ℓ) (c : Dev nD) (t : Fin cfg0.N) (i : S512x1024.Idx) (j : S8192x1024.Idx) (e0 : (j 0).val = t.val * 512 + (i 0).val) (e1 : (j 1).val = (i 1).val) :
    iblk m c 1 t i = m ((c.tc : Thread nD τ).loc main_arg2) j := by
  show V m c main_arg2 _ = _
  rw [V_main_arg2]
  blk_ext [idx t]
theorem blk2 (m : (ℓ : Loc nD τ sig) → Buf (Elt Ideal) ℓ) (c : Dev nD) (t : Fin cfg0.N) (i : S512x512.Idx) (j : S8192x5120.Idx) (e0 : (j 0).val = t.val * 512 + (i 0).val) (e1 : (j 1).val = 3072 + (i 1).val) :
    iblk m c 2 t i = m ((c.tc : Thread nD τ).loc main_arg1) j := by
  show V m c main_arg1 _ = _
  rw [V_main_arg1]
  blk_ext [idx t]
theorem blk3 (m : (ℓ : Loc nD τ sig) → Buf (Elt Ideal) ℓ) (c : Dev nD) (t : Fin cfg0.N) (i : S512x512.Idx) (j : S8192x5120.Idx) (e0 : (j 0).val = t.val * 512 + (i 0).val) (e1 : (j 1).val = 3584 + (i 1).val) :
    iblk m c 3 t i = m ((c.tc : Thread nD τ).loc main_arg1) j := by
  show V m c main_arg1 _ = _
  rw [V_main_arg1]
  blk_ext [idx t]
theorem blk4 (m : (ℓ : Loc nD τ sig) → Buf (Elt Ideal) ℓ) (c : Dev nD) (t : Fin cfg0.N) (i : S512x512.Idx) (j : S8192x5120.Idx) (e0 : (j 0).val = t.val * 512 + (i 0).val) (e1 : (j 1).val = 4096 + (i 1).val) :
    iblk m c 4 t i = m ((c.tc : Thread nD τ).loc main_arg1) j := by
  show V m c main_arg1 _ = _
  rw [V_main_arg1]
  blk_ext [idx t]
theorem blk5 (m : (ℓ : Loc nD τ sig) → Buf (Elt Ideal) ℓ) (c : Dev nD) (t : Fin cfg0.N) (i : S512x512.Idx) (j : S8192x5120.Idx) (e0 : (j 0).val = t.val * 512 + (i 0).val) (e1 : (j 1).val = 4608 + (i 1).val) :
    iblk m c 5 t i = m ((c.tc : Thread nD τ).loc main_arg1) j := by
  show V m c main_arg1 _ = _
  rw [V_main_arg1]
  blk_ext [idx t]
theorem blk6 (m : (ℓ : Loc nD τ sig) → Buf (Elt Ideal) ℓ) (c : Dev nD) (t : Fin cfg0.N) (i : S256x1024.Idx) (j : S256x1024.Idx) (e0 : (j 0).val = (i 0).val) (e1 : (j 1).val = (i 1).val) :
    iblk m c 6 t i = m ((c.tc : Thread nD τ).loc main_arg3) j := by
  show V m c main_arg3 _ = _
  rw [V_main_arg3]
  blk_ext [idx t]
theorem blk7 (m : (ℓ : Loc nD τ sig) → Buf (Elt Ideal) ℓ) (c : Dev nD) (t : Fin cfg0.N) (i : S1536x1024.Idx) (j : S1536x1024.Idx) (e0 : (j 0).val = (i 0).val) (e1 : (j 1).val = (i 1).val) :
    iblk m c 7 t i = m ((c.tc : Thread nD τ).loc main_arg4) j := by
  show V m c main_arg4 _ = _
  rw [V_main_arg4]
  blk_ext [idx t]
theorem blk8 (m : (ℓ : Loc nD τ sig) → Buf (Elt Ideal) ℓ) (c : Dev nD) (t : Fin cfg0.N) (i : S1x1024.Idx) (j : S1x1024.Idx) (e0 : (j 0).val = (i 0).val) (e1 : (j 1).val = (i 1).val) :
    iblk m c 8 t i = m ((c.tc : Thread nD τ).loc main_arg5) j := by
  show V m c main_arg5 _ = _
  rw [V_main_arg5]
  blk_ext [idx t]
theorem blk9 (m : (ℓ : Loc nD τ sig) → Buf (Elt Ideal) ℓ) (c : Dev nD) (t : Fin cfg0.N) (i : S1x1024.Idx) (j : S1x1024.Idx) (e0 : (j 0).val = (i 0).val) (e1 : (j 1).val = (i 1).val) :
    iblk m c 9 t i = m ((c.tc : Thread nD τ).loc main_arg6) j := by
  show V m c main_arg6 _ = _
  rw [V_main_arg6]
  blk_ext [idx t]

theorem blk10 (m : (ℓ : Loc nD τ sig) → Buf (Elt Ideal) ℓ) (c : Dev nD) (t : Fin cfg0.N) (i : S512x1024.Idx) (j : S8192x1024.Idx) (e0 : (j 0).val = t.val * 512 + (i 0).val) (e1 : (j 1).val = (i 1).val) :
    iblk m c 10 t i = m ((c.tc : Thread nD τ).loc main_arg7) j := by
  show V m c main_arg7 _ = _
  rw [V_main_arg7]
  blk_ext [idx t]
theorem mem_at (m : (ℓ : Loc nD τ sig) → Buf (Elt Ideal) ℓ) (c : Dev nD) (t : Fin cfg0.N) (y : S512x512.Idx) (r : S8192x512.Idx) (e0 : (r 0).val = t.val * 512 + (y 0).val) (e1 : (r 1).val = (y 1).val) :
    memK (iblk m c 2 t) (iblk m c 6 t) y = memR (m ((c.tc : Thread nD τ).loc main_arg1)) (m ((c.tc : Thread nD τ).loc main_arg3)) r := by
  rw [memK_apply, memR_apply]
  have h1 : r 1 = y 1 := Fin.ext e1
  rw [h1]
  refine congrArg₂ (fun q kv => rowMem q kv (y 1)) (funext fun d => ?_) (funext fun n => funext fun d => ?_)
  · exact blk2 m c t _ _ e0 rfl
  · exact blk6 m c t _ _ rfl rfl

theorem res_at (m : (ℓ : Loc nD τ sig) → Buf (Elt Ideal) ℓ) (c : Dev nD) (t : Fin cfg0.N) (y : S512x1024.Idx) (r : S8192x1024.Idx) (e0 : (r 0).val = t.val * 512 + (y 0).val) (e1 : (r 1).val = (y 1).val) :
    resK (iblk m c 0 t) (iblk m c 1 t) (iblk m c 2 t) (iblk m c 3 t) (iblk m c 4 t) (iblk m c 5 t) (iblk m c 6 t) (iblk m c 7 t) y = residR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) r := by
  rw [resK_apply, residR_apply, rowOut_split]
  refine congrArg₂ (· + ·) (congrArg (Ideal.ofBits FTy.f32 0x3FD744FD#32 * ·) (blk0 m c t _ _ e0 e1)) ?_
  unfold rowAcc
  refine congrArg₂ (· + ·) (congrArg₂ (· + ·) (Finset.sum_congr rfl fun k _ => ?_) (Finset.sum_congr rfl fun k _ => ?_)) (Finset.sum_congr rfl fun k _ => ?_)
  · exact congrArg₂ (· * ·) (congrArg₂ (· * ·) (blk1 m c t _ _ e0 rfl) (congrArg silu (blk3 m c t _ _ e0 rfl))) (blk7 m c t _ _ rfl e1)
  · exact congrArg₂ (· * ·) (congrArg₂ (· * ·) (blk1 m c t _ _ e0 rfl) (congrArg silu (blk4 m c t _ _ e0 (show 3584 + (512 + k.val) = 4096 + k.val by omega)))) (blk7 m c t _ _ rfl e1)
  · exact congrArg₂ (· * ·) (congrArg₂ (· * ·) (mem_at m c t _ _ e0 rfl) (congrArg silu (blk5 m c t _ _ e0 (show 3584 + (1024 + k.val) = 4608 + k.val by omega)))) (blk7 m c t _ _ rfl e1)

/-- A tile's errors are the errors of its rows. -/
theorem err_at (m : (ℓ : Loc nD τ sig) → Buf (Elt Ideal) ℓ) (c : Dev nD) (t : Fin cfg0.N) (y : S512x1024.Idx) (r : S8192x1024.Idx) (e0 : (r 0).val = t.val * 512 + (y 0).val) (e1 : (r 1).val = (y 1).val) :
    errK (iblk m c 0 t) (iblk m c 1 t) (iblk m c 2 t) (iblk m c 3 t) (iblk m c 4 t) (iblk m c 5 t) (iblk m c 6 t) (iblk m c 7 t) (iblk m c 8 t) (iblk m c 9 t) (iblk m c 10 t) y = (errR (normR (residR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6))) (m ((c.tc : Thread nD τ).loc main_arg7))) r := by
  unfold errK errR
  rw [errK_apply]
  refine congrArg₂ (· - ·) ?_ (blk10 m c t _ _ e0 e1)
  rw [normR_apply]
  have h1 : r 1 = y 1 := Fin.ext e1
  rw [h1]
  have ea : ∀ k : Fin 1024, k0_pay15 (accK (iblk m c 1 t) (memK (iblk m c 2 t) (iblk m c 6 t)) (iblk m c 3 t) (iblk m c 4 t) (iblk m c 5 t) (slab0 (iblk m c 7 t)) (slab1 (iblk m c 7 t)) (slab2 (iblk m c 7 t))) (iblk m c 0 t) (ix2 (y 0) k) = residR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 (r 0) k) := fun k =>
    res_at m c t (ix2 (y 0) k) (ix2 (r 0) k) e0 rfl
  have eg := blk8 m c t (ix2 0 (y 1)) (ix2 0 (y 1)) rfl rfl
  have eb := blk9 m c t (ix2 0 (y 1)) (ix2 0 (y 1)) rfl rfl
  exact (congrArg (fun f => rowNorm f _ _ (y 1)) (funext ea)).trans (congrArg₂ (fun g b => rowNorm _ g b (y 1)) eg eb)

theorem grad_at (m : (ℓ : Loc nD τ sig) → Buf (Elt Ideal) ℓ) (c : Dev nD) (t : Fin cfg0.N) (y : S512x1024.Idx) (r : S8192x1024.Idx) (e0 : (r 0).val = t.val * 512 + (y 0).val) (e1 : (r 1).val = (y 1).val) :
    (outsAt0 m c t.val t.isLt).1 y = gradR (errR (normR (residR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6))) (m ((c.tc : Thread nD τ).loc main_arg7))) r := by
  rw [out11, scaledK_apply, gradR_apply, grad_scale]
  exact congrArg (· * Ideal.ofBits FTy.f32 0x3A800000#32) (err_at m c t y r e0 e1)

/-- What a tile adds to the loss is its 512 rows' part. -/
theorem loss_at (m : (ℓ : Loc nD τ sig) → Buf (Elt Ideal) ℓ) (c : Dev nD) (t : Fin cfg0.N) (l : FVec Ideal S1x1 .f32) (y : S1x1.Idx) (hl : l y = lossUpTo (errR (normR (residR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6))) (m ((c.tc : Thread nD τ).loc main_arg7))) (t.val * 512)) :
    k0_pay1 (errK (iblk m c 0 t) (iblk m c 1 t) (iblk m c 2 t) (iblk m c 3 t) (iblk m c 4 t) (iblk m c 5 t) (iblk m c 6 t) (iblk m c 7 t) (iblk m c 8 t) (iblk m c 9 t) (iblk m c 10 t)) l y = lossUpTo (errR (normR (residR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6))) (m ((c.tc : Thread nD τ).loc main_arg7))) ((t.val + 1) * 512) := by
  have hN : t.val < 16 := lt_of_lt_of_eq t.isLt N_0
  rw [lossK_apply, lossUpTo_step, hl]
  refine congrArg (lossUpTo _ _ + Ideal.ofBits FTy.f32 0x3A000000#32 * ·) (Finset.sum_congr rfl fun r _ => ?_)
  have hr : t.val * 512 + r.val < 8192 := by omega
  unfold rowSq
  rw [dif_pos hr]
  refine Finset.sum_congr rfl fun k _ => ?_
  have e := err_at m c t (ix2 r k) (ix2 ⟨t.val * 512 + r.val, hr⟩ k) rfl rfl
  exact congrArg₂ (· * ·) e e

theorem out14 (m : (ℓ : Loc nD τ sig) → Buf (Elt Ideal) ℓ) (c : Dev nD) : ∀ (n : ℕ) (hn : n < cfg0.N) (y : S1x1.Idx), (outsAt0 m c n hn).2.2.2 y = lossUpTo (errR (normR (residR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6))) (m ((c.tc : Thread nD τ).loc main_arg7))) ((n + 1) * 512) := by
  intro n
  induction n with
  | zero =>
    intro hn y
    refine (congrFun (out14First m c ⟨0, hn⟩ (show 0 % 16 = 0 by decide)) y).trans (loss_at m c ⟨0, hn⟩ _ y ?_)
    show k0_pay16 (F := Ideal) y = lossUpTo _ (0 * 512)
    rw [Nat.zero_mul, lossUpTo_zero]
    unfold k0_pay16
    pointwise
  | succ n ih =>
    intro hn y
    have hN : n + 1 < 16 := lt_of_lt_of_eq hn N_0
    exact (congrFun (out14Next m c ⟨n + 1, hn⟩ (show ¬(n + 1) % 16 = 0 by omega)) y).trans (loss_at m c ⟨n + 1, hn⟩ _ y (ih (Nat.lt_of_succ_lt hn) y))

/-! ## The arrays the launch leaves -/

theorem final11 (m : (ℓ : Loc nD τ sig) → Buf (Elt Ideal) ℓ) (c : Dev nD) : (dats m 0 c).arrAt 11 cfg0.N = gradR (errR (normR (residR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6))) (m ((c.tc : Thread nD τ).loc main_arg7))) := by
  refine (dats m 0 c).arrAt_eq_of_covers 11 _ (by decide +kernel) fun t hf y => ?_
  blk_simp
  rw [after0_11]
  refine grad_at m c t _ _ ?_ ?_
  all_goals blk_simp [idx t]

theorem final12 (m : (ℓ : Loc nD τ sig) → Buf (Elt Ideal) ℓ) (c : Dev nD) : (dats m 0 c).arrAt 12 cfg0.N = residR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 12 _ (by decide +kernel) fun t hf y => ?_
  blk_simp
  rw [after0_12, out12]
  refine res_at m c t _ _ ?_ ?_
  all_goals blk_simp [idx t]

theorem final13 (m : (ℓ : Loc nD τ sig) → Buf (Elt Ideal) ℓ) (c : Dev nD) : (dats m 0 c).arrAt 13 cfg0.N = truncf .bf16 (memR (m ((c.tc : Thread nD τ).loc main_arg1)) (m ((c.tc : Thread nD τ).loc main_arg3))) Cert.Reference11Ideal.Gen.bitsLt_bf16_f32 := by
  refine (dats m 0 c).arrAt_eq_of_covers 13 _ (by decide +kernel) fun t hf y => ?_
  blk_simp
  rw [after0_13, out13]
  refine Eq.trans (mem_at m c t _ _ ?_ ?_) rfl
  all_goals blk_simp [idx t]

/-- The loss is written back once, after the last tile. -/
theorem last : ∀ t : Fin cfg0.N, (cfg0.win 14).flush t → t.val = 15 := by decide +kernel

theorem final14 (m : (ℓ : Loc nD τ sig) → Buf (Elt Ideal) ℓ) (c : Dev nD) : (dats m 0 c).arrAt 14 cfg0.N = lossR (errR (normR (residR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6))) (m ((c.tc : Thread nD τ).loc main_arg7))) := by
  refine (dats m 0 c).arrAt_eq_of_covers 14 _ (by decide +kernel) fun t hf y => ?_
  have ht := last t hf
  blk_simp
  rw [after0_14, lossR_eq]
  refine (out14 m c t.val t.isLt _).trans (congrArg (lossUpTo _) ?_)
  omega

set_option maxHeartbeats 2000000 in
theorem algebraic : Cert.algebraic_Kernel11Ideal_Reference11Ideal := by
  intro m ρ m' ρ' _ hagree
  refine ⟨fun c => gradR (errR (normR (residR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6))) (m ((c.tc : Thread nD τ).loc main_arg7))), fun c => residR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), fun c => truncf .bf16 (memR (m ((c.tc : Thread nD τ).loc main_arg1)) (m ((c.tc : Thread nD τ).loc main_arg3))) Cert.Reference11Ideal.Gen.bitsLt_bf16_f32, fun c => lossR (errR (normR (residR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6))) (m ((c.tc : Thread nD τ).loc main_arg7))),
    (θ_run Cert.Kernel11Ideal.defs _ _).mono (fun r h c => ⟨(h c).1.trans (final11 m c), (h c).2.1.trans (final12 m c), (h c).2.2.1.trans (final13 m c), (h c).2.2.2.1.trans (final14 m c), (h c).2.2.2.2⟩) (Cert.Kernel11Ideal.Value.run_blocks (F := Ideal) m ρ), ?_⟩
  refine (θ_run Cert.Reference11Ideal.defs _ _).mono (fun _ h c => ⟨(h c).1.trans ?_, (h c).2.1.trans ?_, (h c).2.2.1.trans ?_, (h c).2.2.2.1.trans ?_, (h c).2.2.2.2⟩) (Cert.Reference11Ideal.Value.run (F := Ideal) m' ρ')
  all_goals obtain ⟨a0, a1, a2, a3, a4, a5, a6, a7⟩ := hagree c
  · refine Eq.trans (b := gradR (errR (normR (residR (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) (m' ((c.tc : Thread Cert.Reference11Ideal.nD Cert.Reference11Ideal.τ).loc Cert.Reference11Ideal.main_arg4))) (m' ((c.tc : Thread Cert.Reference11Ideal.nD Cert.Reference11Ideal.τ).loc Cert.Reference11Ideal.main_arg5)) (m' ((c.tc : Thread Cert.Reference11Ideal.nD Cert.Reference11Ideal.τ).loc Cert.Reference11Ideal.main_arg6))) (m' ((c.tc : Thread Cert.Reference11Ideal.nD Cert.Reference11Ideal.τ).loc Cert.Reference11Ideal.main_arg7)))) rfl ?_
    rw [a0, a1, a2, a3, a4, a5, a6, a7]
  · refine Eq.trans (b := residR (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) (m' ((c.tc : Thread Cert.Reference11Ideal.nD Cert.Reference11Ideal.τ).loc Cert.Reference11Ideal.main_arg4))) rfl ?_
    rw [a0, a1, a2, a3, a4]
  · refine Eq.trans (b := truncf .bf16 (memR (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg3))) Cert.Reference11Ideal.Gen.bitsLt_bf16_f32) rfl ?_
    rw [a1, a3]
  · refine Eq.trans (b := lossR (errR (normR (residR (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) (m' ((c.tc : Thread Cert.Reference11Ideal.nD Cert.Reference11Ideal.τ).loc Cert.Reference11Ideal.main_arg4))) (m' ((c.tc : Thread Cert.Reference11Ideal.nD Cert.Reference11Ideal.τ).loc Cert.Reference11Ideal.main_arg5)) (m' ((c.tc : Thread Cert.Reference11Ideal.nD Cert.Reference11Ideal.τ).loc Cert.Reference11Ideal.main_arg6))) (m' ((c.tc : Thread Cert.Reference11Ideal.nD Cert.Reference11Ideal.τ).loc Cert.Reference11Ideal.main_arg7)))) rfl ?_
    rw [a0, a1, a2, a3, a4, a5, a6, a7]
end Cert.Kernel11Ideal.Loss
end
-- ==== Proof.StepIn.Run.lean ====
/- The two calls, run one after the other: the four result arrays end as the second call leaves them. -/
module
public import proofs.«01_k».proof.Proof.Gen.Kernel12Ideal.Frame
@[expose] public section
set_option maxRecDepth 16384
noncomputable section
namespace Cert.Kernel12Ideal.StepIn
open Cert.Kernel12Ideal Cert.Kernel12Ideal.Gen Idealize.ShloMosaic Idealize.ShloMosaic.TcCoe Idealize.SL.Sem
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)
variable {F : FTy → Type} [FloatOps F]
variable (m : (ℓ : Loc nD τ sig) → Buf (Elt F) ℓ) (ρ : Dev nD → PrngReg)

set_option backward.isDefEq.respectTransparency.types false in
/-- The two calls run to the end, and every array then holds what the second call leaves. -/
theorem contents : θ_run defs (onTc (τ := τ) (main (F := F))) ⟨m, fun _ => 0, ρ⟩ (fun r => ∀ c : Dev nD, ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

/-- What the second call leaves in one of its own arrays. -/
theorem result (c : Dev nD) (w : Fin cfg1.W) : W3 m ρ c (Idealize.ShloMosaic.Proc.devRef .tc (Pipeline.arrRef spec1 w)) = (dat1 (V2 m ρ) c).arrAt w cfg1.N := W3_arr m ρ c w
end Cert.Kernel12Ideal.StepIn
end
-- ==== Proof.StepIn.Step.lean ====
/- One AdamW step on one entry, the four arrays of the plain step, and what the two calls compute from one block. -/
module
public import proofs.«01_k».proof.Proof.Gen.Kernel12Ideal.Skeleton
public import proofs.«01_k».proof.Proof.Gen.Reference12Ideal.Run
public import Idealize.ShloMosaic.Lib.Pipeline.ValueKit
public import Idealize.ShloMosaic.Lib.Pipeline.ReadBack
public import Idealize.ShloMosaic.Lib.Tactic
public import proofs.«01_k».proof.Defs
@[expose] public section
set_option maxRecDepth 16384
noncomputable section
namespace Cert.Kernel12Ideal.StepIn
open Cert.Kernel12Ideal Cert.Kernel12Ideal.Gen Idealize.ShloMosaic Idealize.ShloMosaic.TcCoe Idealize.SL.Sem
/-! ## One entry's step -/

def mom1 (g m : EReal) : EReal := Ideal.ofBits FTy.f32 0x3F666666#32 * m + Ideal.ofBits FTy.f32 0x3DCCCCCD#32 * g
def mom2 (g v : EReal) : EReal := Ideal.ofBits FTy.f32 0x3F7FBE77#32 * v + Ideal.ofBits FTy.f32 0x3A83126F#32 * (g * g)
def update (w g m v : EReal) : EReal :=
  Ideal.ofBits FTy.f32 0xBA83126F#32 * (Ideal.div (Ideal.div (mom1 g m) (Ideal.ofBits FTy.f32 0x3F26BD02#32)) (Ideal.sqrt (Ideal.div (mom2 g v) (Ideal.ofBits FTy.f32 0x3C231ACC#32)) + Ideal.ofBits FTy.f32 0x322BCC77#32) + Ideal.ofBits FTy.f32 0x3C23D70A#32 * w)

/-! ## The reference's four results -/

abbrev Land := FVec Ideal Cert.Reference12Ideal.S7x1024x640 .bf16
abbrev Own := FVec Ideal Cert.Reference12Ideal.S1024x640 .bf16
abbrev State := FVec Ideal Cert.Reference12Ideal.S4x1024x640 .f32
section
open Cert.Reference12Ideal Cert.Reference12Ideal.Gen
def gradR (l0 l1 l2 l3 : Land) (o0 o1 o2 o3 : Own) : State :=
  addf (extf .f32 (concatenate S4x1024x640 0 [⟨S1x1024x640, broadcastInDim S1x1024x640 ![1, 2] bcast_S1024x640_S1x1024x640_1_2 o0⟩, ⟨S1x1024x640, broadcastInDim S1x1024x640 ![1, 2] bcast_S1024x640_S1x1024x640_1_2 o1⟩, ⟨S1x1024x640, broadcastInDim S1x1024x640 ![1, 2] bcast_S1024x640_S1x1024x640_1_2 o2⟩, ⟨S1x1024x640, broadcastInDim S1x1024x640 ![1, 2] bcast_S1024x640_S1x1024x640_1_2 o3⟩] concatenates_S1x1024x640_S1x1024x640_S1x1024x640_S1x1024x640_S4x1024x640_d0) Cert.Reference12Ideal.Gen.bitsLt_bf16_f32)
    (Host.reduceAdd (extf .f32 (concatenate S4x7x1024x640 0 [⟨S1x7x1024x640, broadcastInDim S1x7x1024x640 ![1, 2, 3] bcast_S7x1024x640_S1x7x1024x640_1_2_3 l0⟩, ⟨S1x7x1024x640, broadcastInDim S1x7x1024x640 ![1, 2, 3] bcast_S7x1024x640_S1x7x1024x640_1_2_3 l1⟩, ⟨S1x7x1024x640, broadcastInDim S1x7x1024x640 ![1, 2, 3] bcast_S7x1024x640_S1x7x1024x640_1_2_3 l2⟩, ⟨S1x7x1024x640, broadcastInDim S1x7x1024x640 ![1, 2, 3] bcast_S7x1024x640_S1x7x1024x640_1_2_3 l3⟩] concatenates_S1x7x1024x640_S1x7x1024x640_S1x7x1024x640_S1x7x1024x640_S4x7x1024x640_d0) Cert.Reference12Ideal.Gen.bitsLt_bf16_f32) (constant S_ .f32 0x00000000#32) reducesTo_S4x7x1024x640_S4x1024x640_d1 h_S_)
def mom1R (g m : State) : State := addf (mulf (broadcastInDim S4x1024x640 ![] bcast_S_S4x1024x640 (constant S_ .f32 0x3F666666#32)) m) (mulf (broadcastInDim S4x1024x640 ![] bcast_S_S4x1024x640 (constant S_ .f32 0x3DCCCCCD#32)) g)
def mom2R (g v : State) : State := addf (mulf (broadcastInDim S4x1024x640 ![] bcast_S_S4x1024x640 (constant S_ .f32 0x3F7FBE77#32)) v) (mulf (broadcastInDim S4x1024x640 ![] bcast_S_S4x1024x640 (constant S_ .f32 0x3A83126F#32)) (mulf g g))
def updateR (w g m v : State) : State := mulf (broadcastInDim S4x1024x640 ![] bcast_S_S4x1024x640 (constant S_ .f32 0xBA83126F#32)) (addf (Host.divf (Host.divf (mom1R g m) (broadcastInDim S4x1024x640 ![] bcast_S_S4x1024x640 (constant S_ .f32 0x3F26BD02#32))) (addf (Host.sqrt (Host.divf (mom2R g v) (broadcastInDim S4x1024x640 ![] bcast_S_S4x1024x640 (constant S_ .f32 0x3C231ACC#32)))) (broadcastInDim S4x1024x640 ![] bcast_S_S4x1024x640 (constant S_ .f32 0x322BCC77#32)))) (mulf (broadcastInDim S4x1024x640 ![] bcast_S_S4x1024x640 (constant S_ .f32 0x3C23D70A#32)) w))
end
theorem mom1R_apply (g m : State) (y : S4x1024x640.Idx) : mom1R g m y = mom1 (g y) (m y) := by
  unfold mom1R
  pointwise
  rfl
theorem mom2R_apply (g v : State) (y : S4x1024x640.Idx) : mom2R g v y = mom2 (g y) (v y) := by
  unfold mom2R
  pointwise
  rfl
theorem updateR_apply (w g m v : State) (y : S4x1024x640.Idx) : updateR w g m v y = update (w y) (g y) (m y) (v y) := by
  unfold updateR update
  rw [← mom1R_apply, ← mom2R_apply]
  pointwise

/-! ## The payloads of both calls -/

def gradK (l : Vec Ideal S7x256x640 .bf16) (o : Vec Ideal S256x640 .bf16) : FVec Ideal S256x640 .f32 :=
  k1_pay3 o (View.ld l (Rect.unit ![0, 0, 0] ![1, 256, 640] inb_S7x256x640_S1x256x640_0_0_0)) (View.ld l (Rect.unit ![1, 0, 0] ![1, 256, 640] inb_S7x256x640_S1x256x640_1_0_0)) (View.ld l (Rect.unit ![2, 0, 0] ![1, 256, 640] inb_S7x256x640_S1x256x640_2_0_0)) (View.ld l (Rect.unit ![3, 0, 0] ![1, 256, 640] inb_S7x256x640_S1x256x640_3_0_0)) (View.ld l (Rect.unit ![4, 0, 0] ![1, 256, 640] inb_S7x256x640_S1x256x640_4_0_0)) (View.ld l (Rect.unit ![5, 0, 0] ![1, 256, 640] inb_S7x256x640_S1x256x640_5_0_0)) (View.ld l (Rect.unit ![6, 0, 0] ![1, 256, 640] inb_S7x256x640_S1x256x640_6_0_0))
theorem gradK_apply (l : Vec Ideal S7x256x640 .bf16) (o : Vec Ideal S256x640 .bf16) (y : S256x640.Idx) : gradK l o y = o y + ∑ s : Fin 7, l (ix3 s (y 0) (y 1)) := by
  unfold gradK k1_pay3
  rw [Fin.sum_univ_seven]
  pointwise
  simp only [← add_assoc]
theorem pay1_apply (g : FVec Ideal S256x640 .f32) (m : Vec Ideal S1x256x640 .f32) (y : S256x640.Idx) : k1_pay5 g m y = mom1 (g y) (m (ix3 0 (y 0) (y 1))) := by
  unfold k1_pay5
  pointwise
  rfl
theorem pay2_apply (g : FVec Ideal S256x640 .f32) (v : Vec Ideal S1x256x640 .f32) (y : S256x640.Idx) : k1_pay6 g v y = mom2 (g y) (v (ix3 0 (y 0) (y 1))) := by
  unfold k1_pay6
  pointwise
  rfl
theorem pay3_apply (g : FVec Ideal S256x640 .f32) (w m v : Vec Ideal S1x256x640 .f32) (y : S1x256x640.Idx) : k1_pay7 g w m v y = update (w y) (g (ix2 (y 1) (y 2))) (m (ix3 0 (y 1) (y 2))) (v (ix3 0 (y 1) (y 2))) := by
  unfold k1_pay7 update
  have e1 := pay1_apply g m (ix2 (y 1) (y 2))
  have e2 := pay2_apply g v (ix2 (y 1) (y 2))
  pointwise
  rw [e1, e2]
  rfl
theorem cast_apply (g : FVec Ideal S256x640 .f32) (y : S1x256x640.Idx) : k1_pay1 g y = g (ix2 (y 1) (y 2)) := by
  unfold k1_pay1
  pointwise

/-! ## The step's four results of the launch memory -/

variable (m : (ℓ : Loc nD τ sig) → Buf (Elt Ideal) ℓ) (c : Dev nD)
abbrev grad : State := gradR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
abbrev weights : State := m ((c.tc : Thread nD τ).loc main_arg8)
abbrev first : State := m ((c.tc : Thread nD τ).loc main_arg9)
abbrev second : State := m ((c.tc : Thread nD τ).loc main_arg10)
theorem gradR_layer0 (l0 l1 l2 l3 : Land) (o0 o1 o2 o3 : Own) (r : S4x1024x640.Idx) (h : (r 0).val = 0) : gradR l0 l1 l2 l3 o0 o1 o2 o3 r = o0 (ix2 (r 1) (r 2)) + ∑ s : Fin 7, l0 (ix3 s (r 1) (r 2)) := by
  unfold gradR
  pointwise
  refine congrArg₂ (· + ·) ?_ (Finset.sum_congr rfl fun s _ => ?_)
  · exact dif_pos (by omega)
  · exact dif_pos (by omega)
theorem gradR_layer1 (l0 l1 l2 l3 : Land) (o0 o1 o2 o3 : Own) (r : S4x1024x640.Idx) (h : (r 0).val = 1) : gradR l0 l1 l2 l3 o0 o1 o2 o3 r = o1 (ix2 (r 1) (r 2)) + ∑ s : Fin 7, l1 (ix3 s (r 1) (r 2)) := by
  unfold gradR
  pointwise
  refine congrArg₂ (· + ·) ?_ (Finset.sum_congr rfl fun s _ => ?_)
  · exact (dif_neg (by omega)).trans <| dif_pos (by omega)
  · exact (dif_neg (by omega)).trans <| dif_pos (by omega)
theorem gradR_layer2 (l0 l1 l2 l3 : Land) (o0 o1 o2 o3 : Own) (r : S4x1024x640.Idx) (h : (r 0).val = 2) : gradR l0 l1 l2 l3 o0 o1 o2 o3 r = o2 (ix2 (r 1) (r 2)) + ∑ s : Fin 7, l2 (ix3 s (r 1) (r 2)) := by
  unfold gradR
  pointwise
  refine congrArg₂ (· + ·) ?_ (Finset.sum_congr rfl fun s _ => ?_)
  · exact (dif_neg (by omega)).trans <| (dif_neg (by omega)).trans <| dif_pos (by omega)
  · exact (dif_neg (by omega)).trans <| (dif_neg (by omega)).trans <| dif_pos (by omega)
theorem gradR_layer3 (l0 l1 l2 l3 : Land) (o0 o1 o2 o3 : Own) (r : S4x1024x640.Idx) (h : (r 0).val = 3) : gradR l0 l1 l2 l3 o0 o1 o2 o3 r = o3 (ix2 (r 1) (r 2)) + ∑ s : Fin 7, l3 (ix3 s (r 1) (r 2)) := by
  unfold gradR
  pointwise
  refine congrArg₂ (· + ·) ?_ (Finset.sum_congr rfl fun s _ => ?_)
  · exact (dif_neg (by omega)).trans <| (dif_neg (by omega)).trans (dif_neg (by omega))
  · exact (dif_neg (by omega)).trans <| (dif_neg (by omega)).trans (dif_neg (by omega))
end Cert.Kernel12Ideal.StepIn
end
-- ==== Proof.StepIn.Later.lean ====
/- The first of the two calls: layers 1 to 3 of the four arrays. -/
module
public import proofs.«01_k».proof.Proof.Gen.Kernel12Ideal.Frame.Fold0
public import proofs.«01_k».proof.Proof.StepIn.Step
@[expose] public section
set_option maxRecDepth 16384
noncomputable section
namespace Cert.Kernel12Ideal.StepIn
open Cert.Kernel12Ideal Cert.Kernel12Ideal.Gen Idealize.ShloMosaic Idealize.ShloMosaic.TcCoe Idealize.SL.Sem
open Idealize.ShloMosaic.Pipeline (Dat)
variable (m : (ℓ : Loc nD τ sig) → Buf (Elt Ideal) ℓ) (ρ : Dev nD → PrngReg) (c : Dev nD)
theorem idx0 : ∀ t : Fin grid0.N, win0_6.index t = ![(t.val / 4 + 1), (t.val % 4), 0] ∧ win0_7.index t = ![(t.val / 4 + 1), (t.val % 4), 0] ∧ win0_8.index t = ![(t.val / 4 + 1), (t.val % 4), 0] ∧ win0_9.index t = ![(t.val / 4 + 1), (t.val % 4), 0] ∧ win0_10.index t = ![(t.val / 4 + 1), (t.val % 4), 0] ∧ win0_11.index t = ![(t.val / 4 + 1), (t.val % 4), 0] ∧ win0_12.index t = ![(t.val / 4 + 1), (t.val % 4), 0] := by decide +kernel
theorem idxLayer1 : ∀ t : Fin grid0.N, t.val / 4 = 0 → win0_0.index t = ![0, (t.val % 4), 0] ∧ win0_3.index t = ![(t.val % 4), 0] := by decide +kernel
theorem idxLayer2 : ∀ t : Fin grid0.N, t.val / 4 = 1 → win0_1.index t = ![0, (t.val % 4), 0] ∧ win0_4.index t = ![(t.val % 4), 0] := by decide +kernel
theorem idxLayer3 : ∀ t : Fin grid0.N, t.val / 4 = 2 → win0_2.index t = ![0, (t.val % 4), 0] ∧ win0_5.index t = ![(t.val % 4), 0] := by decide +kernel
theorem arg1_0 : V0 m ρ c main_arg1 = m ((c.tc : Thread nD τ).loc main_arg1) := W0_args m ρ c main_arg1 (by decide)
theorem arg2_0 : V0 m ρ c main_arg2 = m ((c.tc : Thread nD τ).loc main_arg2) := W0_args m ρ c main_arg2 (by decide)
theorem arg3_0 : V0 m ρ c main_arg3 = m ((c.tc : Thread nD τ).loc main_arg3) := W0_args m ρ c main_arg3 (by decide)
theorem arg5_0 : V0 m ρ c main_arg5 = m ((c.tc : Thread nD τ).loc main_arg5) := W0_args m ρ c main_arg5 (by decide)
theorem arg6_0 : V0 m ρ c main_arg6 = m ((c.tc : Thread nD τ).loc main_arg6) := W0_args m ρ c main_arg6 (by decide)
theorem arg7_0 : V0 m ρ c main_arg7 = m ((c.tc : Thread nD τ).loc main_arg7) := W0_args m ρ c main_arg7 (by decide)
theorem arg8_0 : V0 m ρ c main_arg8 = m ((c.tc : Thread nD τ).loc main_arg8) := W0_args m ρ c main_arg8 (by decide)
theorem arg9_0 : V0 m ρ c main_arg9 = m ((c.tc : Thread nD τ).loc main_arg9) := W0_args m ρ c main_arg9 (by decide)
theorem arg10_0 : V0 m ρ c main_arg10 = m ((c.tc : Thread nD τ).loc main_arg10) := W0_args m ρ c main_arg10 (by decide)
theorem weights0 (t : Fin cfg0.N) (i : S1x256x640.Idx) (j : S4x1024x640.Idx) (e0 : (j 0).val = (t.val / 4 + 1)) (e1 : (j 1).val = (t.val % 4) * 256 + (i 1).val) (e2 : (j 2).val = (i 2).val) :
    iblk0 (V0 m ρ) c 6 t i = weights m c j := by
  have h0 : (i 0).val < 1 := (i 0).isLt
  show V0 m ρ c main_arg8 _ = _
  rw [arg8_0]
  blk_ext [idx0 t]
theorem first0 (t : Fin cfg0.N) (i : S1x256x640.Idx) (j : S4x1024x640.Idx) (e0 : (j 0).val = (t.val / 4 + 1)) (e1 : (j 1).val = (t.val % 4) * 256 + (i 1).val) (e2 : (j 2).val = (i 2).val) :
    iblk0 (V0 m ρ) c 7 t i = first m c j := by
  have h0 : (i 0).val < 1 := (i 0).isLt
  show V0 m ρ c main_arg9 _ = _
  rw [arg9_0]
  blk_ext [idx0 t]
theorem second0 (t : Fin cfg0.N) (i : S1x256x640.Idx) (j : S4x1024x640.Idx) (e0 : (j 0).val = (t.val / 4 + 1)) (e1 : (j 1).val = (t.val % 4) * 256 + (i 1).val) (e2 : (j 2).val = (i 2).val) :
    iblk0 (V0 m ρ) c 8 t i = second m c j := by
  have h0 : (i 0).val < 1 := (i 0).isLt
  show V0 m ρ c main_arg10 _ = _
  rw [arg10_0]
  blk_ext [idx0 t]
theorem land1 (t : Fin cfg0.N) (h : t.val / 4 = 0) (i : S7x256x640.Idx) (j : S7x1024x640.Idx) (e0 : (j 0).val = (i 0).val) (e1 : (j 1).val = (t.val % 4) * 256 + (i 1).val) (e2 : (j 2).val = (i 2).val) :
    iblk0 (V0 m ρ) c 0 t i = m ((c.tc : Thread nD τ).loc main_arg1) j := by
  show V0 m ρ c main_arg1 _ = _
  rw [arg1_0]
  blk_ext [idxLayer1 t h]
theorem own1 (t : Fin cfg0.N) (h : t.val / 4 = 0) (i : S256x640.Idx) (j : S1024x640.Idx) (e0 : (j 0).val = (t.val % 4) * 256 + (i 0).val) (e1 : (j 1).val = (i 1).val) :
    iblk0 (V0 m ρ) c 3 t i = m ((c.tc : Thread nD τ).loc main_arg5) j := by
  show V0 m ρ c main_arg5 _ = _
  rw [arg5_0]
  blk_ext [idxLayer1 t h]
theorem gradLayer1 (t : Fin cfg0.N) (h : t.val / 4 = 0) (y : S256x640.Idx) (r : S4x1024x640.Idx) (e0 : (r 0).val = (t.val / 4 + 1)) (e1 : (r 1).val = (t.val % 4) * 256 + (y 0).val) (e2 : (r 2).val = (y 1).val) :
    gradK (iblk0 (V0 m ρ) c 0 t) (iblk0 (V0 m ρ) c 3 t) y = grad m c r := by
  refine (gradK_apply _ _ y).trans (Eq.trans ?_ (gradR_layer1 _ _ _ _ _ _ _ _ r (by omega)).symm)
  refine congrArg₂ (· + ·) (own1 m ρ c t h y (ix2 (r 1) (r 2)) e1 e2) (Finset.sum_congr rfl fun s _ => land1 m ρ c t h (ix3 s (y 0) (y 1)) (ix3 s (r 1) (r 2)) rfl e1 e2)
theorem land2 (t : Fin cfg0.N) (h : t.val / 4 = 1) (i : S7x256x640.Idx) (j : S7x1024x640.Idx) (e0 : (j 0).val = (i 0).val) (e1 : (j 1).val = (t.val % 4) * 256 + (i 1).val) (e2 : (j 2).val = (i 2).val) :
    iblk0 (V0 m ρ) c 1 t i = m ((c.tc : Thread nD τ).loc main_arg2) j := by
  show V0 m ρ c main_arg2 _ = _
  rw [arg2_0]
  blk_ext [idxLayer2 t h]
theorem own2 (t : Fin cfg0.N) (h : t.val / 4 = 1) (i : S256x640.Idx) (j : S1024x640.Idx) (e0 : (j 0).val = (t.val % 4) * 256 + (i 0).val) (e1 : (j 1).val = (i 1).val) :
    iblk0 (V0 m ρ) c 4 t i = m ((c.tc : Thread nD τ).loc main_arg6) j := by
  show V0 m ρ c main_arg6 _ = _
  rw [arg6_0]
  blk_ext [idxLayer2 t h]
theorem gradLayer2 (t : Fin cfg0.N) (h : t.val / 4 = 1) (y : S256x640.Idx) (r : S4x1024x640.Idx) (e0 : (r 0).val = (t.val / 4 + 1)) (e1 : (r 1).val = (t.val % 4) * 256 + (y 0).val) (e2 : (r 2).val = (y 1).val) :
    gradK (iblk0 (V0 m ρ) c 1 t) (iblk0 (V0 m ρ) c 4 t) y = grad m c r := by
  refine (gradK_apply _ _ y).trans (Eq.trans ?_ (gradR_layer2 _ _ _ _ _ _ _ _ r (by omega)).symm)
  refine congrArg₂ (· + ·) (own2 m ρ c t h y (ix2 (r 1) (r 2)) e1 e2) (Finset.sum_congr rfl fun s _ => land2 m ρ c t h (ix3 s (y 0) (y 1)) (ix3 s (r 1) (r 2)) rfl e1 e2)
theorem land3 (t : Fin cfg0.N) (h : t.val / 4 = 2) (i : S7x256x640.Idx) (j : S7x1024x640.Idx) (e0 : (j 0).val = (i 0).val) (e1 : (j 1).val = (t.val % 4) * 256 + (i 1).val) (e2 : (j 2).val = (i 2).val) :
    iblk0 (V0 m ρ) c 2 t i = m ((c.tc : Thread nD τ).loc main_arg3) j := by
  show V0 m ρ c main_arg3 _ = _
  rw [arg3_0]
  blk_ext [idxLayer3 t h]
theorem own3 (t : Fin cfg0.N) (h : t.val / 4 = 2) (i : S256x640.Idx) (j : S1024x640.Idx) (e0 : (j 0).val = (t.val % 4) * 256 + (i 0).val) (e1 : (j 1).val = (i 1).val) :
    iblk0 (V0 m ρ) c 5 t i = m ((c.tc : Thread nD τ).loc main_arg7) j := by
  show V0 m ρ c main_arg7 _ = _
  rw [arg7_0]
  blk_ext [idxLayer3 t h]
theorem gradLayer3 (t : Fin cfg0.N) (h : t.val / 4 = 2) (y : S256x640.Idx) (r : S4x1024x640.Idx) (e0 : (r 0).val = (t.val / 4 + 1)) (e1 : (r 1).val = (t.val % 4) * 256 + (y 0).val) (e2 : (r 2).val = (y 1).val) :
    gradK (iblk0 (V0 m ρ) c 2 t) (iblk0 (V0 m ρ) c 5 t) y = grad m c r := by
  refine (gradK_apply _ _ y).trans (Eq.trans ?_ (gradR_layer3 _ _ _ _ _ _ _ _ r (by omega)).symm)
  refine congrArg₂ (· + ·) (own3 m ρ c t h y (ix2 (r 1) (r 2)) e1 e2) (Finset.sum_congr rfl fun s _ => land3 m ρ c t h (ix3 s (y 0) (y 1)) (ix3 s (r 1) (r 2)) rfl e1 e2)
def landed (t : Fin cfg0.N) : Vec Ideal S7x256x640 .bf16 := if t.val / 4 = 0 then iblk0 (V0 m ρ) c 0 t else if t.val / 4 = 1 then iblk0 (V0 m ρ) c 1 t else iblk0 (V0 m ρ) c 2 t
def own (t : Fin cfg0.N) : Vec Ideal S256x640 .bf16 := if t.val / 4 = 0 then iblk0 (V0 m ρ) c 3 t else if t.val / 4 = 1 then iblk0 (V0 m ρ) c 4 t else iblk0 (V0 m ρ) c 5 t
abbrev gradAt (t : Fin cfg0.N) : FVec Ideal S256x640 .f32 := gradK (landed m ρ c t) (own m ρ c t)
theorem point1 (t : Fin cfg0.N) (h : t.val / 4 = 0) : gradAt m ρ c t = gradK (iblk0 (V0 m ρ) c 0 t) (iblk0 (V0 m ρ) c 3 t) := by
  unfold gradAt landed own
  rw [if_pos h, if_pos h]
theorem point2 (t : Fin cfg0.N) (h : t.val / 4 = 1) : gradAt m ρ c t = gradK (iblk0 (V0 m ρ) c 1 t) (iblk0 (V0 m ρ) c 4 t) := by
  have h0 : ¬t.val / 4 = 0 := by omega
  unfold gradAt landed own
  rw [if_neg h0, if_pos h, if_neg h0, if_pos h]
theorem point3 (t : Fin cfg0.N) (h : t.val / 4 = 2) : gradAt m ρ c t = gradK (iblk0 (V0 m ρ) c 2 t) (iblk0 (V0 m ρ) c 5 t) := by
  have h0 : ¬t.val / 4 = 0 := by omega
  have h1 : ¬t.val / 4 = 1 := by omega
  unfold gradAt landed own
  rw [if_neg h0, if_neg h1, if_neg h0, if_neg h1]
theorem grad_at (t : Fin cfg0.N) (y : S256x640.Idx) (r : S4x1024x640.Idx) (e0 : (r 0).val = (t.val / 4 + 1)) (e1 : (r 1).val = (t.val % 4) * 256 + (y 0).val) (e2 : (r 2).val = (y 1).val) :
    gradAt m ρ c t y = grad m c r := by
  have hN : t.val < 12 := lt_of_lt_of_eq t.isLt N_0
  obtain h | h | h : t.val / 4 = 0 ∨ t.val / 4 = 1 ∨ t.val / 4 = 2 := by omega
  · rw [point1 m ρ c t h]
    exact gradLayer1 m ρ c t h y r e0 e1 e2
  · rw [point2 m ρ c t h]
    exact gradLayer2 m ρ c t h y r e0 e1 e2
  · rw [point3 m ρ c t h]
    exact gradLayer3 m ρ c t h y r e0 e1 e2
theorem out0_9 (t : Fin cfg0.N) : (outsAt0 (V0 m ρ) c t.val t.isLt).1 = k1_pay1 (gradAt m ρ c t) := by
  have hN : t.val < 12 := lt_of_lt_of_eq t.isLt N_0
  obtain h | h | h : t.val / 4 = 0 ∨ t.val / 4 = 1 ∨ t.val / 4 = 2 := by omega
  · rw [Gen.outsAt0_A (V0 m ρ) c t (by omega) (by omega) (by omega), point1 m ρ c t h]
    frame_out
    rfl
  · rw [Gen.outsAt0_B (V0 m ρ) c t (by omega) (by omega) (by omega), point2 m ρ c t h]
    frame_out
    rfl
  · rw [Gen.outsAt0_C (V0 m ρ) c t (by omega) (by omega) (by omega), point3 m ρ c t h]
    frame_out
    rfl
theorem out0_10 (t : Fin cfg0.N) : (outsAt0 (V0 m ρ) c t.val t.isLt).2.1 = k1_pay7 (gradAt m ρ c t) (iblk0 (V0 m ρ) c 6 t) (iblk0 (V0 m ρ) c 7 t) (iblk0 (V0 m ρ) c 8 t) := by
  have hN : t.val < 12 := lt_of_lt_of_eq t.isLt N_0
  obtain h | h | h : t.val / 4 = 0 ∨ t.val / 4 = 1 ∨ t.val / 4 = 2 := by omega
  · rw [Gen.outsAt0_A (V0 m ρ) c t (by omega) (by omega) (by omega), point1 m ρ c t h]
    frame_out
    rfl
  · rw [Gen.outsAt0_B (V0 m ρ) c t (by omega) (by omega) (by omega), point2 m ρ c t h]
    frame_out
    rfl
  · rw [Gen.outsAt0_C (V0 m ρ) c t (by omega) (by omega) (by omega), point3 m ρ c t h]
    frame_out
    rfl
theorem out0_11 (t : Fin cfg0.N) : (outsAt0 (V0 m ρ) c t.val t.isLt).2.2.1 = k1_pay1 (k1_pay5 (gradAt m ρ c t) (iblk0 (V0 m ρ) c 7 t)) := by
  have hN : t.val < 12 := lt_of_lt_of_eq t.isLt N_0
  obtain h | h | h : t.val / 4 = 0 ∨ t.val / 4 = 1 ∨ t.val / 4 = 2 := by omega
  · rw [Gen.outsAt0_A (V0 m ρ) c t (by omega) (by omega) (by omega), point1 m ρ c t h]
    frame_out
    rfl
  · rw [Gen.outsAt0_B (V0 m ρ) c t (by omega) (by omega) (by omega), point2 m ρ c t h]
    frame_out
    rfl
  · rw [Gen.outsAt0_C (V0 m ρ) c t (by omega) (by omega) (by omega), point3 m ρ c t h]
    frame_out
    rfl
theorem out0_12 (t : Fin cfg0.N) : (outsAt0 (V0 m ρ) c t.val t.isLt).2.2.2 = k1_pay1 (k1_pay6 (gradAt m ρ c t) (iblk0 (V0 m ρ) c 8 t)) := by
  have hN : t.val < 12 := lt_of_lt_of_eq t.isLt N_0
  obtain h | h | h : t.val / 4 = 0 ∨ t.val / 4 = 1 ∨ t.val / 4 = 2 := by omega
  · rw [Gen.outsAt0_A (V0 m ρ) c t (by omega) (by omega) (by omega), point1 m ρ c t h]
    frame_out
    rfl
  · rw [Gen.outsAt0_B (V0 m ρ) c t (by omega) (by omega) (by omega), point2 m ρ c t h]
    frame_out
    rfl
  · rw [Gen.outsAt0_C (V0 m ρ) c t (by omega) (by omega) (by omega), point3 m ρ c t h]
    frame_out
    rfl
theorem later0 (i : S4x1024x640.Idx) (h : 1 ≤ (i 0).val) : (dat0 (V0 m ρ) c).arrAt 9 cfg0.N i = (grad m c) i := by
  refine ((dat0 (V0 m ρ) c).arrAt_apply_of_coversWhere 9 (grad m c) (P := fun i => 1 ≤ (i 0).val) (fun β => 1 ≤ β (0 : Fin _)) (by decide +kernel) (fun t hf y => ?_) (fun j => by blk_simp [Pipeline.Window.cell_apply]; omega) i).trans (if_pos h)
  blk_simp
  rw [after0_9, out0_9, cast_apply]
  refine grad_at m ρ c t _ _ ?_ ?_ ?_
  all_goals blk_simp [idx0 t]
theorem later1 (i : S4x1024x640.Idx) (h : 1 ≤ (i 0).val) : (dat0 (V0 m ρ) c).arrAt 10 cfg0.N i = (updateR (weights m c) (grad m c) (first m c) (second m c)) i := by
  refine ((dat0 (V0 m ρ) c).arrAt_apply_of_coversWhere 10 (updateR (weights m c) (grad m c) (first m c) (second m c)) (P := fun i => 1 ≤ (i 0).val) (fun β => 1 ≤ β (0 : Fin _)) (by decide +kernel) (fun t hf y => ?_) (fun j => by blk_simp [Pipeline.Window.cell_apply]; omega) i).trans (if_pos h)
  blk_simp
  rw [after0_10, out0_10, pay3_apply, updateR_apply]
  refine congr (congr (congrArg₂ update (weights0 m ρ c t _ _ ?_ ?_ ?_) (grad_at m ρ c t _ _ ?_ ?_ ?_)) (first0 m ρ c t _ _ ?_ ?_ ?_)) (second0 m ρ c t _ _ ?_ ?_ ?_)
  all_goals blk_simp [idx0 t]
theorem later2 (i : S4x1024x640.Idx) (h : 1 ≤ (i 0).val) : (dat0 (V0 m ρ) c).arrAt 11 cfg0.N i = (mom1R (grad m c) (first m c)) i := by
  refine ((dat0 (V0 m ρ) c).arrAt_apply_of_coversWhere 11 (mom1R (grad m c) (first m c)) (P := fun i => 1 ≤ (i 0).val) (fun β => 1 ≤ β (0 : Fin _)) (by decide +kernel) (fun t hf y => ?_) (fun j => by blk_simp [Pipeline.Window.cell_apply]; omega) i).trans (if_pos h)
  blk_simp
  rw [after0_11, out0_11, cast_apply, pay1_apply, mom1R_apply]
  refine congrArg₂ mom1 (grad_at m ρ c t _ _ ?_ ?_ ?_) (first0 m ρ c t _ _ ?_ ?_ ?_)
  all_goals blk_simp [idx0 t]
theorem later3 (i : S4x1024x640.Idx) (h : 1 ≤ (i 0).val) : (dat0 (V0 m ρ) c).arrAt 12 cfg0.N i = (mom2R (grad m c) (second m c)) i := by
  refine ((dat0 (V0 m ρ) c).arrAt_apply_of_coversWhere 12 (mom2R (grad m c) (second m c)) (P := fun i => 1 ≤ (i 0).val) (fun β => 1 ≤ β (0 : Fin _)) (by decide +kernel) (fun t hf y => ?_) (fun j => by blk_simp [Pipeline.Window.cell_apply]; omega) i).trans (if_pos h)
  blk_simp
  rw [after0_12, out0_12, cast_apply, pay2_apply, mom2R_apply]
  refine congrArg₂ mom2 (grad_at m ρ c t _ _ ?_ ?_ ?_) (second0 m ρ c t _ _ ?_ ?_ ?_)
  all_goals blk_simp [idx0 t]
end Cert.Kernel12Ideal.StepIn
end
-- ==== Proof.StepIn.First.lean ====
/- The second of the two calls: layer 0 written in place, the later layers kept. -/
module
public import proofs.«01_k».proof.Proof.StepIn.Later
@[expose] public section
set_option maxRecDepth 16384
noncomputable section
namespace Cert.Kernel12Ideal.StepIn
open Cert.Kernel12Ideal Cert.Kernel12Ideal.Gen Idealize.ShloMosaic Idealize.ShloMosaic.TcCoe Idealize.SL.Sem
open Idealize.ShloMosaic.Pipeline (Dat)
variable (m : (ℓ : Loc nD τ sig) → Buf (Elt Ideal) ℓ) (ρ : Dev nD → PrngReg) (c : Dev nD)
theorem idx1 : ∀ t : Fin grid1.N, win1_2.index t = ![0, t.val, 0] ∧ win1_3.index t = ![0, t.val, 0] ∧ win1_4.index t = ![0, t.val, 0] ∧ win1_5.index t = ![0, t.val, 0] ∧ win1_6.index t = ![0, t.val, 0] ∧ win1_7.index t = ![0, t.val, 0] ∧ win1_8.index t = ![0, t.val, 0] := by decide +kernel
theorem idxLayer0 : ∀ t : Fin grid1.N, win1_0.index t = ![0, t.val, 0] ∧ win1_1.index t = ![t.val, 0] := by decide +kernel
theorem arg0_1 : V2 m ρ c main_arg0 = m ((c.tc : Thread nD τ).loc main_arg0) := W2_args m ρ c main_arg0 (by decide)
theorem arg4_1 : V2 m ρ c main_arg4 = m ((c.tc : Thread nD τ).loc main_arg4) := W2_args m ρ c main_arg4 (by decide)
theorem arg8_1 : V2 m ρ c main_arg8 = m ((c.tc : Thread nD τ).loc main_arg8) := W2_args m ρ c main_arg8 (by decide)
theorem arg9_1 : V2 m ρ c main_arg9 = m ((c.tc : Thread nD τ).loc main_arg9) := W2_args m ρ c main_arg9 (by decide)
theorem arg10_1 : V2 m ρ c main_arg10 = m ((c.tc : Thread nD τ).loc main_arg10) := W2_args m ρ c main_arg10 (by decide)
theorem weights1 (t : Fin cfg1.N) (i : S1x256x640.Idx) (j : S4x1024x640.Idx) (e0 : (j 0).val = 0) (e1 : (j 1).val = t.val * 256 + (i 1).val) (e2 : (j 2).val = (i 2).val) :
    iblk1 (V2 m ρ) c 2 t i = weights m c j := by
  have h0 : (i 0).val < 1 := (i 0).isLt
  show V2 m ρ c main_arg8 _ = _
  rw [arg8_1]
  blk_ext [idx1 t]
theorem first1 (t : Fin cfg1.N) (i : S1x256x640.Idx) (j : S4x1024x640.Idx) (e0 : (j 0).val = 0) (e1 : (j 1).val = t.val * 256 + (i 1).val) (e2 : (j 2).val = (i 2).val) :
    iblk1 (V2 m ρ) c 3 t i = first m c j := by
  have h0 : (i 0).val < 1 := (i 0).isLt
  show V2 m ρ c main_arg9 _ = _
  rw [arg9_1]
  blk_ext [idx1 t]
theorem second1 (t : Fin cfg1.N) (i : S1x256x640.Idx) (j : S4x1024x640.Idx) (e0 : (j 0).val = 0) (e1 : (j 1).val = t.val * 256 + (i 1).val) (e2 : (j 2).val = (i 2).val) :
    iblk1 (V2 m ρ) c 4 t i = second m c j := by
  have h0 : (i 0).val < 1 := (i 0).isLt
  show V2 m ρ c main_arg10 _ = _
  rw [arg10_1]
  blk_ext [idx1 t]
theorem land0 (t : Fin cfg1.N) (i : S7x256x640.Idx) (j : S7x1024x640.Idx) (e0 : (j 0).val = (i 0).val) (e1 : (j 1).val = t.val * 256 + (i 1).val) (e2 : (j 2).val = (i 2).val) :
    iblk1 (V2 m ρ) c 0 t i = m ((c.tc : Thread nD τ).loc main_arg0) j := by
  show V2 m ρ c main_arg0 _ = _
  rw [arg0_1]
  blk_ext [idxLayer0 t]
theorem own0 (t : Fin cfg1.N) (i : S256x640.Idx) (j : S1024x640.Idx) (e0 : (j 0).val = t.val * 256 + (i 0).val) (e1 : (j 1).val = (i 1).val) :
    iblk1 (V2 m ρ) c 1 t i = m ((c.tc : Thread nD τ).loc main_arg4) j := by
  show V2 m ρ c main_arg4 _ = _
  rw [arg4_1]
  blk_ext [idxLayer0 t]
theorem gradLayer0 (t : Fin cfg1.N) (y : S256x640.Idx) (r : S4x1024x640.Idx) (e0 : (r 0).val = 0) (e1 : (r 1).val = t.val * 256 + (y 0).val) (e2 : (r 2).val = (y 1).val) :
    gradK (iblk1 (V2 m ρ) c 0 t) (iblk1 (V2 m ρ) c 1 t) y = grad m c r := by
  refine (gradK_apply _ _ y).trans (Eq.trans ?_ (gradR_layer0 _ _ _ _ _ _ _ _ r (by omega)).symm)
  refine congrArg₂ (· + ·) (own0 m ρ c t y (ix2 (r 1) (r 2)) e1 e2) (Finset.sum_congr rfl fun s _ => land0 m ρ c t (ix3 s (y 0) (y 1)) (ix3 s (r 1) (r 2)) rfl e1 e2)
abbrev gradAt1 (t : Fin cfg1.N) : FVec Ideal S256x640 .f32 := gradK (iblk1 (V2 m ρ) c 0 t) (iblk1 (V2 m ρ) c 1 t)
theorem out1_5 (t : Fin cfg1.N) : (outsAt1 (V2 m ρ) c t).1 = k1_pay1 (gradAt1 m ρ c t) := by
  unfold outsAt1
  frame_out
  rfl
theorem out1_6 (t : Fin cfg1.N) : (outsAt1 (V2 m ρ) c t).2.1 = k1_pay7 (gradAt1 m ρ c t) (iblk1 (V2 m ρ) c 2 t) (iblk1 (V2 m ρ) c 3 t) (iblk1 (V2 m ρ) c 4 t) := by
  unfold outsAt1
  frame_out
  rfl
theorem out1_7 (t : Fin cfg1.N) : (outsAt1 (V2 m ρ) c t).2.2.1 = k1_pay1 (k1_pay5 (gradAt1 m ρ c t) (iblk1 (V2 m ρ) c 3 t)) := by
  unfold outsAt1
  frame_out
  rfl
theorem out1_8 (t : Fin cfg1.N) : (outsAt1 (V2 m ρ) c t).2.2.2 = k1_pay1 (k1_pay6 (gradAt1 m ρ c t) (iblk1 (V2 m ρ) c 4 t)) := by
  unfold outsAt1
  frame_out
  rfl
theorem kept0 (i : S4x1024x640.Idx) : V2 m ρ c main_v1_0 i = (dat0 (V0 m ρ) c).arrAt 9 cfg0.N i := congrFun (((show W2 m ρ c (Proc.devRef .tc main_v1_0) = W1 m ρ c (Proc.devRef .tc main_v0_0) from rfl)).trans (W1_arr m ρ c 9)) i
theorem final0 : (dat1 (V2 m ρ) c).arrAt 5 cfg1.N = grad m c := by
  refine (dat1 (V2 m ρ) c).arrAt_eq_of_coversWhere_of_agree 5 _ (fun β => β (0 : Fin _) = 0) (by decide +kernel) (fun t hf y => ?_) (fun j hj => ?_)
  · blk_simp
    rw [after1_5, out1_5, cast_apply]
    refine gradLayer0 m ρ c t _ _ ?_ ?_ ?_
    all_goals blk_simp [idx1 t]
  · refine (kept0 m ρ c _).trans (later0 m ρ c _ ?_)
    blk_simp [Pipeline.Window.cell_apply] at hj ⊢
    omega
theorem kept1 (i : S4x1024x640.Idx) : V2 m ρ c main_v1_1 i = (dat0 (V0 m ρ) c).arrAt 10 cfg0.N i := congrFun (((show W2 m ρ c (Proc.devRef .tc main_v1_1) = W1 m ρ c (Proc.devRef .tc main_v0_1) from rfl)).trans (W1_arr m ρ c 10)) i
theorem final1 : (dat1 (V2 m ρ) c).arrAt 6 cfg1.N = updateR (weights m c) (grad m c) (first m c) (second m c) := by
  refine (dat1 (V2 m ρ) c).arrAt_eq_of_coversWhere_of_agree 6 _ (fun β => β (0 : Fin _) = 0) (by decide +kernel) (fun t hf y => ?_) (fun j hj => ?_)
  · blk_simp
    rw [after1_6, out1_6, pay3_apply, updateR_apply]
    refine congr (congr (congrArg₂ update (weights1 m ρ c t _ _ ?_ ?_ ?_) (gradLayer0 m ρ c t _ _ ?_ ?_ ?_)) (first1 m ρ c t _ _ ?_ ?_ ?_)) (second1 m ρ c t _ _ ?_ ?_ ?_)
    all_goals blk_simp [idx1 t]
  · refine (kept1 m ρ c _).trans (later1 m ρ c _ ?_)
    blk_simp [Pipeline.Window.cell_apply] at hj ⊢
    omega
theorem kept2 (i : S4x1024x640.Idx) : V2 m ρ c main_v1_2 i = (dat0 (V0 m ρ) c).arrAt 11 cfg0.N i := congrFun (((show W2 m ρ c (Proc.devRef .tc main_v1_2) = W1 m ρ c (Proc.devRef .tc main_v0_2) from rfl)).trans (W1_arr m ρ c 11)) i
theorem final2 : (dat1 (V2 m ρ) c).arrAt 7 cfg1.N = mom1R (grad m c) (first m c) := by
  refine (dat1 (V2 m ρ) c).arrAt_eq_of_coversWhere_of_agree 7 _ (fun β => β (0 : Fin _) = 0) (by decide +kernel) (fun t hf y => ?_) (fun j hj => ?_)
  · blk_simp
    rw [after1_7, out1_7, cast_apply, pay1_apply, mom1R_apply]
    refine congrArg₂ mom1 (gradLayer0 m ρ c t _ _ ?_ ?_ ?_) (first1 m ρ c t _ _ ?_ ?_ ?_)
    all_goals blk_simp [idx1 t]
  · refine (kept2 m ρ c _).trans (later2 m ρ c _ ?_)
    blk_simp [Pipeline.Window.cell_apply] at hj ⊢
    omega
theorem kept3 (i : S4x1024x640.Idx) : V2 m ρ c main_v1_3 i = (dat0 (V0 m ρ) c).arrAt 12 cfg0.N i := congrFun (((show W2 m ρ c (Proc.devRef .tc main_v1_3) = W1 m ρ c (Proc.devRef .tc main_v0_3) from rfl)).trans (W1_arr m ρ c 12)) i
theorem final3 : (dat1 (V2 m ρ) c).arrAt 8 cfg1.N = mom2R (grad m c) (second m c) := by
  refine (dat1 (V2 m ρ) c).arrAt_eq_of_coversWhere_of_agree 8 _ (fun β => β (0 : Fin _) = 0) (by decide +kernel) (fun t hf y => ?_) (fun j hj => ?_)
  · blk_simp
    rw [after1_8, out1_8, cast_apply, pay2_apply, mom2R_apply]
    refine congrArg₂ mom2 (gradLayer0 m ρ c t _ _ ?_ ?_ ?_) (second1 m ρ c t _ _ ?_ ?_ ?_)
    all_goals blk_simp [idx1 t]
  · refine (kept3 m ρ c _).trans (later3 m ρ c _ ?_)
    blk_simp [Pipeline.Window.cell_apply] at hj ⊢
    omega
end Cert.Kernel12Ideal.StepIn
end
-- ==== Proof.StepIn.Value.lean ====
/- One AdamW step over the rows of the in-projection that a device keeps: the two calls together leave the summed gradient, the update and the two moments that the plain step gives. -/
module
public import proofs.«01_k».proof.Proof.StepIn.Run
public import proofs.«01_k».proof.Proof.StepIn.First
@[expose] public section
set_option maxRecDepth 16384
noncomputable section
namespace Cert.Kernel12Ideal.StepIn
open Cert.Kernel12Ideal Cert.Kernel12Ideal.Gen Idealize.ShloMosaic Idealize.ShloMosaic.TcCoe Idealize.SL.Sem
variable (m : (ℓ : Loc nD τ sig) → Buf (Elt Ideal) ℓ) (c : Dev nD)
section
variable (n : (ℓ : Loc Cert.Reference12Ideal.nD Cert.Reference12Ideal.τ Cert.Reference12Ideal.sig) → Buf (Elt Ideal) ℓ) (d : Dev Cert.Reference12Ideal.nD)
open Cert.Reference12Ideal in
abbrev gradN : State := gradR (n ((d.tc : Thread Cert.Reference12Ideal.nD Cert.Reference12Ideal.τ).loc Cert.Reference12Ideal.main_arg0)) (n ((d.tc : Thread Cert.Reference12Ideal.nD Cert.Reference12Ideal.τ).loc Cert.Reference12Ideal.main_arg1)) (n ((d.tc : Thread Cert.Reference12Ideal.nD Cert.Reference12Ideal.τ).loc Cert.Reference12Ideal.main_arg2)) (n ((d.tc : Thread Cert.Reference12Ideal.nD Cert.Reference12Ideal.τ).loc Cert.Reference12Ideal.main_arg3)) (n ((d.tc : Thread Cert.Reference12Ideal.nD Cert.Reference12Ideal.τ).loc Cert.Reference12Ideal.main_arg4)) (n ((d.tc : Thread Cert.Reference12Ideal.nD Cert.Reference12Ideal.τ).loc Cert.Reference12Ideal.main_arg5)) (n ((d.tc : Thread Cert.Reference12Ideal.nD Cert.Reference12Ideal.τ).loc Cert.Reference12Ideal.main_arg6)) (n ((d.tc : Thread Cert.Reference12Ideal.nD Cert.Reference12Ideal.τ).loc Cert.Reference12Ideal.main_arg7))
end

set_option maxHeartbeats 1000000 in
theorem algebraic : Cert.algebraic_Kernel12Ideal_Reference12Ideal := by
  intro m ρ m' ρ' _ hagree
  refine ⟨fun c => grad m c, fun c => updateR (weights m c) (grad m c) (first m c) (second m c), fun c => mom1R (grad m c) (first m c), fun c => mom2R (grad m c) (second m c),
    (θ_run Cert.Kernel12Ideal.defs _ _).mono (fun r h c => ⟨((h c _ (mem_uc main_v1_0 (by decide))).trans (result m ρ c 5)).trans (final0 m ρ c), ((h c _ (mem_uc main_v1_1 (by decide))).trans (result m ρ c 6)).trans (final1 m ρ c), ((h c _ (mem_uc main_v1_2 (by decide))).trans (result m ρ c 7)).trans (final2 m ρ c), ((h c _ (mem_uc main_v1_3 (by decide))).trans (result m ρ c 8)).trans (final3 m ρ c), (h c _ (mem_uc main_arg0 (by decide))).trans (W3_main_arg0 m ρ c), (h c _ (mem_uc main_arg1 (by decide))).trans (W3_main_arg1 m ρ c), (h c _ (mem_uc main_arg2 (by decide))).trans (W3_main_arg2 m ρ c), (h c _ (mem_uc main_arg3 (by decide))).trans (W3_main_arg3 m ρ c), (h c _ (mem_uc main_arg4 (by decide))).trans (W3_main_arg4 m ρ c), (h c _ (mem_uc main_arg5 (by decide))).trans (W3_main_arg5 m ρ c), (h c _ (mem_uc main_arg6 (by decide))).trans (W3_main_arg6 m ρ c), (h c _ (mem_uc main_arg7 (by decide))).trans (W3_main_arg7 m ρ c), (h c _ (mem_uc main_arg8 (by decide))).trans (W3_main_arg8 m ρ c), (h c _ (mem_uc main_arg9 (by decide))).trans (W3_main_arg9 m ρ c), (h c _ (mem_uc main_arg10 (by decide))).trans (W3_main_arg10 m ρ c)⟩) (contents (F := Ideal) m ρ), ?_⟩
  refine (θ_run Cert.Reference12Ideal.defs _ _).mono (fun _ h c => ⟨(h c).1.trans ?_, (h c).2.1.trans ?_, (h c).2.2.1.trans ?_, (h c).2.2.2.1.trans ?_, (h c).2.2.2.2⟩) (Cert.Reference12Ideal.Value.run (F := Ideal) m' ρ')
  all_goals obtain ⟨a0, a1, a2, a3, a4, a5, a6, a7, a8, a9, a10⟩ := hagree c
  all_goals have eg : gradN m' c = grad m c := by (show gradR _ _ _ _ _ _ _ _ = gradR _ _ _ _ _ _ _ _; rw [a0, a1, a2, a3, a4, a5, a6, a7])
  · refine Eq.trans (b := gradN m' c) rfl ?_
    rw [eg]
  · refine Eq.trans (b := updateR (m' ((c.tc : Thread Cert.Reference12Ideal.nD Cert.Reference12Ideal.τ).loc Cert.Reference12Ideal.main_arg8)) (gradN m' c) (m' ((c.tc : Thread Cert.Reference12Ideal.nD Cert.Reference12Ideal.τ).loc Cert.Reference12Ideal.main_arg9)) (m' ((c.tc : Thread Cert.Reference12Ideal.nD Cert.Reference12Ideal.τ).loc Cert.Reference12Ideal.main_arg10))) rfl ?_
    rw [eg, a8, a9, a10]
  · refine Eq.trans (b := mom1R (gradN m' c) (m' ((c.tc : Thread Cert.Reference12Ideal.nD Cert.Reference12Ideal.τ).loc Cert.Reference12Ideal.main_arg9))) rfl ?_
    rw [eg, a9]
  · refine Eq.trans (b := mom2R (gradN m' c) (m' ((c.tc : Thread Cert.Reference12Ideal.nD Cert.Reference12Ideal.τ).loc Cert.Reference12Ideal.main_arg10))) rfl ?_
    rw [eg, a10]
end Cert.Kernel12Ideal.StepIn
end
-- ==== Proof.lean ====
/- The claims of this certificate, put together: the frames, the idealizations that change nothing, and the values. -/
module

public import proofs.«01_k».proof.Defs
public import proofs.«01_k».proof.Proof.Gen.ReferenceIdeal.Run
public import proofs.«01_k».proof.Proof.Gen.Kernel
public import proofs.«01_k».proof.Proof.Attn.Frame
public import proofs.«01_k».proof.Proof.AttnPrinted.Frame
public import proofs.«01_k».proof.Proof.Gen.Reference2Ideal.Run
public import proofs.«01_k».proof.Proof.Gen.Kernel2.Frame
public import proofs.«01_k».proof.Proof.Gen.Kernel2Ideal.Frame
public import proofs.«01_k».proof.Proof.Dx.Value
public import proofs.«01_k».proof.Proof.Gen.Kernel2Ideal.Value
public import proofs.«01_k».proof.Proof.Gen.Reference3Ideal.Run
public import proofs.«01_k».proof.Proof.Gen.Kernel3.Frame
public import proofs.«01_k».proof.Proof.Gen.Kernel3Ideal.Frame
public import proofs.«01_k».proof.Proof.Dw.Value
public import proofs.«01_k».proof.Proof.Gen.Kernel3Ideal.Value
public import proofs.«01_k».proof.Proof.Gen.Reference4Ideal.Run
public import proofs.«01_k».proof.Proof.Gen.Kernel4.Frame
public import proofs.«01_k».proof.Proof.Gen.Kernel4Ideal.Frame
public import proofs.«01_k».proof.Proof.Inproj.Value
public import proofs.«01_k».proof.Proof.Gen.Kernel4Ideal.Value
public import proofs.«01_k».proof.Proof.Gen.Reference5Ideal.Run
public import proofs.«01_k».proof.Proof.Gen.Kernel5.Frame
public import proofs.«01_k».proof.Proof.Gen.Kernel5Ideal.Frame
public import proofs.«01_k».proof.Proof.LayerOut.Value
public import proofs.«01_k».proof.Proof.Gen.Kernel5Ideal.Value
public import proofs.«01_k».proof.Proof.Gen.Reference6Ideal.Run
public import proofs.«01_k».proof.Proof.Gen.Kernel6.Frame
public import proofs.«01_k».proof.Proof.Gen.Kernel6Ideal.Frame
public import proofs.«01_k».proof.Proof.Conv.Value
public import proofs.«01_k».proof.Proof.Gen.Kernel6Ideal.Value
public import proofs.«01_k».proof.Proof.Gen.Reference7Ideal.Run
public import proofs.«01_k».proof.Proof.Gen.Kernel7.Frame
public import proofs.«01_k».proof.Proof.Gen.Kernel7Ideal.Frame
public import proofs.«01_k».proof.Proof.DwKv.Value
public import proofs.«01_k».proof.Proof.Gen.Kernel7Ideal.Value
public import proofs.«01_k».proof.Proof.Gen.Reference8Ideal.Run
public import proofs.«01_k».proof.Proof.Gen.Kernel8.Frame
public import proofs.«01_k».proof.Proof.Gen.Kernel8Ideal.Frame
public import proofs.«01_k».proof.Proof.Small.Value
public import proofs.«01_k».proof.Proof.Gen.Kernel8Ideal.Value
public import proofs.«01_k».proof.Proof.Gen.Reference9Ideal.Run
public import proofs.«01_k».proof.Proof.Gen.Kernel9.Frame
public import proofs.«01_k».proof.Proof.Gen.Kernel9Ideal.Frame
public import proofs.«01_k».proof.Proof.StepKv.Value
public import proofs.«01_k».proof.Proof.Gen.Kernel9Ideal.Value
public import proofs.«01_k».proof.Proof.Gen.Reference10Ideal.Run
public import proofs.«01_k».proof.Proof.Gen.Kernel10.Frame
public import proofs.«01_k».proof.Proof.Gen.Kernel10Ideal.Frame
public import proofs.«01_k».proof.Proof.StepOut.Value
public import proofs.«01_k».proof.Proof.Gen.Kernel10Ideal.Value
public import proofs.«01_k».proof.Proof.Gen.Reference11Ideal.Run
public import proofs.«01_k».proof.Proof.Gen.Kernel11.Frame
public import proofs.«01_k».proof.Proof.Gen.Kernel11Ideal.Frame
public import proofs.«01_k».proof.Proof.Loss.Value
public import proofs.«01_k».proof.Proof.Gen.Kernel11Ideal.Value
public import proofs.«01_k».proof.Proof.Gen.Reference12Ideal.Run
public import proofs.«01_k».proof.Proof.Gen.Kernel12.Frame
public import proofs.«01_k».proof.Proof.Gen.Kernel12Ideal.Frame
public import proofs.«01_k».proof.Proof.StepIn.Value
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem quiescent_Reference4Ideal : quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem quiescent_Reference5Ideal : quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

theorem quiescent_Reference6Ideal : quiescent_Reference6Ideal := fun m ρ _ =>
  (θ_run Cert.Reference6Ideal.defs _ _).mono (fun r h => ⟨fun c => (h c).2.2.2.2, sem_eq_zero_of_no_sems (by decide) r.2⟩)
    (Cert.Reference6Ideal.Value.run (F := Ideal) m ρ)

theorem quiescent_Reference7Ideal : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem quiescent_Reference8Ideal : quiescent_Reference8Ideal := fun m ρ _ =>
  (θ_run Cert.Reference8Ideal.defs _ _).mono (fun r h => ⟨fun c => (h c).2.2.2.2, sem_eq_zero_of_no_sems (by decide) r.2⟩)
    (Cert.Reference8Ideal.Value.run (F := Ideal) m ρ)

theorem quiescent_Reference9Ideal : quiescent_Reference9Ideal := fun m ρ _ =>
  (θ_run Cert.Reference9Ideal.defs _ _).mono (fun r h => ⟨fun c => (h c).2.2.2.2, sem_eq_zero_of_no_sems (by decide) r.2⟩)
    (Cert.Reference9Ideal.Value.run (F := Ideal) m ρ)

theorem quiescent_Reference10Ideal : quiescent_Reference10Ideal := fun m ρ _ =>
  (θ_run Cert.Reference10Ideal.defs _ _).mono (fun r h => ⟨fun c => (h c).2.2.2.2, sem_eq_zero_of_no_sems (by decide) r.2⟩)
    (Cert.Reference10Ideal.Value.run (F := Ideal) m ρ)

theorem quiescent_Reference11Ideal : quiescent_Reference11Ideal := fun m ρ _ =>
  (θ_run Cert.Reference11Ideal.defs _ _).mono (fun r h => ⟨fun c => (h c).2.2.2.2, sem_eq_zero_of_no_sems (by decide) r.2⟩)
    (Cert.Reference11Ideal.Value.run (F := Ideal) m ρ)

theorem quiescent_Reference12Ideal : quiescent_Reference12Ideal := fun m ρ _ =>
  (θ_run Cert.Reference12Ideal.defs _ _).mono (fun r h => ⟨fun c => (h c).2.2.2.2, sem_eq_zero_of_no_sems (by decide) r.2⟩)
    (Cert.Reference12Ideal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts,
  (fun m ρ _ => Cert.Kernel.Attn.frame m ρ),
  (fun m ρ _ => Cert.KernelIdeal.Attn.frame m ρ),
  quiescent_ReferenceIdeal,
  (fun m ρ _ => Cert.Kernel2.Gen.frame m ρ),
  (fun m ρ _ => Cert.Kernel2Ideal.Gen.frame m ρ),
  quiescent_Reference2Ideal,
  (fun m ρ _ => Cert.Kernel3.Gen.frame m ρ),
  (fun m ρ _ => Cert.Kernel3Ideal.Gen.frame m ρ),
  quiescent_Reference3Ideal,
  (fun m ρ _ => Cert.Kernel4.Gen.frame m ρ),
  (fun m ρ _ => Cert.Kernel4Ideal.Gen.frame m ρ),
  quiescent_Reference4Ideal,
  (fun m ρ _ => Cert.Kernel5.Gen.frame m ρ),
  (fun m ρ _ => Cert.Kernel5Ideal.Gen.frame m ρ),
  quiescent_Reference5Ideal,
  (fun m ρ _ => Cert.Kernel6.Gen.frame m ρ),
  (fun m ρ _ => Cert.Kernel6Ideal.Gen.frame m ρ),
  quiescent_Reference6Ideal,
  (fun m ρ _ => Cert.Kernel7.Gen.frame m ρ),
  (fun m ρ _ => Cert.Kernel7Ideal.Gen.frame m ρ),
  quiescent_Reference7Ideal,
  (fun m ρ _ => Cert.Kernel8.Gen.frame m ρ),
  (fun m ρ _ => Cert.Kernel8Ideal.Gen.frame m ρ),
  quiescent_Reference8Ideal,
  (fun m ρ _ => Cert.Kernel9.Gen.frame m ρ),
  (fun m ρ _ => Cert.Kernel9Ideal.Gen.frame m ρ),
  quiescent_Reference9Ideal,
  (fun m ρ _ => Cert.Kernel10.Gen.frame m ρ),
  (fun m ρ _ => Cert.Kernel10Ideal.Gen.frame m ρ),
  quiescent_Reference10Ideal,
  (fun m ρ _ => Cert.Kernel11.Gen.frame m ρ),
  (fun m ρ _ => Cert.Kernel11Ideal.Gen.frame m ρ),
  quiescent_Reference11Ideal,
  (fun m ρ _ => Cert.Kernel12.Gen.frame m ρ),
  (fun m ρ _ => Cert.Kernel12Ideal.Gen.frame m ρ),
  quiescent_Reference12Ideal,
  (trivial : preserves_Kernel_KernelIdeal),
  (trivial : preserves_Kernel2_Kernel2Ideal),
  Cert.Kernel2Ideal.Dx.algebraic,
  (trivial : preserves_Kernel3_Kernel3Ideal),
  Cert.Kernel3Ideal.Dw.algebraic,
  (trivial : preserves_Kernel4_Kernel4Ideal),
  Cert.Kernel4Ideal.Inproj.algebraic,
  (trivial : preserves_Kernel5_Kernel5Ideal),
  Cert.Kernel5Ideal.LayerOut.algebraic,
  (trivial : preserves_Kernel6_Kernel6Ideal),
  Cert.Kernel6Ideal.Conv.algebraic,
  (trivial : preserves_Kernel7_Kernel7Ideal),
  Cert.Kernel7Ideal.DwKv.algebraic,
  (trivial : preserves_Kernel8_Kernel8Ideal),
  Cert.Kernel8Ideal.Small.algebraic,
  (trivial : preserves_Kernel9_Kernel9Ideal),
  Cert.Kernel9Ideal.StepKv.algebraic,
  (trivial : preserves_Kernel10_Kernel10Ideal),
  Cert.Kernel10Ideal.StepOut.algebraic,
  (trivial : preserves_Kernel11_Kernel11Ideal),
  Cert.Kernel11Ideal.Loss.algebraic,
  (trivial : preserves_Kernel12_Kernel12Ideal),
  Cert.Kernel12Ideal.StepIn.algebraic⟩

end Cert.Proof

end
